-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x128
  ∧ IdealRules.bf16_pair.Statement Cert.KernelIdeal.S1x1x1x2x128 Cert.KernelIdeal.S1x1x1x1x128
  ∧ IdealRules.bf16_pair.Statement Cert.KernelIdeal.S1x1x1x8x2x128 Cert.KernelIdeal.S1x1x1x8x1x128

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S2x128x2560 : Shape := ⟨3, ![2, 128, 2560]⟩
abbrev S16x2560x1280 : Shape := ⟨3, ![16, 2560, 1280]⟩
abbrev S1280 : Shape := ⟨1, ![1280]⟩
abbrev S_ : Shape := ⟨0, ![]⟩

class Facts : Prop where
  bitsLt_bf16_f32 : FTy.bits .bf16 < FTy.bits .f32
  bcast_S_S2x128x2560 : S_.BroadcastsInDim S2x128x2560 (![] : Fin 0 → Fin S2x128x2560.rank)
  reducesTo_S2x128x2560_S_d0_1_2 : S2x128x2560.ReducesTo [0, 1, 2] S_
  h_S_ : 0 < S_.numel

variable [Facts]

def fn {F : FTy → Type} [FloatOps F] (main_arg0 : FVec F S2x128x2560 .bf16) (main_arg1 : FVec F S16x2560x1280 .fp8e4m3) (main_arg2 : FVec F S1280 .f32) (main_arg3 : FVec F S1280 .f32) : IVec S_ 1 :=
  let main_v0 : FVec F S2x128x2560 .f32 := (extf .f32 · bitsLt_bf16_f32) main_arg0
  let main_v1 : FVec F S2x128x2560 .f32 := Host.absf main_v0
  let main_cst : FVec F S_ .f32 := constant S_ .f32 0x7F7F0000#32
  let main_v2 : FVec F S2x128x2560 .f32 := broadcastInDim S2x128x2560 ![] bcast_S_S2x128x2560 main_cst
  let main_v3 : IVec S2x128x2560 1 := cmpf .ole main_v1 main_v2
  let main_c : IVec S_ 1 := constantI S_ 1 1#1
  let main_v4 : IVec S_ 1 := (fun x v => Host.reduce IntOp.andi x v reducesTo_S2x128x2560_S_d0_1_2 h_S_) main_v3 main_c
  main_v4
-- ==== Kernel.lean ====
abbrev S2x128x2560 : Shape := ⟨3, ![2, 128, 2560]⟩
abbrev S16x2560x1280 : Shape := ⟨3, ![16, 2560, 1280]⟩
abbrev S1280 : Shape := ⟨1, ![1280]⟩
abbrev S1x1280 : Shape := ⟨2, ![1, 1280]⟩
abbrev S2x1032x1280 : Shape := ⟨3, ![2, 1032, 1280]⟩
abbrev S2x128 : Shape := ⟨2, ![2, 128]⟩
abbrev S2x128x128 : Shape := ⟨3, ![2, 128, 128]⟩
abbrev S8x2x2560x256 : Shape := ⟨4, ![8, 2, 2560, 256]⟩
abbrev S2x2x2x1032x128 : Shape := ⟨5, ![2, 2, 2, 1032, 128]⟩
abbrev S8 : Shape := ⟨1, ![8]⟩
abbrev S2x2 : Shape := ⟨2, ![2, 2]⟩
abbrev S_ : Shape := ⟨0, ![]⟩
abbrev S2 : Shape := ⟨1, ![2]⟩
abbrev S1 : Shape := ⟨1, ![1]⟩
abbrev S1x2x2560x256 : Shape := ⟨4, ![1, 2, 2560, 256]⟩
abbrev S2x2560x256 : Shape := ⟨3, ![2, 2560, 256]⟩
abbrev S1x128 : Shape := ⟨2, ![1, 128]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S32x128 : Shape := ⟨2, ![32, 128]⟩
abbrev S1x32x128 : Shape := ⟨3, ![1, 32, 128]⟩
abbrev S128 : Shape := ⟨1, ![128]⟩
abbrev S1x128x2560 : Shape := ⟨3, ![1, 128, 2560]⟩
abbrev S128x2560 : Shape := ⟨2, ![128, 2560]⟩
abbrev S1x128x128 : Shape := ⟨3, ![1, 128, 128]⟩
abbrev S128x128 : Shape := ⟨2, ![128, 128]⟩
abbrev S1x1 : Shape := ⟨2, ![1, 1]⟩
abbrev S2x1032x128 : Shape := ⟨3, ![2, 1032, 128]⟩
abbrev S1x1x2x1032x128 : Shape := ⟨5, ![1, 1, 2, 1032, 128]⟩
abbrev S256x2560 : Shape := ⟨2, ![256, 2560]⟩
abbrev S1x1x2560x256 : Shape := ⟨4, ![1, 1, 2560, 256]⟩
abbrev S2560x256 : Shape := ⟨2, ![2560, 256]⟩
abbrev S256x256 : Shape := ⟨2, ![256, 256]⟩
abbrev S1x8x128 : Shape := ⟨3, ![1, 8, 128]⟩
abbrev S8x128 : Shape := ⟨2, ![8, 128]⟩
abbrev S1x1x1x1032x128 : Shape := ⟨5, ![1, 1, 1, 1032, 128]⟩
abbrev S1032x128 : Shape := ⟨2, ![1032, 128]⟩
abbrev S516x128 : Shape := ⟨2, ![516, 128]⟩
abbrev S1x1x1x2x128 : Shape := ⟨5, ![1, 1, 1, 2, 128]⟩
abbrev S1x1x1x1x128 : Shape := ⟨5, ![1, 1, 1, 1, 128]⟩
abbrev S2x2x2x516x2x128 : Shape := ⟨6, ![2, 2, 2, 516, 2, 128]⟩
abbrev S1x1x1x8x2x128 : Shape := ⟨6, ![1, 1, 1, 8, 2, 128]⟩
abbrev S1x1x1x8x1x128 : Shape := ⟨6, ![1, 1, 1, 8, 1, 128]⟩

abbrev nBuf : Space → Nat
  | .hbm => 9
  | .vmem => 10
  | .smem => 0
  | _ => 0

abbrev bufTy : (tb : Table) → Fin (tcTables nBuf tb) → BufTy
  | .hbm, ⟨0, _⟩ => ⟨S2x128x2560, .bf16⟩
  | .hbm, ⟨1, _⟩ => ⟨S16x2560x1280, .fp8e4m3⟩
  | .hbm, ⟨2, _⟩ => ⟨S1280, .f32⟩
  | .hbm, ⟨3, _⟩ => ⟨S1280, .f32⟩
  | .hbm, ⟨4, _⟩ => ⟨S1x1280, .f32⟩
  | .hbm, ⟨5, _⟩ => ⟨S1x1280, .f32⟩
  | .hbm, ⟨6, _⟩ => ⟨S2x1032x1280, .bf16⟩
  | .hbm, ⟨7, _⟩ => ⟨S2x128x2560, .fp8e4m3⟩
  | .hbm, ⟨8, _⟩ => ⟨S2x128, .f32⟩
  | .local _ .vmem, ⟨0, _⟩ => ⟨S2x128x2560, .bf16⟩
  | .local _ .vmem, ⟨1, _⟩ => ⟨S2x128x2560, .fp8e4m3⟩
  | .local _ .vmem, ⟨2, _⟩ => ⟨S2x128x2560, .fp8e4m3⟩
  | .local _ .vmem, ⟨3, _⟩ => ⟨S2x128x128, .f32⟩
  | .local _ .vmem, ⟨4, _⟩ => ⟨S2x128x128, .f32⟩
  | .local _ .vmem, ⟨5, _⟩ => ⟨S2x128, .f32⟩
  | .local _ .vmem, ⟨6, _⟩ => ⟨S1x1280, .f32⟩
  | .local _ .vmem, ⟨7, _⟩ => ⟨S1x1280, .f32⟩
  | .local _ .vmem, ⟨8, _⟩ => ⟨S8x2x2560x256, .fp8e4m3⟩
  | .local _ .vmem, ⟨9, _⟩ => ⟨S2x2x2x1032x128, .bf16⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [BitOps F]

abbrev grid0 : Pipeline.Grid := .none

def k0_mult1 : BitVec 32 :=
  let c0_i32 : BitVec 32 := 0#32
  c0_i32
def k0_mult2 : BitVec 32 :=
  let c0_i32_7 : BitVec 32 := 0#32
  c0_i32_7
def k0_mult3 : BitVec 32 :=
  let c0_i32_13 : BitVec 32 := 0#32
  c0_i32_13
def k0_mult4 : BitVec 32 :=
  let c0_i32_20 : BitVec 32 := 0#32
  c0_i32_20
def k0_mult5 : BitVec 32 :=
  let c0_i32_26 : BitVec 32 := 0#32
  c0_i32_26
def k0_mult6 : BitVec 32 :=
  let c0_i32_33 : BitVec 32 := 0#32
  c0_i32_33
def k0_mult7 : BitVec 32 :=
  let c0_i32_39 : BitVec 32 := 0#32
  c0_i32_39
def k0_mult8 : BitVec 32 :=
  let c0_i32_46 : BitVec 32 := 0#32
  c0_i32_46
@[reducible] def k0_t1_loop : Scf.Loop 32 :=
  let c0_i32_311 : BitVec 32 := 0#32
  let c5_i32_312 : BitVec 32 := 5#32
  let v664 : BitVec 32 := Scalar.addi c0_i32_311 c5_i32_312
  let c1_i32_313 : BitVec 32 := 1#32
  ⟨c0_i32_311, v664, c1_i32_313⟩
def k0_mult9 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c256_i32 : BitVec 32 := 256#32
  let v694 : BitVec 32 := Scalar.muli arg22 c256_i32
  v694
def k0_cond1 (k0_t1 : Fin k0_t1_loop.trips) : BitVec 1 :=
  let c0_i32_311 : BitVec 32 := 0#32
  let c1_i32_313 : BitVec 32 := 1#32
  let arg22 : BitVec 32 := Scf.iv c0_i32_311 c1_i32_313 k0_t1
  let c2_i32_354 : BitVec 32 := 2#32
  let v696 : BitVec 1 := Scalar.cmpi .sge arg22 c2_i32_354
  let v697 : BitVec 32 := Scalar.extui v696
  let c0_i32_355 : BitVec 32 := 0#32
  let v698 : BitVec 1 := Scalar.cmpi .ne v697 c0_i32_355
  v698

def k0_mult10 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c2_i32_377 : BitVec 32 := 2#32
  let v716 : BitVec 32 := Scalar.subi arg22 c2_i32_377
  let c256_i32_378 : BitVec 32 := 256#32
  let v717 : BitVec 32 := Scalar.muli v716 c256_i32_378
  let c0_i32_379 : BitVec 32 := 0#32
  let v718 : BitVec 32 := Scalar.addi v717 c0_i32_379
  v718
def k0_off1 (k0_t1 : Fin k0_t1_loop.trips) : Fin 2 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_381 : BitVec 32 := 0#32
  ![v693.toNat, 0]
def k0_off2 (k0_t1 : Fin k0_t1_loop.trips) (c0_i32_379 : BitVec 32) : Fin 3 → Nat :=
  let c0_i32_382 : BitVec 32 := 0#32
  let c0_i32_383 : BitVec 32 := 0#32
  let c0_i32_311 : BitVec 32 := 0#32
  let c1_i32_313 : BitVec 32 := 1#32
  let arg22 : BitVec 32 := Scf.iv c0_i32_311 c1_i32_313 k0_t1
  let c2_i32_377 : BitVec 32 := 2#32
  let v716 : BitVec 32 := Scalar.subi arg22 c2_i32_377
  let c256_i32_378 : BitVec 32 := 256#32
  let v717 : BitVec 32 := Scalar.muli v716 c256_i32_378
  let v718 : BitVec 32 := Scalar.addi v717 c0_i32_379
  let v719 : BitVec 32 := v718
  ![0, 0, v719.toNat]
def k0_off3 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_380 : BitVec 32 := 0#32
  let c0_i32_384 : BitVec 32 := 0#32
  let c0_i32_385 : BitVec 32 := 0#32
  let c0_i32_386 : BitVec 32 := 0#32
  ![v693.toNat, 0, 0, 0, 0]
def k0_mult11 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c2_i32_387 : BitVec 32 := 2#32
  let v725 : BitVec 32 := Scalar.subi arg22 c2_i32_387
  let c256_i32_388 : BitVec 32 := 256#32
  let v726 : BitVec 32 := Scalar.muli v725 c256_i32_388
  let c128_i32_389 : BitVec 32 := 128#32
  let v727 : BitVec 32 := Scalar.addi v726 c128_i32_389
  v727
def k0_off4 (k0_t1 : Fin k0_t1_loop.trips) : Fin 2 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_391 : BitVec 32 := 1#32
  ![v693.toNat, 1]
def k0_off5 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_390 : BitVec 32 := 1#32
  let c0_i32_394 : BitVec 32 := 0#32
  let c0_i32_395 : BitVec 32 := 0#32
  let c0_i32_396 : BitVec 32 := 0#32
  ![v693.toNat, 1, 0, 0, 0]
@[reducible] def k0_t2_loop : Scf.Loop 32 :=
  let c0_i32_356 : BitVec 32 := 0#32
  let c4_i32_357 : BitVec 32 := 4#32
  let v699 : BitVec 32 := Scalar.addi c0_i32_356 c4_i32_357
  let c1_i32_358 : BitVec 32 := 1#32
  ⟨c0_i32_356, v699, c1_i32_358⟩
def k0_mult12 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c256_i32_381 : BitVec 32 := 256#32
  let v720 : BitVec 32 := Scalar.muli arg22 c256_i32_381
  v720
def k0_off6 (k0_t2 : Fin k0_t2_loop.trips) (c0_i32_380 : BitVec 32) : Fin 1 → Nat :=
  let c2_i32_379 : BitVec 32 := 2#32
  let c0_i32_356 : BitVec 32 := 0#32
  let c1_i32_358 : BitVec 32 := 1#32
  let arg23 : BitVec 32 := Scf.iv c0_i32_356 c1_i32_358 k0_t2
  let v718 : BitVec 32 := Scalar.muli c2_i32_379 arg23
  let v719 : BitVec 32 := Scalar.addi v718 c0_i32_380
  ![v719.toNat]
def k0_off7 (k0_t2 : Fin k0_t2_loop.trips) (c0_i32_380 : BitVec 32) : Fin 4 → Nat :=
  let c2_i32_379 : BitVec 32 := 2#32
  let c0_i32_356 : BitVec 32 := 0#32
  let c1_i32_358 : BitVec 32 := 1#32
  let arg23 : BitVec 32 := Scf.iv c0_i32_356 c1_i32_358 k0_t2
  let v718 : BitVec 32 := Scalar.muli c2_i32_379 arg23
  let v719 : BitVec 32 := Scalar.addi v718 c0_i32_380
  let c0_i32_384 : BitVec 32 := 0#32
  let c0_i32_385 : BitVec 32 := 0#32
  let c0_i32_386 : BitVec 32 := 0#32
  ![v719.toNat, 0, 0, 0]
def k0_off8 (k0_t1 : Fin k0_t1_loop.trips) (k0_t2 : Fin k0_t2_loop.trips) (c0_i32_383 : BitVec 32) : Fin 3 → Nat :=
  let c2_i32_382 : BitVec 32 := 2#32
  let c0_i32_356 : BitVec 32 := 0#32
  let c1_i32_358 : BitVec 32 := 1#32
  let arg23 : BitVec 32 := Scf.iv c0_i32_356 c1_i32_358 k0_t2
  let v722 : BitVec 32 := Scalar.muli c2_i32_382 arg23
  let v723 : BitVec 32 := Scalar.addi v722 c0_i32_383
  let c0_i32_387 : BitVec 32 := 0#32
  let c0_i32_311 : BitVec 32 := 0#32
  let c1_i32_313 : BitVec 32 := 1#32
  let arg22 : BitVec 32 := Scf.iv c0_i32_311 c1_i32_313 k0_t1
  let c256_i32_381 : BitVec 32 := 256#32
  let v720 : BitVec 32 := Scalar.muli arg22 c256_i32_381
  let v721 : BitVec 32 := v720
  ![v723.toNat, 0, v721.toNat]
def k0_off9 (k0_t2 : Fin k0_t2_loop.trips) (c0_i32_378 : BitVec 32) : Fin 4 → Nat :=
  let c2_i32_377 : BitVec 32 := 2#32
  let c0_i32_356 : BitVec 32 := 0#32
  let c1_i32_358 : BitVec 32 := 1#32
  let arg23 : BitVec 32 := Scf.iv c0_i32_356 c1_i32_358 k0_t2
  let v716 : BitVec 32 := Scalar.muli c2_i32_377 arg23
  let v717 : BitVec 32 := Scalar.addi v716 c0_i32_378
  let v731 : Index := Scalar.indexCast v717
  let c0_391 : Index := 0#32
  let c0_392 : Index := 0#32
  let c0_393 : Index := 0#32
  ![v731.toNat, 0, 0, 0]
def k0_off10 (k0_t2 : Fin k0_t2_loop.trips) (c0_i32_378 : BitVec 32) : Fin 4 → Nat :=
  let c2_i32_377 : BitVec 32 := 2#32
  let c0_i32_356 : BitVec 32 := 0#32
  let c1_i32_358 : BitVec 32 := 1#32
  let arg23 : BitVec 32 := Scf.iv c0_i32_356 c1_i32_358 k0_t2
  let v716 : BitVec 32 := Scalar.muli c2_i32_377 arg23
  let v717 : BitVec 32 := Scalar.addi v716 c0_i32_378
  let v735 : Index := Scalar.indexCast v717
  let c1_395 : Index := 1#32
  let c0_396 : Index := 0#32
  let c0_397 : Index := 0#32
  ![v735.toNat, 1, 0, 0]
def k0_cond2 (k0_t1 : Fin k0_t1_loop.trips) : BitVec 1 :=
  let c0_i32_311 : BitVec 32 := 0#32
  let c1_i32_313 : BitVec 32 := 1#32
  let arg22 : BitVec 32 := Scf.iv c0_i32_311 c1_i32_313 k0_t1
  let c1_i32_399 : BitVec 32 := 1#32
  let v739 : BitVec 32 := Scalar.addi arg22 c1_i32_399
  let c5_i32_400 : BitVec 32 := 5#32
  let v740 : BitVec 1 := Scalar.cmpi .slt v739 c5_i32_400
  let v741 : BitVec 32 := Scalar.extui v740
  let c0_i32_401 : BitVec 32 := 0#32
  let v742 : BitVec 1 := Scalar.cmpi .ne v741 c0_i32_401
  v742

def k0_mult13 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c1_i32_1216 : BitVec 32 := 1#32
  let v3106 : BitVec 32 := Scalar.addi arg22 c1_i32_1216
  let c256_i32_1219 : BitVec 32 := 256#32
  let v3109 : BitVec 32 := Scalar.muli v3106 c256_i32_1219
  v3109
def k0_off11 (k0_t2 : Fin k0_t2_loop.trips) : Fin 1 → Nat :=
  let c2_i32_1217 : BitVec 32 := 2#32
  let c0_i32_356 : BitVec 32 := 0#32
  let c1_i32_358 : BitVec 32 := 1#32
  let arg23 : BitVec 32 := Scf.iv c0_i32_356 c1_i32_358 k0_t2
  let v3107 : BitVec 32 := Scalar.muli c2_i32_1217 arg23
  let c0_i32_1218 : BitVec 32 := 0#32
  let v3108 : BitVec 32 := Scalar.addi v3107 c0_i32_1218
  ![v3108.toNat]
def k0_off12 (k0_t2 : Fin k0_t2_loop.trips) : Fin 4 → Nat :=
  let c2_i32_1217 : BitVec 32 := 2#32
  let c0_i32_356 : BitVec 32 := 0#32
  let c1_i32_358 : BitVec 32 := 1#32
  let arg23 : BitVec 32 := Scf.iv c0_i32_356 c1_i32_358 k0_t2
  let v3107 : BitVec 32 := Scalar.muli c2_i32_1217 arg23
  let c0_i32_1218 : BitVec 32 := 0#32
  let v3108 : BitVec 32 := Scalar.addi v3107 c0_i32_1218
  let c0_i32_1222 : BitVec 32 := 0#32
  let c0_i32_1223 : BitVec 32 := 0#32
  let c0_i32_1224 : BitVec 32 := 0#32
  ![v3108.toNat, 0, 0, 0]
def k0_off13 (k0_t1 : Fin k0_t1_loop.trips) (k0_t2 : Fin k0_t2_loop.trips) : Fin 3 → Nat :=
  let c2_i32_1220 : BitVec 32 := 2#32
  let c0_i32_356 : BitVec 32 := 0#32
  let c1_i32_358 : BitVec 32 := 1#32
  let arg23 : BitVec 32 := Scf.iv c0_i32_356 c1_i32_358 k0_t2
  let v3111 : BitVec 32 := Scalar.muli c2_i32_1220 arg23
  let c0_i32_1221 : BitVec 32 := 0#32
  let v3112 : BitVec 32 := Scalar.addi v3111 c0_i32_1221
  let c0_i32_1225 : BitVec 32 := 0#32
  let c0_i32_311 : BitVec 32 := 0#32
  let c1_i32_313 : BitVec 32 := 1#32
  let arg22 : BitVec 32 := Scf.iv c0_i32_311 c1_i32_313 k0_t1
  let c1_i32_1216 : BitVec 32 := 1#32
  let v3106 : BitVec 32 := Scalar.addi arg22 c1_i32_1216
  let c256_i32_1219 : BitVec 32 := 256#32
  let v3109 : BitVec 32 := Scalar.muli v3106 c256_i32_1219
  let v3110 : BitVec 32 := v3109
  ![v3112.toNat, 0, v3110.toNat]
def k0_mult14 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c256_i32_406 : BitVec 32 := 256#32
  let v747 : BitVec 32 := Scalar.muli arg22 c256_i32_406
  v747
def k0_cond3 (k0_t1 : Fin k0_t1_loop.trips) : BitVec 1 :=
  let c0_i32_311 : BitVec 32 := 0#32
  let c1_i32_313 : BitVec 32 := 1#32
  let arg22 : BitVec 32 := Scf.iv c0_i32_311 c1_i32_313 k0_t1
  let c1_i32_424 : BitVec 32 := 1#32
  let v766 : BitVec 32 := Scalar.addi arg22 c1_i32_424
  let c5_i32_425 : BitVec 32 := 5#32
  let v767 : BitVec 1 := Scalar.cmpi .slt v766 c5_i32_425
  let v768 : BitVec 32 := Scalar.extui v767
  let c0_i32_426 : BitVec 32 := 0#32
  let v769 : BitVec 1 := Scalar.cmpi .ne v768 c0_i32_426
  v769

def k0_mult15 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c1_i32_1216 : BitVec 32 := 1#32
  let v3106 : BitVec 32 := Scalar.addi arg22 c1_i32_1216
  let c256_i32_1219 : BitVec 32 := 256#32
  let v3109 : BitVec 32 := Scalar.muli v3106 c256_i32_1219
  v3109
def k0_off14 (k0_t2 : Fin k0_t2_loop.trips) : Fin 1 → Nat :=
  let c2_i32_1217 : BitVec 32 := 2#32
  let c0_i32_356 : BitVec 32 := 0#32
  let c1_i32_358 : BitVec 32 := 1#32
  let arg23 : BitVec 32 := Scf.iv c0_i32_356 c1_i32_358 k0_t2
  let v3107 : BitVec 32 := Scalar.muli c2_i32_1217 arg23
  let c1_i32_1218 : BitVec 32 := 1#32
  let v3108 : BitVec 32 := Scalar.addi v3107 c1_i32_1218
  ![v3108.toNat]
def k0_off15 (k0_t2 : Fin k0_t2_loop.trips) : Fin 4 → Nat :=
  let c2_i32_1217 : BitVec 32 := 2#32
  let c0_i32_356 : BitVec 32 := 0#32
  let c1_i32_358 : BitVec 32 := 1#32
  let arg23 : BitVec 32 := Scf.iv c0_i32_356 c1_i32_358 k0_t2
  let v3107 : BitVec 32 := Scalar.muli c2_i32_1217 arg23
  let c1_i32_1218 : BitVec 32 := 1#32
  let v3108 : BitVec 32 := Scalar.addi v3107 c1_i32_1218
  let c0_i32_1222 : BitVec 32 := 0#32
  let c0_i32_1223 : BitVec 32 := 0#32
  let c0_i32_1224 : BitVec 32 := 0#32
  ![v3108.toNat, 0, 0, 0]
def k0_off16 (k0_t1 : Fin k0_t1_loop.trips) (k0_t2 : Fin k0_t2_loop.trips) : Fin 3 → Nat :=
  let c2_i32_1220 : BitVec 32 := 2#32
  let c0_i32_356 : BitVec 32 := 0#32
  let c1_i32_358 : BitVec 32 := 1#32
  let arg23 : BitVec 32 := Scf.iv c0_i32_356 c1_i32_358 k0_t2
  let v3111 : BitVec 32 := Scalar.muli c2_i32_1220 arg23
  let c8_i32_1221 : BitVec 32 := 8#32
  let v3112 : BitVec 32 := Scalar.addi v3111 c8_i32_1221
  let c0_i32_1225 : BitVec 32 := 0#32
  let c0_i32_311 : BitVec 32 := 0#32
  let c1_i32_313 : BitVec 32 := 1#32
  let arg22 : BitVec 32 := Scf.iv c0_i32_311 c1_i32_313 k0_t1
  let c1_i32_1216 : BitVec 32 := 1#32
  let v3106 : BitVec 32 := Scalar.addi arg22 c1_i32_1216
  let c256_i32_1219 : BitVec 32 := 256#32
  let v3109 : BitVec 32 := Scalar.muli v3106 c256_i32_1219
  let v3110 : BitVec 32 := v3109
  ![v3112.toNat, 0, v3110.toNat]
def k0_off17 (k0_t1 : Fin k0_t1_loop.trips) (c0_i32_427 : BitVec 32) : Fin 2 → Nat :=
  let c0_428 : Index := 0#32
  let c0_i32_311 : BitVec 32 := 0#32
  let c1_i32_313 : BitVec 32 := 1#32
  let arg22 : BitVec 32 := Scf.iv c0_i32_311 c1_i32_313 k0_t1
  let c256_i32 : BitVec 32 := 256#32
  let v694 : BitVec 32 := Scalar.muli arg22 c256_i32
  let v695 : BitVec 32 := v694
  let v770 : BitVec 32 := Scalar.addi v695 c0_i32_427
  let v771 : Index := Scalar.indexCast v770
  ![0, v771.toNat]
def k0_off18 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_437 : BitVec 32 := 0#32
  let c0_i32_438 : BitVec 32 := 0#32
  let c0_i32_439 : BitVec 32 := 0#32
  let c0_i32_440 : BitVec 32 := 0#32
  ![v693.toNat, 0, 0, 0, 0]
def k0_off19 (k0_t1 : Fin k0_t1_loop.trips) (k0_t2 : Fin k0_t2_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_437 : BitVec 32 := 0#32
  let c0_i32_438 : BitVec 32 := 0#32
  let c512_i32 : BitVec 32 := 512#32
  let c0_i32_356 : BitVec 32 := 0#32
  let c1_i32_358 : BitVec 32 := 1#32
  let arg23 : BitVec 32 := Scf.iv c0_i32_356 c1_i32_358 k0_t2
  let v802 : BitVec 32 := Scalar.addi c512_i32 arg23
  let v806 : Index := Scalar.indexCast v802
  let c0_i32_440 : BitVec 32 := 0#32
  ![v693.toNat, 0, 0, Nat.mul 2 v806.toNat, 0]
def k0_off20 (k0_t1 : Fin k0_t1_loop.trips) (k0_t2 : Fin k0_t2_loop.trips) (c0_i32_445 : BitVec 32) : Fin 6 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_446 : BitVec 32 := 0#32
  let c0_i32_447 : BitVec 32 := 0#32
  let c0_i32_356 : BitVec 32 := 0#32
  let c1_i32_358 : BitVec 32 := 1#32
  let arg23 : BitVec 32 := Scf.iv c0_i32_356 c1_i32_358 k0_t2
  let v824 : BitVec 32 := Scalar.addi c0_i32_445 arg23
  let v828 : Index := Scalar.indexCast v824
  let c0_i32_449 : BitVec 32 := 0#32
  ![v693.toNat, 0, 0, v828.toNat, 0, 0]
def k0_off21 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_616 : BitVec 32 := 0#32
  let c1_i32_617 : BitVec 32 := 1#32
  let c0_i32_618 : BitVec 32 := 0#32
  let c0_i32_619 : BitVec 32 := 0#32
  ![v693.toNat, 0, 1, 0, 0]
def k0_off22 (k0_t1 : Fin k0_t1_loop.trips) (k0_t2 : Fin k0_t2_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_616 : BitVec 32 := 0#32
  let c1_i32_617 : BitVec 32 := 1#32
  let c512_i32_615 : BitVec 32 := 512#32
  let c0_i32_356 : BitVec 32 := 0#32
  let c1_i32_358 : BitVec 32 := 1#32
  let arg23 : BitVec 32 := Scf.iv c0_i32_356 c1_i32_358 k0_t2
  let v1383 : BitVec 32 := Scalar.addi c512_i32_615 arg23
  let v1387 : Index := Scalar.indexCast v1383
  let c0_i32_619 : BitVec 32 := 0#32
  ![v693.toNat, 0, 1, Nat.mul 2 v1387.toNat, 0]
def k0_off23 (k0_t1 : Fin k0_t1_loop.trips) (k0_t2 : Fin k0_t2_loop.trips) (c0_i32_624 : BitVec 32) : Fin 6 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_625 : BitVec 32 := 0#32
  let c1_i32_626 : BitVec 32 := 1#32
  let c0_i32_356 : BitVec 32 := 0#32
  let c1_i32_358 : BitVec 32 := 1#32
  let arg23 : BitVec 32 := Scf.iv c0_i32_356 c1_i32_358 k0_t2
  let v1405 : BitVec 32 := Scalar.addi c0_i32_624 arg23
  let v1409 : Index := Scalar.indexCast v1405
  let c0_i32_628 : BitVec 32 := 0#32
  ![v693.toNat, 0, 1, v1409.toNat, 0, 0]
def k0_off24 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_821 : BitVec 32 := 1#32
  let c0_i32_822 : BitVec 32 := 0#32
  let c0_i32_823 : BitVec 32 := 0#32
  let c0_i32_824 : BitVec 32 := 0#32
  ![v693.toNat, 1, 0, 0, 0]
def k0_off25 (k0_t1 : Fin k0_t1_loop.trips) (k0_t2 : Fin k0_t2_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_821 : BitVec 32 := 1#32
  let c0_i32_822 : BitVec 32 := 0#32
  let c512_i32_820 : BitVec 32 := 512#32
  let c0_i32_356 : BitVec 32 := 0#32
  let c1_i32_358 : BitVec 32 := 1#32
  let arg23 : BitVec 32 := Scf.iv c0_i32_356 c1_i32_358 k0_t2
  let v1970 : BitVec 32 := Scalar.addi c512_i32_820 arg23
  let v1974 : Index := Scalar.indexCast v1970
  let c0_i32_824 : BitVec 32 := 0#32
  ![v693.toNat, 1, 0, Nat.mul 2 v1974.toNat, 0]
def k0_off26 (k0_t1 : Fin k0_t1_loop.trips) (k0_t2 : Fin k0_t2_loop.trips) (c0_i32_829 : BitVec 32) : Fin 6 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_830 : BitVec 32 := 1#32
  let c0_i32_831 : BitVec 32 := 0#32
  let c0_i32_356 : BitVec 32 := 0#32
  let c1_i32_358 : BitVec 32 := 1#32
  let arg23 : BitVec 32 := Scf.iv c0_i32_356 c1_i32_358 k0_t2
  let v1992 : BitVec 32 := Scalar.addi c0_i32_829 arg23
  let v1996 : Index := Scalar.indexCast v1992
  let c0_i32_833 : BitVec 32 := 0#32
  ![v693.toNat, 1, 0, v1996.toNat, 0, 0]
def k0_off27 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_1022 : BitVec 32 := 1#32
  let c1_i32_1023 : BitVec 32 := 1#32
  let c0_i32_1024 : BitVec 32 := 0#32
  let c0_i32_1025 : BitVec 32 := 0#32
  ![v693.toNat, 1, 1, 0, 0]
def k0_off28 (k0_t1 : Fin k0_t1_loop.trips) (k0_t2 : Fin k0_t2_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_1022 : BitVec 32 := 1#32
  let c1_i32_1023 : BitVec 32 := 1#32
  let c512_i32_1021 : BitVec 32 := 512#32
  let c0_i32_356 : BitVec 32 := 0#32
  let c1_i32_358 : BitVec 32 := 1#32
  let arg23 : BitVec 32 := Scf.iv c0_i32_356 c1_i32_358 k0_t2
  let v2551 : BitVec 32 := Scalar.addi c512_i32_1021 arg23
  let v2555 : Index := Scalar.indexCast v2551
  let c0_i32_1025 : BitVec 32 := 0#32
  ![v693.toNat, 1, 1, Nat.mul 2 v2555.toNat, 0]
def k0_off29 (k0_t1 : Fin k0_t1_loop.trips) (k0_t2 : Fin k0_t2_loop.trips) (c0_i32_1030 : BitVec 32) : Fin 6 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_1031 : BitVec 32 := 1#32
  let c1_i32_1032 : BitVec 32 := 1#32
  let c0_i32_356 : BitVec 32 := 0#32
  let c1_i32_358 : BitVec 32 := 1#32
  let arg23 : BitVec 32 := Scf.iv c0_i32_356 c1_i32_358 k0_t2
  let v2573 : BitVec 32 := Scalar.addi c0_i32_1030 arg23
  let v2577 : Index := Scalar.indexCast v2573
  let c0_i32_1034 : BitVec 32 := 0#32
  ![v693.toNat, 1, 1, v2577.toNat, 0, 0]
def k0_mult16 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c256_i32_360 : BitVec 32 := 256#32
  let v700 : BitVec 32 := Scalar.muli arg22 c256_i32_360
  let c0_i32_361 : BitVec 32 := 0#32
  let v701 : BitVec 32 := Scalar.addi v700 c0_i32_361
  v701
def k0_off30 (k0_t1 : Fin k0_t1_loop.trips) : Fin 2 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_363 : BitVec 32 := 0#32
  ![v693.toNat, 0]
def k0_off31 (k0_t1 : Fin k0_t1_loop.trips) (c0_i32_361 : BitVec 32) : Fin 3 → Nat :=
  let c0_i32_364 : BitVec 32 := 0#32
  let c0_i32_365 : BitVec 32 := 0#32
  let c0_i32_311 : BitVec 32 := 0#32
  let c1_i32_313 : BitVec 32 := 1#32
  let arg22 : BitVec 32 := Scf.iv c0_i32_311 c1_i32_313 k0_t1
  let c256_i32_360 : BitVec 32 := 256#32
  let v700 : BitVec 32 := Scalar.muli arg22 c256_i32_360
  let v701 : BitVec 32 := Scalar.addi v700 c0_i32_361
  let v702 : BitVec 32 := v701
  ![0, 0, v702.toNat]
def k0_off32 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c0_i32_362 : BitVec 32 := 0#32
  let c0_i32_366 : BitVec 32 := 0#32
  let c0_i32_367 : BitVec 32 := 0#32
  let c0_i32_368 : BitVec 32 := 0#32
  ![v693.toNat, 0, 0, 0, 0]
def k0_mult17 (k0_t1 : Fin k0_t1_loop.trips) : BitVec 32 :=
  let c0_i32_311 : BitVec 32 := 0#32
  let c1_i32_313 : BitVec 32 := 1#32
  let arg22 : BitVec 32 := Scf.iv c0_i32_311 c1_i32_313 k0_t1
  let c256_i32_369 : BitVec 32 := 256#32
  let v708 : BitVec 32 := Scalar.muli arg22 c256_i32_369
  let c128_i32 : BitVec 32 := 128#32
  let v709 : BitVec 32 := Scalar.addi v708 c128_i32
  v709
def k0_off33 (k0_t1 : Fin k0_t1_loop.trips) : Fin 2 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_371 : BitVec 32 := 1#32
  ![v693.toNat, 1]
def k0_off34 (k0_t1 : Fin k0_t1_loop.trips) : Fin 5 → Nat :=
  let c0_i32_311 : BitVec 32 := 0#32
  let c1_i32_313 : BitVec 32 := 1#32
  let arg22 : BitVec 32 := Scf.iv c0_i32_311 c1_i32_313 k0_t1
  let c2_i32_353 : BitVec 32 := 2#32
  let v693 : BitVec 32 := Scalar.remsi arg22 c2_i32_353
  let c1_i32_370 : BitVec 32 := 1#32
  let c0_i32_374 : BitVec 32 := 0#32
  let c0_i32_375 : BitVec 32 := 0#32
  let c0_i32_376 : BitVec 32 := 0#32
  ![v693.toNat, 1, 0, 0, 0]
def k0_mult18 : BitVec 32 :=
  let c768_i32 : BitVec 32 := 768#32
  c768_i32
def k0_mult19 : BitVec 32 :=
  let c896_i32 : BitVec 32 := 896#32
  c896_i32
def k0_mult20 : BitVec 32 :=
  let c1024_i32 : BitVec 32 := 1024#32
  c1024_i32
def k0_mult21 : BitVec 32 :=
  let c1152_i32 : BitVec 32 := 1152#32
  c1152_i32
-- ==== KernelIdeal.lean ====
variable {F : FTy → Type} [FloatOps F]
-- ==== ReferenceIdeal.lean ====
abbrev S2x128x2560 : Shape := ⟨3, ![2, 128, 2560]⟩
abbrev S16x2560x1280 : Shape := ⟨3, ![16, 2560, 1280]⟩
abbrev S1280 : Shape := ⟨1, ![1280]⟩
abbrev S256x2560 : Shape := ⟨2, ![256, 2560]⟩
abbrev S2560x16x1280 : Shape := ⟨3, ![2560, 16, 1280]⟩
abbrev S2560x20480 : Shape := ⟨2, ![2560, 20480]⟩
abbrev S256x1 : Shape := ⟨2, ![256, 1]⟩
abbrev S256x20480 : Shape := ⟨2, ![256, 20480]⟩
abbrev S256 : Shape := ⟨1, ![256]⟩
abbrev S1x256 : Shape := ⟨2, ![1, 256]⟩
abbrev S256x256 : Shape := ⟨2, ![256, 256]⟩
abbrev S2x128 : Shape := ⟨2, ![2, 128]⟩
abbrev S2x128x16x1280 : Shape := ⟨4, ![2, 128, 16, 1280]⟩
abbrev S2x128x1x1 : Shape := ⟨4, ![2, 128, 1, 1]⟩
abbrev S1x1x1x1280 : Shape := ⟨4, ![1, 1, 1, 1280]⟩
abbrev S2x128x8x1280 : Shape := ⟨4, ![2, 128, 8, 1280]⟩
abbrev S_ : Shape := ⟨0, ![]⟩
abbrev S2x129x8x1280 : Shape := ⟨4, ![2, 129, 8, 1280]⟩
abbrev S2x1032x1280 : Shape := ⟨3, ![2, 1032, 1280]⟩
abbrev S1x1x1280 : Shape := ⟨3, ![1, 1, 1280]⟩

abbrev nBuf : Space → Nat
  | .hbm => 33
  | .vmem => 5
  | .smem => 0
  | _ => 0

abbrev bufTy : (tb : Table) → Fin (tcTables nBuf tb) → BufTy
  | .hbm, ⟨0, _⟩ => ⟨S2x128x2560, .bf16⟩
  | .hbm, ⟨1, _⟩ => ⟨S16x2560x1280, .fp8e4m3⟩
  | .hbm, ⟨2, _⟩ => ⟨S1280, .f32⟩
  | .hbm, ⟨3, _⟩ => ⟨S1280, .f32⟩
  | .hbm, ⟨4, _⟩ => ⟨S256x2560, .bf16⟩
  | .hbm, ⟨5, _⟩ => ⟨S2560x16x1280, .fp8e4m3⟩
  | .hbm, ⟨6, _⟩ => ⟨S2560x20480, .fp8e4m3⟩
  | .hbm, ⟨7, _⟩ => ⟨S256x2560, .fp8e4m3⟩
  | .hbm, ⟨8, _⟩ => ⟨S256x1, .f32⟩
  | .hbm, ⟨9, _⟩ => ⟨S256x20480, .f32⟩
  | .hbm, ⟨10, _⟩ => ⟨S2x128x2560, .fp8e4m3⟩
  | .hbm, ⟨11, _⟩ => ⟨S2x128, .f32⟩
  | .hbm, ⟨12, _⟩ => ⟨S2x128x16x1280, .f32⟩
  | .hbm, ⟨13, _⟩ => ⟨S2x128x1x1, .f32⟩
  | .hbm, ⟨14, _⟩ => ⟨S2x128x16x1280, .f32⟩
  | .hbm, ⟨15, _⟩ => ⟨S2x128x16x1280, .f32⟩
  | .hbm, ⟨16, _⟩ => ⟨S1x1x1x1280, .f32⟩
  | .hbm, ⟨17, _⟩ => ⟨S2x128x16x1280, .f32⟩
  | .hbm, ⟨18, _⟩ => ⟨S2x128x16x1280, .f32⟩
  | .hbm, ⟨19, _⟩ => ⟨S2x128x8x1280, .f32⟩
  | .hbm, ⟨20, _⟩ => ⟨S2x128x8x1280, .f32⟩
  | .hbm, ⟨21, _⟩ => ⟨S_, .i32⟩
  | .hbm, ⟨22, _⟩ => ⟨S_, .f32⟩
  | .hbm, ⟨23, _⟩ => ⟨S2x129x8x1280, .f32⟩
  | .hbm, ⟨24, _⟩ => ⟨S_, .i32⟩
  | .hbm, ⟨25, _⟩ => ⟨S_, .f32⟩
  | .hbm, ⟨26, _⟩ => ⟨S2x129x8x1280, .f32⟩
  | .hbm, ⟨27, _⟩ => ⟨S2x129x8x1280, .f32⟩
  | .hbm, ⟨28, _⟩ => ⟨S2x1032x1280, .f32⟩
  | .hbm, ⟨29, _⟩ => ⟨S1x1x1280, .f32⟩
  | .hbm, ⟨30, _⟩ => ⟨S2x1032x1280, .f32⟩
  | .hbm, ⟨31, _⟩ => ⟨S2x1032x1280, .f32⟩
  | .hbm, ⟨32, _⟩ => ⟨S2x1032x1280, .bf16⟩
  | .local _ .vmem, ⟨0, _⟩ => ⟨S256x2560, .bf16⟩
  | .local _ .vmem, ⟨1, _⟩ => ⟨S2560x20480, .fp8e4m3⟩
  | .local _ .vmem, ⟨2, _⟩ => ⟨S256x2560, .fp8e4m3⟩
  | .local _ .vmem, ⟨3, _⟩ => ⟨S256x1, .f32⟩
  | .local _ .vmem, ⟨4, _⟩ => ⟨S256x20480, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Bits.Base.lean ====
/-
  The kernel's scratch arrays by name, the closed forms of the offsets its body computes, and where a
  store into the output staging buffer lands.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.ValueIdx
public import Idealize.ShloMosaic.Lib.ValueLayout
public import Idealize.ShloMosaic.Lib.Tactic

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]

/-- The resource algebra: the launch library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The buffers -/

abbrev M0 : Memref sig .tc .hbm S2x128x2560 .bf16 := Memref.whole main_arg0
abbrev M1 : Memref sig .tc .hbm S16x2560x1280 .fp8e4m3 := Memref.whole main_arg1
abbrev M2 : Memref sig .tc .hbm S1x1280 .f32 := Memref.whole main_v0
abbrev M3 : Memref sig .tc .hbm S1x1280 .f32 := Memref.whole main_v1
abbrev M4 : Memref sig .tc .hbm S2x1032x1280 .bf16 := Memref.whole main_v2_0
abbrev M5 : Memref sig .tc .hbm S2x128x2560 .fp8e4m3 := Memref.whole main_v2_1
abbrev M6 : Memref sig .tc .hbm S2x128 .f32 := Memref.whole main_v2_2
abbrev M7 : Memref sig .tc .vmem S2x128x2560 .bf16 := Memref.whole cc0_scratch0
abbrev M8 : Memref sig .tc .vmem S2x128x2560 .fp8e4m3 := Memref.whole cc0_scratch1
abbrev M9 : Memref sig .tc .vmem S2x128x2560 .fp8e4m3 := Memref.whole cc0_scratch2
abbrev M10 : Memref sig .tc .vmem S2x128x128 .f32 := Memref.whole cc0_scratch3
abbrev M11 : Memref sig .tc .vmem S2x128x128 .f32 := Memref.whole cc0_scratch4
abbrev M12 : Memref sig .tc .vmem S2x128 .f32 := Memref.whole cc0_scratch5
abbrev M13 : Memref sig .tc .vmem S1x1280 .f32 := Memref.whole cc0_scratch6
abbrev M14 : Memref sig .tc .vmem S1x1280 .f32 := Memref.whole cc0_scratch7
abbrev M15 : Memref sig .tc .vmem S8x2x2560x256 .fp8e4m3 := Memref.whole cc0_scratch8
abbrev M16 : Memref sig .tc .vmem S2x2x2x1032x128 .bf16 := Memref.whole cc0_scratch9
/-- The output staging buffer counted in row pairs. -/
abbrev R16 : Memref sig .tc .vmem S2x2x2x516x2x128 .bf16 :=
  M16.reshape S2x2x2x516x2x128 reshapes_S2x2x2x1032x128_S2x2x2x516x2x128.1 reshapes_S2x2x2x1032x128_S2x2x2x516x2x128.2
    (Memref.isWhole_whole cc0_scratch9).contiguous

/-! ## Where a store into the output staging buffer lands -/

/-- The box of a word store: buffer `p`, half `h`, batch `b`, word rows `32 g + jp`, four apart. -/
abbrev wordOff (p h b g k : ℕ) : Fin 6 → ℕ := ![p, h, b, 32 * g + k, 0, 0]
/-- The box of the last word of a tap pair: word row `512 + jp`. -/
abbrev tailOff (p h b k : ℕ) : Fin 5 → ℕ := ![p, h, b, 2 * (512 + k), 0]

theorem wordRow_lt {g k r t : ℕ} (hg : g < 16) (hk : k < 4) (hr : r < 8) (ht : t < 2) : 64 * g + 8 * r + 2 * k + t < 1032 := by omega

/-- The element of the staging buffer under `(r, t, l)` of a word store. -/
def wordIx (p h b : Fin 2) (g : Fin 16) (k : Fin 4) (r : Fin 8) (t : Fin 2) (l : Fin 128) : S2x2x2x1032x128.Idx :=
  ix5 p h b (⟨64 * g.val + 8 * r.val + 2 * k.val + t.val, wordRow_lt g.isLt k.isLt r.isLt t.isLt⟩ : Fin 1032) l

/-- The element of the staging buffer under `(t, l)` of a tail store. -/
def tailIx (p h b : Fin 2) (k : Fin 4) (t : Fin 2) (l : Fin 128) : S2x2x2x1032x128.Idx :=
  ix5 p h b (⟨1024 + 2 * k.val + t.val, by omega⟩ : Fin 1032) l

theorem word_emb (p h b : Fin 2) (g : Fin 16) (k : Fin 4) (off : Fin 6 → ℕ) (hoff : off = wordOff p h b g k)
    (hin) (hpos) (r : Fin 8) (t : Fin 2) (l : Fin 128) :
    (R16.access ⟨⟨off, S1x1x1x8x2x128.size, ![1, 1, 1, 4, 1, 1], hin⟩, hpos⟩).emb (ix6 (0 : Fin 1) (0 : Fin 1) (0 : Fin 1) r t l)
      = wordIx p h b g k r t l := by
  subst hoff
  show Shape.reshapeEquiv _ _ = _
  refine Shape.reshapeEquiv_eq_of_rowMajor _ ?_
  rw [Shape.rowMajor_val_five, Shape.rowMajor_val_six]
  show ((((p.val * 2 + h.val) * 2 + b.val) * 1032 + (64 * g.val + 8 * r.val + 2 * k.val + t.val)) * 128 + l.val)
    = ((((((p.val + 1 * 0) * 2 + (h.val + 1 * 0)) * 2 + (b.val + 1 * 0)) * 516 + (32 * g.val + k.val + 4 * r.val)) * 2 + (0 + 1 * t.val)) * 128 + (0 + 1 * l.val))
  omega

theorem tail_emb (p h b : Fin 2) (k : Fin 4) (off : Fin 5 → ℕ) (hoff : off = tailOff p h b k) (hin) (t : Fin 2) (l : Fin 128) :
    (M16.access (Rect.unit (s := S2x2x2x1032x128) off S1x1x1x2x128.size hin)).emb (ix5 (0 : Fin 1) (0 : Fin 1) (0 : Fin 1) t l)
      = tailIx p h b k t l := by
  subst hoff
  funext a
  apply Fin.ext
  fin_cases a
  · show p.val + 1 * 0 = p.val; omega
  · show h.val + 1 * 0 = h.val; omega
  · show b.val + 1 * 0 = b.val; omega
  · show 2 * (512 + k.val) + 1 * t.val = 1024 + 2 * k.val + t.val; omega
  · show 0 + 1 * l.val = l.val; omega

/-! ## The offsets in closed form -/

/-- The parity of trip `i`, the buffer it fills. -/
abbrev par (i : Fin k0_t1_loop.trips) : Fin 2 := ⟨i.val % 2, Nat.mod_lt _ (by decide)⟩
abbrev pr (k : Fin k0_t2_loop.trips) : Fin 4 := ⟨k.val, lt_of_lt_of_eq k.isLt (by decide)⟩

theorem off20 : ∀ (i : Fin k0_t1_loop.trips) (k : Fin k0_t2_loop.trips) (g : Fin 16),
    k0_off20 i k (BitVec.ofNat 32 (32 * g.val)) = wordOff (par i) 0 0 g (pr k) := by decide +kernel
theorem off23 : ∀ (i : Fin k0_t1_loop.trips) (k : Fin k0_t2_loop.trips) (g : Fin 16),
    k0_off23 i k (BitVec.ofNat 32 (32 * g.val)) = wordOff (par i) 0 1 g (pr k) := by decide +kernel
theorem off26 : ∀ (i : Fin k0_t1_loop.trips) (k : Fin k0_t2_loop.trips) (g : Fin 16),
    k0_off26 i k (BitVec.ofNat 32 (32 * g.val)) = wordOff (par i) 1 0 g (pr k) := by decide +kernel
theorem off29 : ∀ (i : Fin k0_t1_loop.trips) (k : Fin k0_t2_loop.trips) (g : Fin 16),
    k0_off29 i k (BitVec.ofNat 32 (32 * g.val)) = wordOff (par i) 1 1 g (pr k) := by decide +kernel
theorem off19 : ∀ (i : Fin k0_t1_loop.trips) (k : Fin k0_t2_loop.trips), k0_off19 i k = tailOff (par i) 0 0 (pr k) := by decide +kernel
theorem off22 : ∀ (i : Fin k0_t1_loop.trips) (k : Fin k0_t2_loop.trips), k0_off22 i k = tailOff (par i) 0 1 (pr k) := by decide +kernel
theorem off25 : ∀ (i : Fin k0_t1_loop.trips) (k : Fin k0_t2_loop.trips), k0_off25 i k = tailOff (par i) 1 0 (pr k) := by decide +kernel
theorem off28 : ∀ (i : Fin k0_t1_loop.trips) (k : Fin k0_t2_loop.trips), k0_off28 i k = tailOff (par i) 1 1 (pr k) := by decide +kernel

end Cert.Proof.Bits

end
-- ==== Proof.Bits.Copies.lean ====
/-
  A copy started and waited for, once for every copy of the kernel.
-/
module

public import proofs.«01_k».proof.Proof.Bits.Base

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

variable (c : Dev nD)
variable {sp sp' : Space} {s : Shape} {e : EltTy} {α : Type}

/-- A memref's elements, reading `v` through it. -/
def Landed (dst : Memref sig .tc sp' s e) (v : s.Idx → Elt F e) : sProp 𝕄 :=
  iprop(∃ f : Buf (Elt F) (dst.view.loc (c : Thread nD τ)), (dst.view.loc (c : Thread nD τ) ↦[dst.view.set]{fullShare} f)
    ∗ ⌜dst.view.read (Elt F) f = v⌝)

/-- A memref's elements, whatever they hold. -/
def Free (dst : Memref sig .tc sp' s e) : sProp 𝕄 :=
  iprop(∃ f : Buf (Elt F) (dst.view.loc (c : Thread nD τ)), dst.view.loc (c : Thread nD τ) ↦[dst.view.set]{fullShare} f)

/-- A copy in flight: at its wait it delivers the destination, reading what the source reads, and the source back. -/
def InFlight (src : Memref sig .tc sp s e) (dst : Memref sig .tc sp' s e) (sm : DmaSem sig) (q : PosShare TreeShare)
    (fs : Buf (Elt F) (src.view.loc (c : Thread nD τ))) : sProp 𝕄 :=
  Transfers.Flight (countersEmb (nD := nD) (τ := τ)) (c : Thread nD τ) (.dma sm) () (dst.view.amount (.dma sm))
    iprop(Landed c dst (src.view.read (Elt F) fs) ∗ (src.view.loc (c : Thread nD τ) ↦[src.view.set]{q} fs))

/-- What the core has waited for so far. -/
def Owes : sProp 𝕄 := iprop(∃ W : Waits sig Unit, owes (c : Thread nD τ) 0 W)

theorem Landed_free (dst : Memref sig .tc sp' s e) (v : s.Idx → Elt F e) : (Landed c dst v : sProp 𝕄) ⊢ Free c dst := by
  unfold Landed Free
  iintro ⟨%f, H, %hf⟩
  iexists f
  iexact H

theorem copyStart {src : Memref sig .tc sp s e} {dst : Memref sig .tc sp' s e} {sm : DmaSem sig}
    {hsrc : src.view.WordExact} {hdst : dst.view.WordExact} {hsem} {q : PosShare TreeShare}
    {fs : Buf (Elt F) (src.view.loc (c : Thread nD τ))} (hs : 0 < s.numel)
    {k : PUnit → Prog (TpuEff nD τ sig (Elt F) Λ₀ .tc) α} {Q : α → sProp 𝕄} :
    iprop((src.view.loc (c : Thread nD τ) ↦[src.view.set]{q} fs) ∗ Free c dst ∗ semVal ((c : Thread nD τ), .dma sm) 0)
      ⊢ iprop((InFlight c src dst sm q fs -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold Free
  iintro ⟨Hs, ⟨%fd, Hd⟩, Hv⟩ Hk
  iapply (Transfers.wp_dmaLocal (countersEmb (nD := nD) (τ := τ)) 𝒱₀ (c : Thread nD τ) none () (dst.view.amount (.dma sm)) rfl
    (View.amount_pos _ _ hs) subset_rfl) $$ [Hs Hd Hv]
  · isplitl [Hs]; · iexact Hs
    isplitl [Hd]; · iexact Hd
    iexact Hv
  iintro HF
  iapply Hk
  unfold InFlight
  iapply (Transfers.Flight_mono (countersEmb (nD := nD) (τ := τ)) (c : Thread nD τ) ?_) $$ HF
  unfold Landed
  iintro ⟨Hd, Hs⟩
  isplitl [Hd]
  · iexists _
    isplitl [Hd]; · iexact Hd
    ipureintro
    exact View.read_write_univ _ _
  iexact Hs

theorem copyWait {src : Memref sig .tc sp s e} {dst : Memref sig .tc sp' s e} {sm : DmaSem sig}
    {hsrc : src.view.WordExact} {hdst : dst.view.WordExact} {q : PosShare TreeShare}
    {fs : Buf (Elt F) (src.view.loc (c : Thread nD τ))}
    {k : PUnit → Prog (TpuEff nD τ sig (Elt F) Λ₀ .tc) α} {Q : α → sProp 𝕄} :
    iprop(InFlight c src dst sm q fs ∗ Owes c)
      ⊢ iprop((iprop(Landed c dst (src.view.read (Elt F) fs) ∗ (src.view.loc (c : Thread nD τ) ↦[src.view.set]{q} fs)
          ∗ semVal ((c : Thread nD τ), .dma sm) 0 ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold InFlight Owes
  iintro ⟨HF, ⟨%W, HO⟩⟩ Hk
  iapply (Transfers.wp_waitLocal (countersEmb (nD := nD) (τ := τ)) 𝒱₀ (c : Thread nD τ) none () rfl) $$ [HF HO]
  · isplitl [HF]; · iexact HF
    iexact HO
  iintro ⟨⟨HD, Hs⟩, Hv, HO⟩
  iapply Hk
  isplitl [HD]; · iexact HD
  isplitl [Hs]; · iexact Hs
  isplitl [Hv]; · iexact Hv
  iexists _
  iexact HO

/-- A program that branches on a condition that holds, or fails, goes on in that branch. -/
theorem iteT {p : Prop} {h : Decidable p} (hp : p) {t : p → Prog (TpuEff nD τ sig (Elt F) Λ₀ .tc) α} {e} {Q : α → sProp 𝕄} :
    (wp frame (wpE (defs₀ (F := F)) 𝒱₀ (c : Thread nD τ) none) Set.univ (t hp) Q : sProp 𝕄)
      ⊢ wp frame (wpE (defs₀ (F := F)) 𝒱₀ (c : Thread nD τ) none) Set.univ (@dite _ p h t e) Q := by rw [dif_pos hp]
theorem iteF {p : Prop} {h : Decidable p} (hp : ¬ p) {t : p → Prog (TpuEff nD τ sig (Elt F) Λ₀ .tc) α} {e} {Q : α → sProp 𝕄} :
    (wp frame (wpE (defs₀ (F := F)) 𝒱₀ (c : Thread nD τ) none) Set.univ (e hp) Q : sProp 𝕄)
      ⊢ wp frame (wpE (defs₀ (F := F)) 𝒱₀ (c : Thread nD τ) none) Set.univ (@dite _ p h t e) Q := by rw [dif_neg hp]

/-- A program that is done has its result at once. -/
theorem retI {Q : α → sProp 𝕄} {v : α} {P : sProp 𝕄} (H : P ⊢ Q v) :
    P ⊢ wp frame (wpE (defs₀ (F := F)) 𝒱₀ (c : Thread nD τ) none) Set.univ (.ret v) Q := by
  rw [wp_ret]
  exact H.trans fupd_intro

theorem retW {Q : α → sProp 𝕄} {v : α} :
    Q v ⊢ wp frame (wpE (defs₀ (F := F)) 𝒱₀ (c : Thread nD τ) none) Set.univ (.ret v) Q := retI c .rfl

/-- A program run inside another: its own run, then what follows it. -/
theorem bindI {β : Type} {p : Prog (TpuEff nD τ sig (Elt F) Λ₀ .tc) β} {f : β → Prog (TpuEff nD τ sig (Elt F) Λ₀ .tc) α} {Q : α → sProp 𝕄} :
    (wp frame (wpE (defs₀ (F := F)) 𝒱₀ (c : Thread nD τ) none) Set.univ p
        (fun v => wp frame (wpE (defs₀ (F := F)) 𝒱₀ (c : Thread nD τ) none) Set.univ (f v) Q) : sProp 𝕄)
      ⊢ wp frame (wpE (defs₀ (F := F)) 𝒱₀ (c : Thread nD τ) none) Set.univ (p >>= f) Q := by rw [wp_bind]
theorem bind2I {β γ : Type} {p : Prog (TpuEff nD τ sig (Elt F) Λ₀ .tc) β} {f : β → Prog (TpuEff nD τ sig (Elt F) Λ₀ .tc) γ}
    {g : γ → Prog (TpuEff nD τ sig (Elt F) Λ₀ .tc) α} {Q : α → sProp 𝕄} :
    (wp frame (wpE (defs₀ (F := F)) 𝒱₀ (c : Thread nD τ) none) Set.univ p
        (fun v => wp frame (wpE (defs₀ (F := F)) 𝒱₀ (c : Thread nD τ) none) Set.univ (f v >>= g) Q) : sProp 𝕄)
      ⊢ wp frame (wpE (defs₀ (F := F)) 𝒱₀ (c : Thread nD τ) none) Set.univ ((p >>= f) >>= g) Q := by
  rw [wp_bind, wp_bind]
  simp only [wp_bind]
  exact .rfl

/-- What a program leaves alone is kept aside while it runs. -/
theorem aside {R P : sProp 𝕄} {p : Prog (TpuEff nD τ sig (Elt F) Λ₀ .tc) α} {Q : α → sProp 𝕄}
    (H : P ⊢ wp frame (wpE (defs₀ (F := F)) 𝒱₀ (c : Thread nD τ) none) Set.univ p (fun v => iprop(R -∗ Q v))) :
    iprop(P ∗ R) ⊢ wp frame (wpE (defs₀ (F := F)) 𝒱₀ (c : Thread nD τ) none) Set.univ p Q := by
  refine (sep_mono_left H).trans ((wp_frame_r frame (wpE (defs₀ (F := F)) 𝒱₀ (c : Thread nD τ) none) Set.univ).trans
    (wp_mono frame (wpE (defs₀ (F := F)) 𝒱₀ (c : Thread nD τ) none) Set.univ fun v => ?_))
  iintro ⟨HQ, HR⟩
  iapply HQ
  iexact HR

end Cert.Proof.Bits
-- ==== Proof.Bits.Known.lean ====
/-
  What is known of a buffer that is filled in pieces.
-/
module

public import proofs.«01_k».proof.Proof.Bits.Copies

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

variable {s : Shape} {e : EltTy} (c : Dev nD) (m : Memref sig .tc .vmem s e)

/-- A memref's elements: on `A` they are those of `C`, elsewhere whatever they may be. -/
def Known (C : s.Idx → Elt F e) (A : s.Idx → Prop) : sProp 𝕄 :=
  iprop(∃ f : Buf (Elt F) (m.view.loc (c : Thread nD τ)), (m.view.loc (c : Thread nD τ) ↦[m.view.set]{fullShare} f)
    ∗ ⌜∀ i, A i → m.view.read (Elt F) f i = C i⌝)

variable {c m} {C : s.Idx → Elt F e} {A : s.Idx → Prop}

/-- Of a memref nothing is known at first. -/
theorem Known_of_free (hA : ∀ i, ¬ A i) : Free c m ⊢ (Known c m C A : sProp 𝕄) := by
  unfold Free Known
  iintro ⟨%f, H⟩
  iexists f
  isplitl [H]; · iexact H
  ipureintro
  exact fun i h => absurd h (hA i)

/-- A memref known throughout has landed. -/
theorem Known_landed (hA : ∀ i, A i) : (Known c m C A : sProp 𝕄) ⊢ Landed c m C := by
  unfold Landed Known
  iintro ⟨%f, H, %hf⟩
  iexists f
  isplitl [H]; · iexact H
  ipureintro
  exact funext fun i => hf i (hA i)

theorem Known_of_landed : (Landed c m C : sProp 𝕄) ⊢ Known c m C (fun _ => True) := by
  unfold Landed Known
  iintro ⟨%f, H, %hf⟩
  iexists f
  isplitl [H]; · iexact H
  ipureintro
  exact fun i _ => congrFun hf i

variable {α : Type}

/-- A store of elements of `C`: they are known from then on. -/
theorem knownStore {B : s.Idx → Prop} {r : Rect s} {w : r.shape.Idx → Elt F e} {hx} {hm} {k : PUnit → Prog (TpuEff nD τ sig (Elt F) Λ₀ .tc) α} {Q : α → sProp 𝕄}
    (hw : ∀ j, w j = C (r.emb j)) (hB : ∀ i, B i → A i ∨ ∃ j, r.emb j = i) :
    (Known c m C A : sProp 𝕄)
      ⊢ iprop((Known c m C B -∗ wp frame (wpE (defs₀ (F := F)) 𝒱₀ (c : Thread nD τ) none) Set.univ (k ⟨⟩) Q) -∗ wp frame (wpE (defs₀ (F := F)) 𝒱₀ (c : Thread nD τ) none) Set.univ (.op (.store m r w Finset.univ hx hm) k) Q) := by
  unfold Known
  iintro ⟨%f, H, %hf⟩ Hk
  iapply (wp_store 𝒱₀ (c : Thread nD τ) none Set.univ (m := m) (r := r) (Mk := Finset.univ) (hx := hx) (hm := hm)
    (View.set_slice_subset m.view r)) $$ H
  iintro H
  iapply Hk
  iexists _
  isplitl [H]; · iexact H
  ipureintro
  intro i hi
  by_cases h : ∃ j, r.emb j = i
  · obtain ⟨j, rfl⟩ := h
    rw [← hw j]
    exact View.read_slice_write_emb (v := m.view) r _ w (Finset.mem_univ j)
  · rcases hB i hi with hA | h'
    · refine (View.read_slice_write_of_not_mem (v := m.view) r _ w Finset.univ ?_).trans (hf i hA)
      intro hmem
      obtain ⟨j, -, hj⟩ := Finset.mem_map.mp hmem
      exact h ⟨j, hj⟩
    · exact absurd h' h

/-- A load whose result is not used. -/
theorem knownSkip {r : LoadRect s} {hl} {k : (r.shape.Idx → Elt F e) → Prog (TpuEff nD τ sig (Elt F) Λ₀ .tc) α} {Q : α → sProp 𝕄} :
    (Known c m C A : sProp 𝕄)
      ⊢ iprop((∀ v, Known c m C A -∗ wp frame (wpE (defs₀ (F := F)) 𝒱₀ (c : Thread nD τ) none) Set.univ (k v) Q) -∗ wp frame (wpE (defs₀ (F := F)) 𝒱₀ (c : Thread nD τ) none) Set.univ (.op (.load m r hl) k) Q) := by
  unfold Known
  iintro ⟨%f, H, %hf⟩ Hk
  iapply (wp_load 𝒱₀ (c : Thread nD τ) none Set.univ (m := m) (r := r) (View.setOn_subset_set m.view r.set)) $$ H
  iintro H
  iapply Hk
  iexists _
  isplitl [H]; · iexact H
  ipureintro
  exact hf

/-- A load of known elements. -/
theorem knownLoad {r : Rect s} {hl} {k : (r.toLoadRect.shape.Idx → Elt F e) → Prog (TpuEff nD τ sig (Elt F) Λ₀ .tc) α} {Q : α → sProp 𝕄}
    (v : r.shape.Idx → Elt F e) (hv : ∀ j, A (r.emb j) ∧ C (r.emb j) = v j) :
    (Known c m C A : sProp 𝕄)
      ⊢ iprop((Known c m C A -∗ wp frame (wpE (defs₀ (F := F)) 𝒱₀ (c : Thread nD τ) none) Set.univ (k v) Q) -∗ wp frame (wpE (defs₀ (F := F)) 𝒱₀ (c : Thread nD τ) none) Set.univ (.op (.load m r.toLoadRect hl) k) Q) := by
  unfold Known
  iintro ⟨%f, H, %hf⟩ Hk
  iapply (wp_load_rect 𝒱₀ (c : Thread nD τ) none Set.univ (m := m) (r := r) (View.set_slice_subset m.view r)) $$ H
  iintro H
  rw [show (m.access r).read (Elt F) f = v from funext fun j => (hf _ (hv j).1).trans (hv j).2]
  iapply Hk
  iexists _
  isplitl [H]; · iexact H
  ipureintro
  exact hf

end Cert.Proof.Bits
-- ==== Proof.Bits.Quant.lean ====
/-
  The quantiser: what each block of rows is stored as, and the stores' effect on what is known.
-/
module

public import proofs.«01_k».proof.Proof.Bits.Known

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

variable (c : Dev nD) (X : Vec F S2x128x2560 .bf16)

/-! ## What a block of rows is quantised to -/

/-- Thirty-two rows of a frame batch. -/
def xb (b : Fin 2) (g : Fin 4) : Vec F S1x32x2560 .bf16 := fun j =>
  X (ix3 b (⟨32 * g.val + (j 1).val, by have h : (j 1).val < 32 := (j 1).isLt; omega⟩ : Fin 128) (j 2))

/-- Their codes. -/
def codes32 (v : Vec F S1x32x2560 .bf16) : FVec F S1x32x2560 .fp8e4m3 := k0_pay235 (k0_pay233 v) (k0_pay234 v)
/-- Their scales, each repeated along the lanes. -/
def scale32 (v : Vec F S1x32x2560 .bf16) : FVec F S1x32x128 .f32 := k0_pay237 (k0_pay234 v) 127#32
/-- Their scales added, each at its own row's lane, to what `acc` holds; the block's first row is row `o`. -/
def diag32 (o : BitVec 32) (acc : FVec F S1x128 .f32) (v : Vec F S1x32x2560 .bf16) : FVec F S1x128 .f32 :=
  addf acc (shapeCast S1x128 (multiReduction .add [0] S128
    (select (cmpi .eq (addi (iota .tc S32x128 32 [0] iota_S32x128_d0_w32) (broadcast S32x128 o)) (iota .tc S32x128 32 [1] iota_S32x128_d1_w32))
      (k0_pay236 (F := F) (k0_pay234 v) 127#32) (broadcast S32x128 (Scalar.ofBits (F := F) .f32 0x00000000#32)))
    0x00000000#32 reduces_S32x128_S128 (.inl rfl) rfl) shapeCasts_S128_S1x128)

/-- The four blocks' scales along the lanes. -/
def sums (b : Fin 2) : FVec F S1x128 .f32 :=
  diag32 96#32 (diag32 64#32 (diag32 32#32 (diag32 0#32 (k0_pay232 (F := F)) (xb X b 0)) (xb X b 1)) (xb X b 2)) (xb X b 3)

/-! ## What the buffers hold once filled -/

/-- The block a row lies in, and the row within it. -/
def blk (r : Fin 128) : Fin 4 := ⟨r.val / 32, by omega⟩
def rin (r : Fin 128) : Fin 32 := ⟨r.val % 32, by omega⟩

def C8 : Vec F S2x128x2560 .fp8e4m3 := fun i => codes32 (xb X (i 0) (blk (i 1))) (ix3 (0 : Fin 1) (rin (i 1)) (i 2))
def C10 : Vec F S2x128x128 .f32 := fun i => scale32 (xb X (i 0) (blk (i 1))) (ix3 (0 : Fin 1) (rin (i 1)) (i 2))
/-- One batch of each. -/
def batch8 (b : Fin 2) : Vec F S1x128x2560 .fp8e4m3 := fun j => C8 X (ix3 b (j 1) (j 2))
def batch10 (b : Fin 2) : Vec F S1x128x128 .f32 := fun j => C10 X (ix3 b (j 1) (j 2))
def C9 : Vec F S2x128x2560 .fp8e4m3 := fun i => k0_pay266 (batch8 X (i 0)) (ix3 (0 : Fin 1) (i 1) (i 2))
def C11 : Vec F S2x128x128 .f32 := fun i => k0_pay267 (batch10 X (i 0)) (ix3 (0 : Fin 1) (i 1) (i 2))
def C12 : Vec F S2x128 .f32 := fun i => sums X (i 0) (ix2 (0 : Fin 1) (i 1))

/-- The first `k` blocks of rows; the first `k` batches. -/
def done8 (k : ℕ) (i : S2x128x2560.Idx) : Prop := 4 * (i 0).val + (i 1).val / 32 < k
def done10 (k : ℕ) (i : S2x128x128.Idx) : Prop := 4 * (i 0).val + (i 1).val / 32 < k
def upto9 (k : ℕ) (i : S2x128x2560.Idx) : Prop := (i 0).val < k
def upto11 (k : ℕ) (i : S2x128x128.Idx) : Prop := (i 0).val < k
def upto12 (k : ℕ) (i : S2x128.Idx) : Prop := (i 0).val < k

/-! ## Where a store of a block puts its elements -/

variable {c X} {b : Fin 2} {g : Fin 4}

theorem emb8 {off : Fin 3 → ℕ} (hoff : off = ![b.val, 32 * g.val, 0]) (hin) (j : S1x32x2560.Idx) :
    (Rect.unit (s := S2x128x2560) off S1x32x2560.size hin).emb j
      = ix3 b (⟨32 * g.val + (j 1).val, by have h : (j 1).val < 32 := (j 1).isLt; omega⟩ : Fin 128) (j 2) := by
  subst hoff
  have h0 : (j 0).val < 1 := (j 0).isLt
  funext a
  apply Fin.ext
  fin_cases a
  · show b.val + 1 * (j 0).val = b.val; omega
  · show 32 * g.val + 1 * (j 1).val = 32 * g.val + (j 1).val; omega
  · show 0 + 1 * (j 2).val = (j 2).val; omega

theorem emb10 {off : Fin 3 → ℕ} (hoff : off = ![b.val, 32 * g.val, 0]) (hin) (j : S1x32x128.Idx) :
    (Rect.unit (s := S2x128x128) off S1x32x128.size hin).emb j
      = ix3 b (⟨32 * g.val + (j 1).val, by have h : (j 1).val < 32 := (j 1).isLt; omega⟩ : Fin 128) (j 2) := by
  subst hoff
  have h0 : (j 0).val < 1 := (j 0).isLt
  funext a
  apply Fin.ext
  fin_cases a
  · show b.val + 1 * (j 0).val = b.val; omega
  · show 32 * g.val + 1 * (j 1).val = 32 * g.val + (j 1).val; omega
  · show 0 + 1 * (j 2).val = (j 2).val; omega

theorem emb9 {off : Fin 3 → ℕ} (hoff : off = ![b.val, 0, 0]) (hin) (j : S1x128x2560.Idx) :
    (Rect.unit (s := S2x128x2560) off S1x128x2560.size hin).emb j = ix3 b (j 1) (j 2) := by
  subst hoff
  have h0 : (j 0).val < 1 := (j 0).isLt
  funext a
  apply Fin.ext
  fin_cases a
  · show b.val + 1 * (j 0).val = b.val; omega
  · show 0 + 1 * (j 1).val = (j 1).val; omega
  · show 0 + 1 * (j 2).val = (j 2).val; omega

theorem emb11 {off : Fin 3 → ℕ} (hoff : off = ![b.val, 0, 0]) (hin) (j : S1x128x128.Idx) :
    (Rect.unit (s := S2x128x128) off S1x128x128.size hin).emb j = ix3 b (j 1) (j 2) := by
  subst hoff
  have h0 : (j 0).val < 1 := (j 0).isLt
  funext a
  apply Fin.ext
  fin_cases a
  · show b.val + 1 * (j 0).val = b.val; omega
  · show 0 + 1 * (j 1).val = (j 1).val; omega
  · show 0 + 1 * (j 2).val = (j 2).val; omega

theorem emb12 {off : Fin 2 → ℕ} (hoff : off = ![b.val, 0]) (hin) (j : S1x128.Idx) :
    (Rect.unit (s := S2x128) off S1x128.size hin).emb j = ix2 b (j 1) := by
  subst hoff
  have h0 : (j 0).val < 1 := (j 0).isLt
  funext a
  apply Fin.ext
  fin_cases a
  · show b.val + 1 * (j 0).val = b.val; omega
  · show 0 + 1 * (j 1).val = (j 1).val; omega

theorem blk_row (g : Fin 4) (r : Fin 32) (h) : blk ⟨32 * g.val + r.val, h⟩ = g := Fin.ext (by show (32 * g.val + r.val) / 32 = g.val; omega)
theorem rin_row (g : Fin 4) (r : Fin 32) (h) : rin ⟨32 * g.val + r.val, h⟩ = r := Fin.ext (by show (32 * g.val + r.val) % 32 = r.val; omega)

/-! ## The operations -/

variable {α : Type}

theorem load7 (b : Fin 2) (g : Fin 4) {off : Fin 3 → ℕ} (hoff : off = ![b.val, 32 * g.val, 0]) {hin} {hl}
    {k : (S1x32x2560.Idx → Elt F .bf16) → Prog (TpuEff nD τ sig (Elt F) Λ₀ .tc) α} {Q : α → sProp 𝕄} :
    (Known c M7 X (fun _ => True) : sProp 𝕄)
      ⊢ iprop((Known c M7 X (fun _ => True) -∗ wp frame (wpE (defs₀ (F := F)) 𝒱₀ (c : Thread nD τ) none) Set.univ (k (xb X b g)) Q)
        -∗ wp frame (wpE (defs₀ (F := F)) 𝒱₀ (c : Thread nD τ) none) Set.univ (.op (.load M7 (Rect.unit (s := S2x128x2560) off S1x32x2560.size hin).toLoadRect hl) k) Q) :=
  knownLoad (m := M7) (r := Rect.unit (s := S2x128x2560) off S1x32x2560.size hin) (xb X b g) fun j => ⟨trivial, by rw [emb8 hoff hin j]; rfl⟩

theorem store8 (k₀ : ℕ) (b : Fin 2) (g : Fin 4) (hk : k₀ = 4 * b.val + g.val) {off : Fin 3 → ℕ} (hoff : off = ![b.val, 32 * g.val, 0]) {hin} {hx} {hm}
    {w : FVec F S1x32x2560 .fp8e4m3} (hw : w = codes32 (xb X b g)) {k : PUnit → Prog (TpuEff nD τ sig (Elt F) Λ₀ .tc) α} {Q : α → sProp 𝕄} :
    (Known c M8 (C8 X) (done8 k₀) : sProp 𝕄)
      ⊢ iprop((Known c M8 (C8 X) (done8 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M8 (Rect.unit (s := S2x128x2560) off S1x32x2560.size hin) w Finset.univ hx hm) k) Q) :=
  knownStore (fun j => by
      have h0 : (j 0).val < 1 := (j 0).isLt
      rw [emb8 hoff hin j, hw]
      show _ = codes32 (xb X b (blk ⟨32 * g.val + (j 1).val, _⟩)) (ix3 (0 : Fin 1) (rin ⟨32 * g.val + (j 1).val, _⟩) (j 2))
      rw [blk_row g (j 1), rin_row g (j 1)]
      exact congrArg _ ((eq_ix3 j).trans (by rw [show j 0 = (0 : Fin 1) from Fin.ext (by show (j 0).val = 0; omega)]; rfl)))
    (fun i hi => by
      have h0 : (i 0).val < 2 := (i 0).isLt
      have h1 : (i 1).val < 128 := (i 1).isLt
      have hi' : 4 * (i 0).val + (i 1).val / 32 < k₀ + 1 := hi
      by_cases h : 4 * (i 0).val + (i 1).val / 32 < k₀
      · exact .inl h
      · refine .inr ⟨ix3 (0 : Fin 1) (rin (i 1)) (i 2), ?_⟩
        rw [emb8 hoff hin]
        funext a
        apply Fin.ext
        fin_cases a
        · show b.val = (i 0).val; omega
        · show 32 * g.val + (i 1).val % 32 = (i 1).val; omega
        · rfl)

theorem store10 (k₀ : ℕ) (b : Fin 2) (g : Fin 4) (hk : k₀ = 4 * b.val + g.val) {off : Fin 3 → ℕ} (hoff : off = ![b.val, 32 * g.val, 0]) {hin} {hx} {hm}
    {w : FVec F S1x32x128 .f32} (hw : w = scale32 (xb X b g)) {k : PUnit → Prog (TpuEff nD τ sig (Elt F) Λ₀ .tc) α} {Q : α → sProp 𝕄} :
    (Known c M10 (C10 X) (done10 k₀) : sProp 𝕄)
      ⊢ iprop((Known c M10 (C10 X) (done10 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M10 (Rect.unit (s := S2x128x128) off S1x32x128.size hin) w Finset.univ hx hm) k) Q) :=
  knownStore (fun j => by
      have h0 : (j 0).val < 1 := (j 0).isLt
      rw [emb10 hoff hin j, hw]
      show _ = scale32 (xb X b (blk ⟨32 * g.val + (j 1).val, _⟩)) (ix3 (0 : Fin 1) (rin ⟨32 * g.val + (j 1).val, _⟩) (j 2))
      rw [blk_row g (j 1), rin_row g (j 1)]
      exact congrArg _ ((eq_ix3 j).trans (by rw [show j 0 = (0 : Fin 1) from Fin.ext (by show (j 0).val = 0; omega)]; rfl)))
    (fun i hi => by
      have h0 : (i 0).val < 2 := (i 0).isLt
      have h1 : (i 1).val < 128 := (i 1).isLt
      have hi' : 4 * (i 0).val + (i 1).val / 32 < k₀ + 1 := hi
      by_cases h : 4 * (i 0).val + (i 1).val / 32 < k₀
      · exact .inl h
      · refine .inr ⟨ix3 (0 : Fin 1) (rin (i 1)) (i 2), ?_⟩
        rw [emb10 hoff hin]
        funext a
        apply Fin.ext
        fin_cases a
        · show b.val = (i 0).val; omega
        · show 32 * g.val + (i 1).val % 32 = (i 1).val; omega
        · rfl)

theorem load8 (k₀ : ℕ) (b : Fin 2) (hk : 4 * b.val + 3 < k₀) {off : Fin 3 → ℕ} (hoff : off = ![b.val, 0, 0]) {hin} {hl}
    {k : (S1x128x2560.Idx → Elt F .fp8e4m3) → Prog (TpuEff nD τ sig (Elt F) Λ₀ .tc) α} {Q : α → sProp 𝕄} :
    (Known c M8 (C8 X) (done8 k₀) : sProp 𝕄)
      ⊢ iprop((Known c M8 (C8 X) (done8 k₀) -∗ wp frame (wpE (defs₀ (F := F)) 𝒱₀ (c : Thread nD τ) none) Set.univ (k (batch8 X b)) Q)
        -∗ wp frame (wpE (defs₀ (F := F)) 𝒱₀ (c : Thread nD τ) none) Set.univ (.op (.load M8 (Rect.unit (s := S2x128x2560) off S1x128x2560.size hin).toLoadRect hl) k) Q) :=
  knownLoad (m := M8) (r := Rect.unit (s := S2x128x2560) off S1x128x2560.size hin) (batch8 X b) fun j => by
    have h1 : (j 1).val < 128 := (j 1).isLt
    rw [emb9 hoff hin j]
    exact ⟨show 4 * b.val + (j 1).val / 32 < k₀ by omega, rfl⟩

theorem load10 (k₀ : ℕ) (b : Fin 2) (hk : 4 * b.val + 3 < k₀) {off : Fin 3 → ℕ} (hoff : off = ![b.val, 0, 0]) {hin} {hl}
    {k : (S1x128x128.Idx → Elt F .f32) → Prog (TpuEff nD τ sig (Elt F) Λ₀ .tc) α} {Q : α → sProp 𝕄} :
    (Known c M10 (C10 X) (done10 k₀) : sProp 𝕄)
      ⊢ iprop((Known c M10 (C10 X) (done10 k₀) -∗ wp frame (wpE (defs₀ (F := F)) 𝒱₀ (c : Thread nD τ) none) Set.univ (k (batch10 X b)) Q)
        -∗ wp frame (wpE (defs₀ (F := F)) 𝒱₀ (c : Thread nD τ) none) Set.univ (.op (.load M10 (Rect.unit (s := S2x128x128) off S1x128x128.size hin).toLoadRect hl) k) Q) :=
  knownLoad (m := M10) (r := Rect.unit (s := S2x128x128) off S1x128x128.size hin) (batch10 X b) fun j => by
    have h1 : (j 1).val < 128 := (j 1).isLt
    rw [emb11 hoff hin j]
    exact ⟨show 4 * b.val + (j 1).val / 32 < k₀ by omega, rfl⟩

theorem store9 (k₀ : ℕ) (b : Fin 2) (hk : k₀ = b.val) {off : Fin 3 → ℕ} (hoff : off = ![b.val, 0, 0]) {hin} {hx} {hm}
    {w : FVec F S1x128x2560 .fp8e4m3} (hw : w = k0_pay266 (batch8 X b)) {k : PUnit → Prog (TpuEff nD τ sig (Elt F) Λ₀ .tc) α} {Q : α → sProp 𝕄} :
    (Known c M9 (C9 X) (upto9 k₀) : sProp 𝕄)
      ⊢ iprop((Known c M9 (C9 X) (upto9 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M9 (Rect.unit (s := S2x128x2560) off S1x128x2560.size hin) w Finset.univ hx hm) k) Q) :=
  knownStore (fun j => by
      have h0 : (j 0).val < 1 := (j 0).isLt
      rw [emb9 hoff hin j, hw]
      exact congrArg _ ((eq_ix3 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix3 (0 : Fin 1) (i 1) (i 2), ?_⟩
        rw [emb9 hoff hin]
        funext a
        apply Fin.ext
        fin_cases a
        · show b.val = (i 0).val; omega
        · rfl
        · rfl)

theorem store11 (k₀ : ℕ) (b : Fin 2) (hk : k₀ = b.val) {off : Fin 3 → ℕ} (hoff : off = ![b.val, 0, 0]) {hin} {hx} {hm}
    {w : FVec F S1x128x128 .f32} (hw : w = k0_pay267 (batch10 X b)) {k : PUnit → Prog (TpuEff nD τ sig (Elt F) Λ₀ .tc) α} {Q : α → sProp 𝕄} :
    (Known c M11 (C11 X) (upto11 k₀) : sProp 𝕄)
      ⊢ iprop((Known c M11 (C11 X) (upto11 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M11 (Rect.unit (s := S2x128x128) off S1x128x128.size hin) w Finset.univ hx hm) k) Q) :=
  knownStore (fun j => by
      have h0 : (j 0).val < 1 := (j 0).isLt
      rw [emb11 hoff hin j, hw]
      exact congrArg _ ((eq_ix3 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix3 (0 : Fin 1) (i 1) (i 2), ?_⟩
        rw [emb11 hoff hin]
        funext a
        apply Fin.ext
        fin_cases a
        · show b.val = (i 0).val; omega
        · rfl
        · rfl)

theorem store12 (k₀ : ℕ) (b : Fin 2) (hk : k₀ = b.val) {off : Fin 2 → ℕ} (hoff : off = ![b.val, 0]) {hin} {hx} {hm}
    {w : FVec F S1x128 .f32} (hw : w = sums X b) {k : PUnit → Prog (TpuEff nD τ sig (Elt F) Λ₀ .tc) α} {Q : α → sProp 𝕄} :
    (Known c M12 (C12 X) (upto12 k₀) : sProp 𝕄)
      ⊢ iprop((Known c M12 (C12 X) (upto12 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M12 (Rect.unit (s := S2x128) off S1x128.size hin) w Finset.univ hx hm) k) Q) :=
  knownStore (fun j => by
      have h0 : (j 0).val < 1 := (j 0).isLt
      rw [emb12 hoff hin j, hw]
      exact congrArg _ ((eq_ix2 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix2 (0 : Fin 1) (i 1), ?_⟩
        rw [emb12 hoff hin]
        funext a
        apply Fin.ext
        fin_cases a
        · show b.val = (i 0).val; omega
        · rfl)

/-- Storing a row of scales keeps its shape: what is stored is the row itself. -/
theorem row_kept (v : FVec F S1x128 .f32) : k0_pay265 v = v := by
  funext j
  unfold k0_pay265
  rw [shapeCast_self]

end Cert.Proof.Bits
-- ==== Proof.Bits.Weights.lean ====
/-
  The weights: eight slots, each holding two taps of one tile, filled by a copy and refilled for the next tile.
-/
module

public import proofs.«01_k».proof.Proof.Bits.Copies

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-! ## A slot of the weights' staging buffer, and the tile it is copied from -/

theorem inbSem : ∀ (s : Fin 8), ∀ a, (![s.val] : Fin 1 → ℕ) a + S1.size a ≤ S8.size a := by decide +kernel
theorem inbSlot : ∀ (s : Fin 8), ∀ a, (![s.val, 0, 0, 0] : Fin 4 → ℕ) a + S1x2x2560x256.size a ≤ S8x2x2560x256.size a := by decide +kernel
theorem inbTile : ∀ (s : Fin 8) (n : Fin 5), ∀ a, (![2 * (s.val / 2) + 8 * (s.val % 2), 0, 256 * n.val] : Fin 3 → ℕ) a + S2x2560x256.size a ≤ S16x2560x1280.size a := by decide +kernel
theorem inbHalf : ∀ (s : Fin 8) (t : Fin 2), ∀ a, (![s.val, t.val, 0, 0] : Fin 4 → ℕ) a + S1x1x2560x256.size a ≤ S8x2x2560x256.size a := by decide +kernel

/-- Slot `s`'s semaphore. -/
abbrev semW (s : Fin 8) : DmaSem sig :=
  ((cc0_scratch10.slice (Rect.unit (s := S8) ![s.val] S1.size (inbSem s))).squeeze S_ squeezes_S1_S_).sem
/-- Slot `s` of the weights' staging buffer: two taps of one tile. -/
abbrev dstW (s : Fin 8) : Memref sig .tc .vmem S2x2560x256 .fp8e4m3 :=
  (M15.slice (Rect.unit (s := S8x2x2560x256) ![s.val, 0, 0, 0] S1x2x2560x256.size (inbSlot s)) (fun _ => rfl)).squeeze S2x2560x256
    squeezes_S1x2x2560x256_S2x2560x256
/-- What is copied to slot `s` for tile `n`: the taps `2 (s / 2)` and its neighbour, of the first or of the second eight. -/
abbrev srcW (s : Fin 8) (n : Fin 5) : Memref sig .tc .hbm S2x2560x256 .fp8e4m3 :=
  M1.slice (Rect.unit (s := S16x2560x1280) ![2 * (s.val / 2) + 8 * (s.val % 2), 0, 256 * n.val] S2x2560x256.size (inbTile s n)) (fun _ => rfl)

/-- One tap of tile `n` of the weights, of slot `s`. -/
def wTile (w : Vec F S16x2560x1280 .fp8e4m3) (n : Fin 5) (s : Fin 8) (t : Fin 2) : Vec F S1x1x2560x256 .fp8e4m3 := fun j =>
  w (ix3 (⟨2 * (s.val / 2) + 8 * (s.val % 2) + t.val, by omega⟩ : Fin 16) (j 2)
    (⟨256 * n.val + (j 3).val, by have h1 := n.isLt; have h2 : (j 3).val < 256 := (j 3).isLt; omega⟩ : Fin 1280))

theorem dstW_emb (s : Fin 8) (t : Fin 2) (d : Fin 2560) (l : Fin 256) : (dstW s).view.emb (ix3 t d l) = ix4 s t d l := by
  show (M15.view.slice (Rect.unit (s := S8x2x2560x256) ![s.val, 0, 0, 0] S1x2x2560x256.size (inbSlot s))).emb (Shape.reshapeEquiv _ (ix3 t d l)) = _
  rw [reshapeEquiv_ix3_1abc]
  funext a
  apply Fin.ext
  fin_cases a
  · show s.val + 1 * 0 = s.val; omega
  · show 0 + 1 * t.val = t.val; omega
  · show 0 + 1 * d.val = d.val; omega
  · show 0 + 1 * l.val = l.val; omega

theorem half_emb (s : Fin 8) (t : Fin 2) (j : S1x1x2560x256.Idx) :
    (M15.access (Rect.unit (s := S8x2x2560x256) ![s.val, t.val, 0, 0] S1x1x2560x256.size (inbHalf s t))).emb j = ix4 s t (j 2) (j 3) := by
  have h0 : (j 0).val < 1 := (j 0).isLt
  have h1 : (j 1).val < 1 := (j 1).isLt
  funext a
  apply Fin.ext
  fin_cases a
  · show s.val + 1 * (j 0).val = s.val; omega
  · show t.val + 1 * (j 1).val = t.val; omega
  · show 0 + 1 * (j 2).val = (j 2).val; omega
  · show 0 + 1 * (j 3).val = (j 3).val; omega

theorem slot_mem (s : Fin 8) (t : Fin 2) (d : Fin 2560) (l : Fin 256) : ix4 s t d l ∈ (dstW s).view.set := by
  have h := (dstW s).view.emb_mem_set (ix3 t d l)
  rw [dstW_emb s t d l] at h
  exact h

theorem half_sub (s : Fin 8) (t : Fin 2) :
    (M15.access (Rect.unit (s := S8x2x2560x256) ![s.val, t.val, 0, 0] S1x1x2560x256.size (inbHalf s t))).set ⊆ (dstW s).view.set := by
  intro i hi
  obtain ⟨j, -, rfl⟩ := Finset.mem_map.mp hi
  rw [half_emb s t j]
  exact slot_mem s t (j 2) (j 3)

/-- What a load of one tap of a landed slot reads. -/
theorem half_read (s : Fin 8) (n : Fin 5) (t : Fin 2) (w : Vec F S16x2560x1280 .fp8e4m3) (f : Vec F S8x2x2560x256 .fp8e4m3)
    (hf : (dstW s).view.read (Elt F) f = (srcW s n).view.read (Elt F) w) :
    (M15.access (Rect.unit (s := S8x2x2560x256) ![s.val, t.val, 0, 0] S1x1x2560x256.size (inbHalf s t))).read (Elt F) f = wTile w n s t := by
  funext j
  have h := congrFun hf (ix3 t (j 2) (j 3))
  have h1 : (M15.access (Rect.unit (s := S8x2x2560x256) ![s.val, t.val, 0, 0] S1x1x2560x256.size (inbHalf s t))).read (Elt F) f j = f (ix4 s t (j 2) (j 3)) :=
    congrArg f (half_emb s t j)
  have h2 : (dstW s).view.read (Elt F) f (ix3 t (j 2) (j 3)) = f (ix4 s t (j 2) (j 3)) := congrArg f (dstW_emb s t (j 2) (j 3))
  rw [h1, ← h2, h]
  refine congrArg w ?_
  funext a
  apply Fin.ext
  fin_cases a
  · show 2 * (s.val / 2) + 8 * (s.val % 2) + 1 * t.val = 2 * (s.val / 2) + 8 * (s.val % 2) + t.val; omega
  · show 0 + 1 * (j 2).val = (j 2).val; omega
  · show 256 * n.val + 1 * (j 3).val = 256 * n.val + (j 3).val; omega

/-! ## A slot's state -/

variable (c : Dev nD) (w : Vec F S16x2560x1280 .fp8e4m3)

/-- Slot `s`'s share of the weights. -/
def qW (s : Fin 8) : PosShare TreeShare := Transfers.shareTok fullShare 8 s

/-- Slot `s` with tile `n` landed. -/
def SlotHeld (s : Fin 8) (n : Fin 5) : sProp 𝕄 :=
  iprop(Landed c (dstW s) ((srcW s n).view.read (Elt F) w) ∗ semVal ((c : Thread nD τ), .dma (semW s)) 0
    ∗ (M1.view.loc (c : Thread nD τ) ↦{qW s} w))

/-- Slot `s` before tile `n`'s use: the tile is on its way; after the last one the slot rests. -/
def SlotSt (s : Fin 8) (n : ℕ) : sProp 𝕄 :=
  if h : n < 5 then
    iprop(InFlight c (srcW s ⟨n, h⟩) (dstW s) (semW s) (qW s) w
      ∗ (M1.view.loc (c : Thread nD τ) ↦[Finset.univ \ (srcW s ⟨n, h⟩).view.set]{qW s} w))
  else iprop(Free c (dstW s) ∗ semVal ((c : Thread nD τ), .dma (semW s)) 0 ∗ (M1.view.loc (c : Thread nD τ) ↦{qW s} w))

variable {α : Type}

theorem slotWait {s : Fin 8} {n : Fin 5} {src : Memref sig .tc .hbm S2x2560x256 .fp8e4m3} {dst : Memref sig .tc .vmem S2x2560x256 .fp8e4m3} {sm : DmaSem sig}
    (h1 : src = srcW s n) (h2 : dst = dstW s) (h3 : sm = semW s) {hsrc : src.view.WordExact} {hdst : dst.view.WordExact}
    {k : PUnit → Prog (TpuEff nD τ sig (Elt F) Λ₀ .tc) α} {Q : α → sProp 𝕄} :
    iprop(SlotSt c w s n.val ∗ Owes c)
      ⊢ iprop((iprop(SlotHeld c w s n ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst h1 h2 h3
  unfold SlotSt
  rw [dif_pos n.isLt]
  unfold SlotHeld
  iintro ⟨⟨HF, Hr⟩, HO⟩ Hk
  iapply (copyWait c (src := srcW s n) (dst := dstW s) (fs := w) (q := qW s)) $$ [HF HO]
  · isplitl [HF]; · iexact HF
    iexact HO
  iintro ⟨HL, Hs, Hv, HO⟩
  iapply Hk
  isplitl [HL Hs Hr Hv]
  · isplitl [HL]; · iexact HL
    isplitl [Hv]; · iexact Hv
    iapply (pointsTo_split_subset (Finset.subset_univ (srcW s n).view.set)).2
    isplitl [Hs]; · iexact Hs
    iexact Hr
  iexact HO

theorem slotStart {s : Fin 8} {n : Fin 5} (m : Fin 5) {src : Memref sig .tc .hbm S2x2560x256 .fp8e4m3} {dst : Memref sig .tc .vmem S2x2560x256 .fp8e4m3} {sm : DmaSem sig}
    (h1 : src = srcW s m) (h2 : dst = dstW s) (h3 : sm = semW s) {hsrc : src.view.WordExact} {hdst : dst.view.WordExact} {hsem}
    {k : PUnit → Prog (TpuEff nD τ sig (Elt F) Λ₀ .tc) α} {Q : α → sProp 𝕄} :
    iprop(Free c (dstW s) ∗ semVal ((c : Thread nD τ), .dma (semW s)) 0 ∗ (M1.view.loc (c : Thread nD τ) ↦{qW s} w))
      ⊢ iprop((SlotSt c w s m.val -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst h1 h2 h3
  unfold SlotSt
  rw [dif_pos m.isLt]
  iintro ⟨HL, Hv, Hw⟩ Hk
  ihave Hw := (pointsTo_split_subset (Finset.subset_univ (srcW s m).view.set)).1 $$ Hw
  icases Hw with ⟨Hs, Hr⟩
  iapply (copyStart c (src := srcW s m) (dst := dstW s) (fs := w) (q := qW s) (by decide)) $$ [HL Hv Hs]
  · isplitl [Hs]; · iexact Hs
    isplitl [HL]; · iexact HL
    iexact Hv
  iintro HF
  iapply Hk
  isplitl [HF]; · iexact HF
  iexact Hr

theorem slotLoad {s : Fin 8} {n : Fin 5} {t : Fin 2} {off : Fin 4 → ℕ} (hoff : off = ![s.val, t.val, 0, 0]) {hin} {hl}
    {k : ((Rect.unit (s := S8x2x2560x256) off S1x1x2560x256.size hin).toLoadRect.shape.Idx → Elt F .fp8e4m3) → Prog (TpuEff nD τ sig (Elt F) Λ₀ .tc) α} {Q : α → sProp 𝕄} :
    (SlotHeld c w s n : sProp 𝕄)
      ⊢ iprop((SlotHeld c w s n -∗ wp frame (wpE (defs₀ (F := F)) 𝒱₀ (c : Thread nD τ) none) Set.univ (k (wTile w n s t)) Q)
        -∗ wp frame (wpE (defs₀ (F := F)) 𝒱₀ (c : Thread nD τ) none) Set.univ (.op (.load M15 (Rect.unit (s := S8x2x2560x256) off S1x1x2560x256.size hin).toLoadRect hl) k) Q) := by
  subst hoff
  unfold SlotHeld Landed
  iintro ⟨⟨%f, HL, %hf⟩, Hv, Hw⟩ Hk
  iapply (wp_load_rect 𝒱₀ (c : Thread nD τ) none Set.univ (m := M15) (r := Rect.unit (s := S8x2x2560x256) ![s.val, t.val, 0, 0] S1x1x2560x256.size hin)
    (half_sub s t)) $$ HL
  iintro HL
  rw [show (M15.access (Rect.unit (s := S8x2x2560x256) ![s.val, t.val, 0, 0] S1x1x2560x256.size hin)).read (Elt F) f = wTile w n s t from half_read s n t w f hf]
  iapply Hk
  isplitl [HL]
  · iexists f
    isplitl [HL]; · iexact HL
    ipureintro; exact hf
  isplitl [Hv]; · iexact Hv
  iexact Hw

theorem slotRest {s : Fin 8} {n : Fin 5} (hn : n.val = 4) : (SlotHeld c w s n : sProp 𝕄) ⊢ SlotSt c w s (n.val + 1) := by
  unfold SlotHeld SlotSt
  rw [dif_neg (by omega)]
  iintro ⟨HL, Hv, Hw⟩
  isplitl [HL]
  · iapply (Landed_free c) $$ HL
  isplitl [Hv]; · iexact Hv
  iexact Hw

end Cert.Proof.Bits
-- ==== Proof.Bits.Stores.lean ====
/-
  The stores of one inner trip, one at a time: what the staging buffer holds after each.
-/
module

public import proofs.«01_k».proof.Proof.Bits.Base

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-- The staging buffer's elements of buffer `p`. -/
def Slab (p : Fin 2) : Finset S2x2x2x1032x128.Idx := Finset.univ.filter fun i => (i 0).val = p.val
theorem mem_Slab (p : Fin 2) (i : S2x2x2x1032x128.Idx) : i ∈ Slab p ↔ (i 0).val = p.val := by simp [Slab]

/-- The place of an element's store in the order of one trip's 68 stores. -/
def numOf (i : S2x2x2x1032x128.Idx) : ℕ := 34 * (i 1).val + 17 * (i 2).val + if (i 3).val < 1024 then 1 + (i 3).val / 64 else 0
/-- Stored by the trips before `k`, or by trip `k`'s first `n` stores. -/
def doneAt (k n : ℕ) (i : S2x2x2x1032x128.Idx) : Prop := ((i 3).val % 8) / 2 < k ∨ (((i 3).val % 8) / 2 = k ∧ numOf i < n)

theorem word_cases {p h b : Fin 2} {g : Fin 16} {k : Fin 4} {off : Fin 6 → ℕ} (hoff : off = wordOff p h b g k)
    {hin} {hpos} {i : S2x2x2x1032x128.Idx}
    (hi : i ∈ (R16.access ⟨⟨off, S1x1x1x8x2x128.size, ![1, 1, 1, 4, 1, 1], hin⟩, hpos⟩).set) :
    ∃ r t l, i = wordIx p h b g k r t l := by
  obtain ⟨j, -, rfl⟩ := Finset.mem_map.mp hi
  refine ⟨j 3, j 4, j 5, Eq.trans (congrArg _ ?_) (word_emb p h b g k off hoff hin hpos (j 3) (j 4) (j 5))⟩
  funext a
  fin_cases a
  · exact Subsingleton.elim (α := Fin 1) _ _
  · exact Subsingleton.elim (α := Fin 1) _ _
  · exact Subsingleton.elim (α := Fin 1) _ _
  · rfl
  · rfl
  · rfl

theorem tail_cases {p h b : Fin 2} {k : Fin 4} {off : Fin 5 → ℕ} (hoff : off = tailOff p h b k) {hin} {i : S2x2x2x1032x128.Idx}
    (hi : i ∈ (M16.access (Rect.unit (s := S2x2x2x1032x128) off S1x1x1x2x128.size hin)).set) :
    ∃ t l, i = tailIx p h b k t l := by
  obtain ⟨j, -, rfl⟩ := Finset.mem_map.mp hi
  refine ⟨j 3, j 4, Eq.trans (congrArg _ ?_) (tail_emb p h b k off hoff hin (j 3) (j 4))⟩
  funext a
  fin_cases a
  · exact Subsingleton.elim (α := Fin 1) _ _
  · exact Subsingleton.elim (α := Fin 1) _ _
  · exact Subsingleton.elim (α := Fin 1) _ _
  · rfl
  · rfl

theorem word_slab {p h b : Fin 2} {g : Fin 16} {k : Fin 4} {off : Fin 6 → ℕ} (hoff : off = wordOff p h b g k) {hin} {hpos} :
    (R16.access ⟨⟨off, S1x1x1x8x2x128.size, ![1, 1, 1, 4, 1, 1], hin⟩, hpos⟩).set ⊆ Slab p := by
  intro i hi
  obtain ⟨r, t, l, rfl⟩ := word_cases hoff hi
  exact (mem_Slab p _).mpr rfl

theorem tail_slab {p h b : Fin 2} {k : Fin 4} {off : Fin 5 → ℕ} (hoff : off = tailOff p h b k) {hin} :
    (M16.access (Rect.unit (s := S2x2x2x1032x128) off S1x1x1x2x128.size hin)).set ⊆ Slab p := by
  intro i hi
  obtain ⟨t, l, rfl⟩ := tail_cases hoff hi
  exact (mem_Slab p _).mpr rfl

/-- One more store done: the elements it writes, or those already done. -/
theorem doneAt_word {k : Fin 4} {n : ℕ} {i : S2x2x2x1032x128.Idx} {p h b : Fin 2} {g : Fin 16}
    (hn : n = 34 * h.val + 17 * b.val + 1 + g.val) (hp : (i 0).val = p.val) (hd : doneAt k (n + 1) i) :
    doneAt k n i ∨ ∃ r t l, i = wordIx p h b g k r t l := by
  by_cases hd' : doneAt k n i
  · exact .inl hd'
  right
  unfold doneAt at hd hd'
  have h1 : (i 1).val < 2 := (i 1).isLt
  have h2 : (i 2).val < 2 := (i 2).isLt
  have h3 : (i 3).val < 1032 := (i 3).isLt
  have hb := b.isLt
  have hh := h.isLt
  have hg := g.isLt
  have hnum : numOf i = n := by omega
  have hk : ((i 3).val % 8) / 2 = k.val := by omega
  unfold numOf at hnum
  have hlt : (i 3).val < 1024 := by
    by_contra hc
    rw [if_neg hc] at hnum; omega
  rw [if_pos hlt] at hnum
  refine ⟨⟨((i 3).val / 8) % 8, by omega⟩, ⟨(i 3).val % 2, by omega⟩, i 4, ?_⟩
  rw [eq_ix5 i]
  unfold wordIx
  have e0 : i 0 = p := Fin.ext hp
  have e1 : i 1 = h := Fin.ext (by omega)
  have e2 : i 2 = b := Fin.ext (by omega)
  have e3 : i 3 = (⟨64 * g.val + 8 * (((i 3).val / 8) % 8) + 2 * k.val + (i 3).val % 2, by omega⟩ : Fin 1032) := Fin.ext (by
    show (i 3).val = 64 * g.val + 8 * (((i 3).val / 8) % 8) + 2 * k.val + (i 3).val % 2
    omega)
  rw [← e0, ← e1, ← e2]
  exact congrArg (fun x => ix5 (i 0) (i 1) (i 2) x (i 4)) e3

theorem doneAt_tail {k : Fin 4} {n : ℕ} {i : S2x2x2x1032x128.Idx} {p h b : Fin 2}
    (hn : n = 34 * h.val + 17 * b.val) (hp : (i 0).val = p.val) (hd : doneAt k (n + 1) i) :
    doneAt k n i ∨ ∃ t l, i = tailIx p h b k t l := by
  by_cases hd' : doneAt k n i
  · exact .inl hd'
  right
  unfold doneAt at hd hd'
  have h1 : (i 1).val < 2 := (i 1).isLt
  have h2 : (i 2).val < 2 := (i 2).isLt
  have h3 : (i 3).val < 1032 := (i 3).isLt
  have hb := b.isLt
  have hh := h.isLt
  have hnum : numOf i = n := by omega
  have hk : ((i 3).val % 8) / 2 = k.val := by omega
  unfold numOf at hnum
  have hlt : ¬ (i 3).val < 1024 := by
    intro hc
    rw [if_pos hc] at hnum; omega
  rw [if_neg hlt] at hnum
  refine ⟨⟨(i 3).val % 2, by omega⟩, i 4, ?_⟩
  rw [eq_ix5 i]
  unfold tailIx
  have e0 : i 0 = p := Fin.ext hp
  have e1 : i 1 = h := Fin.ext (by omega)
  have e2 : i 2 = b := Fin.ext (by omega)
  have e3 : i 3 = (⟨1024 + 2 * k.val + (i 3).val % 2, by omega⟩ : Fin 1032) := Fin.ext (by
    show (i 3).val = 1024 + 2 * k.val + (i 3).val % 2
    omega)
  rw [← e0, ← e1, ← e2]
  exact congrArg (fun x => ix5 (i 0) (i 1) (i 2) x (i 4)) e3

section
variable (c : Dev nD) (p : Fin 2) (jp : Fin 4) (W : S2x2x2x1032x128.Idx → Elt F .bf16)
variable (f10 f11 : Vec F S2x128x128 .f32) (f13 f14 : Vec F S1x1280 .f32)

/-- The staging buffer's half `p`, its first elements (`doneAt`) at `W`. -/
def Stage (k n : ℕ) : sProp 𝕄 :=
  iprop(∃ f : Buf (Elt F) (M16.view.loc (c : Thread nD τ)), (M16.view.loc (c : Thread nD τ) ↦[Slab p]{fullShare} f)
    ∗ ⌜∀ i : S2x2x2x1032x128.Idx, (i 0).val = p.val → doneAt k n i → f i = W i⌝)

/-- What the stores of one trip touch: the scales, their shift, the weights' scale, the bias, the staging buffer. -/
def Res (n : ℕ) : sProp 𝕄 :=
  iprop((M10.view.loc (c : Thread nD τ) ↦{fullShare} f10) ∗ (M11.view.loc (c : Thread nD τ) ↦{fullShare} f11)
    ∗ (M13.view.loc (c : Thread nD τ) ↦{fullShare} f13) ∗ (M14.view.loc (c : Thread nD τ) ↦{fullShare} f14)
    ∗ Stage c p W jp n)

variable {α : Type}

theorem step10 {n : ℕ} {Q : α → sProp 𝕄} {r : LoadRect S2x128x128} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M10.view.readAt (Elt F) r f10)) Q) :
    Res c p jp W f10 f11 f13 f14 n ⊢ wp frame (wpE (defs₀ (F := F)) 𝒱₀ (c : Thread nD τ) none) Set.univ (.op (.load M10 r hl) k) Q := by
  unfold Res at H ⊢
  iintro ⟨H10, H11, H13, H14, H16⟩
  iapply (wp_load 𝒱₀ (c : Thread nD τ) none Set.univ (Finset.subset_univ _)) $$ H10
  iintro H10
  iapply H
  isplitl [H10]; · iexact H10
  isplitl [H11]; · iexact H11
  isplitl [H13]; · iexact H13
  isplitl [H14]; · iexact H14
  iexact H16

theorem step11 {n : ℕ} {Q : α → sProp 𝕄} {r : LoadRect S2x128x128} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M11.view.readAt (Elt F) r f11)) Q) :
    Res c p jp W f10 f11 f13 f14 n ⊢ wp frame (wpE (defs₀ (F := F)) 𝒱₀ (c : Thread nD τ) none) Set.univ (.op (.load M11 r hl) k) Q := by
  unfold Res at H ⊢
  iintro ⟨H10, H11, H13, H14, H16⟩
  iapply (wp_load 𝒱₀ (c : Thread nD τ) none Set.univ (Finset.subset_univ _)) $$ H11
  iintro H11
  iapply H
  isplitl [H10]; · iexact H10
  isplitl [H11]; · iexact H11
  isplitl [H13]; · iexact H13
  isplitl [H14]; · iexact H14
  iexact H16

theorem step13 {n : ℕ} {Q : α → sProp 𝕄} {r : LoadRect S1x1280} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M13.view.readAt (Elt F) r f13)) Q) :
    Res c p jp W f10 f11 f13 f14 n ⊢ wp frame (wpE (defs₀ (F := F)) 𝒱₀ (c : Thread nD τ) none) Set.univ (.op (.load M13 r hl) k) Q := by
  unfold Res at H ⊢
  iintro ⟨H10, H11, H13, H14, H16⟩
  iapply (wp_load 𝒱₀ (c : Thread nD τ) none Set.univ (Finset.subset_univ _)) $$ H13
  iintro H13
  iapply H
  isplitl [H10]; · iexact H10
  isplitl [H11]; · iexact H11
  isplitl [H13]; · iexact H13
  isplitl [H14]; · iexact H14
  iexact H16

theorem step14 {n : ℕ} {Q : α → sProp 𝕄} {r : LoadRect S1x1280} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M14.view.readAt (Elt F) r f14)) Q) :
    Res c p jp W f10 f11 f13 f14 n ⊢ wp frame (wpE (defs₀ (F := F)) 𝒱₀ (c : Thread nD τ) none) Set.univ (.op (.load M14 r hl) k) Q := by
  unfold Res at H ⊢
  iintro ⟨H10, H11, H13, H14, H16⟩
  iapply (wp_load 𝒱₀ (c : Thread nD τ) none Set.univ (Finset.subset_univ _)) $$ H14
  iintro H14
  iapply H
  isplitl [H10]; · iexact H10
  isplitl [H11]; · iexact H11
  isplitl [H13]; · iexact H13
  isplitl [H14]; · iexact H14
  iexact H16

theorem stepWordLoad {n : ℕ} {Q : α → sProp 𝕄} {off : Fin 6 → ℕ} {h b : Fin 2} {g : Fin 16} (hoff : off = wordOff p h b g jp) {hin} {hl}
    {k : ((⟨off, S1x1x1x8x2x128.size, ![1, 1, 1, 4, 1, 1], hin⟩ : LoadRect S2x2x2x516x2x128).shape.Idx → Elt F .bf16) → Prog (TpuEff nD τ sig (Elt F) Λ₀ .tc) α}
    (H : ∀ v, Res c p jp W f10 f11 f13 f14 n ⊢ wp frame (wpE (defs₀ (F := F)) 𝒱₀ (c : Thread nD τ) none) Set.univ (k v) Q) :
    Res c p jp W f10 f11 f13 f14 n ⊢ wp frame (wpE (defs₀ (F := F)) 𝒱₀ (c : Thread nD τ) none) Set.univ (.op (.load R16 (⟨off, S1x1x1x8x2x128.size, ![1, 1, 1, 4, 1, 1], hin⟩ : LoadRect S2x2x2x516x2x128) hl) k) Q := by
  unfold Res Stage at H ⊢
  iintro ⟨H10, H11, H13, H14, %f, H16, %hf⟩
  iapply (wp_load_rect 𝒱₀ (c : Thread nD τ) none Set.univ (m := R16) (r := ⟨⟨off, S1x1x1x8x2x128.size, ![1, 1, 1, 4, 1, 1], hin⟩, spos_1_1_1_4_1_1⟩)
    (word_slab hoff)) $$ H16
  iintro H16
  iapply (H _)
  isplitl [H10]; · iexact H10
  isplitl [H11]; · iexact H11
  isplitl [H13]; · iexact H13
  isplitl [H14]; · iexact H14
  iexists f
  isplitl [H16]; · iexact H16
  ipureintro; exact hf

theorem stepTailLoad {n : ℕ} {Q : α → sProp 𝕄} {off : Fin 5 → ℕ} {h b : Fin 2} (hoff : off = tailOff p h b jp) {hin} {hl}
    {k : ((Rect.unit (s := S2x2x2x1032x128) off S1x1x1x2x128.size hin).toLoadRect.shape.Idx → Elt F .bf16) → Prog (TpuEff nD τ sig (Elt F) Λ₀ .tc) α}
    (H : ∀ v, Res c p jp W f10 f11 f13 f14 n ⊢ wp frame (wpE (defs₀ (F := F)) 𝒱₀ (c : Thread nD τ) none) Set.univ (k v) Q) :
    Res c p jp W f10 f11 f13 f14 n ⊢ wp frame (wpE (defs₀ (F := F)) 𝒱₀ (c : Thread nD τ) none) Set.univ (.op (.load M16 (Rect.unit (s := S2x2x2x1032x128) off S1x1x1x2x128.size hin).toLoadRect hl) k) Q := by
  unfold Res Stage at H ⊢
  iintro ⟨H10, H11, H13, H14, %f, H16, %hf⟩
  iapply (wp_load_rect 𝒱₀ (c : Thread nD τ) none Set.univ (m := M16) (r := Rect.unit (s := S2x2x2x1032x128) off S1x1x1x2x128.size hin)
    (tail_slab hoff)) $$ H16
  iintro H16
  iapply (H _)
  isplitl [H10]; · iexact H10
  isplitl [H11]; · iexact H11
  isplitl [H13]; · iexact H13
  isplitl [H14]; · iexact H14
  iexists f
  isplitl [H16]; · iexact H16
  ipureintro; exact hf

theorem stepWordStore {n : ℕ} {Q : α → sProp 𝕄} {off : Fin 6 → ℕ} {h b : Fin 2} {g : Fin 16} (hn : n = 34 * h.val + 17 * b.val + 1 + g.val)
    (hoff : off = wordOff p h b g jp) {hin} {hpos} {hx} {hm} {w : S1x1x1x8x2x128.Idx → Elt F .bf16}
    (hw : ∀ r t l, w (ix6 (0 : Fin 1) (0 : Fin 1) (0 : Fin 1) r t l) = W (wordIx p h b g jp r t l))
    {k : PUnit → Prog (TpuEff nD τ sig (Elt F) Λ₀ .tc) α}
    (H : Res c p jp W f10 f11 f13 f14 (n + 1) ⊢ wp frame (wpE (defs₀ (F := F)) 𝒱₀ (c : Thread nD τ) none) Set.univ (k ⟨⟩) Q) :
    Res c p jp W f10 f11 f13 f14 n
      ⊢ wp frame (wpE (defs₀ (F := F)) 𝒱₀ (c : Thread nD τ) none) Set.univ (.op (.store R16 ⟨(⟨off, S1x1x1x8x2x128.size, ![1, 1, 1, 4, 1, 1], hin⟩ : LoadRect S2x2x2x516x2x128), hpos⟩ w Finset.univ hx hm) k) Q := by
  unfold Res Stage at H ⊢
  iintro ⟨H10, H11, H13, H14, %f, H16, %hf⟩
  iapply (wp_store 𝒱₀ (c : Thread nD τ) none Set.univ (m := R16) (r := ⟨⟨off, S1x1x1x8x2x128.size, ![1, 1, 1, 4, 1, 1], hin⟩, hpos⟩)
    (Mk := Finset.univ) (hx := hx) (hm := hm) (word_slab hoff)) $$ H16
  iintro H16
  iapply H
  isplitl [H10]; · iexact H10
  isplitl [H11]; · iexact H11
  isplitl [H13]; · iexact H13
  isplitl [H14]; · iexact H14
  iexists _
  isplitl [H16]; · iexact H16
  ipureintro
  intro i hp hd
  by_cases hi : i ∈ (R16.access ⟨⟨off, S1x1x1x8x2x128.size, ![1, 1, 1, 4, 1, 1], hin⟩, hpos⟩).set
  · obtain ⟨r, t, l, rfl⟩ := word_cases hoff hi
    rw [← hw r t l, ← word_emb p h b g jp off hoff hin hpos r t l]
    exact View.write_emb_of_mem _ _ (Finset.mem_univ _)
  · refine (View.write_of_not_mem _ _ _ hi).trans ?_
    rcases doneAt_word hn hp hd with hd' | ⟨r, t, l, rfl⟩
    · exact hf i hp hd'
    · exact absurd (by rw [← word_emb p h b g jp off hoff hin hpos r t l]; exact View.emb_mem_set _ _) hi

theorem stepTailStore {n : ℕ} {Q : α → sProp 𝕄} {off : Fin 5 → ℕ} {h b : Fin 2} (hn : n = 34 * h.val + 17 * b.val)
    (hoff : off = tailOff p h b jp) {hin} {hx} {hm} {w : S1x1x1x2x128.Idx → Elt F .bf16}
    (hw : ∀ t l, w (ix5 (0 : Fin 1) (0 : Fin 1) (0 : Fin 1) t l) = W (tailIx p h b jp t l))
    {k : PUnit → Prog (TpuEff nD τ sig (Elt F) Λ₀ .tc) α}
    (H : Res c p jp W f10 f11 f13 f14 (n + 1) ⊢ wp frame (wpE (defs₀ (F := F)) 𝒱₀ (c : Thread nD τ) none) Set.univ (k ⟨⟩) Q) :
    Res c p jp W f10 f11 f13 f14 n
      ⊢ wp frame (wpE (defs₀ (F := F)) 𝒱₀ (c : Thread nD τ) none) Set.univ (.op (.store M16 (Rect.unit (s := S2x2x2x1032x128) off S1x1x1x2x128.size hin) w Finset.univ hx hm) k) Q := by
  unfold Res Stage at H ⊢
  iintro ⟨H10, H11, H13, H14, %f, H16, %hf⟩
  iapply (wp_store 𝒱₀ (c : Thread nD τ) none Set.univ (m := M16) (r := Rect.unit (s := S2x2x2x1032x128) off S1x1x1x2x128.size hin)
    (Mk := Finset.univ) (hx := hx) (hm := hm) (tail_slab hoff)) $$ H16
  iintro H16
  iapply H
  isplitl [H10]; · iexact H10
  isplitl [H11]; · iexact H11
  isplitl [H13]; · iexact H13
  isplitl [H14]; · iexact H14
  iexists _
  isplitl [H16]; · iexact H16
  ipureintro
  intro i hp hd
  by_cases hi : i ∈ (M16.access (Rect.unit (s := S2x2x2x1032x128) off S1x1x1x2x128.size hin)).set
  · obtain ⟨t, l, rfl⟩ := tail_cases hoff hi
    rw [← hw t l, ← tail_emb p h b jp off hoff hin t l]
    exact View.write_emb_of_mem _ _ (Finset.mem_univ _)
  · refine (View.write_of_not_mem _ _ _ hi).trans ?_
    rcases doneAt_tail hn hp hd with hd' | ⟨t, l, rfl⟩
    · exact hf i hp hd'
    · exact absurd (by rw [← tail_emb p h b jp off hoff hin t l]; exact View.emb_mem_set _ _) hi

end

end Cert.Proof.Bits

end
-- ==== Proof.Bits.Payload.lean ====
/-
  What one store of the inner trip writes, stated once for every block of rows, and the trip's 68 stores in order.
-/
module

public import proofs.«01_k».proof.Proof.Bits.Stores

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-- Of the `n`th store: the half of the columns, the batch, the group of eight rows. -/
def hOf (n : ℕ) : Fin 2 := ⟨n / 34 % 2, Nat.mod_lt _ (by norm_num)⟩
def bOf (n : ℕ) : Fin 2 := ⟨n % 34 / 17 % 2, Nat.mod_lt _ (by norm_num)⟩
def gOf (n : ℕ) : Fin 16 := ⟨(n % 17 - 1) % 16, Nat.mod_lt _ (by norm_num)⟩

/-- The `n`th store is of a group of rows of both products; the others are of the last row of the shifted product. -/
def isWord (n : ℕ) : Bool := decide (n < 68) && !(decide (n % 17 = 0))
def isTail (n : ℕ) : Bool := decide (n < 68) && decide (n % 17 = 0)

theorem num_word {n : ℕ} (h : isWord n = true) : n = 34 * (hOf n).val + 17 * (bOf n).val + 1 + (gOf n).val := by
  simp only [isWord, Bool.and_eq_true, decide_eq_true_eq, Bool.not_eq_true', decide_eq_false_iff_not] at h
  simp only [hOf, bOf, gOf]
  omega

theorem num_tail {n : ℕ} (h : isTail n = true) : n = 34 * (hOf n).val + 17 * (bOf n).val := by
  simp only [isTail, Bool.and_eq_true, decide_eq_true_eq] at h
  simp only [hOf, bOf]
  omega

/-- Where the `n`th store goes, as the program computes it. -/
def offW (i : Fin k0_t1_loop.trips) (k : Fin k0_t2_loop.trips) (n : ℕ) : Fin 6 → ℕ :=
  match (hOf n).val, (bOf n).val with
  | 0, 0 => k0_off20 i k (BitVec.ofNat 32 (32 * (gOf n).val))
  | 0, _ => k0_off23 i k (BitVec.ofNat 32 (32 * (gOf n).val))
  | _, 0 => k0_off26 i k (BitVec.ofNat 32 (32 * (gOf n).val))
  | _, _ => k0_off29 i k (BitVec.ofNat 32 (32 * (gOf n).val))

def offT (i : Fin k0_t1_loop.trips) (k : Fin k0_t2_loop.trips) (n : ℕ) : Fin 5 → ℕ :=
  match (hOf n).val, (bOf n).val with
  | 0, 0 => k0_off19 i k
  | 0, _ => k0_off22 i k
  | _, 0 => k0_off25 i k
  | _, _ => k0_off28 i k

theorem offW_eq (i : Fin k0_t1_loop.trips) (k : Fin k0_t2_loop.trips) (n : ℕ) :
    offW i k n = wordOff (par i) (hOf n) (bOf n) (gOf n) (pr k) := by
  have hh : (hOf n).val < 2 := (hOf n).isLt
  have hb : (bOf n).val < 2 := (bOf n).isLt
  unfold offW
  rcases hv : (hOf n).val with _ | _ | m
  · rcases hw : (bOf n).val with _ | _ | m
    · exact off20 i k (gOf n)
    · exact off23 i k (gOf n)
    · omega
  · rcases hw : (bOf n).val with _ | _ | m
    · exact off26 i k (gOf n)
    · exact off29 i k (gOf n)
    · omega
  · omega

theorem offT_eq (i : Fin k0_t1_loop.trips) (k : Fin k0_t2_loop.trips) (n : ℕ) :
    offT i k n = tailOff (par i) (hOf n) (bOf n) (pr k) := by
  have hh : (hOf n).val < 2 := (hOf n).isLt
  have hb : (bOf n).val < 2 := (bOf n).isLt
  unfold offT
  rcases hv : (hOf n).val with _ | _ | m
  · rcases hw : (bOf n).val with _ | _ | m
    · exact off19 i k
    · exact off22 i k
    · omega
  · rcases hw : (bOf n).val with _ | _ | m
    · exact off25 i k
    · exact off28 i k
    · omega
  · omega

theorem slc : ∀ (h b : Fin 2) (g : Fin 16), S256x256.Slices ![128 * b.val + 8 * g.val, 128 * h.val] S8x128 := by decide +kernel
theorem inbX : ∀ (b : Fin 2) (g : Fin 16), ∀ a, (![b.val, 8 * g.val, 0] : Fin 3 → ℕ) a + S1x8x128.size a ≤ S2x128x128.size a := by decide +kernel

/-- Eight rows of a batch of the scales, and of the shifted scales. -/
def rows10 (f : Vec F S2x128x128 .f32) (b : Fin 2) (g : Fin 16) : Vec F S1x8x128 .f32 :=
  M10.view.readAt (Elt F) (Rect.unit (s := S2x128x128) ![b.val, 8 * g.val, 0] S1x8x128.size (inbX b g)).toLoadRect f
def rows11 (f : Vec F S2x128x128 .f32) (b : Fin 2) (g : Fin 16) : Vec F S1x8x128 .f32 :=
  M11.view.readAt (Elt F) (Rect.unit (s := S2x128x128) ![b.val, 8 * g.val, 0] S1x8x128.size (inbX b g)).toLoadRect f

/-- Half a tile's columns of the weights' scale and of the bias. -/
def cols13 (i : Fin k0_t1_loop.trips) (f : Vec F S1x1280 .f32) (h : Fin 2) : Vec F S1x128 .f32 :=
  M13.view.readAt (Elt F) (Rect.unit (s := S1x1280) (k0_off17 i (BitVec.ofNat 32 (128 * h.val))) S1x128.size (k0_off17_inb i h)).toLoadRect f
def cols14 (i : Fin k0_t1_loop.trips) (f : Vec F S1x1280 .f32) (h : Fin 2) : Vec F S1x128 .f32 :=
  M14.view.readAt (Elt F) (Rect.unit (s := S1x1280) (k0_off17 i (BitVec.ofNat 32 (128 * h.val))) S1x128.size (k0_off17_inb i h)).toLoadRect f

/-- Eight rows of a product, by the rows' scales and the columns' scales. -/
def scaled (a : FVec F S256x256 .f32) (x : Vec F S1x8x128 .f32) (w : Vec F S1x128 .f32) (h b : Fin 2) (g : Fin 16) : FVec F S8x128 .f32 :=
  mulf (mulf (extractStridedSlice S8x128 ![128 * b.val + 8 * g.val, 128 * h.val] a (slc h b g))
    (shapeCast S8x128 x shapeCasts_S1x8x128_S8x128)) (broadcastTo S8x128 w broadcasts_S1x128_S8x128)

/-- The shifted product's rows: nothing comes before the first. -/
def shifted (a : FVec F S256x256 .f32) (x : Vec F S1x8x128 .f32) (w : Vec F S1x128 .f32) (h b : Fin 2) (g : Fin 16) : FVec F S8x128 .f32 :=
  match g.val with
  | 0 => select (cmpi .eq (iota .tc S8x128 32 [0] iota_S8x128_d0_w32) (broadcast S8x128 0#32))
      (broadcast S8x128 (Scalar.ofBits .f32 0x00000000#32 : F .f32)) (scaled a x w h b g)
  | _ => scaled a x w h b g

/-- Eight rows of the sum of both products and the bias. -/
def rowsSum (a a' : FVec F S256x256 .f32) (x x' : Vec F S1x8x128 .f32) (w v : Vec F S1x128 .f32) (h b : Fin 2) (g : Fin 16) : FVec F S8x128 .f32 :=
  addf (addf (scaled a x w h b g) (shifted a' x' w h b g)) (broadcastTo S8x128 v broadcasts_S1x128_S8x128)

variable (i : Fin k0_t1_loop.trips) (A0 A1 A2 A3 : FVec F S256x256 .f32)
variable (f10 f11 : Vec F S2x128x128 .f32) (f13 f14 : Vec F S1x1280 .f32)

/-- What a store of a group of rows writes: both taps' rows, rounded and packed in pairs. -/
def payW (h b : Fin 2) (g : Fin 16) : Vec F S1x1x1x8x2x128 .bf16 :=
  bitcastToFloat .bf16 (bitcast S1x1x1x8x2x128 16
    (shapeCast S1x1x1x8x1x128 (shapeCast S8x128 (packElementwise
      (rowsSum A0 A2 (rows10 f10 b g) (rows11 f11 b g) (cols13 i f13 h) (cols14 i f14 h) h b g)
      (rowsSum A1 A3 (rows10 f10 b g) (rows11 f11 b g) (cols13 i f13 h) (cols14 i f14 h) h b g)) shapeCasts_S8x128_S8x128) shapeCasts_S8x128_S1x1x1x8x1x128)
    bitcasts_S1x1x1x8x1x128_w32_S1x1x1x8x2x128_w16)

def rowsTail (a' : FVec F S256x256 .f32) (x' : Vec F S1x8x128 .f32) (w v : Vec F S1x128 .f32) (h b : Fin 2) : FVec F S8x128 .f32 :=
  addf (scaled a' x' w h b 0) (broadcastTo S8x128 v broadcasts_S1x128_S8x128)

/-- What a store of the last row writes. -/
def payT (h b : Fin 2) : Vec F S1x1x1x2x128 .bf16 :=
  bitcastToFloat .bf16 (bitcast S1x1x1x2x128 16
    (shapeCast S1x1x1x1x128 (shapeCast S1x128 (extractStridedSlice S1x128 ![0, 0] (packElementwise
      (rowsTail A2 (rows11 f11 b 0) (cols13 i f13 h) (cols14 i f14 h) h b)
      (rowsTail A3 (rows11 f11 b 0) (cols13 i f13 h) (cols14 i f14 h) h b)) slices_S8x128_o0_0_S1x128) shapeCasts_S1x128_S1x128) shapeCasts_S1x128_S1x1x1x1x128)
    bitcasts_S1x1x1x1x128_w32_S1x1x1x2x128_w16)

/-- The trip's blocks agree with the values `W` meant for the staging buffer. -/
structure Agrees (k : Fin k0_t2_loop.trips) (W : S2x2x2x1032x128.Idx → Elt F .bf16) : Prop where
  word : ∀ (h b : Fin 2) (g : Fin 16) (r : Fin 8) (t : Fin 2) (l : Fin 128),
    payW i A0 A1 A2 A3 f10 f11 f13 f14 h b g (ix6 (0 : Fin 1) (0 : Fin 1) (0 : Fin 1) r t l) = W (wordIx (par i) h b g (pr k) r t l)
  tail : ∀ (h b : Fin 2) (t : Fin 2) (l : Fin 128),
    payT i A2 A3 f11 f13 f14 h b (ix5 (0 : Fin 1) (0 : Fin 1) (0 : Fin 1) t l) = W (tailIx (par i) h b (pr k) t l)

section
variable (c : Dev nD) (j : Fin k0_t2_loop.trips) (W : S2x2x2x1032x128.Idx → Elt F .bf16)
variable {α : Type}

theorem loadW {n : ℕ} {Q : α → sProp 𝕄} {off : Fin 6 → ℕ} (hoff : off = offW i j n) {hin} {hl}
    {k : ((⟨off, S1x1x1x8x2x128.size, ![1, 1, 1, 4, 1, 1], hin⟩ : LoadRect S2x2x2x516x2x128).shape.Idx → Elt F .bf16) → Prog (TpuEff nD τ sig (Elt F) Λ₀ .tc) α}
    (H : ∀ v, Res c (par i) (pr j) W f10 f11 f13 f14 n ⊢ wp frame (wpE (defs₀ (F := F)) 𝒱₀ (c : Thread nD τ) none) Set.univ (k v) Q) :
    Res c (par i) (pr j) W f10 f11 f13 f14 n ⊢ wp frame (wpE (defs₀ (F := F)) 𝒱₀ (c : Thread nD τ) none) Set.univ (.op (.load R16 (⟨off, S1x1x1x8x2x128.size, ![1, 1, 1, 4, 1, 1], hin⟩ : LoadRect S2x2x2x516x2x128) hl) k) Q :=
  stepWordLoad c (par i) (pr j) W f10 f11 f13 f14 (hoff.trans (offW_eq i j n)) H

theorem loadT {n : ℕ} {Q : α → sProp 𝕄} {off : Fin 5 → ℕ} (hoff : off = offT i j n) {hin} {hl}
    {k : ((Rect.unit (s := S2x2x2x1032x128) off S1x1x1x2x128.size hin).toLoadRect.shape.Idx → Elt F .bf16) → Prog (TpuEff nD τ sig (Elt F) Λ₀ .tc) α}
    (H : ∀ v, Res c (par i) (pr j) W f10 f11 f13 f14 n ⊢ wp frame (wpE (defs₀ (F := F)) 𝒱₀ (c : Thread nD τ) none) Set.univ (k v) Q) :
    Res c (par i) (pr j) W f10 f11 f13 f14 n ⊢ wp frame (wpE (defs₀ (F := F)) 𝒱₀ (c : Thread nD τ) none) Set.univ (.op (.load M16 (Rect.unit (s := S2x2x2x1032x128) off S1x1x1x2x128.size hin).toLoadRect hl) k) Q :=
  stepTailLoad c (par i) (pr j) W f10 f11 f13 f14 (hoff.trans (offT_eq i j n)) H

variable {i A0 A1 A2 A3 f10 f11 f13 f14 j W} (hA : Agrees i A0 A1 A2 A3 f10 f11 f13 f14 j W)
include hA

theorem storeW {n : ℕ} {Q : α → sProp 𝕄} {off : Fin 6 → ℕ} (hn : isWord n = true) (hoff : off = offW i j n)
    {hin} {hpos} {hx} {hm} {w : S1x1x1x8x2x128.Idx → Elt F .bf16} (hw : w = payW i A0 A1 A2 A3 f10 f11 f13 f14 (hOf n) (bOf n) (gOf n))
    {k : PUnit → Prog (TpuEff nD τ sig (Elt F) Λ₀ .tc) α} (H : Res c (par i) (pr j) W f10 f11 f13 f14 (n + 1) ⊢ wp frame (wpE (defs₀ (F := F)) 𝒱₀ (c : Thread nD τ) none) Set.univ (k ⟨⟩) Q) :
    Res c (par i) (pr j) W f10 f11 f13 f14 n ⊢ wp frame (wpE (defs₀ (F := F)) 𝒱₀ (c : Thread nD τ) none) Set.univ (.op (.store R16 ⟨(⟨off, S1x1x1x8x2x128.size, ![1, 1, 1, 4, 1, 1], hin⟩ : LoadRect S2x2x2x516x2x128), hpos⟩ w Finset.univ hx hm) k) Q := by
  subst hw
  exact stepWordStore c (par i) (pr j) W f10 f11 f13 f14 (num_word hn) (hoff.trans (offW_eq i j n)) (fun r t l => hA.word _ _ _ r t l) H

theorem storeT {n : ℕ} {Q : α → sProp 𝕄} {off : Fin 5 → ℕ} (hn : isTail n = true) (hoff : off = offT i j n)
    {hin} {hx} {hm} {w : S1x1x1x2x128.Idx → Elt F .bf16} (hw : w = payT i A2 A3 f11 f13 f14 (hOf n) (bOf n))
    {k : PUnit → Prog (TpuEff nD τ sig (Elt F) Λ₀ .tc) α} (H : Res c (par i) (pr j) W f10 f11 f13 f14 (n + 1) ⊢ wp frame (wpE (defs₀ (F := F)) 𝒱₀ (c : Thread nD τ) none) Set.univ (k ⟨⟩) Q) :
    Res c (par i) (pr j) W f10 f11 f13 f14 n ⊢ wp frame (wpE (defs₀ (F := F)) 𝒱₀ (c : Thread nD τ) none) Set.univ (.op (.store M16 (Rect.unit (s := S2x2x2x1032x128) off S1x1x1x2x128.size hin) w Finset.univ hx hm) k) Q := by
  subst hw
  exact stepTailStore c (par i) (pr j) W f10 f11 f13 f14 (num_tail hn) (hoff.trans (offT_eq i j n)) (fun t l => hA.tail _ _ t l) H

end

end Cert.Proof.Bits
-- ==== Proof.Bits.Parts.lean ====
/-
  The products of one trip, and the refill of their weights.
-/
module

public import proofs.«01_k».proof.Proof.Bits.Weights
public import proofs.«01_k».proof.Proof.Bits.Payload

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-- Tile `i`, as a number below five. -/
abbrev ct (i : Fin k0_t1_loop.trips) : Fin 5 := ⟨i.val, lt_of_lt_of_eq i.isLt (by decide)⟩
/-- The slot of trip `j`'s weights for the codes (`h = 0`) and for the shifted codes (`h = 1`). -/
abbrev sl (j : Fin k0_t2_loop.trips) (h : Fin 2) : Fin 8 := ⟨2 * j.val + h.val, by have : j.val < 4 := lt_of_lt_of_eq j.isLt (by decide); omega⟩

theorem off6 : ∀ (j : Fin k0_t2_loop.trips) (h : Fin 2), k0_off6 j (BitVec.ofNat 32 h.val) = ![(sl j h).val] := by decide +kernel
theorem off7 : ∀ (j : Fin k0_t2_loop.trips) (h : Fin 2), k0_off7 j (BitVec.ofNat 32 h.val) = ![(sl j h).val, 0, 0, 0] := by decide +kernel
theorem off8 : ∀ (i : Fin k0_t1_loop.trips) (j : Fin k0_t2_loop.trips) (h : Fin 2), k0_off8 i j (BitVec.ofNat 32 (8 * h.val))
    = ![2 * ((sl j h).val / 2) + 8 * ((sl j h).val % 2), 0, 256 * (ct i).val] := by decide +kernel
theorem off9 : ∀ (j : Fin k0_t2_loop.trips) (h : Fin 2), k0_off9 j (BitVec.ofNat 32 h.val) = ![(sl j h).val, (0 : Fin 2).val, 0, 0] := by decide +kernel
theorem off10 : ∀ (j : Fin k0_t2_loop.trips) (h : Fin 2), k0_off10 j (BitVec.ofNat 32 h.val) = ![(sl j h).val, (1 : Fin 2).val, 0, 0] := by decide +kernel
theorem off11 : ∀ (j : Fin k0_t2_loop.trips), k0_off11 j = ![(sl j 0).val] := by decide +kernel
theorem off12 : ∀ (j : Fin k0_t2_loop.trips), k0_off12 j = ![(sl j 0).val, 0, 0, 0] := by decide +kernel
theorem off13 : ∀ (i : Fin k0_t1_loop.trips) (j : Fin k0_t2_loop.trips), k0_off13 i j
    = ![2 * ((sl j 0).val / 2) + 8 * ((sl j 0).val % 2), 0, 256 * (i.val + 1)] := by decide +kernel
theorem off14 : ∀ (j : Fin k0_t2_loop.trips), k0_off14 j = ![(sl j 1).val] := by decide +kernel
theorem off15 : ∀ (j : Fin k0_t2_loop.trips), k0_off15 j = ![(sl j 1).val, 0, 0, 0] := by decide +kernel
theorem off16 : ∀ (i : Fin k0_t1_loop.trips) (j : Fin k0_t2_loop.trips), k0_off16 i j
    = ![2 * ((sl j 1).val / 2) + 8 * ((sl j 1).val % 2), 0, 256 * (i.val + 1)] := by decide +kernel
theorem cond2 : ∀ i : Fin k0_t1_loop.trips, k0_cond2 i = 1#1 ↔ i.val + 1 < 5 := by decide +kernel
theorem cond3 : ∀ i : Fin k0_t1_loop.trips, k0_cond3 i = 1#1 ↔ i.val + 1 < 5 := by decide +kernel

theorem dst_eq {s : Fin 8} {off : Fin 4 → ℕ} (h : off = ![s.val, 0, 0, 0]) {hin} :
    (M15.slice (Rect.unit (s := S8x2x2560x256) off S1x2x2560x256.size hin) (fun _ => rfl)).squeeze S2x2560x256
      squeezes_S1x2x2560x256_S2x2560x256 = dstW s := by subst h; rfl
theorem src_eq {s : Fin 8} {n : Fin 5} {off : Fin 3 → ℕ} (h : off = ![2 * (s.val / 2) + 8 * (s.val % 2), 0, 256 * n.val]) {hin} :
    M1.slice (Rect.unit (s := S16x2560x1280) off S2x2560x256.size hin) (fun _ => rfl) = srcW s n := by subst h; rfl
theorem sem_eq {s : Fin 8} {off : Fin 1 → ℕ} (h : off = ![s.val]) {hin} :
    ((cc0_scratch10.slice (Rect.unit (s := S8) off S1.size hin)).squeeze S_ squeezes_S1_S_).sem = semW s := by subst h; rfl

variable (c : Dev nD) (i : Fin k0_t1_loop.trips) (j : Fin k0_t2_loop.trips) (w : Vec F S16x2560x1280 .fp8e4m3)

theorem read8 (f : Vec F S2x128x2560 .fp8e4m3) {hin} :
    M8.view.readAt (Elt F) (Rect.unit (s := S2x128x2560) ![0, 0, 0] S2x128x2560.size hin).toLoadRect f = f := by
  funext x
  refine congrArg f ?_
  funext a
  apply Fin.ext
  fin_cases a
  · show 0 + 1 * (x 0).val = (x 0).val; omega
  · show 0 + 1 * (x 1).val = (x 1).val; omega
  · show 0 + 1 * (x 2).val = (x 2).val; omega
theorem read9 (f : Vec F S2x128x2560 .fp8e4m3) {hin} :
    M9.view.readAt (Elt F) (Rect.unit (s := S2x128x2560) ![0, 0, 0] S2x128x2560.size hin).toLoadRect f = f := read8 f

/-- The first part of a trip: the codes' weights are waited for and multiplied, and their refill for the next tile started. -/
theorem part1 (q8 : PosShare TreeShare) (f8 : Vec F S2x128x2560 .fp8e4m3) (a c0 c1 : BitVec 32)
    {Q : (Σ' (arg23 : BitVec 32) (v734 : FVec F S256x256 .f32) (v738 : FVec F S256x256 .f32) (v744 : BitVec 32), BitVec 32) → sProp 𝕄} :
    iprop(SlotSt c w (sl j 0) i.val ∗ Owes c ∗ (M8.view.loc (c : Thread nD τ) ↦{q8} f8))
      ⊢ iprop((iprop(SlotSt c w (sl j 0) (i.val + 1) ∗ Owes c ∗ (M8.view.loc (c : Thread nD τ) ↦{q8} f8))
          -∗ Q ⟨Scf.iv c0 c1 j, k0_pay2 f8 (wTile w (ct i) (sl j 0) 0), k0_pay3 f8 (wTile w (ct i) (sl j 0) 1),
              Scalar.addi (Scalar.muli 2#32 (Scf.iv c0 c1 j)) 1#32, 2#32⟩)
        -∗ wp frame (wpE (defs₀ (F := F)) 𝒱₀ (c : Thread nD τ) none) Set.univ (k0_part1_skel M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 i a c0 c1 j) Q) := by
  unfold k0_part1_skel
  iintro ⟨HS, HO, H8⟩ Hk
  iapply (slotWait c w (s := sl j 0) (n := ct i) (src_eq (off8 i j 0)) (dst_eq (off7 j 0)) (sem_eq (off6 j 0))) $$ [HS HO]
  · isplitl [HS]; · iexact HS
    iexact HO
  iintro ⟨HS, HO⟩
  iapply (wp_load 𝒱₀ (c : Thread nD τ) none Set.univ (Finset.subset_univ _)) $$ H8
  iintro H8
  rw [read8]
  iapply (slotLoad c w (off9 j 0)) $$ HS
  iintro HS
  iapply (slotLoad c w (off10 j 0)) $$ HS
  iintro HS
  by_cases hc : k0_cond2 i = 1#1
  · iapply (iteT c hc)
    unfold SlotHeld
    icases HS with ⟨HL, Hv, Hw⟩
    ihave HL := (Landed_free c (dstW (sl j 0)) _) $$ HL
    iapply (slotStart c w (s := sl j 0) (n := ct i) ⟨i.val + 1, (cond2 i).mp hc⟩ (src_eq (off13 i j)) (dst_eq (off12 j)) (sem_eq (off11 j))) $$ [HL Hv Hw]
    · isplitl [HL]; · iexact HL
      isplitl [Hv]; · iexact Hv
      iexact Hw
    iintro HS
    iapply (retW c)
    iapply Hk
    isplitl [HS]; · iexact HS
    isplitl [HO]; · iexact HO
    iexact H8
  · iapply (iteF c hc)
    ihave HS := (slotRest c w (s := sl j 0) (n := ct i) (by
      have h5 := lt_of_lt_of_eq i.isLt (show k0_t1_loop.trips = 5 by decide)
      have h6 := (cond2 i).not.mp hc
      show i.val = 4; omega)) $$ HS
    iapply (retW c)
    iapply Hk
    isplitl [HS]; · iexact HS
    isplitl [HO]; · iexact HO
    iexact H8

/-- The second part: the shifted codes' weights are waited for and multiplied, and their refill for the next tile started. -/
theorem part2 (f9 : Vec F S2x128x2560 .fp8e4m3) (f13 f14 : Vec F S1x1280 .f32) (a b d e g : BitVec 32)
    {Q : (Σ' (v761 : FVec F S256x256 .f32) (v765 : FVec F S256x256 .f32) (v772 : Vec F S1x128 .f32), Vec F S1x128 .f32) → sProp 𝕄} :
    iprop(SlotSt c w (sl j 1) i.val ∗ Owes c ∗ (M9.view.loc (c : Thread nD τ) ↦{fullShare} f9)
        ∗ (M13.view.loc (c : Thread nD τ) ↦{fullShare} f13) ∗ (M14.view.loc (c : Thread nD τ) ↦{fullShare} f14))
      ⊢ iprop((iprop(SlotSt c w (sl j 1) (i.val + 1) ∗ Owes c ∗ (M9.view.loc (c : Thread nD τ) ↦{fullShare} f9)
        ∗ (M13.view.loc (c : Thread nD τ) ↦{fullShare} f13) ∗ (M14.view.loc (c : Thread nD τ) ↦{fullShare} f14))
          -∗ Q ⟨k0_pay5 f9 (wTile w (ct i) (sl j 1) 0), k0_pay6 f9 (wTile w (ct i) (sl j 1) 1), cols13 i f13 0, cols14 i f14 0⟩)
        -∗ wp frame (wpE (defs₀ (F := F)) 𝒱₀ (c : Thread nD τ) none) Set.univ (k0_part2_skel M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 i a b j d e g) Q) := by
  unfold k0_part2_skel
  iintro ⟨HS, HO, H9, H13, H14⟩ Hk
  iapply (slotWait c w (s := sl j 1) (n := ct i) (src_eq (off8 i j 1)) (dst_eq (off7 j 1)) (sem_eq (off6 j 1))) $$ [HS HO]
  · isplitl [HS]; · iexact HS
    iexact HO
  iintro ⟨HS, HO⟩
  iapply (wp_load 𝒱₀ (c : Thread nD τ) none Set.univ (Finset.subset_univ _)) $$ H9
  iintro H9
  rw [read9]
  iapply (slotLoad c w (off9 j 1)) $$ HS
  iintro HS
  iapply (slotLoad c w (off10 j 1)) $$ HS
  iintro HS
  by_cases hc : k0_cond3 i = 1#1
  · iapply (iteT c hc)
    unfold SlotHeld
    icases HS with ⟨HL, Hv, Hw⟩
    ihave HL := (Landed_free c (dstW (sl j 1)) _) $$ HL
    iapply (slotStart c w (s := sl j 1) (n := ct i) ⟨i.val + 1, (cond3 i).mp hc⟩ (src_eq (off16 i j)) (dst_eq (off15 j)) (sem_eq (off14 j))) $$ [HL Hv Hw]
    · isplitl [HL]; · iexact HL
      isplitl [Hv]; · iexact Hv
      iexact Hw
    iintro HS
    iapply (wp_load 𝒱₀ (c : Thread nD τ) none Set.univ (m := M13) (Finset.subset_univ _)) $$ H13
    iintro H13
    rw [show M13.view.readAt (Elt F) (Rect.unit (s := S1x1280) (k0_off17 i 0#32) S1x128.size (k0_off17_inb i 0)).toLoadRect f13 = cols13 i f13 0 from rfl]
    iapply (wp_load 𝒱₀ (c : Thread nD τ) none Set.univ (m := M14) (Finset.subset_univ _)) $$ H14
    iintro H14
    rw [show M14.view.readAt (Elt F) (Rect.unit (s := S1x1280) (k0_off17 i 0#32) S1x128.size (k0_off17_inb i 0)).toLoadRect f14 = cols14 i f14 0 from rfl]
    iapply (retW c)
    iapply Hk
    isplitl [HS]; · iexact HS
    isplitl [HO]; · iexact HO
    isplitl [H9]; · iexact H9
    isplitl [H13]; · iexact H13
    iexact H14
  · iapply (iteF c hc)
    ihave HS := (slotRest c w (s := sl j 1) (n := ct i) (by
      have h5 := lt_of_lt_of_eq i.isLt (show k0_t1_loop.trips = 5 by decide)
      have h6 := (cond3 i).not.mp hc
      show i.val = 4; omega)) $$ HS
    iapply (wp_load 𝒱₀ (c : Thread nD τ) none Set.univ (m := M13) (Finset.subset_univ _)) $$ H13
    iintro H13
    rw [show M13.view.readAt (Elt F) (Rect.unit (s := S1x1280) (k0_off17 i 0#32) S1x128.size (k0_off17_inb i 0)).toLoadRect f13 = cols13 i f13 0 from rfl]
    iapply (wp_load 𝒱₀ (c : Thread nD τ) none Set.univ (m := M14) (Finset.subset_univ _)) $$ H14
    iintro H14
    rw [show M14.view.readAt (Elt F) (Rect.unit (s := S1x1280) (k0_off17 i 0#32) S1x128.size (k0_off17_inb i 0)).toLoadRect f14 = cols14 i f14 0 from rfl]
    iapply (retW c)
    iapply Hk
    isplitl [HS]; · iexact HS
    isplitl [HO]; · iexact HO
    isplitl [H9]; · iexact H9
    isplitl [H13]; · iexact H13
    iexact H14

end Cert.Proof.Bits
-- ==== Proof.Bits.Trip.lean ====
/-
  One inner trip: two products of four taps and the 68 stores of their rows.
-/
module

public import proofs.«01_k».proof.Proof.Bits.Parts

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

variable (c : Dev nD) (i : Fin k0_t1_loop.trips) (j : Fin k0_t2_loop.trips) (w : Vec F S16x2560x1280 .fp8e4m3)
variable (f8 f9 : Vec F S2x128x2560 .fp8e4m3) (f10 f11 : Vec F S2x128x128 .f32) (f13 f14 : Vec F S1x1280 .f32)
variable (q8 : PosShare TreeShare) (W : S2x2x2x1032x128.Idx → Elt F .bf16)

/-- A trip's blocks are those of the values `W`. -/
abbrev TripAgrees : Prop :=
  Agrees i (k0_pay2 f8 (wTile w (ct i) (sl j 0) 0)) (k0_pay3 f8 (wTile w (ct i) (sl j 0) 1))
    (k0_pay5 f9 (wTile w (ct i) (sl j 1) 0)) (k0_pay6 f9 (wTile w (ct i) (sl j 1) 1)) f10 f11 f13 f14 j W

/-- What a trip holds besides what its stores touch. -/
def TripRest (n : ℕ) : sProp 𝕄 :=
  iprop(SlotSt c w (sl j 0) n ∗ SlotSt c w (sl j 1) n ∗ Owes c
    ∗ (M8.view.loc (c : Thread nD τ) ↦{q8} f8) ∗ (M9.view.loc (c : Thread nD τ) ↦{fullShare} f9))

set_option maxHeartbeats 4000000 in
/-- A trip of the inner loop leaves its thirty-four blocks of both halves stored. -/
theorem trip (hA : TripAgrees i j w f8 f9 f10 f11 f13 f14 W) (v : FVec F S128x128 .f32) (a b : BitVec 32) :
    iprop(Res c (par i) (pr j) W f10 f11 f13 f14 0 ∗ TripRest c j w f8 f9 q8 i.val)
      ⊢ wp frame (wpE (defs₀ (F := F)) 𝒱₀ (c : Thread nD τ) none) Set.univ (k0_t2_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i a b j ())
          (fun _ => iprop(Res c (par i) (pr j) W f10 f11 f13 f14 68 ∗ TripRest c j w f8 f9 q8 (i.val + 1))) := by
  unfold k0_t2_body
  rw [k0_part57_eq_skeleton]
  unfold k0_part57_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold TripRest Res
  iintro ⟨⟨H10, H11, H13, H14, H16⟩, HA, HB, HO, H8, H9⟩
  iapply (bind2I c)
  iapply (part1 c i j w q8 f8) $$ [HA HO H8]
  · isplitl [HA]; · iexact HA
    isplitl [HO]; · iexact HO
    iexact H8
  iintro ⟨HA, HO, H8⟩
  dsimp only
  iapply (bind2I c)
  iapply (part2 c i j w f9 f13 f14) $$ [HB HO H9 H13 H14]
  · isplitl [HB]; · iexact HB
    isplitl [HO]; · iexact HO
    isplitl [H9]; · iexact H9
    isplitl [H13]; · iexact H13
    iexact H14
  iintro ⟨HB, HO, H9, H13, H14⟩
  dsimp only
  iapply (aside c (α := Unit) (P := Res c (par i) (pr j) W f10 f11 f13 f14 0)
    (R := iprop(SlotSt c w (sl j 0) (i.val + 1) ∗ SlotSt c w (sl j 1) (i.val + 1) ∗ Owes c
      ∗ (M8.view.loc (c : Thread nD τ) ↦{q8} f8) ∗ (M9.view.loc (c : Thread nD τ) ↦{fullShare} f9))) ?_) $$ [H10 H11 H13 H14 H16 HA HB HO H8 H9]
  swap
  · unfold Res
    isplitl [H10 H11 H13 H14 H16]
    · isplitl [H10]; · iexact H10
      isplitl [H11]; · iexact H11
      isplitl [H13]; · iexact H13
      isplitl [H14]; · iexact H14
      iexact H16
    isplitl [HA]; · iexact HA
    isplitl [HB]; · iexact HB
    isplitl [HO]; · iexact HO
    isplitl [H8]; · iexact H8
    iexact H9
  · iterate 2
      refine step10 c (par i) (pr j) W f10 f11 f13 f14 ?_
      refine step11 c (par i) (pr j) W f10 f11 f13 f14 ?_
      refine loadT i f10 f11 f13 f14 c j W rfl ?_
      intro v
      refine storeT c hA rfl rfl rfl ?_
      refine loadW i f10 f11 f13 f14 c j W rfl ?_
      intro v
      refine storeW c hA rfl rfl rfl ?_
      iterate 15
        refine step10 c (par i) (pr j) W f10 f11 f13 f14 ?_
        refine step11 c (par i) (pr j) W f10 f11 f13 f14 ?_
        refine loadW i f10 f11 f13 f14 c j W rfl ?_
        intro v
        refine storeW c hA rfl rfl rfl ?_
    refine step13 c (par i) (pr j) W f10 f11 f13 f14 ?_
    refine step14 c (par i) (pr j) W f10 f11 f13 f14 ?_
    iterate 2
      refine step10 c (par i) (pr j) W f10 f11 f13 f14 ?_
      refine step11 c (par i) (pr j) W f10 f11 f13 f14 ?_
      refine loadT i f10 f11 f13 f14 c j W rfl ?_
      intro v
      refine storeT c hA rfl rfl rfl ?_
      refine loadW i f10 f11 f13 f14 c j W rfl ?_
      intro v
      refine storeW c hA rfl rfl rfl ?_
      iterate 15
        refine step10 c (par i) (pr j) W f10 f11 f13 f14 ?_
        refine step11 c (par i) (pr j) W f10 f11 f13 f14 ?_
        refine loadW i f10 f11 f13 f14 c j W rfl ?_
        intro v
        refine storeW c hA rfl rfl rfl ?_
    refine retI c ?_
    show Res c (par i) (pr j) W f10 f11 f13 f14 68 ⊢ _
    unfold Res
    iintro ⟨H10, H11, H13, H14, H16⟩ HR
    isplitl [H10 H11 H13 H14 H16]
    · isplitl [H10]; · iexact H10
      isplitl [H11]; · iexact H11
      isplitl [H13]; · iexact H13
      isplitl [H14]; · iexact H14
      iexact H16
    iexact HR

end Cert.Proof.Bits
-- ==== Proof.Bits.Inner.lean ====
/-
  The loop over the tap pairs: what one tile leaves in its half of the staging buffer.
-/
module

public import proofs.«01_k».proof.Proof.Bits.Trip

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-! ## The values meant for a staging buffer -/

variable (c : Dev nD) (i : Fin k0_t1_loop.trips) (w : Vec F S16x2560x1280 .fp8e4m3)
variable (f8 f9 : Vec F S2x128x2560 .fp8e4m3) (f10 f11 : Vec F S2x128x128 .f32) (f13 f14 : Vec F S1x1280 .f32)
variable (q8 : PosShare TreeShare)

/-- An element of a group of rows, of the tap pair `j`. -/
def wordVal (j : Fin k0_t2_loop.trips) (h b : Fin 2) (g : Fin 16) (r : Fin 8) (t : Fin 2) (l : Fin 128) : Elt F .bf16 :=
  payW i (k0_pay2 f8 (wTile w (ct i) (sl j 0) 0)) (k0_pay3 f8 (wTile w (ct i) (sl j 0) 1))
    (k0_pay5 f9 (wTile w (ct i) (sl j 1) 0)) (k0_pay6 f9 (wTile w (ct i) (sl j 1) 1)) f10 f11 f13 f14 h b g
    (ix6 (0 : Fin 1) (0 : Fin 1) (0 : Fin 1) r t l)

/-- An element of the rows after the last group, of the tap pair `j`. -/
def tailVal (j : Fin k0_t2_loop.trips) (h b : Fin 2) (t : Fin 2) (l : Fin 128) : Elt F .bf16 :=
  payT i (k0_pay5 f9 (wTile w (ct i) (sl j 1) 0)) (k0_pay6 f9 (wTile w (ct i) (sl j 1) 1)) f11 f13 f14 h b
    (ix5 (0 : Fin 1) (0 : Fin 1) (0 : Fin 1) t l)

/-- The tap pair that writes a row. -/
def pairOf (n : ℕ) : Fin k0_t2_loop.trips := ⟨n % 8 / 2, show n % 8 / 2 < 4 by omega⟩

/-- What tile `i` leaves in its half of the staging buffer. -/
def tileW (q : S2x2x2x1032x128.Idx) : Elt F .bf16 :=
  if h : (q 3).val < 1024 then
    wordVal i w f8 f9 f10 f11 f13 f14 (pairOf (q 3).val) (q 1) (q 2) ⟨(q 3).val / 64, by omega⟩ ⟨(q 3).val / 8 % 8, by omega⟩
      ⟨(q 3).val % 2, by omega⟩ (q 4)
  else tailVal i w f9 f11 f13 f14 (pairOf (q 3).val) (q 1) (q 2) ⟨(q 3).val % 2, by omega⟩ (q 4)

theorem tile_agrees (j : Fin k0_t2_loop.trips) :
    TripAgrees i j w f8 f9 f10 f11 f13 f14 (tileW i w f8 f9 f10 f11 f13 f14) := by
  have hj : j.val < 4 := j.isLt
  constructor
  · intro h b g r t l
    have hg := g.isLt; have hr := r.isLt; have ht := t.isLt
    show wordVal i w f8 f9 f10 f11 f13 f14 j h b g r t l = _
    unfold tileW
    have hv : ((wordIx (par i) h b g (pr j) r t l) 3).val = 64 * g.val + 8 * r.val + 2 * j.val + t.val := rfl
    rw [dif_pos (by omega)]
    have ej : pairOf ((wordIx (par i) h b g (pr j) r t l) 3).val = j := Fin.ext (by
      show ((wordIx (par i) h b g (pr j) r t l) 3).val % 8 / 2 = j.val
      omega)
    have eg : (⟨((wordIx (par i) h b g (pr j) r t l) 3).val / 64, by omega⟩ : Fin 16) = g := Fin.ext (by
      show ((wordIx (par i) h b g (pr j) r t l) 3).val / 64 = g.val
      omega)
    have er : (⟨((wordIx (par i) h b g (pr j) r t l) 3).val / 8 % 8, by omega⟩ : Fin 8) = r := Fin.ext (by
      show ((wordIx (par i) h b g (pr j) r t l) 3).val / 8 % 8 = r.val
      omega)
    have et : (⟨((wordIx (par i) h b g (pr j) r t l) 3).val % 2, by omega⟩ : Fin 2) = t := Fin.ext (by
      show ((wordIx (par i) h b g (pr j) r t l) 3).val % 2 = t.val
      omega)
    rw [ej, eg, er, et]
    rfl
  · intro h b t l
    have ht := t.isLt
    show tailVal i w f9 f11 f13 f14 j h b t l = _
    unfold tileW
    have hv : ((tailIx (par i) h b (pr j) t l) 3).val = 1024 + 2 * j.val + t.val := rfl
    rw [dif_neg (by omega)]
    have ej : pairOf ((tailIx (par i) h b (pr j) t l) 3).val = j := Fin.ext (by
      show ((tailIx (par i) h b (pr j) t l) 3).val % 8 / 2 = j.val
      omega)
    have et : (⟨((tailIx (par i) h b (pr j) t l) 3).val % 2, by omega⟩ : Fin 2) = t := Fin.ext (by
      show ((tailIx (par i) h b (pr j) t l) 3).val % 2 = t.val
      omega)
    rw [ej, et]
    rfl

/-! ## The loop over the tap pairs -/

/-- A tap pair's two slots. -/
def Pair (j : Fin k0_t2_loop.trips) (n : ℕ) : sProp 𝕄 := iprop(SlotSt c w (sl j 0) n ∗ SlotSt c w (sl j 1) n)

/-- All slots: those of the pairs before `k` at tile `n + 1`, the others at tile `n`. -/
def Pairs (n k : ℕ) : sProp 𝕄 := bigSep Finset.univ fun j : Fin k0_t2_loop.trips => Pair c w j (if j.val < k then n + 1 else n)

theorem Pairs_split (n k : ℕ) (j : Fin k0_t2_loop.trips) : (Pairs c w n k : sProp 𝕄)
    = iprop(Pair c w j (if j.val < k then n + 1 else n)
      ∗ bigSep (Finset.univ.erase j) (fun j : Fin k0_t2_loop.trips => Pair c w j (if j.val < k then n + 1 else n))) := by
  unfold Pairs
  exact BI.bigSep_univ_split j

/-- What the loop over the tap pairs reads without changing it. -/
def Fixed : sProp 𝕄 :=
  iprop((M10.view.loc (c : Thread nD τ) ↦{fullShare} f10) ∗ (M11.view.loc (c : Thread nD τ) ↦{fullShare} f11)
    ∗ (M13.view.loc (c : Thread nD τ) ↦{fullShare} f13) ∗ (M14.view.loc (c : Thread nD τ) ↦{fullShare} f14)
    ∗ (M8.view.loc (c : Thread nD τ) ↦{q8} f8) ∗ (M9.view.loc (c : Thread nD τ) ↦{fullShare} f9))

theorem Stage_next (p : Fin 2) (W : S2x2x2x1032x128.Idx → Elt F .bf16) (k : ℕ) : (Stage c p W k 68 : sProp 𝕄) ⊢ Stage c p W (k + 1) 0 := by
  unfold Stage
  iintro ⟨%f, H, %hf⟩
  iexists f
  isplitl [H]; · iexact H
  ipureintro
  intro q hp hd
  refine hf q hp ?_
  have h1 : (q 1).val < 2 := (q 1).isLt
  have h2 : (q 2).val < 2 := (q 2).isLt
  have h3 : (q 3).val < 1032 := (q 3).isLt
  have hn : numOf q < 68 := by unfold numOf; split <;> omega
  unfold doneAt at hd ⊢
  omega

/-- Before tap pair `k` of tile `i`. -/
def innerInv (k : ℕ) : sProp 𝕄 :=
  iprop(Fixed c f8 f9 f10 f11 f13 f14 q8 ∗ Stage c (par i) (tileW i w f8 f9 f10 f11 f13 f14) k 0 ∗ Pairs c w i.val k ∗ Owes c)

theorem Pairs_next (n : ℕ) : (Pairs c w n 4 : sProp 𝕄) ⊢ Pairs c w (n + 1) 0 := by
  unfold Pairs
  refine Entails.of_eq (bigSep_congr fun l _ => ?_)
  have h : l.val < 4 := l.isLt
  rw [if_pos h, if_neg (Nat.not_lt_zero _)]

theorem inner_step (v : FVec F S128x128 .f32) (a b : BitVec 32) (j : Fin k0_t2_loop.trips) (acc : Unit) :
    innerInv c i w f8 f9 f10 f11 f13 f14 q8 j.val
      ⊢ wp frame (wpE (defs₀ (F := F)) 𝒱₀ (c : Thread nD τ) none) Set.univ (k0_t2_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i a b j acc)
          (fun _ => innerInv c i w f8 f9 f10 f11 f13 f14 q8 (j.val + 1)) := by
  unfold innerInv Fixed
  rw [Pairs_split c w i.val j.val j, if_neg (lt_irrefl _)]
  iintro ⟨⟨H10, H11, H13, H14, H8, H9⟩, HS, ⟨HP, HPs⟩, HO⟩
  unfold Pair
  icases HP with ⟨HA, HB⟩
  iapply (wp_wand_r _ _ _)
  isplitl [H10 H11 H13 H14 H8 H9 HS HA HB HO]
  · iapply (trip c i j w f8 f9 f10 f11 f13 f14 q8 (tileW i w f8 f9 f10 f11 f13 f14) (tile_agrees i w f8 f9 f10 f11 f13 f14 j) v a b)
    unfold Res TripRest
    isplitl [H10 H11 H13 H14 HS]
    · isplitl [H10]; · iexact H10
      isplitl [H11]; · iexact H11
      isplitl [H13]; · iexact H13
      isplitl [H14]; · iexact H14
      iexact HS
    isplitl [HA]; · iexact HA
    isplitl [HB]; · iexact HB
    isplitl [HO]; · iexact HO
    isplitl [H8]; · iexact H8
    iexact H9
  iintro %u H
  unfold Res TripRest
  icases H with ⟨⟨H10, H11, H13, H14, HS⟩, HA, HB, HO, H8, H9⟩
  isplitl [H10 H11 H13 H14 H8 H9]
  · isplitl [H10]; · iexact H10
    isplitl [H11]; · iexact H11
    isplitl [H13]; · iexact H13
    isplitl [H14]; · iexact H14
    isplitl [H8]; · iexact H8
    iexact H9
  isplitl [HS]
  · iapply (Stage_next c) $$ HS
  isplitr [HO]
  · rw [Pairs_split c w i.val (j.val + 1) j, if_pos (Nat.lt_succ_self _)]
    unfold Pair
    isplitl [HA HB]
    · isplitl [HA]; · iexact HA
      iexact HB
    iapply (Entails.of_eq (bigSep_congr (fun l hl => by
      have hne : l.val ≠ j.val := fun e => (Finset.mem_erase.mp hl).1 (Fin.ext e)
      simp only [show (l.val < j.val + 1) = (l.val < j.val) from propext (by omega)]))) $$ HPs
  iexact HO

end Cert.Proof.Bits
-- ==== Proof.Bits.Out.lean ====
/-
  The copies of a tile's rows to the result: what is in flight, and what has landed.
-/
module

public import proofs.«01_k».proof.Proof.Bits.Inner

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-! ## A tile's two copies to the result -/

theorem inbOSem : ∀ (p h : Fin 2), ∀ a, (![p.val, h.val] : Fin 2 → ℕ) a + S1x1.size a ≤ S2x2.size a := by decide +kernel
theorem inbOSrc : ∀ (p h : Fin 2), ∀ a, (![p.val, h.val, 0, 0, 0] : Fin 5 → ℕ) a + S1x1x2x1032x128.size a ≤ S2x2x2x1032x128.size a := by decide +kernel
theorem inbODst : ∀ (n : Fin 5) (h : Fin 2), ∀ a, (![0, 0, 256 * n.val + 128 * h.val] : Fin 3 → ℕ) a + S2x1032x128.size a ≤ S2x1032x1280.size a := by decide +kernel

/-- The semaphore of the copy of half `h` of buffer `p`. -/
abbrev semO (p h : Fin 2) : DmaSem sig :=
  ((cc0_scratch11.slice (Rect.unit (s := S2x2) ![p.val, h.val] S1x1.size (inbOSem p h))).squeeze S_ squeezes_S1x1_S_).sem
/-- Half `h` of buffer `p` of the staging buffer. -/
abbrev srcO (p h : Fin 2) : Memref sig .tc .vmem S2x1032x128 .bf16 :=
  (M16.slice (Rect.unit (s := S2x2x2x1032x128) ![p.val, h.val, 0, 0, 0] S1x1x2x1032x128.size (inbOSrc p h)) (fun _ => rfl)).squeeze S2x1032x128
    squeezes_S1x1x2x1032x128_S2x1032x128
/-- The columns of half `h` of tile `n` of the result. -/
abbrev dstO (n : Fin 5) (h : Fin 2) : Memref sig .tc .hbm S2x1032x128 .bf16 :=
  M4.slice (Rect.unit (s := S2x1032x1280) ![0, 0, 256 * n.val + 128 * h.val] S2x1032x128.size (inbODst n h)) (fun _ => rfl)

theorem semO_eq {p h : Fin 2} {off : Fin 2 → ℕ} (e : off = ![p.val, h.val]) {hin} :
    ((cc0_scratch11.slice (Rect.unit (s := S2x2) off S1x1.size hin)).squeeze S_ squeezes_S1x1_S_).sem = semO p h := by subst e; rfl
theorem srcO_eq {p h : Fin 2} {off : Fin 5 → ℕ} (e : off = ![p.val, h.val, 0, 0, 0]) {hin} :
    (M16.slice (Rect.unit (s := S2x2x2x1032x128) off S1x1x2x1032x128.size hin) (fun _ => rfl)).squeeze S2x1032x128
      squeezes_S1x1x2x1032x128_S2x1032x128 = srcO p h := by subst e; rfl
theorem dstO_eq {n : Fin 5} {h : Fin 2} {off : Fin 3 → ℕ} (e : off = ![0, 0, 256 * n.val + 128 * h.val]) {hin} :
    M4.slice (Rect.unit (s := S2x1032x1280) off S2x1032x128.size hin) (fun _ => rfl) = dstO n h := by subst e; rfl

/-- Half `h` of buffer `p`, as elements; the columns of half `h` of tile `n`, as elements. -/
def HalfSet (p h : Fin 2) : Finset S2x2x2x1032x128.Idx := Finset.univ.filter fun q => (q 0).val = p.val ∧ (q 1).val = h.val
def ColSet (n : Fin 5) (h : Fin 2) : Finset S2x1032x1280.Idx := Finset.univ.filter fun q => (q 2).val / 128 = 2 * n.val + h.val

theorem srcO_emb (p h b : Fin 2) (r : Fin 1032) (l : Fin 128) : (srcO p h).view.emb (ix3 b r l) = ix5 p h b r l := by
  show (M16.view.slice (Rect.unit (s := S2x2x2x1032x128) ![p.val, h.val, 0, 0, 0] S1x1x2x1032x128.size (inbOSrc p h))).emb (Shape.reshapeEquiv _ (ix3 b r l)) = _
  rw [reshapeEquiv_ix3_11abc]
  funext a
  apply Fin.ext
  fin_cases a
  · show p.val + 1 * 0 = p.val; omega
  · show h.val + 1 * 0 = h.val; omega
  · show 0 + 1 * b.val = b.val; omega
  · show 0 + 1 * r.val = r.val; omega
  · show 0 + 1 * l.val = l.val; omega

/-- A column of half `h` of tile `n`. -/
def colO (n : Fin 5) (h : Fin 2) (l : Fin 128) : Fin 1280 := ⟨256 * n.val + 128 * h.val + l.val, by omega⟩

theorem dstO_emb (n : Fin 5) (h b : Fin 2) (r : Fin 1032) (l : Fin 128) : (dstO n h).view.emb (ix3 b r l) = ix3 b r (colO n h l) := by
  funext a
  apply Fin.ext
  fin_cases a
  · show 0 + 1 * b.val = b.val; omega
  · show 0 + 1 * r.val = r.val; omega
  · show 256 * n.val + 128 * h.val + 1 * l.val = 256 * n.val + 128 * h.val + l.val; omega

theorem src_mem (p h b : Fin 2) (r : Fin 1032) (l : Fin 128) : ix5 p h b r l ∈ (srcO p h).view.set := by
  have e := (srcO p h).view.emb_mem_set (ix3 b r l)
  rw [srcO_emb p h b r l] at e
  exact e

theorem dst_mem (n : Fin 5) (h b : Fin 2) (r : Fin 1032) (l : Fin 128) : ix3 b r (colO n h l) ∈ (dstO n h).view.set := by
  have e := (dstO n h).view.emb_mem_set (ix3 b r l)
  rw [dstO_emb n h b r l] at e
  exact e

theorem srcO_set (p h : Fin 2) : (srcO p h).view.set = HalfSet p h := by
  ext q
  simp only [HalfSet, Finset.mem_filter, Finset.mem_univ, true_and]
  constructor
  · intro hq
    obtain ⟨j, -, rfl⟩ := Finset.mem_map.mp hq
    rw [eq_ix3 j]
    have e := srcO_emb p h (j 0) (j 1) (j 2)
    exact ⟨congrArg (fun q : S2x2x2x1032x128.Idx => (q 0).val) e, congrArg (fun q : S2x2x2x1032x128.Idx => (q 1).val) e⟩
  · rintro ⟨h0, h1⟩
    have hq : q = ix5 p h (q 2) (q 3) (q 4) := by
      rw [← show q 0 = p from Fin.ext h0, ← show q 1 = h from Fin.ext h1]
      exact eq_ix5 q
    exact Eq.mpr (congrArg (fun z : S2x2x2x1032x128.Idx => z ∈ (srcO p h).view.set) hq) (src_mem p h (q 2) (q 3) (q 4))

theorem dstO_set (n : Fin 5) (h : Fin 2) : (dstO n h).view.set = ColSet n h := by
  ext q
  simp only [ColSet, Finset.mem_filter, Finset.mem_univ, true_and]
  constructor
  · intro hq
    obtain ⟨j, -, rfl⟩ := Finset.mem_map.mp hq
    rw [eq_ix3 j]
    have e := congrArg (fun q : S2x1032x1280.Idx => (q 2).val) (dstO_emb n h (j 0) (j 1) (j 2))
    have h2 : (j 2).val < 128 := (j 2).isLt
    refine (congrArg (· / 128) e).trans ?_
    show (256 * n.val + 128 * h.val + (j 2).val) / 128 = _
    omega
  · intro h0
    have h2 : (q 2).val < 1280 := (q 2).isLt
    have hq : q = ix3 (q 0) (q 1) (colO n h ⟨(q 2).val % 128, by omega⟩) := by
      rw [show colO n h ⟨(q 2).val % 128, by omega⟩ = q 2 from Fin.ext (by
        show 256 * n.val + 128 * h.val + (q 2).val % 128 = (q 2).val
        omega)]
      exact eq_ix3 q
    exact Eq.mpr (congrArg (fun z : S2x1032x1280.Idx => z ∈ (dstO n h).view.set) hq) (dst_mem n h (q 0) (q 1) _)

/-- Half of the buffer a tile goes through. -/
abbrev bufOf (n : Fin 5) : Fin 2 := ⟨n.val % 2, by omega⟩

variable (c : Dev nD) (V : Fin 5 → S2x2x2x1032x128.Idx → Elt F .bf16)

/-- The result, of what each tile leaves in the staging buffer. -/
def outW (q : S2x1032x1280.Idx) : Elt F .bf16 :=
  V ⟨(q 2).val / 256, by have h2 : (q 2).val < 1280 := (q 2).isLt; omega⟩
    (ix5 (bufOf ⟨(q 2).val / 256, by have h2 : (q 2).val < 1280 := (q 2).isLt; omega⟩) (⟨(q 2).val / 128 % 2, by omega⟩ : Fin 2) (q 0) (q 1)
      (⟨(q 2).val % 128, by omega⟩ : Fin 128))

theorem outW_col (n : Fin 5) (h b : Fin 2) (r : Fin 1032) (l : Fin 128) : outW V (ix3 b r (colO n h l)) = V n (ix5 (bufOf n) h b r l) := by
  have e0 : (⟨(colO n h l).val / 256, by have h2 := (colO n h l).isLt; omega⟩ : Fin 5) = n := Fin.ext (by
    show (256 * n.val + 128 * h.val + l.val) / 256 = n.val; omega)
  have e1 : (⟨(colO n h l).val / 128 % 2, by omega⟩ : Fin 2) = h := Fin.ext (by
    show (256 * n.val + 128 * h.val + l.val) / 128 % 2 = h.val; omega)
  have e2 : (⟨(colO n h l).val % 128, by omega⟩ : Fin 128) = l := Fin.ext (by
    show (256 * n.val + 128 * h.val + l.val) % 128 = l.val; omega)
  show V ⟨(colO n h l).val / 256, _⟩ (ix5 (bufOf ⟨(colO n h l).val / 256, _⟩) (⟨(colO n h l).val / 128 % 2, _⟩ : Fin 2) b r
      (⟨(colO n h l).val % 128, _⟩ : Fin 128)) = _
  rw [e0, e1, e2]

/-- Half of a tile's copy in flight; landed. -/
def OutFly (n : Fin 5) (h : Fin 2) : sProp 𝕄 := InFlight c (srcO (bufOf n) h) (dstO n h) (semO (bufOf n) h) fullShare (V n)
def OutHas (n : Fin 5) (h : Fin 2) : sProp 𝕄 := M4.view.loc (c : Thread nD τ) ↦[(dstO n h).view.set]{fullShare} (outW V)
/-- Half of a buffer at rest. -/
def HalfIdle (p h : Fin 2) : sProp 𝕄 := iprop(Free c (srcO p h) ∗ semVal ((c : Thread nD τ), .dma (semO p h)) 0)

theorem landed_out (n : Fin 5) (h : Fin 2) :
    (Landed c (dstO n h) ((srcO (bufOf n) h).view.read (Elt F) (V n)) : sProp 𝕄) ⊢ OutHas c V n h := by
  unfold Landed OutHas
  iintro ⟨%f, H, %hf⟩
  iapply (Entails.of_eq (pointsTo_congr (f := f) (g := outW V) ?_)) $$ H
  intro q hq
  obtain ⟨j, -, rfl⟩ := Finset.mem_map.mp hq
  rw [eq_ix3 j]
  refine (congrFun hf (ix3 (j 0) (j 1) (j 2))).trans ?_
  have e1 := srcO_emb (bufOf n) h (j 0) (j 1) (j 2)
  have e2 := dstO_emb n h (j 0) (j 1) (j 2)
  exact (congrArg (V n) e1).trans ((outW_col V n h (j 0) (j 1) (j 2)).symm.trans (congrArg (outW V) e2.symm))

variable {α : Type}

theorem outWait {n : Fin 5} {h : Fin 2} {src : Memref sig .tc .vmem S2x1032x128 .bf16} {dst : Memref sig .tc .hbm S2x1032x128 .bf16} {sm : DmaSem sig}
    (h1 : src = srcO (bufOf n) h) (h2 : dst = dstO n h) (h3 : sm = semO (bufOf n) h) {hsrc : src.view.WordExact} {hdst : dst.view.WordExact}
    {k : PUnit → Prog (TpuEff nD τ sig (Elt F) Λ₀ .tc) α} {Q : α → sProp 𝕄} :
    iprop(OutFly c V n h ∗ Owes c)
      ⊢ iprop((iprop(OutHas c V n h ∗ HalfIdle c (bufOf n) h ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst h1 h2 h3
  unfold OutFly HalfIdle
  iintro ⟨HF, HO⟩ Hk
  iapply (copyWait c (src := srcO (bufOf n) h) (dst := dstO n h) (fs := V n) (q := fullShare)) $$ [HF HO]
  · isplitl [HF]; · iexact HF
    iexact HO
  iintro ⟨HL, Hs, Hv, HO⟩
  iapply Hk
  isplitl [HL]; · iapply (landed_out c V n h) $$ HL
  isplitl [Hs Hv]
  · isplitl [Hs]
    · unfold Free
      iexists _
      iexact Hs
    iexact Hv
  iexact HO

theorem outStart {n : Fin 5} {h : Fin 2} {src : Memref sig .tc .vmem S2x1032x128 .bf16} {dst : Memref sig .tc .hbm S2x1032x128 .bf16} {sm : DmaSem sig}
    (h1 : src = srcO (bufOf n) h) (h2 : dst = dstO n h) (h3 : sm = semO (bufOf n) h) {hsrc : src.view.WordExact} {hdst : dst.view.WordExact} {hsem}
    {k : PUnit → Prog (TpuEff nD τ sig (Elt F) Λ₀ .tc) α} {Q : α → sProp 𝕄} :
    iprop((M16.view.loc (c : Thread nD τ) ↦[HalfSet (bufOf n) h]{fullShare} (V n)) ∗ Free c (dstO n h) ∗ semVal ((c : Thread nD τ), .dma (semO (bufOf n) h)) 0)
      ⊢ iprop((OutFly c V n h -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst h1 h2 h3
  unfold OutFly
  rw [← srcO_set]
  iintro ⟨Hs, Hd, Hv⟩ Hk
  iapply (copyStart c (src := srcO (bufOf n) h) (dst := dstO n h) (fs := V n) (q := fullShare) (by decide)) $$ [Hs Hd Hv]
  · isplitl [Hs]; · iexact Hs
    isplitl [Hd]; · iexact Hd
    iexact Hv
  iexact Hk

/-! ## The staging buffer's halves -/

theorem Slab_eq (p : Fin 2) : Slab p = HalfSet p 0 ∪ HalfSet p 1 := by
  ext q
  have h1 : (q 1).val < 2 := (q 1).isLt
  simp only [mem_Slab, HalfSet, Finset.mem_union, Finset.mem_filter, Finset.mem_univ, true_and]
  show _ ↔ ((q 0).val = p.val ∧ (q 1).val = 0) ∨ ((q 0).val = p.val ∧ (q 1).val = 1)
  omega
theorem half_disjoint (p : Fin 2) : Disjoint (HalfSet p 0) (HalfSet p 1) := by
  rw [Finset.disjoint_left]
  intro q h0 h1
  simp only [HalfSet, Finset.mem_filter, Finset.mem_univ, true_and] at h0 h1
  have e0 : (q 1).val = 0 := h0.2
  have e1 : (q 1).val = 1 := h1.2
  omega

/-- A buffer at rest can be stored into. -/
theorem idle_stage (p : Fin 2) (W : S2x2x2x1032x128.Idx → Elt F .bf16) :
    iprop(Free c (srcO p 0) ∗ Free c (srcO p 1)) ⊢ (Stage c p W 0 0 : sProp 𝕄) := by
  unfold Free Stage
  rw [srcO_set, srcO_set]
  iintro ⟨⟨%f, Hf⟩, ⟨%g, Hg⟩⟩
  ihave H := (pointsTo_join (ℓ := M16.view.loc (c : Thread nD τ)) (I := HalfSet p 0) (J := HalfSet p 1) (half_disjoint p)) $$ [Hf Hg]
  · isplitl [Hf]; · iexact Hf
    iexact Hg
  rw [← Slab_eq]
  iexists _
  isplitl [H]; · iexact H
  ipureintro
  intro q _ hd
  unfold doneAt at hd
  omega

/-- A tile whose tap pairs are all stored is the values meant for it, in two halves. -/
theorem stage_done (p : Fin 2) (W : S2x2x2x1032x128.Idx → Elt F .bf16) :
    (Stage c p W 4 0 : sProp 𝕄) ⊢ iprop((M16.view.loc (c : Thread nD τ) ↦[HalfSet p 0]{fullShare} W)
      ∗ (M16.view.loc (c : Thread nD τ) ↦[HalfSet p 1]{fullShare} W)) := by
  unfold Stage
  iintro ⟨%f, H, %hf⟩
  iapply (pointsTo_union (ℓ := M16.view.loc (c : Thread nD τ)) (I := HalfSet p 0) (J := HalfSet p 1) (half_disjoint p)).1
  rw [← Slab_eq]
  iapply (Entails.of_eq (pointsTo_congr (f := f) (g := W) ?_)) $$ H
  intro q hq
  refine hf q ((mem_Slab p q).mp hq) ?_
  unfold doneAt
  omega

end Cert.Proof.Bits
-- ==== Proof.Bits.Outer.lean ====
/-
  The loop over the tiles: the weights' slots, the staging buffer's halves and the result's columns, trip by trip.
-/
module

public import proofs.«01_k».proof.Proof.Bits.Out

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

theorem cond1 : ∀ i : Fin k0_t1_loop.trips, k0_cond1 i = 1#1 ↔ 2 ≤ i.val := by decide +kernel
theorem off1 : ∀ i : Fin k0_t1_loop.trips, 2 ≤ i.val → k0_off1 i = ![(i.val - 2) % 2, (0 : Fin 2).val] := by decide +kernel
theorem off2 : ∀ (i : Fin k0_t1_loop.trips) (h : Fin 2), 2 ≤ i.val → k0_off2 i (BitVec.ofNat 32 (128 * h.val)) = ![0, 0, 256 * (i.val - 2) + 128 * h.val] := by decide +kernel
theorem off3 : ∀ i : Fin k0_t1_loop.trips, 2 ≤ i.val → k0_off3 i = ![(i.val - 2) % 2, (0 : Fin 2).val, 0, 0, 0] := by decide +kernel
theorem off4 : ∀ i : Fin k0_t1_loop.trips, 2 ≤ i.val → k0_off4 i = ![(i.val - 2) % 2, (1 : Fin 2).val] := by decide +kernel
theorem off5 : ∀ i : Fin k0_t1_loop.trips, 2 ≤ i.val → k0_off5 i = ![(i.val - 2) % 2, (1 : Fin 2).val, 0, 0, 0] := by decide +kernel
theorem off30 : ∀ i : Fin k0_t1_loop.trips, k0_off30 i = ![i.val % 2, (0 : Fin 2).val] := by decide +kernel
theorem off31 : ∀ (i : Fin k0_t1_loop.trips) (h : Fin 2), k0_off31 i (BitVec.ofNat 32 (128 * h.val)) = ![0, 0, 256 * i.val + 128 * h.val] := by decide +kernel
theorem off32 : ∀ i : Fin k0_t1_loop.trips, k0_off32 i = ![i.val % 2, (0 : Fin 2).val, 0, 0, 0] := by decide +kernel
theorem off33 : ∀ i : Fin k0_t1_loop.trips, k0_off33 i = ![i.val % 2, (1 : Fin 2).val] := by decide +kernel
theorem off34 : ∀ i : Fin k0_t1_loop.trips, k0_off34 i = ![i.val % 2, (1 : Fin 2).val, 0, 0, 0] := by decide +kernel

variable (c : Dev nD) (w : Vec F S16x2560x1280 .fp8e4m3)
variable (f8 f9 : Vec F S2x128x2560 .fp8e4m3) (f10 f11 : Vec F S2x128x128 .f32) (f13 f14 : Vec F S1x1280 .f32)
variable (q8 : PosShare TreeShare)

/-- What each tile leaves in the staging buffer. -/
def tiles (n : Fin 5) : S2x2x2x1032x128.Idx → Elt F .bf16 :=
  tileW (⟨n.val, lt_of_lt_of_eq n.isLt (by decide)⟩ : Fin k0_t1_loop.trips) w f8 f9 f10 f11 f13 f14

section
variable (V : Fin 5 → S2x2x2x1032x128.Idx → Elt F .bf16)

/-- The result's columns of tile `n` before trip `k`. -/
def OutSt (n : Fin 5) (k : ℕ) : sProp 𝕄 :=
  if n.val + 2 < k then iprop(OutHas c V n 0 ∗ OutHas c V n 1)
  else if n.val < k then iprop(OutFly c V n 0 ∗ OutFly c V n 1)
  else iprop(Free c (dstO n 0) ∗ Free c (dstO n 1))

/-- Buffer `p` before trip `k`: at rest until its first tile. -/
def BufSt (p : Fin 2) (k : ℕ) : sProp 𝕄 := if k ≤ p.val then iprop(HalfIdle c p 0 ∗ HalfIdle c p 1) else iprop(emp)

theorem OutSt_erase (i : Fin k0_t1_loop.trips) (h : i.val < 2) :
    (bigSep (Finset.univ.erase (ct i)) (fun n => OutSt c V n i.val) : sProp 𝕄) ⊢ bigSep (Finset.univ.erase (ct i)) (fun n => OutSt c V n (i.val + 1)) := by
  refine Entails.of_eq (bigSep_congr fun n hn => ?_)
  have hne : n.val ≠ i.val := fun e => (Finset.mem_erase.mp hn).1 (Fin.ext e)
  exact if_congr (by omega) rfl (if_congr (by omega) rfl rfl)

theorem BufSt_erase (i : Fin k0_t1_loop.trips) :
    (bigSep (Finset.univ.erase (par i)) (fun p => BufSt c p i.val) : sProp 𝕄) ⊢ bigSep (Finset.univ.erase (par i)) (fun p => BufSt c p (i.val + 1)) := by
  refine Entails.of_eq (bigSep_congr fun p hp => ?_)
  have hne : p.val ≠ i.val % 2 := fun e => (Finset.mem_erase.mp hp).1 (Fin.ext e)
  have h2 := p.isLt
  exact if_congr (by omega) rfl rfl

theorem mem_two (i : Fin k0_t1_loop.trips) (h : 2 ≤ i.val) :
    (⟨i.val - 2, by have : i.val < 5 := i.isLt; omega⟩ : Fin 5) ∈ Finset.univ.erase (ct i) :=
  Finset.mem_erase.mpr ⟨fun e => by
    have e' : i.val - 2 = i.val := congrArg Fin.val e
    omega, Finset.mem_univ _⟩

theorem OutSt_flyAt (n : Fin 5) (k : ℕ) (h : ¬ n.val + 2 < k) (h' : n.val < k) : (OutSt c V n k : sProp 𝕄) ⊢ iprop(OutFly c V n 0 ∗ OutFly c V n 1) := by
  unfold OutSt
  rw [if_neg h, if_pos h']
theorem OutSt_hasAt (n : Fin 5) (k : ℕ) (h : n.val + 2 < k) : iprop(OutHas c V n 0 ∗ OutHas c V n 1) ⊢ (OutSt c V n k : sProp 𝕄) := by
  unfold OutSt
  rw [if_pos h]

/-- The tile two trips back, in flight, among the others. -/
theorem OutSt_two (i : Fin k0_t1_loop.trips) (h : 2 ≤ i.val) (n : Fin 5) (hn : n = ⟨i.val - 2, by have : i.val < 5 := i.isLt; omega⟩) :
    (bigSep (Finset.univ.erase (ct i)) (fun n => OutSt c V n i.val) : sProp 𝕄)
      ⊢ iprop((OutFly c V n 0 ∗ OutFly c V n 1)
        ∗ ((OutHas c V n 0 ∗ OutHas c V n 1) -∗ bigSep (Finset.univ.erase (ct i)) (fun n => OutSt c V n (i.val + 1)))) := by
  subst hn
  have e : ∀ k, (bigSep (Finset.univ.erase (ct i)) (fun n => OutSt c V n k) : sProp 𝕄)
      = iprop(OutSt c V ⟨i.val - 2, by have : i.val < 5 := i.isLt; omega⟩ k
        ∗ bigSep ((Finset.univ.erase (ct i)).erase ⟨i.val - 2, by have : i.val < 5 := i.isLt; omega⟩) (fun n => OutSt c V n k)) :=
    fun k => bigSep_erase (mem_two i h)
  rw [e, e]
  iintro ⟨H, HR⟩
  isplitl [H]
  · iapply (OutSt_flyAt c V _ i.val (by show ¬ (i.val - 2 + 2 < i.val); omega) (by show i.val - 2 < i.val; omega)) $$ H
  iintro H
  isplitl [H]
  · iapply (OutSt_hasAt c V _ (i.val + 1) (by show i.val - 2 + 2 < i.val + 1; omega)) $$ H
  iapply (Entails.of_eq (bigSep_congr (fun l hl => by
    have hl' := Finset.mem_erase.mp hl
    have h1 : l.val ≠ i.val - 2 := fun e => hl'.1 (Fin.ext e)
    have h2 : l.val ≠ i.val := fun e => (Finset.mem_erase.mp hl'.2).1 (Fin.ext e)
    exact if_congr (by omega) rfl (if_congr (by omega) rfl rfl)))) $$ HR

theorem BufSt_idle (p : Fin 2) (k : ℕ) (h : k ≤ p.val) : (BufSt (F := F) c p k : sProp 𝕄) ⊢ iprop(HalfIdle c p 0 ∗ HalfIdle c p 1) := by
  unfold BufSt
  rw [if_pos h]

theorem BufSt_emp (p : Fin 2) (k : ℕ) (h : ¬ k ≤ p.val) : (emp : sProp 𝕄) ⊢ BufSt (F := F) c p k := by
  unfold BufSt
  rw [if_neg h]

theorem OutSt_free (n : Fin 5) : (OutSt c V n n.val : sProp 𝕄) ⊢ iprop(Free c (dstO n 0) ∗ Free c (dstO n 1)) := by
  unfold OutSt
  rw [if_neg (by omega), if_neg (by omega)]

theorem OutSt_fly (n : Fin 5) : iprop(OutFly c V n 0 ∗ OutFly c V n 1) ⊢ (OutSt c V n (n.val + 1) : sProp 𝕄) := by
  unfold OutSt
  rw [if_neg (by omega), if_pos (by omega)]

def Outs (k : ℕ) : sProp 𝕄 := bigSep Finset.univ fun n => OutSt c V n k
def Bufs (k : ℕ) : sProp 𝕄 := bigSep Finset.univ fun p => BufSt c p k

theorem Outs_split (k : ℕ) (n : Fin 5) : (Outs c V k : sProp 𝕄) = iprop(OutSt c V n k ∗ bigSep (Finset.univ.erase n) (fun n => OutSt c V n k)) := by
  unfold Outs
  exact BI.bigSep_univ_split n
theorem Bufs_split (k : ℕ) (p : Fin 2) : (Bufs (F := F) c k : sProp 𝕄) = iprop(BufSt c p k ∗ bigSep (Finset.univ.erase p) (fun p => BufSt c p k)) := by
  unfold Bufs
  exact BI.bigSep_univ_split p
end

/-- Before tile `k`. -/
def outerInv (k : ℕ) : sProp 𝕄 :=
  iprop(Fixed c f8 f9 f10 f11 f13 f14 q8 ∗ Pairs c w k 0 ∗ Owes c ∗ Outs c (tiles w f8 f9 f10 f11 f13 f14) k ∗ Bufs c k)

variable {α : Type}
theorem retBind {β : Type} {a : β} {f : β → Prog (TpuEff nD τ sig (Elt F) Λ₀ .tc) α} {Q : α → sProp 𝕄} :
    (wp frame (wpE (defs₀ (F := F)) 𝒱₀ (c : Thread nD τ) none) Set.univ (f a) Q : sProp 𝕄) ⊢ wp frame (wpE (defs₀ (F := F)) 𝒱₀ (c : Thread nD τ) none) Set.univ ((Prog.ret a).bind f) Q := .rfl

theorem loopBind {inv : ℕ → sProp 𝕄} {body : Fin k0_t2_loop.trips → Unit → Prog (TpuEff nD τ sig (Elt F) Λ₀ .tc) Unit}
    (step : ∀ j a, inv j.val ⊢ wp frame (wpE (defs₀ (F := F)) 𝒱₀ (c : Thread nD τ) none) Set.univ (body j a) (fun _ => inv (j.val + 1)))
    {f : Unit → Prog (TpuEff nD τ sig (Elt F) Λ₀ .tc) α} {Q : α → sProp 𝕄} :
    inv 0 ⊢ iprop((inv k0_t2_loop.trips -∗ wp frame (wpE (defs₀ (F := F)) 𝒱₀ (c : Thread nD τ) none) Set.univ (f ()) Q) -∗ wp frame (wpE (defs₀ (F := F)) 𝒱₀ (c : Thread nD τ) none) Set.univ (k0_t2_loop.for k0_t2_ok PUnit.unit body >>= f) Q) := by
  iintro H Hk
  iapply (Scf.wp_for_bind frame (wpE (defs₀ (F := F)) 𝒱₀ (c : Thread nD τ) none) Set.univ k0_t2_loop.lb k0_t2_loop.ub k0_t2_loop.st k0_t2_ok PUnit.unit body
    (fun k _ => inv k) step) $$ H
  iintro %a H
  iapply Hk
  iexact H

theorem inner_end (i : Fin k0_t1_loop.trips) : innerInv c i w f8 f9 f10 f11 f13 f14 q8 k0_t2_loop.trips
    ⊢ iprop(Fixed c f8 f9 f10 f11 f13 f14 q8
      ∗ (M16.view.loc (c : Thread nD τ) ↦[HalfSet (par i) 0]{fullShare} (tileW i w f8 f9 f10 f11 f13 f14))
      ∗ (M16.view.loc (c : Thread nD τ) ↦[HalfSet (par i) 1]{fullShare} (tileW i w f8 f9 f10 f11 f13 f14))
      ∗ Pairs c w (i.val + 1) 0 ∗ Owes c) := by
  unfold innerInv
  rw [show k0_t2_loop.trips = 4 from by decide]
  iintro ⟨HF, HS, HP, HO⟩
  ihave HS := (stage_done c (par i) _) $$ HS
  icases HS with ⟨HS, HS'⟩
  isplitl [HF]; · iexact HF
  isplitl [HS]; · iexact HS
  isplitl [HS']; · iexact HS'
  isplitl [HP]; · iapply (Pairs_next c w i.val) $$ HP
  iexact HO

theorem outer_step (v : FVec F S128x128 .f32) (i : Fin k0_t1_loop.trips) (acc : Unit) :
    outerInv c w f8 f9 f10 f11 f13 f14 q8 i.val
      ⊢ wp frame (wpE (defs₀ (F := F)) 𝒱₀ (c : Thread nD τ) none) Set.univ (k0_t1_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i acc) (fun _ => outerInv c w f8 f9 f10 f11 f13 f14 q8 (i.val + 1)) := by
  unfold outerInv
  rw [Outs_split c _ i.val (ct i), Bufs_split c i.val (par i)]
  generalize hV : tiles w f8 f9 f10 f11 f13 f14 = V
  have hVi : V (ct i) = tileW i w f8 f9 f10 f11 f13 f14 := by subst hV; rfl
  unfold k0_t1_body
  iintro ⟨HF, HP, HO, ⟨HT, HTs⟩, HB, HBs⟩
  ihave HBs := (BufSt_erase c i) $$ HBs
  by_cases h2 : 2 ≤ i.val
  case' pos =>
    iapply (iteT c ((cond1 i).mpr h2))
    ihave HTs := (OutSt_two c V i h2 _ rfl) $$ HTs
    icases HTs with ⟨⟨HX, HY⟩, HTs⟩
    iapply (outWait c V (n := ⟨i.val - 2, by have : i.val < 5 := i.isLt; omega⟩) (h := 0) (srcO_eq (off3 i h2)) (dstO_eq (off2 i 0 h2)) (semO_eq (off1 i h2))) $$ [HX HO]
    · isplitl [HX]; · iexact HX
      iexact HO
    iintro ⟨HX, HI, HO⟩
    iapply (outWait c V (n := ⟨i.val - 2, by have : i.val < 5 := i.isLt; omega⟩) (h := 1) (srcO_eq (off5 i h2)) (dstO_eq (off2 i 1 h2)) (semO_eq (off4 i h2))) $$ [HY HO]
    · isplitl [HY]; · iexact HY
      iexact HO
    iintro ⟨HY, HJ, HO⟩
    ihave HTs := HTs $$ [HX HY]
    · isplitl [HX]; · iexact HX
      iexact HY
    have hp : bufOf ⟨i.val - 2, by have : i.val < 5 := i.isLt; omega⟩ = par i := Fin.ext (by show (i.val - 2) % 2 = i.val % 2; omega)
    rw [hp]
    iclear HB
  case' neg =>
    iapply (iteF c (fun hc => h2 ((cond1 i).mp hc)))
    ihave HTs := (OutSt_erase c V i (by omega)) $$ HTs
    ihave HB := (BufSt_idle c (par i) i.val (by show i.val ≤ i.val % 2; omega)) $$ HB
    icases HB with ⟨HI, HJ⟩
  all_goals
    unfold HalfIdle
    icases HI with ⟨HI, HIv⟩
    icases HJ with ⟨HJ, HJv⟩
    (try iapply (retBind c))
    iapply (loopBind c (inv := innerInv c i w f8 f9 f10 f11 f13 f14 q8) (fun j a => inner_step c i w f8 f9 f10 f11 f13 f14 q8 v _ _ j a)) $$ [HF HP HO HI HJ]
    · unfold innerInv
      isplitl [HF]; · iexact HF
      isplitl [HI HJ]
      · iapply (idle_stage c (par i))
        isplitl [HI]; · iexact HI
        iexact HJ
      isplitl [HP]; · iexact HP
      iexact HO
    iintro HN
    ihave HN := (inner_end c w f8 f9 f10 f11 f13 f14 q8 i) $$ HN
    icases HN with ⟨HF, HS, HS', HP, HO⟩
    rw [← hVi]
    ihave HT := (OutSt_free c V (ct i)) $$ HT
    icases HT with ⟨HT, HT'⟩
    iapply (outStart c V (n := ct i) (h := 0) (srcO_eq (off32 i)) (dstO_eq (off31 i 0)) (semO_eq (off30 i))) $$ [HS HT HIv]
    · isplitl [HS]; · iexact HS
      isplitl [HT]; · iexact HT
      iexact HIv
    iintro HX
    iapply (outStart c V (n := ct i) (h := 1) (srcO_eq (off34 i)) (dstO_eq (off31 i 1)) (semO_eq (off33 i))) $$ [HS' HT' HJv]
    · isplitl [HS']; · iexact HS'
      isplitl [HT']; · iexact HT'
      iexact HJv
    iintro HY
    iapply (retW c)
    isplitl [HF]; · iexact HF
    isplitl [HP]; · iexact HP
    isplitl [HO]; · iexact HO
    rw [Outs_split c V (i.val + 1) (ct i), Bufs_split c (i.val + 1) (par i)]
    isplitl [HX HY HTs]
    · isplitl [HX HY]
      · iapply (OutSt_fly c V (ct i))
        isplitl [HX]; · iexact HX
        iexact HY
      iexact HTs
    isplitr [HBs]
    · iapply (BufSt_emp c (par i) (i.val + 1) (by show ¬ (i.val + 1 ≤ i.val % 2); omega))
      iempintro
    iexact HBs

end Cert.Proof.Bits
-- ==== Proof.Bits.Ends.lean ====
/-
  What the body starts from and what it ends with.
-/
module

public import proofs.«01_k».proof.Proof.Bits.Quant
public import proofs.«01_k».proof.Proof.Bits.Outer

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-- The semaphores of the small copies. -/
theorem inbSm : ∀ i : Fin 2, ∀ a, (![i.val] : Fin 1 → ℕ) a + S1.size a ≤ S2.size a := by decide +kernel
abbrev semS (i : Fin 2) : DmaSem sig := ((cc0_scratch13.slice (Rect.unit (s := S2) ![i.val] S1.size (inbSm i))).squeeze S_ squeezes_S1_S_).sem
abbrev semC (i : Fin 2) : DmaSem sig := ((cc0_scratch14.slice (Rect.unit (s := S2) ![i.val] S1.size (inbSm i))).squeeze S_ squeezes_S1_S_).sem

variable (c : Dev nD) (X : Vec F S2x128x2560 .bf16) (w : Vec F S16x2560x1280 .fp8e4m3) (ws bs : Vec F S1x1280 .f32)

/-- A whole buffer's elements are all there are. -/
theorem to_set {c : Dev nD} {sp : Space} {s : Shape} {e : EltTy} {m : Memref sig .tc sp s e} (hs : m.view.set = Finset.univ) {q : PosShare TreeShare} {f : Buf (Elt F) (m.view.loc (c : Thread nD τ))} :
    (m.view.loc (c : Thread nD τ) ↦{q} f : sProp 𝕄) ⊢ (m.view.loc (c : Thread nD τ) ↦[m.view.set]{q} f) := by rw [hs]
theorem of_set {c : Dev nD} {sp : Space} {s : Shape} {e : EltTy} {m : Memref sig .tc sp s e} (hs : m.view.set = Finset.univ) {q : PosShare TreeShare} {f : Buf (Elt F) (m.view.loc (c : Thread nD τ))} :
    (m.view.loc (c : Thread nD τ) ↦[m.view.set]{q} f : sProp 𝕄) ⊢ (m.view.loc (c : Thread nD τ) ↦{q} f) := by rw [hs]

/-! ## Buffers known throughout -/

section
variable {c} {s : Shape} {e : EltTy} {m : Memref sig .tc .vmem s e}

theorem landed_full (hs : m.view.set = Finset.univ) {C : s.Idx → Elt F e} (g : Buf (Elt F) (m.view.loc (c : Thread nD τ)))
    (hg : ∀ f : Buf (Elt F) (m.view.loc (c : Thread nD τ)), m.view.read (Elt F) f = C → f = g) :
    (Landed c m C : sProp 𝕄) ⊢ (m.view.loc (c : Thread nD τ) ↦{fullShare} g) := by
  unfold Landed
  iintro ⟨%f, H, %hf⟩
  rw [hg f hf, hs]
  iexact H

theorem full_free (hs : m.view.set = Finset.univ) (g : Buf (Elt F) (m.view.loc (c : Thread nD τ))) :
    (m.view.loc (c : Thread nD τ) ↦{fullShare} g : sProp 𝕄) ⊢ Free c m := by
  unfold Free
  rw [hs]
  iintro H
  iexists g
  iexact H
end

theorem done8_all (i : S2x128x2560.Idx) : done8 8 i := by
  have h0 : (i 0).val < 2 := (i 0).isLt
  have h1 : (i 1).val < 128 := (i 1).isLt
  show 4 * (i 0).val + (i 1).val / 32 < 8
  omega
theorem done10_all (i : S2x128x128.Idx) : done10 8 i := by
  have h0 : (i 0).val < 2 := (i 0).isLt
  have h1 : (i 1).val < 128 := (i 1).isLt
  show 4 * (i 0).val + (i 1).val / 32 < 8
  omega

variable {c X}
theorem known7 : (Landed c M7 (M0.view.read (Elt F) X) : sProp 𝕄) ⊢ Known c M7 X (fun _ => True) := Known_of_landed (C := X)
theorem full8 : (Known c M8 (C8 X) (done8 8) : sProp 𝕄) ⊢ (M8.view.loc (c : Thread nD τ) ↦{fullShare} C8 X) :=
  (Known_landed done8_all).trans (landed_full (m := M8) (View.set_whole _) _ fun _ h => h)
theorem full9 : (Known c M9 (C9 X) (upto9 2) : sProp 𝕄) ⊢ (M9.view.loc (c : Thread nD τ) ↦{fullShare} C9 X) :=
  (Known_landed fun i => (i 0).isLt).trans (landed_full (m := M9) (View.set_whole _) _ fun _ h => h)
theorem full10 : (Known c M10 (C10 X) (done10 8) : sProp 𝕄) ⊢ (M10.view.loc (c : Thread nD τ) ↦{fullShare} C10 X) :=
  (Known_landed done10_all).trans (landed_full (m := M10) (View.set_whole _) _ fun _ h => h)
theorem full11 : (Known c M11 (C11 X) (upto11 2) : sProp 𝕄) ⊢ (M11.view.loc (c : Thread nD τ) ↦{fullShare} C11 X) :=
  (Known_landed fun i => (i 0).isLt).trans (landed_full (m := M11) (View.set_whole _) _ fun _ h => h)
theorem full12 : (Known c M12 (C12 X) (upto12 2) : sProp 𝕄) ⊢ (M12.view.loc (c : Thread nD τ) ↦{fullShare} C12 X) :=
  (Known_landed fun i => (i 0).isLt).trans (landed_full (m := M12) (View.set_whole _) _ fun _ h => h)
theorem landed5 : (Landed c M5 (M8.view.read (Elt F) (C8 X)) : sProp 𝕄) ⊢ Landed c M5 (C8 X) := .rfl
theorem landed6 : (Landed c M6 (M12.view.read (Elt F) (C12 X)) : sProp 𝕄) ⊢ Landed c M6 (C12 X) := .rfl
theorem full13 : (Landed c M13 (M2.view.read (Elt F) ws) : sProp 𝕄) ⊢ (M13.view.loc (c : Thread nD τ) ↦{fullShare} ws) :=
  landed_full (m := M13) (View.set_whole _) _ fun _ h => h
theorem full14 : (Landed c M14 (M3.view.read (Elt F) bs) : sProp 𝕄) ⊢ (M14.view.loc (c : Thread nD τ) ↦{fullShare} bs) :=
  landed_full (m := M14) (View.set_whole _) _ fun _ h => h
variable (c X)

/-! ## The slots, the result's tiles and the staging buffer at either end -/

theorem slots_pairs (n : ℕ) :
    iprop(SlotSt c w 0 n ∗ SlotSt c w 1 n ∗ SlotSt c w 2 n ∗ SlotSt c w 3 n ∗ SlotSt c w 4 n ∗ SlotSt c w 5 n ∗ SlotSt c w 6 n ∗ SlotSt c w 7 n)
      ⊢ (Pairs c w n 0 : sProp 𝕄) := by
  unfold Pairs
  simp only [if_neg (Nat.not_lt_zero _)]
  rw [bigSep_univ_eq_bigSepL [(⟨0, by decide⟩ : Fin k0_t2_loop.trips), (⟨1, by decide⟩ : Fin k0_t2_loop.trips), (⟨2, by decide⟩ : Fin k0_t2_loop.trips), (⟨3, by decide⟩ : Fin k0_t2_loop.trips)] (by decide) (by decide)]
  show _ ⊢ iprop(Pair c w (⟨0, by decide⟩ : Fin k0_t2_loop.trips) n ∗ Pair c w (⟨1, by decide⟩ : Fin k0_t2_loop.trips) n ∗ Pair c w (⟨2, by decide⟩ : Fin k0_t2_loop.trips) n ∗ Pair c w (⟨3, by decide⟩ : Fin k0_t2_loop.trips) n)
  show _ ⊢ iprop((SlotSt c w 0 n ∗ SlotSt c w 1 n) ∗ (SlotSt c w 2 n ∗ SlotSt c w 3 n) ∗ (SlotSt c w 4 n ∗ SlotSt c w 5 n) ∗ (SlotSt c w 6 n ∗ SlotSt c w 7 n))
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption

theorem pairs_slots (n : ℕ) : (Pairs c w n 0 : sProp 𝕄)
      ⊢ iprop(SlotSt c w 0 n ∗ SlotSt c w 1 n ∗ SlotSt c w 2 n ∗ SlotSt c w 3 n ∗ SlotSt c w 4 n ∗ SlotSt c w 5 n ∗ SlotSt c w 6 n ∗ SlotSt c w 7 n) := by
  unfold Pairs
  simp only [if_neg (Nat.not_lt_zero _)]
  rw [bigSep_univ_eq_bigSepL [(⟨0, by decide⟩ : Fin k0_t2_loop.trips), (⟨1, by decide⟩ : Fin k0_t2_loop.trips), (⟨2, by decide⟩ : Fin k0_t2_loop.trips), (⟨3, by decide⟩ : Fin k0_t2_loop.trips)] (by decide) (by decide)]
  show iprop((SlotSt c w 0 n ∗ SlotSt c w 1 n) ∗ (SlotSt c w 2 n ∗ SlotSt c w 3 n) ∗ (SlotSt c w 4 n ∗ SlotSt c w 5 n) ∗ (SlotSt c w 6 n ∗ SlotSt c w 7 n)) ⊢ _
  iintro ⟨⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

/-- A slot at rest. -/
theorem slot_rest (s : Fin 8) : (SlotSt c w s 5 : sProp 𝕄)
    = iprop(Free c (dstW s) ∗ semVal ((c : Thread nD τ), .dma (semW s)) 0 ∗ (M1.view.loc (c : Thread nD τ) ↦{qW s} w)) := by
  unfold SlotSt
  rw [dif_neg (by decide)]

section
variable (V : Fin 5 → S2x2x2x1032x128.Idx → Elt F .bf16)

/-- All the result's tiles written. -/
def OutsDone : sProp 𝕄 := bigSep Finset.univ fun n : Fin 5 => iprop(OutHas c V n 0 ∗ OutHas c V n 1)

theorem five {Φ : Fin 5 → sProp 𝕄} : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ
theorem two {Φ : Fin 2 → sProp 𝕄} : bigSep Finset.univ Φ = iprop(Φ 0 ∗ Φ 1) :=
  bigSep_univ_eq_bigSepL [(0 : Fin 2), (1 : Fin 2)] (by decide) (by decide) Φ

theorem OutSt_last (n : Fin 5) (h : ¬ n.val + 2 < 5) : (OutSt c V n 5 : sProp 𝕄) ⊢ iprop(OutFly c V n 0 ∗ OutFly c V n 1) := by
  unfold OutSt
  rw [if_neg h, if_pos (by omega)]
theorem OutSt_past (n : Fin 5) (h : n.val + 2 < 5) : (OutSt c V n 5 : sProp 𝕄) ⊢ iprop(OutHas c V n 0 ∗ OutHas c V n 1) := by
  unfold OutSt
  rw [if_pos h]

theorem Outs_end : (Outs c V k0_t1_loop.trips : sProp 𝕄)
    ⊢ iprop(OutFly c V 3 0 ∗ OutFly c V 3 1 ∗ OutFly c V 4 0 ∗ OutFly c V 4 1
      ∗ ((OutHas c V 3 0 ∗ OutHas c V 3 1 ∗ OutHas c V 4 0 ∗ OutHas c V 4 1) -∗ OutsDone c V)) := by
  rw [show k0_t1_loop.trips = 5 from by decide]
  unfold Outs OutsDone
  rw [five, five]
  iintro ⟨H0, H1, H2, H3, H4⟩
  ihave H3 := (OutSt_last c V 3 (by decide)) $$ H3
  ihave H4 := (OutSt_last c V 4 (by decide)) $$ H4
  icases H3 with ⟨H3, H3'⟩
  icases H4 with ⟨H4, H4'⟩
  isplitl [H3]; · iexact H3
  isplitl [H3']; · iexact H3'
  isplitl [H4]; · iexact H4
  isplitl [H4']; · iexact H4'
  iintro ⟨Ha, Hb, Hc, Hd⟩
  isplitl [H0]; · iapply (OutSt_past c V 0 (by decide)); iexact H0
  isplitl [H1]; · iapply (OutSt_past c V 1 (by decide)); iexact H1
  isplitl [H2]; · iapply (OutSt_past c V 2 (by decide)); iexact H2
  isplitl [Ha Hb]; · isplitl [Ha] <;> iassumption
  isplitl [Hc] <;> iassumption
end

/-- The staging buffer at rest. -/
def BufsIdle : sProp 𝕄 := bigSep Finset.univ fun p : Fin 2 => iprop(HalfIdle (F := F) c p 0 ∗ HalfIdle (F := F) c p 1)

theorem bufs_back : iprop(HalfIdle (F := F) c (bufOf 4) 0 ∗ HalfIdle (F := F) c (bufOf 4) 1 ∗ HalfIdle (F := F) c (bufOf 3) 0 ∗ HalfIdle (F := F) c (bufOf 3) 1)
    ⊢ (BufsIdle (F := F) c : sProp 𝕄) := by
  unfold BufsIdle
  rw [two]
  show _ ⊢ iprop((HalfIdle (F := F) c (bufOf 4) 0 ∗ HalfIdle (F := F) c (bufOf 4) 1) ∗ (HalfIdle (F := F) c (bufOf 3) 0 ∗ HalfIdle (F := F) c (bufOf 3) 1))
  iintro ⟨Ha, Hb, Hc, Hd⟩
  isplitl [Ha Hb]; · isplitl [Ha] <;> iassumption
  isplitl [Hc] <;> iassumption

theorem bufs_start : (BufsIdle (F := F) c : sProp 𝕄) ⊢ Bufs (F := F) c 0 := by
  unfold BufsIdle Bufs
  refine Entails.of_eq (bigSep_congr fun p _ => ?_)
  unfold BufSt
  rw [if_pos (Nat.zero_le _)]

/-- The result's tiles, none written. -/
def OutsFree : sProp 𝕄 := bigSep Finset.univ fun n : Fin 5 => iprop(Free (F := F) c (dstO n 0) ∗ Free (F := F) c (dstO n 1))

theorem outs_start (V : Fin 5 → S2x2x2x1032x128.Idx → Elt F .bf16) : (OutsFree (F := F) c : sProp 𝕄) ⊢ Outs c V 0 := by
  unfold OutsFree Outs
  refine Entails.of_eq (bigSep_congr fun n _ => ?_)
  unfold OutSt
  rw [if_neg (by omega), if_neg (by omega)]

/-- What the body starts from. -/
def Begin : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Free (F := F) c M5 ∗ Free (F := F) c M6 ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsFree (F := F) c ∗ BufsIdle (F := F) c ∗ Owes c
  ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

/-- What the body ends with. -/
def End : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Landed c M5 (C8 X) ∗ Landed c M6 (C12 X) ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsDone c (tiles w (C8 X) (C9 X) (C10 X) (C11 X) ws bs) ∗ BufsIdle (F := F) c ∗ Owes c
  ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

end Cert.Proof.Bits
-- ==== Proof.Bits.Body.lean ====
/-
  The whole body: the copies and the quantiser, the loop over the tiles, and the last waits.
-/
module

public import proofs.«01_k».proof.Proof.Bits.Ends

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

variable (c : Dev nD) (X : Vec F S2x128x2560 .bf16) (w : Vec F S16x2560x1280 .fp8e4m3) (ws bs : Vec F S1x1280 .f32)

theorem outerBind {α : Type} {inv : ℕ → sProp 𝕄} {body : Fin k0_t1_loop.trips → Unit → Prog (TpuEff nD τ sig (Elt F) Λ₀ .tc) Unit}
    (step : ∀ j a, inv j.val ⊢ wp frame (wpE (defs₀ (F := F)) 𝒱₀ (c : Thread nD τ) none) Set.univ (body j a) (fun _ => inv (j.val + 1)))
    {β : Type} {f : Unit → Prog (TpuEff nD τ sig (Elt F) Λ₀ .tc) β} {g : β → Prog (TpuEff nD τ sig (Elt F) Λ₀ .tc) α} {Q : α → sProp 𝕄} :
    inv 0 ⊢ iprop((inv k0_t1_loop.trips -∗ wp frame (wpE (defs₀ (F := F)) 𝒱₀ (c : Thread nD τ) none) Set.univ (f () >>= g) Q) -∗ wp frame (wpE (defs₀ (F := F)) 𝒱₀ (c : Thread nD τ) none) Set.univ ((k0_t1_loop.for k0_t1_ok PUnit.unit body >>= f) >>= g) Q) := by
  rw [Prog.bind_assoc]
  iintro H Hk
  iapply (Scf.wp_for_bind frame (wpE (defs₀ (F := F)) 𝒱₀ (c : Thread nD τ) none) Set.univ k0_t1_loop.lb k0_t1_loop.ub k0_t1_loop.st k0_t1_ok PUnit.unit body
    (fun k _ => inv k) step) $$ H
  iintro %a H
  iapply Hk
  iexact H

set_option maxHeartbeats 4000000 in
set_option maxRecDepth 65536 in
/-- The body quantises the frames, multiplies them tile by tile, and leaves its three results. -/
theorem body_wp : Begin c X w ws bs ⊢ wp frame (wpE (defs₀ (F := F)) 𝒱₀ (c : Thread nD τ) none) Set.univ (cc0_upsample M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14) (fun _ => End c X w ws bs) := by
  rw [cc0_upsample_eq_skeleton]
  unfold cc0_upsample_skel
  simp only [k0_part75_eq_skeleton]
  unfold Begin
  iintro ⟨H0, H2, H3, HP, H5, H6, H7, H8, H9, H10, H11, H12, H13, H14, HT, HB, HO, Hs19, Hs200, Hs201, Hs210, Hs211⟩
  ihave HT := (outs_start c (tiles w (C8 X) (C9 X) (C10 X) (C11 X) ws bs)) $$ HT
  ihave HB := (bufs_start c) $$ HB
  ihave HP := (pairs_slots c w 5) $$ HP
  icases HP with ⟨HS0, HS1, HS2, HS3, HS4, HS5, HS6, HS7⟩
  ihave HS0 := (Entails.of_eq (slot_rest c w 0)) $$ HS0
  icases HS0 with ⟨Hd0, Hq0, Hw0⟩
  ihave HS1 := (Entails.of_eq (slot_rest c w 1)) $$ HS1
  icases HS1 with ⟨Hd1, Hq1, Hw1⟩
  ihave HS2 := (Entails.of_eq (slot_rest c w 2)) $$ HS2
  icases HS2 with ⟨Hd2, Hq2, Hw2⟩
  ihave HS3 := (Entails.of_eq (slot_rest c w 3)) $$ HS3
  icases HS3 with ⟨Hd3, Hq3, Hw3⟩
  ihave HS4 := (Entails.of_eq (slot_rest c w 4)) $$ HS4
  icases HS4 with ⟨Hd4, Hq4, Hw4⟩
  ihave HS5 := (Entails.of_eq (slot_rest c w 5)) $$ HS5
  icases HS5 with ⟨Hd5, Hq5, Hw5⟩
  ihave HS6 := (Entails.of_eq (slot_rest c w 6)) $$ HS6
  icases HS6 with ⟨Hd6, Hq6, Hw6⟩
  ihave HS7 := (Entails.of_eq (slot_rest c w 7)) $$ HS7
  icases HS7 with ⟨Hd7, Hq7, Hw7⟩
  ihave H0 := (to_set (m := M0) (View.set_whole _)) $$ H0
  iapply (copyStart c (src := M0) (dst := M7) (fs := X) (q := fullShare) (by decide)) $$ [H0 H7 Hs19]
  · isplitl [H0]; · iexact H0
    isplitl [H7]; · iexact H7
    iexact Hs19
  iintro HX
  iapply (slotStart c w (s := 0) (n := 0) (0 : Fin 5) (src_eq (s := 0) (n := 0) rfl) (dst_eq (s := 0) rfl) (sem_eq (s := 0) rfl)) $$ [Hd0 Hq0 Hw0]
  · isplitl [Hd0]; · iexact Hd0
    isplitl [Hq0]; · iexact Hq0
    iexact Hw0
  iintro HS0
  iapply (slotStart c w (s := 1) (n := 0) (0 : Fin 5) (src_eq (s := 1) (n := 0) rfl) (dst_eq (s := 1) rfl) (sem_eq (s := 1) rfl)) $$ [Hd1 Hq1 Hw1]
  · isplitl [Hd1]; · iexact Hd1
    isplitl [Hq1]; · iexact Hq1
    iexact Hw1
  iintro HS1
  iapply (slotStart c w (s := 2) (n := 0) (0 : Fin 5) (src_eq (s := 2) (n := 0) rfl) (dst_eq (s := 2) rfl) (sem_eq (s := 2) rfl)) $$ [Hd2 Hq2 Hw2]
  · isplitl [Hd2]; · iexact Hd2
    isplitl [Hq2]; · iexact Hq2
    iexact Hw2
  iintro HS2
  iapply (slotStart c w (s := 3) (n := 0) (0 : Fin 5) (src_eq (s := 3) (n := 0) rfl) (dst_eq (s := 3) rfl) (sem_eq (s := 3) rfl)) $$ [Hd3 Hq3 Hw3]
  · isplitl [Hd3]; · iexact Hd3
    isplitl [Hq3]; · iexact Hq3
    iexact Hw3
  iintro HS3
  iapply (slotStart c w (s := 4) (n := 0) (0 : Fin 5) (src_eq (s := 4) (n := 0) rfl) (dst_eq (s := 4) rfl) (sem_eq (s := 4) rfl)) $$ [Hd4 Hq4 Hw4]
  · isplitl [Hd4]; · iexact Hd4
    isplitl [Hq4]; · iexact Hq4
    iexact Hw4
  iintro HS4
  iapply (slotStart c w (s := 5) (n := 0) (0 : Fin 5) (src_eq (s := 5) (n := 0) rfl) (dst_eq (s := 5) rfl) (sem_eq (s := 5) rfl)) $$ [Hd5 Hq5 Hw5]
  · isplitl [Hd5]; · iexact Hd5
    isplitl [Hq5]; · iexact Hq5
    iexact Hw5
  iintro HS5
  iapply (slotStart c w (s := 6) (n := 0) (0 : Fin 5) (src_eq (s := 6) (n := 0) rfl) (dst_eq (s := 6) rfl) (sem_eq (s := 6) rfl)) $$ [Hd6 Hq6 Hw6]
  · isplitl [Hd6]; · iexact Hd6
    isplitl [Hq6]; · iexact Hq6
    iexact Hw6
  iintro HS6
  iapply (slotStart c w (s := 7) (n := 0) (0 : Fin 5) (src_eq (s := 7) (n := 0) rfl) (dst_eq (s := 7) rfl) (sem_eq (s := 7) rfl)) $$ [Hd7 Hq7 Hw7]
  · isplitl [Hd7]; · iexact Hd7
    isplitl [Hq7]; · iexact Hq7
    iexact Hw7
  iintro HS7
  ihave H2 := (to_set (m := M2) (View.set_whole _)) $$ H2
  iapply (copyStart c (src := M2) (dst := M13) (fs := ws) (q := fullShare) (by decide)) $$ [H2 H13 Hs200]
  · isplitl [H2]; · iexact H2
    isplitl [H13]; · iexact H13
    iexact Hs200
  iintro HWS
  ihave H3 := (to_set (m := M3) (View.set_whole _)) $$ H3
  iapply (copyStart c (src := M3) (dst := M14) (fs := bs) (q := fullShare) (by decide)) $$ [H3 H14 Hs201]
  · isplitl [H3]; · iexact H3
    isplitl [H14]; · iexact H14
    iexact Hs201
  iintro HBS
  iapply (copyWait c (src := M0) (dst := M7) (fs := X) (q := fullShare)) $$ [HX HO]
  · isplitl [HX]; · iexact HX
    iexact HO
  iintro ⟨H7, H0, Hs19, HO⟩
  ihave H7 := (known7 (c := c) (X := X)) $$ H7
  ihave H8 := (Known_of_free (c := c) (m := M8) (C := C8 X) (A := done8 0) (fun i h => absurd h (Nat.not_lt_zero _))) $$ H8
  ihave H9 := (Known_of_free (c := c) (m := M9) (C := C9 X) (A := upto9 0) (fun i h => absurd h (Nat.not_lt_zero _))) $$ H9
  ihave H10 := (Known_of_free (c := c) (m := M10) (C := C10 X) (A := done10 0) (fun i h => absurd h (Nat.not_lt_zero _))) $$ H10
  ihave H11 := (Known_of_free (c := c) (m := M11) (C := C11 X) (A := upto11 0) (fun i h => absurd h (Nat.not_lt_zero _))) $$ H11
  ihave H12 := (Known_of_free (c := c) (m := M12) (C := C12 X) (A := upto12 0) (fun i h => absurd h (Nat.not_lt_zero _))) $$ H12
  iapply (load7 (c := c) (X := X) 0 0 rfl) $$ H7
  iintro H7
  iapply (knownSkip (c := c) (m := M8)) $$ H8
  iintro %v H8
  iapply (store8 (c := c) (X := X) 0 0 0 rfl rfl rfl) $$ H8
  iintro H8
  iapply (knownSkip (c := c) (m := M10)) $$ H10
  iintro %v H10
  iapply (store10 (c := c) (X := X) 0 0 0 rfl rfl rfl) $$ H10
  iintro H10
  iapply (load7 (c := c) (X := X) 0 1 rfl) $$ H7
  iintro H7
  iapply (knownSkip (c := c) (m := M8)) $$ H8
  iintro %v H8
  iapply (store8 (c := c) (X := X) 1 0 1 rfl rfl rfl) $$ H8
  iintro H8
  iapply (knownSkip (c := c) (m := M10)) $$ H10
  iintro %v H10
  iapply (store10 (c := c) (X := X) 1 0 1 rfl rfl rfl) $$ H10
  iintro H10
  iapply (load7 (c := c) (X := X) 0 2 rfl) $$ H7
  iintro H7
  iapply (knownSkip (c := c) (m := M8)) $$ H8
  iintro %v H8
  iapply (store8 (c := c) (X := X) 2 0 2 rfl rfl rfl) $$ H8
  iintro H8
  iapply (knownSkip (c := c) (m := M10)) $$ H10
  iintro %v H10
  iapply (store10 (c := c) (X := X) 2 0 2 rfl rfl rfl) $$ H10
  iintro H10
  iapply (load7 (c := c) (X := X) 0 3 rfl) $$ H7
  iintro H7
  iapply (knownSkip (c := c) (m := M8)) $$ H8
  iintro %v H8
  iapply (store8 (c := c) (X := X) 3 0 3 rfl rfl rfl) $$ H8
  iintro H8
  iapply (knownSkip (c := c) (m := M10)) $$ H10
  iintro %v H10
  iapply (store10 (c := c) (X := X) 3 0 3 rfl rfl rfl) $$ H10
  iintro H10
  iapply (knownSkip (c := c) (m := M12)) $$ H12
  iintro %v H12
  iapply (store12 (c := c) (X := X) 0 0 rfl rfl (row_kept _)) $$ H12
  iintro H12
  iapply (load8 (c := c) (X := X) 4 0 (by decide) rfl) $$ H8
  iintro H8
  iapply (knownSkip (c := c) (m := M9)) $$ H9
  iintro %v H9
  iapply (store9 (c := c) (X := X) 0 0 rfl rfl rfl) $$ H9
  iintro H9
  iapply (load10 (c := c) (X := X) 4 0 (by decide) rfl) $$ H10
  iintro H10
  iapply (knownSkip (c := c) (m := M11)) $$ H11
  iintro %v H11
  iapply (store11 (c := c) (X := X) 0 0 rfl rfl rfl) $$ H11
  iintro H11
  iapply (load7 (c := c) (X := X) 1 0 rfl) $$ H7
  iintro H7
  iapply (knownSkip (c := c) (m := M8)) $$ H8
  iintro %v H8
  iapply (store8 (c := c) (X := X) 4 1 0 rfl rfl rfl) $$ H8
  iintro H8
  iapply (knownSkip (c := c) (m := M10)) $$ H10
  iintro %v H10
  iapply (store10 (c := c) (X := X) 4 1 0 rfl rfl rfl) $$ H10
  iintro H10
  iapply (load7 (c := c) (X := X) 1 1 rfl) $$ H7
  iintro H7
  iapply (knownSkip (c := c) (m := M8)) $$ H8
  iintro %v H8
  iapply (store8 (c := c) (X := X) 5 1 1 rfl rfl rfl) $$ H8
  iintro H8
  iapply (knownSkip (c := c) (m := M10)) $$ H10
  iintro %v H10
  iapply (store10 (c := c) (X := X) 5 1 1 rfl rfl rfl) $$ H10
  iintro H10
  iapply (load7 (c := c) (X := X) 1 2 rfl) $$ H7
  iintro H7
  iapply (knownSkip (c := c) (m := M8)) $$ H8
  iintro %v H8
  iapply (store8 (c := c) (X := X) 6 1 2 rfl rfl rfl) $$ H8
  iintro H8
  iapply (knownSkip (c := c) (m := M10)) $$ H10
  iintro %v H10
  iapply (store10 (c := c) (X := X) 6 1 2 rfl rfl rfl) $$ H10
  iintro H10
  iapply (load7 (c := c) (X := X) 1 3 rfl) $$ H7
  iintro H7
  iapply (knownSkip (c := c) (m := M8)) $$ H8
  iintro %v H8
  iapply (store8 (c := c) (X := X) 7 1 3 rfl rfl rfl) $$ H8
  iintro H8
  iapply (knownSkip (c := c) (m := M10)) $$ H10
  iintro %v H10
  iapply (store10 (c := c) (X := X) 7 1 3 rfl rfl rfl) $$ H10
  iintro H10
  iapply (knownSkip (c := c) (m := M12)) $$ H12
  iintro %v H12
  iapply (store12 (c := c) (X := X) 1 1 rfl rfl (row_kept _)) $$ H12
  iintro H12
  iapply (load8 (c := c) (X := X) 8 1 (by decide) rfl) $$ H8
  iintro H8
  iapply (knownSkip (c := c) (m := M9)) $$ H9
  iintro %v H9
  iapply (store9 (c := c) (X := X) 1 1 rfl rfl rfl) $$ H9
  iintro H9
  iapply (load10 (c := c) (X := X) 8 1 (by decide) rfl) $$ H10
  iintro H10
  iapply (knownSkip (c := c) (m := M11)) $$ H11
  iintro %v H11
  iapply (store11 (c := c) (X := X) 1 1 rfl rfl rfl) $$ H11
  iintro H11
  ihave H8 := (full8 (c := c) (X := X)) $$ H8
  ihave H9 := (full9 (c := c) (X := X)) $$ H9
  ihave H10 := (full10 (c := c) (X := X)) $$ H10
  ihave H11 := (full11 (c := c) (X := X)) $$ H11
  ihave H12 := (full12 (c := c) (X := X)) $$ H12
  ihave H8 := (pointsTo_share (PosShare.mem_left_op_right fullShare)).1 $$ H8
  icases H8 with ⟨H8, H8'⟩
  ihave H8' := (to_set (m := M8) (View.set_whole _)) $$ H8'
  iapply (copyStart c (src := M8) (dst := M5) (fs := C8 X) (q := fullShare.right) (by decide)) $$ [H8' H5 Hs210]
  · isplitl [H8']; · iexact H8'
    isplitl [H5]; · iexact H5
    iexact Hs210
  iintro HC
  ihave H12 := (to_set (m := M12) (View.set_whole _)) $$ H12
  iapply (copyStart c (src := M12) (dst := M6) (fs := C12 X) (q := fullShare) (by decide)) $$ [H12 H6 Hs211]
  · isplitl [H12]; · iexact H12
    isplitl [H6]; · iexact H6
    iexact Hs211
  iintro HSC
  iapply (copyWait c (src := M2) (dst := M13) (fs := ws) (q := fullShare)) $$ [HWS HO]
  · isplitl [HWS]; · iexact HWS
    iexact HO
  iintro ⟨H13, H2, Hs200, HO⟩
  iapply (copyWait c (src := M3) (dst := M14) (fs := bs) (q := fullShare)) $$ [HBS HO]
  · isplitl [HBS]; · iexact HBS
    iexact HO
  iintro ⟨H14, H3, Hs201, HO⟩
  ihave H13 := (full13 (c := c) ws) $$ H13
  ihave H14 := (full14 (c := c) bs) $$ H14
  iapply (outerBind c (inv := outerInv c w (C8 X) (C9 X) (C10 X) (C11 X) ws bs fullShare.left) (fun i a => outer_step c w (C8 X) (C9 X) (C10 X) (C11 X) ws bs fullShare.left _ i a)) $$ [H8 H9 H10 H11 H13 H14 HS0 HS1 HS2 HS3 HS4 HS5 HS6 HS7 HO HT HB]
  · unfold outerInv Fixed
    isplitl [H8 H9 H10 H11 H13 H14]
    · isplitl [H10]; · iexact H10
      isplitl [H11]; · iexact H11
      isplitl [H13]; · iexact H13
      isplitl [H14]; · iexact H14
      isplitl [H8]; · iexact H8
      iexact H9
    isplitl [HS0 HS1 HS2 HS3 HS4 HS5 HS6 HS7]
    · iapply (slots_pairs c w 0)
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [HO]; · iexact HO
    isplitl [HT]; · iexact HT
    iexact HB
  iintro HN
  unfold outerInv Fixed
  icases HN with ⟨⟨H10, H11, H13, H14, H8, H9⟩, HP, HO, HT, HB⟩
  ihave HT := (Outs_end c (tiles w (C8 X) (C9 X) (C10 X) (C11 X) ws bs)) $$ HT
  icases HT with ⟨HTa, HTb, HTc, HTd, HT⟩
  iapply (copyWait c (src := M8) (dst := M5) (fs := C8 X) (q := fullShare.right)) $$ [HC HO]
  · isplitl [HC]; · iexact HC
    iexact HO
  iintro ⟨H5, H8', Hs210, HO⟩
  iapply (copyWait c (src := M12) (dst := M6) (fs := C12 X) (q := fullShare)) $$ [HSC HO]
  · isplitl [HSC]; · iexact HSC
    iexact HO
  iintro ⟨H6, H12, Hs211, HO⟩
  iapply (outWait c (tiles w (C8 X) (C9 X) (C10 X) (C11 X) ws bs) (n := 3) (h := 0) (srcO_eq rfl) (dstO_eq rfl) (semO_eq rfl)) $$ [HTa HO]
  · isplitl [HTa]; · iexact HTa
    iexact HO
  iintro ⟨HTa, HIa, HO⟩
  iapply (outWait c (tiles w (C8 X) (C9 X) (C10 X) (C11 X) ws bs) (n := 3) (h := 1) (srcO_eq rfl) (dstO_eq rfl) (semO_eq rfl)) $$ [HTb HO]
  · isplitl [HTb]; · iexact HTb
    iexact HO
  iintro ⟨HTb, HIb, HO⟩
  iapply (outWait c (tiles w (C8 X) (C9 X) (C10 X) (C11 X) ws bs) (n := 4) (h := 0) (srcO_eq rfl) (dstO_eq rfl) (semO_eq rfl)) $$ [HTc HO]
  · isplitl [HTc]; · iexact HTc
    iexact HO
  iintro ⟨HTc, HIc, HO⟩
  iapply (outWait c (tiles w (C8 X) (C9 X) (C10 X) (C11 X) ws bs) (n := 4) (h := 1) (srcO_eq rfl) (dstO_eq rfl) (semO_eq rfl)) $$ [HTd HO]
  · isplitl [HTd]; · iexact HTd
    iexact HO
  iintro ⟨HTd, HId, HO⟩
  ihave H0 := (of_set (m := M0) (View.set_whole _)) $$ H0
  ihave H2 := (of_set (m := M2) (View.set_whole _)) $$ H2
  ihave H3 := (of_set (m := M3) (View.set_whole _)) $$ H3
  ihave H8' := (of_set (m := M8) (View.set_whole _)) $$ H8'
  ihave H12 := (of_set (m := M12) (View.set_whole _)) $$ H12
  iapply (retW c)
  unfold End
  isplitl [H0]; · iexact H0
  isplitl [H2]; · iexact H2
  isplitl [H3]; · iexact H3
  isplitl [HP]; · iexact HP
  isplitl [H5]; · iapply (landed5 (c := c) (X := X)); iexact H5
  isplitl [H6]; · iapply (landed6 (c := c) (X := X)); iexact H6
  isplitl [H7]; · iapply (Landed_free (F := F) c M7 X); iapply (Known_landed (fun _ => trivial)); iexact H7
  isplitl [H8 H8']
  · iapply (full_free (m := M8) (View.set_whole _) (C8 X))
    iapply (pointsTo_share (PosShare.mem_left_op_right fullShare)).2
    isplitl [H8]; · iexact H8
    iexact H8'
  isplitl [H9]; · iapply (full_free (m := M9) (View.set_whole _) (C9 X)); iexact H9
  isplitl [H10]; · iapply (full_free (m := M10) (View.set_whole _) (C10 X)); iexact H10
  isplitl [H11]; · iapply (full_free (m := M11) (View.set_whole _) (C11 X)); iexact H11
  isplitl [H12]; · iapply (full_free (m := M12) (View.set_whole _) (C12 X)); iexact H12
  isplitl [H13]; · iapply (full_free (m := M13) (View.set_whole _) ws); iexact H13
  isplitl [H14]; · iapply (full_free (m := M14) (View.set_whole _) bs); iexact H14
  isplitl [HTa HTb HTc HTd HT]
  · iapply HT
    isplitl [HTa]; · iexact HTa
    isplitl [HTb]; · iexact HTb
    isplitl [HTc]; · iexact HTc
    iexact HTd
  isplitl [HIa HIb HIc HId HB]
  · iapply (bufs_back c)
    isplitl [HIc]; · iexact HIc
    isplitl [HId]; · iexact HId
    isplitl [HIa]; · iexact HIa
    iexact HIb
  isplitl [HO]; · iexact HO
  isplitl [Hs19]; · iexact Hs19
  isplitl [Hs200]; · iexact Hs200
  isplitl [Hs201]; · iexact Hs201
  isplitl [Hs210]; · iexact Hs210
  iexact Hs211

end Cert.Proof.Bits
-- ==== Proof.Bits.Splits.lean ====
/-
  The launch's buffers cut into the pieces the body works in, and put together again.
-/
module

public import proofs.«01_k».proof.Proof.Bits.Body

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

/-! ## The pieces the body works in -/

/-- The elements of weight slot `s`. -/
def SlotSet (s : Fin 8) : Finset S8x2x2560x256.Idx := Finset.univ.filter fun q => (q 0).val = s.val

theorem dstW_set (s : Fin 8) : (dstW s).view.set = SlotSet s := by
  ext q
  simp only [SlotSet, Finset.mem_filter, Finset.mem_univ, true_and]
  constructor
  · intro hq
    obtain ⟨j, -, rfl⟩ := Finset.mem_map.mp hq
    rw [eq_ix3 j]
    exact congrArg Fin.val (congrFun (dstW_emb s (j 0) (j 1) (j 2)) 0)
  · intro hq
    have h := slot_mem s (q 1) (q 2) (q 3)
    rw [show q = ix4 s (q 1) (q 2) (q 3) from by rw [show s = q 0 from Fin.ext hq.symm]; exact eq_ix4 q]
    exact h

theorem SlotSet_disjoint : ∀ s s' : Fin 8, s ≠ s' → Disjoint (SlotSet s) (SlotSet s') := by
  intro s s' hne; rw [Finset.disjoint_left]; intro y hy hy'
  simp only [SlotSet, Finset.mem_filter, Finset.mem_univ, true_and] at hy hy'
  exact hne (Fin.ext (hy.symm.trans hy'))
theorem SlotSet_cover : (Finset.univ : Finset (Fin 8)).biUnion SlotSet = Finset.univ := by
  ext y; simp only [SlotSet, Finset.mem_biUnion, Finset.mem_filter, Finset.mem_univ, true_and, iff_true]
  exact ⟨y 0, rfl⟩

theorem HalfSet_disjoint : ∀ a b : Fin 2 × Fin 2, a ≠ b → Disjoint (HalfSet a.1 a.2) (HalfSet b.1 b.2) := by
  intro s s' hne; rw [Finset.disjoint_left]; intro y hy hy'
  simp only [HalfSet, Finset.mem_filter, Finset.mem_univ, true_and] at hy hy'
  exact hne (Prod.ext (Fin.ext (hy.1.symm.trans hy'.1)) (Fin.ext (hy.2.symm.trans hy'.2)))
theorem HalfSet_cover : (Finset.univ : Finset (Fin 2 × Fin 2)).biUnion (fun a => HalfSet a.1 a.2) = Finset.univ := by
  ext y; simp only [HalfSet, Finset.mem_biUnion, Finset.mem_filter, Finset.mem_univ, true_and, iff_true]
  exact ⟨(y 0, y 1), rfl, rfl⟩

theorem ColSet_disjoint : ∀ a b : Fin 5 × Fin 2, a ≠ b → Disjoint (ColSet a.1 a.2) (ColSet b.1 b.2) := by
  intro s s' hne; rw [Finset.disjoint_left]; intro y hy hy'
  simp only [ColSet, Finset.mem_filter, Finset.mem_univ, true_and] at hy hy'
  have h1 := s.2.isLt
  have h2 := s'.2.isLt
  exact hne (Prod.ext (Fin.ext (by omega)) (Fin.ext (by omega)))
theorem ColSet_cover : (Finset.univ : Finset (Fin 5 × Fin 2)).biUnion (fun a => ColSet a.1 a.2) = Finset.univ := by
  ext y; simp only [ColSet, Finset.mem_biUnion, Finset.mem_filter, Finset.mem_univ, true_and, iff_true]
  have h2 : (y 2).val < 1280 := (y 2).isLt
  exact ⟨(⟨(y 2).val / 256, by omega⟩, ⟨(y 2).val / 128 % 2, by omega⟩), by show (y 2).val / 128 = 2 * ((y 2).val / 256) + (y 2).val / 128 % 2; omega⟩

section
variable (c : Dev nD)

theorem eight {Φ : Fin 8 → sProp 𝕄} : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
theorem four {Φ : Fin 2 × Fin 2 → sProp 𝕄} : bigSep Finset.univ Φ = iprop(Φ (0, 0) ∗ Φ (0, 1) ∗ Φ (1, 0) ∗ Φ (1, 1)) :=
  bigSep_univ_eq_bigSepL [((0, 0) : Fin 2 × Fin 2), (0, 1), (1, 0), (1, 1)] (by decide) (by decide) Φ
theorem ten {Φ : Fin 5 × Fin 2 → sProp 𝕄} : bigSep Finset.univ Φ
    = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1)) :=
  bigSep_univ_eq_bigSepL [((0, 0) : Fin 5 × Fin 2), (0, 1), (1, 0), (1, 1), (2, 0), (2, 1), (3, 0), (3, 1), (4, 0), (4, 1)] (by decide) (by decide) Φ

/-- The weight buffer is its eight slots, -/
theorem weights_split (f : Buf (Elt F) (M15.view.loc (c : Thread nD τ))) :
    (M15.view.loc (c : Thread nD τ) ↦{fullShare} f : sProp 𝕄) ⊢ bigSep Finset.univ fun s : Fin 8 => Free (F := F) c (dstW s) := by
  rw [Ring.pointsTo_blocks (ℓ := M15.view.loc (c : Thread nD τ)) SlotSet SlotSet_disjoint SlotSet_cover]
  have one : ∀ s : Fin 8, (M15.view.loc (c : Thread nD τ) ↦[SlotSet s]{fullShare} f : sProp 𝕄) ⊢ Free (F := F) c (dstW s) := by
    intro s
    unfold Free
    rw [dstW_set]
    iintro H; iexists f; iexact H
  exact bigSep_mono fun s _ => one s
/-- and back. -/
theorem weights_join : (bigSep Finset.univ fun s : Fin 8 => Free (F := F) c (dstW s) : sProp 𝕄) ⊢ iprop(∃ f : Buf (Elt F) (M15.view.loc (c : Thread nD τ)), M15.view.loc (c : Thread nD τ) ↦{fullShare} f) := by
  have one : ∀ s : Fin 8, (Free (F := F) c (dstW s) : sProp 𝕄) ⊢ iprop(∃ f : Buf (Elt F) (M15.view.loc (c : Thread nD τ)), M15.view.loc (c : Thread nD τ) ↦[SlotSet s]{fullShare} f) := by
    intro s
    unfold Free
    rw [dstW_set]
  exact .trans (bigSep_mono fun s _ => one s) (Ring.pointsTo_blocks_join_exists (ℓ := M15.view.loc (c : Thread nD τ)) SlotSet SlotSet_disjoint SlotSet_cover (Classical.ofNonempty))

/-- The staging buffer is its four halves, -/
theorem stage_split (f : Buf (Elt F) (M16.view.loc (c : Thread nD τ))) :
    (M16.view.loc (c : Thread nD τ) ↦{fullShare} f : sProp 𝕄) ⊢ bigSep Finset.univ fun a : Fin 2 × Fin 2 => Free (F := F) c (srcO a.1 a.2) := by
  rw [Ring.pointsTo_blocks (ℓ := M16.view.loc (c : Thread nD τ)) (fun a : Fin 2 × Fin 2 => HalfSet a.1 a.2) HalfSet_disjoint HalfSet_cover]
  have one : ∀ s : Fin 2 × Fin 2, (M16.view.loc (c : Thread nD τ) ↦[HalfSet s.1 s.2]{fullShare} f : sProp 𝕄) ⊢ Free (F := F) c (srcO s.1 s.2) := by
    intro s
    unfold Free
    rw [srcO_set]
    iintro H; iexists f; iexact H
  exact bigSep_mono fun s _ => one s
/-- and back. -/
theorem stage_join : (bigSep Finset.univ fun a : Fin 2 × Fin 2 => Free (F := F) c (srcO a.1 a.2) : sProp 𝕄) ⊢ iprop(∃ f : Buf (Elt F) (M16.view.loc (c : Thread nD τ)), M16.view.loc (c : Thread nD τ) ↦{fullShare} f) := by
  have one : ∀ s : Fin 2 × Fin 2, (Free (F := F) c (srcO s.1 s.2) : sProp 𝕄) ⊢ iprop(∃ f : Buf (Elt F) (M16.view.loc (c : Thread nD τ)), M16.view.loc (c : Thread nD τ) ↦[HalfSet s.1 s.2]{fullShare} f) := by
    intro s
    unfold Free
    rw [srcO_set]
  exact .trans (bigSep_mono fun s _ => one s) (Ring.pointsTo_blocks_join_exists (ℓ := M16.view.loc (c : Thread nD τ)) (fun a : Fin 2 × Fin 2 => HalfSet a.1 a.2) HalfSet_disjoint HalfSet_cover (Classical.ofNonempty))

/-- The result is its ten tiles, none written, -/
theorem out_split (f : Buf (Elt F) (M4.view.loc (c : Thread nD τ))) : (M4.view.loc (c : Thread nD τ) ↦{fullShare} f : sProp 𝕄) ⊢ OutsFree (F := F) c := by
  unfold OutsFree
  rw [five, Ring.pointsTo_blocks (ℓ := M4.view.loc (c : Thread nD τ)) (fun a : Fin 5 × Fin 2 => ColSet a.1 a.2) ColSet_disjoint ColSet_cover, ten]
  have one : ∀ (n : Fin 5) (h : Fin 2), (M4.view.loc (c : Thread nD τ) ↦[ColSet n h]{fullShare} f : sProp 𝕄) ⊢ Free (F := F) c (dstO n h) := by
    intro n h
    unfold Free
    rw [dstO_set]
    iintro H; iexists f; iexact H
  iintro ⟨H0, H1, H2, H3, H4, H5, H6, H7, H8, H9⟩
  isplitl [H0 H1]; · isplitl [H0]; · iapply (one 0 0); iexact H0
                     iapply (one 0 1); iexact H1
  isplitl [H2 H3]; · isplitl [H2]; · iapply (one 1 0); iexact H2
                     iapply (one 1 1); iexact H3
  isplitl [H4 H5]; · isplitl [H4]; · iapply (one 2 0); iexact H4
                     iapply (one 2 1); iexact H5
  isplitl [H6 H7]; · isplitl [H6]; · iapply (one 3 0); iexact H6
                     iapply (one 3 1); iexact H7
  isplitl [H8]; · iapply (one 4 0); iexact H8
  iapply (one 4 1); iexact H9

/-- and, all written, it holds what the tiles say. -/
theorem out_join (V : Fin 5 → S2x2x2x1032x128.Idx → Elt F .bf16) : (OutsDone c V : sProp 𝕄) ⊢ (M4.view.loc (c : Thread nD τ) ↦{fullShare} outW V) := by
  unfold OutsDone
  rw [five, Ring.pointsTo_blocks (ℓ := M4.view.loc (c : Thread nD τ)) (fun a : Fin 5 × Fin 2 => ColSet a.1 a.2) ColSet_disjoint ColSet_cover, ten]
  have one : ∀ (n : Fin 5) (h : Fin 2), (OutHas c V n h : sProp 𝕄) ⊢ (M4.view.loc (c : Thread nD τ) ↦[ColSet n h]{fullShare} outW V) := by
    intro n h
    unfold OutHas
    rw [dstO_set]
  iintro ⟨⟨H0, H1⟩, ⟨H2, H3⟩, ⟨H4, H5⟩, ⟨H6, H7⟩, H8, H9⟩
  isplitl [H0]; · iapply (one 0 0); iexact H0
  isplitl [H1]; · iapply (one 0 1); iexact H1
  isplitl [H2]; · iapply (one 1 0); iexact H2
  isplitl [H3]; · iapply (one 1 1); iexact H3
  isplitl [H4]; · iapply (one 2 0); iexact H4
  isplitl [H5]; · iapply (one 2 1); iexact H5
  isplitl [H6]; · iapply (one 3 0); iexact H6
  isplitl [H7]; · iapply (one 3 1); iexact H7
  isplitl [H8]; · iapply (one 4 0); iexact H8
  iapply (one 4 1); iexact H9

/-- A whole buffer is free to use, -/
theorem whole_free {sp : Space} {s : Shape} {e : EltTy} {m : Memref sig .tc sp s e} (hs : m.view.set = Finset.univ) (g : Buf (Elt F) (m.view.loc (c : Thread nD τ))) :
    (m.view.loc (c : Thread nD τ) ↦{fullShare} g : sProp 𝕄) ⊢ Free c m := by
  unfold Free
  rw [hs]
  iintro H
  iexists g
  iexact H
/-- and back. -/
theorem free_whole {sp : Space} {s : Shape} {e : EltTy} {m : Memref sig .tc sp s e} (hs : m.view.set = Finset.univ) :
    (Free (F := F) c m : sProp 𝕄) ⊢ iprop(∃ f : Buf (Elt F) (m.view.loc (c : Thread nD τ)), m.view.loc (c : Thread nD τ) ↦{fullShare} f) := by
  unfold Free
  rw [hs]
/-- A whole buffer landed. -/
theorem landed_whole {sp : Space} {s : Shape} {e : EltTy} {m : Memref sig .tc sp s e} (hs : m.view.set = Finset.univ) {C : s.Idx → Elt F e} (g : Buf (Elt F) (m.view.loc (c : Thread nD τ)))
    (hg : ∀ f : Buf (Elt F) (m.view.loc (c : Thread nD τ)), m.view.read (Elt F) f = C → f = g) :
    (Landed c m C : sProp 𝕄) ⊢ (m.view.loc (c : Thread nD τ) ↦{fullShare} g) := by
  unfold Landed
  iintro ⟨%f, H, %hf⟩
  rw [hg f hf, hs]
  iexact H

variable (X : Vec F S2x128x2560 .bf16) (w : Vec F S16x2560x1280 .fp8e4m3) (ws bs : Vec F S1x1280 .f32)

/-- The scratch buffers, whatever they hold. -/
def Scratch : sProp 𝕄 := iprop((∃ f : Buf (Elt F) (M7.view.loc (c : Thread nD τ)), M7.view.loc (c : Thread nD τ) ↦{fullShare} f) ∗ (∃ f : Buf (Elt F) (M8.view.loc (c : Thread nD τ)), M8.view.loc (c : Thread nD τ) ↦{fullShare} f) ∗ (∃ f : Buf (Elt F) (M9.view.loc (c : Thread nD τ)), M9.view.loc (c : Thread nD τ) ↦{fullShare} f) ∗ (∃ f : Buf (Elt F) (M10.view.loc (c : Thread nD τ)), M10.view.loc (c : Thread nD τ) ↦{fullShare} f) ∗ (∃ f : Buf (Elt F) (M11.view.loc (c : Thread nD τ)), M11.view.loc (c : Thread nD τ) ↦{fullShare} f) ∗ (∃ f : Buf (Elt F) (M12.view.loc (c : Thread nD τ)), M12.view.loc (c : Thread nD τ) ↦{fullShare} f) ∗ (∃ f : Buf (Elt F) (M13.view.loc (c : Thread nD τ)), M13.view.loc (c : Thread nD τ) ↦{fullShare} f) ∗ (∃ f : Buf (Elt F) (M14.view.loc (c : Thread nD τ)), M14.view.loc (c : Thread nD τ) ↦{fullShare} f) ∗ (∃ f : Buf (Elt F) (M15.view.loc (c : Thread nD τ)), M15.view.loc (c : Thread nD τ) ↦{fullShare} f) ∗ (∃ f : Buf (Elt F) (M16.view.loc (c : Thread nD τ)), M16.view.loc (c : Thread nD τ) ↦{fullShare} f))
/-- The kernel's semaphores, all at zero. -/
def Sems : sProp 𝕄 := iprop(semVal ((c : Thread nD τ), .dma (semW 0)) 0 ∗ semVal ((c : Thread nD τ), .dma (semW 1)) 0 ∗ semVal ((c : Thread nD τ), .dma (semW 2)) 0 ∗ semVal ((c : Thread nD τ), .dma (semW 3)) 0 ∗ semVal ((c : Thread nD τ), .dma (semW 4)) 0 ∗ semVal ((c : Thread nD τ), .dma (semW 5)) 0 ∗ semVal ((c : Thread nD τ), .dma (semW 6)) 0 ∗ semVal ((c : Thread nD τ), .dma (semW 7)) 0 ∗ semVal ((c : Thread nD τ), .dma (semO 0 0)) 0 ∗ semVal ((c : Thread nD τ), .dma (semO 0 1)) 0 ∗ semVal ((c : Thread nD τ), .dma (semO 1 0)) 0 ∗ semVal ((c : Thread nD τ), .dma (semO 1 1)) 0 ∗ semVal ((c : Thread nD τ), .dma cc0_scratch12.sem) 0 ∗ semVal ((c : Thread nD τ), .dma (semS 0)) 0 ∗ semVal ((c : Thread nD τ), .dma (semS 1)) 0 ∗ semVal ((c : Thread nD τ), .dma (semC 0)) 0 ∗ semVal ((c : Thread nD τ), .dma (semC 1)) 0)

/-- `Begin` but for what the core owes. -/
def Start : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Free (F := F) c M5 ∗ Free (F := F) c M6 ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsFree (F := F) c ∗ BufsIdle (F := F) c ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)
/-- `End` but for what the core owes. -/
def Finish : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Landed c M5 (C8 X) ∗ Landed c M6 (C12 X) ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsDone c (tiles w (C8 X) (C9 X) (C10 X) (C11 X) ws bs) ∗ BufsIdle (F := F) c ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

theorem begin_of_start : iprop(Start c X w ws bs ∗ Owes c) ⊢ (Begin c X w ws bs : sProp 𝕄) := by
  unfold Start Begin
  iintro ⟨⟨H0, H2, H3, HP, H5, H6, H7, H8, H9, H10, H11, H12, H13, H14, HT, HB, Sx, Ss0, Ss1, Sc0, Sc1⟩, HO⟩
  isplitl [H0]; · iexact H0
  isplitl [H2]; · iexact H2
  isplitl [H3]; · iexact H3
  isplitl [HP]; · iexact HP
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HT]; · iexact HT
  isplitl [HB]; · iexact HB
  isplitl [HO]; · iexact HO
  isplitl [Sx]; · iexact Sx
  isplitl [Ss0]; · iexact Ss0
  isplitl [Ss1]; · iexact Ss1
  isplitl [Sc0]; · iexact Sc0
  iexact Sc1

theorem finish_of_end : (End c X w ws bs : sProp 𝕄) ⊢ iprop(Finish c X w ws bs ∗ Owes c) := by
  unfold End Finish
  iintro ⟨H0, H2, H3, HP, H5, H6, H7, H8, H9, H10, H11, H12, H13, H14, HT, HB, HO, Sx, Ss0, Ss1, Sc0, Sc1⟩
  isplitr [HO]
  rotate_left
  · iexact HO
  isplitl [H0]; · iexact H0
  isplitl [H2]; · iexact H2
  isplitl [H3]; · iexact H3
  isplitl [HP]; · iexact HP
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HT]; · iexact HT
  isplitl [HB]; · iexact HB
  isplitl [Sx]; · iexact Sx
  isplitl [Ss0]; · iexact Ss0
  isplitl [Ss1]; · iexact Ss1
  isplitl [Sc0]; · iexact Sc0
  iexact Sc1

/-- What the kernel's copies leave of the weights' share. -/
def Rest : sProp 𝕄 := M1.view.loc (c : Thread nD τ) ↦{Transfers.shareDrop fullShare 8} w
/-- The arrays the kernel is given, and what it fills. -/
def Arrays (g4 : Buf (Elt F) (M4.view.loc (c : Thread nD τ))) (g5 : Buf (Elt F) (M5.view.loc (c : Thread nD τ))) (g6 : Buf (Elt F) (M6.view.loc (c : Thread nD τ))) : sProp 𝕄 := iprop(
  (M0.view.loc (c : Thread nD τ) ↦{fullShare} X) ∗ (M1.view.loc (c : Thread nD τ) ↦{fullShare} w) ∗ (M2.view.loc (c : Thread nD τ) ↦{fullShare} ws) ∗ (M3.view.loc (c : Thread nD τ) ↦{fullShare} bs)
  ∗ (M4.view.loc (c : Thread nD τ) ↦{fullShare} g4) ∗ (M5.view.loc (c : Thread nD τ) ↦{fullShare} g5) ∗ (M6.view.loc (c : Thread nD τ) ↦{fullShare} g6))

/-- The slots' state at rest out of its parts, -/
theorem pairs_make : iprop((bigSep Finset.univ fun s : Fin 8 => Free (F := F) c (dstW s)) ∗ (bigSep Finset.univ fun s : Fin 8 => semVal ((c : Thread nD τ), .dma (semW s)) 0)
      ∗ (bigSep Finset.univ fun s : Fin 8 => M1.view.loc (c : Thread nD τ) ↦{qW s} w)) ⊢ (Pairs c w 5 0 : sProp 𝕄) := by
  refine .trans ?_ (slots_pairs c w 5)
  simp only [slot_rest]
  rw [eight, eight, eight]
  iintro ⟨⟨A0, A1, A2, A3, A4, A5, A6, A7⟩, ⟨B0, B1, B2, B3, B4, B5, B6, B7⟩, C0, C1, C2, C3, C4, C5, C6, C7⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2 B2 C2]
  · isplitl [A2]; · iexact A2
    isplitl [B2]; · iexact B2
    iexact C2
  isplitl [A3 B3 C3]
  · isplitl [A3]; · iexact A3
    isplitl [B3]; · iexact B3
    iexact C3
  isplitl [A4 B4 C4]
  · isplitl [A4]; · iexact A4
    isplitl [B4]; · iexact B4
    iexact C4
  isplitl [A5 B5 C5]
  · isplitl [A5]; · iexact A5
    isplitl [B5]; · iexact B5
    iexact C5
  isplitl [A6 B6 C6]
  · isplitl [A6]; · iexact A6
    isplitl [B6]; · iexact B6
    iexact C6
  isplitl [A7]; · iexact A7
  isplitl [B7]; · iexact B7
  iexact C7
/-- and back. -/
theorem pairs_break : (Pairs c w 5 0 : sProp 𝕄) ⊢ iprop((bigSep Finset.univ fun s : Fin 8 => Free (F := F) c (dstW s)) ∗ (bigSep Finset.univ fun s : Fin 8 => semVal ((c : Thread nD τ), .dma (semW s)) 0)
      ∗ (bigSep Finset.univ fun s : Fin 8 => M1.view.loc (c : Thread nD τ) ↦{qW s} w)) := by
  refine .trans (pairs_slots c w 5) ?_
  simp only [slot_rest]
  rw [eight, eight, eight]
  iintro ⟨⟨A0, B0, C0⟩, ⟨A1, B1, C1⟩, ⟨A2, B2, C2⟩, ⟨A3, B3, C3⟩, ⟨A4, B4, C4⟩, ⟨A5, B5, C5⟩, ⟨A6, B6, C6⟩, A7, B7, C7⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

/-- The staging buffer at rest out of its parts, -/
theorem idle_make : iprop((bigSep Finset.univ fun a : Fin 2 × Fin 2 => Free (F := F) c (srcO a.1 a.2)) ∗ semVal ((c : Thread nD τ), .dma (semO 0 0)) 0 ∗ semVal ((c : Thread nD τ), .dma (semO 0 1)) 0
      ∗ semVal ((c : Thread nD τ), .dma (semO 1 0)) 0 ∗ semVal ((c : Thread nD τ), .dma (semO 1 1)) 0) ⊢ (BufsIdle (F := F) c : sProp 𝕄) := by
  unfold BufsIdle
  rw [two, four]
  unfold HalfIdle
  iintro ⟨⟨A0, A1, A2, A3⟩, B0, B1, B2, B3⟩
  isplitl [A0 A1 B0 B1]
  · isplitl [A0 B0]
    · isplitl [A0]; · iexact A0
      iexact B0
    isplitl [A1]; · iexact A1
    iexact B1
  isplitl [A2 B2]
  · isplitl [A2]; · iexact A2
    iexact B2
  isplitl [A3]; · iexact A3
  iexact B3
/-- and back. -/
theorem idle_break : (BufsIdle (F := F) c : sProp 𝕄) ⊢ iprop((bigSep Finset.univ fun a : Fin 2 × Fin 2 => Free (F := F) c (srcO a.1 a.2)) ∗ semVal ((c : Thread nD τ), .dma (semO 0 0)) 0 ∗ semVal ((c : Thread nD τ), .dma (semO 0 1)) 0
      ∗ semVal ((c : Thread nD τ), .dma (semO 1 0)) 0 ∗ semVal ((c : Thread nD τ), .dma (semO 1 1)) 0) := by
  unfold BufsIdle
  rw [two, four]
  unfold HalfIdle
  iintro ⟨⟨⟨A0, B0⟩, A1, B1⟩, ⟨A2, B2⟩, A3, B3⟩
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

/-- What the body starts from, out of what the launch hands over, -/
theorem gather (g4 g5 g6) : iprop(Arrays c X w ws bs g4 g5 g6 ∗ Sems (F := F) c ∗ Scratch (F := F) c) ⊢ (iprop(Start c X w ws bs ∗ Rest c w) : sProp 𝕄) := by
  unfold Arrays Sems Scratch Start Rest
  iintro ⟨⟨H0, H1, H2, H3, H4, H5, H6⟩, ⟨W0, W1, W2, W3, W4, W5, W6, W7, O0, O1, O2, O3, Sx, Ss0, Ss1, Sc0, Sc1⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, %f16, H16⟩
  ihave H1 := (Transfers.pointsTo_toks_split fullShare 8) $$ H1
  icases H1 with ⟨HR, HQ⟩
  ihave H15 := (weights_split c f15) $$ H15
  ihave H16 := (stage_split c f16) $$ H16
  ihave H4 := (out_split c g4) $$ H4
  isplitr [HR]
  rotate_left
  · iexact HR
  isplitl [H0]; · iexact H0
  isplitl [H2]; · iexact H2
  isplitl [H3]; · iexact H3
  isplitl [H15 HQ W0 W1 W2 W3 W4 W5 W6 W7]
  · iapply (pairs_make c w)
    isplitl [H15]; · iexact H15
    isplitr [HQ]
    rotate_left
    · iexact HQ
    rw [eight]
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7

  isplitl [H5]; · iapply (whole_free c (m := M5) (View.set_whole _) _); iexact H5
  isplitl [H6]; · iapply (whole_free c (m := M6) (View.set_whole _) _); iexact H6
  isplitl [H7]; · iapply (whole_free c (m := M7) (View.set_whole _) _); iexact H7
  isplitl [H8]; · iapply (whole_free c (m := M8) (View.set_whole _) _); iexact H8
  isplitl [H9]; · iapply (whole_free c (m := M9) (View.set_whole _) _); iexact H9
  isplitl [H10]; · iapply (whole_free c (m := M10) (View.set_whole _) _); iexact H10
  isplitl [H11]; · iapply (whole_free c (m := M11) (View.set_whole _) _); iexact H11
  isplitl [H12]; · iapply (whole_free c (m := M12) (View.set_whole _) _); iexact H12
  isplitl [H13]; · iapply (whole_free c (m := M13) (View.set_whole _) _); iexact H13
  isplitl [H14]; · iapply (whole_free c (m := M14) (View.set_whole _) _); iexact H14
  isplitl [H4]; · iexact H4
  isplitl [H16 O0 O1 O2 O3]
  · iapply (idle_make c)
    isplitl [H16]; · iexact H16
    isplitl [O0]; · iexact O0
    isplitl [O1]; · iexact O1
    isplitl [O2]; · iexact O2
    iexact O3
  isplitl [Sx]; · iexact Sx
  isplitl [Ss0]; · iexact Ss0
  isplitl [Ss1]; · iexact Ss1
  isplitl [Sc0]; · iexact Sc0
  iexact Sc1

/-- and what it ends with, as the launch takes it back. -/
theorem scatter : iprop(Finish c X w ws bs ∗ Rest c w)
    ⊢ (iprop(Arrays c X w ws bs (outW (tiles w (C8 X) (C9 X) (C10 X) (C11 X) ws bs)) (C8 X) (C12 X) ∗ Sems (F := F) c ∗ Scratch (F := F) c) : sProp 𝕄) := by
  unfold Arrays Sems Scratch Finish Rest
  iintro ⟨⟨H0, H2, H3, HP, H5, H6, H7, H8, H9, H10, H11, H12, H13, H14, HT, HB, Sx, Ss0, Ss1, Sc0, Sc1⟩, HR⟩
  ihave HP := (pairs_break c w) $$ HP
  icases HP with ⟨H15, HW, HQ⟩
  ihave HW := (Entails.of_eq eight) $$ HW
  icases HW with ⟨W0, W1, W2, W3, W4, W5, W6, W7⟩
  ihave HB := (idle_break c) $$ HB
  icases HB with ⟨H16, O0, O1, O2, O3⟩
  isplitl [H0 HR HQ H2 H3 HT H5 H6]
  · isplitl [H0]; · iexact H0
    isplitl [HR HQ]
    · iapply (Transfers.pointsTo_toks_join fullShare 8)
      isplitl [HR]; · iexact HR
      iexact HQ
    isplitl [H2]; · iexact H2
    isplitl [H3]; · iexact H3
    isplitl [HT]; · iapply (out_join c _); iexact HT
    isplitl [H5]; · iapply (landed_whole c (m := M5) (View.set_whole _) (C := C8 X) (C8 X) fun _ h => h); iexact H5
    iapply (landed_whole c (m := M6) (View.set_whole _) (C := C12 X) (C12 X) fun _ h => h); iexact H6
  isplitl [W0 W1 W2 W3 W4 W5 W6 W7 O0 O1 O2 O3 Sx Ss0 Ss1 Sc0 Sc1]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [O0]; · iexact O0
    isplitl [O1]; · iexact O1
    isplitl [O2]; · iexact O2
    isplitl [O3]; · iexact O3
    isplitl [Sx]; · iexact Sx
    isplitl [Ss0]; · iexact Ss0
    isplitl [Ss1]; · iexact Ss1
    isplitl [Sc0]; · iexact Sc0
    iexact Sc1
  isplitl [H7]; · iapply (free_whole c (m := M7) (View.set_whole _)); iexact H7
  isplitl [H8]; · iapply (free_whole c (m := M8) (View.set_whole _)); iexact H8
  isplitl [H9]; · iapply (free_whole c (m := M9) (View.set_whole _)); iexact H9
  isplitl [H10]; · iapply (free_whole c (m := M10) (View.set_whole _)); iexact H10
  isplitl [H11]; · iapply (free_whole c (m := M11) (View.set_whole _)); iexact H11
  isplitl [H12]; · iapply (free_whole c (m := M12) (View.set_whole _)); iexact H12
  isplitl [H13]; · iapply (free_whole c (m := M13) (View.set_whole _)); iexact H13
  isplitl [H14]; · iapply (free_whole c (m := M14) (View.set_whole _)); iexact H14
  isplitl [H15]; · iapply (weights_join c); iexact H15
  iapply (stage_join c); iexact H16
end

end Cert.Proof.Bits
-- ==== Proof.Bits.Launch.lean ====
/-
  The launch: from any memory the program ends with its arguments unchanged and its results as the body leaves them.
-/
module

public import proofs.«01_k».proof.Proof.Bits.Splits
public import proofs.«01_k».proof.Proof.Gen.Kernel.Frame

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [BitOps F]
local notation "𝕄" => MT nD τ sig Unit (Elt F) ℕ (UU nD τ) ℕ

open Idealize.ShloMosaic.Pipeline (Dat Cfg Window BodyObligation cellOf)

abbrev EP : Emb (UR sig nD τ) (MT nD τ sig Unit (Elt F) ℕ (UU nD τ) ℕ) := embL

variable (m : (ℓ : Loc nD τ sig) → Buf (Elt F) ℓ) (ρ : Dev nD → PrngReg)

/-! ## The kernel's own semaphores -/

/-- The seventeen semaphores: the weights' eight, the result's four, the input's, the scales' two, the codes' two. -/
abbrev osem : Fin 17 → SemLoc sig := ![.dma (semW 0), .dma (semW 1), .dma (semW 2), .dma (semW 3), .dma (semW 4), .dma (semW 5), .dma (semW 6), .dma (semW 7), .dma (semO 0 0), .dma (semO 0 1), .dma (semO 1 0), .dma (semO 1 1), .dma cc0_scratch12.sem, .dma (semS 0), .dma (semS 1), .dma (semC 0), .dma (semC 1)]
theorem ownSemFacts : Pipeline.OwnSemFacts (cfgs 0).spec osem := by decide +kernel

theorem ownSems0_eq (c : Dev nD) : (Pipeline.ownSems0 (Ix := Unit) (Name := ℕ) (U := UU nD τ) (Lvl := ℕ) (Val := Elt F) (τ := τ) osem c : sProp 𝕄) = Sems (F := F) c :=
  Pipeline.ownSems0_eq_of_list c osem [(0 : Fin 17), (1 : Fin 17), (2 : Fin 17), (3 : Fin 17), (4 : Fin 17), (5 : Fin 17), (6 : Fin 17), (7 : Fin 17), (8 : Fin 17), (9 : Fin 17), (10 : Fin 17), (11 : Fin 17), (12 : Fin 17), (13 : Fin 17), (14 : Fin 17), (15 : Fin 17), (16 : Fin 17)] (by decide) (by decide)

/-! ## The arrays as the kernel finds them -/

abbrev XA (c : Dev nD) : Vec F S2x128x2560 .bf16 := V m c main_arg0
abbrev WA (c : Dev nD) : Vec F S16x2560x1280 .fp8e4m3 := V m c main_arg1
abbrev SA (c : Dev nD) : Vec F S1x1280 .f32 := V m c main_v0
abbrev BA (c : Dev nD) : Vec F S1x1280 .f32 := V m c main_v1
/-- The first result. -/
abbrev OA (c : Dev nD) : Vec F S2x1032x1280 .bf16 :=
  outW (tiles (WA m c) (C8 (XA m c)) (C9 (XA m c)) (C10 (XA m c)) (C11 (XA m c)) (SA m c) (BA m c))

/-- The state before the kernel's one point. -/
def Φ0 (c : Dev nD) : sProp 𝕄 := iprop(Start c (XA m c) (WA m c) (SA m c) (BA m c) ∗ Rest c (WA m c))
/-- The state after it. -/
def Φ1 (c : Dev nD) : sProp 𝕄 := iprop(Finish c (XA m c) (WA m c) (SA m c) (BA m c) ∗ Rest c (WA m c))

def dats (_ : Fin 1) (c : Dev nD) : Dat τ (Elt F) Unit ℕ (UU nD τ) ℕ cfg0 c where
  A w := w.elim0
  after w _ := w.elim0
  Φ t := if t.val = 0 then Φ0 m c else Φ1 m c
  q _ := fullShare
  owed _ := 0

theorem body_eq (t : Fin cfg0.N) : (defs₀ (F := F)) .tc cfg0.body (cfg0.bodyArgs t (cfg0.slots t)) = cc0_upsample M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 := rfl

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ t0_0.castSucc = Φ0 m c from rfl, show (dats m 0 c).Φ t0_0.succ = Φ1 m c from rfl]
  unfold Dat.owesAt Pipeline.owesWithin
  rw [show (dats m 0 c).owed t0_0.castSucc = 0 from rfl, show (dats m 0 c).owed t0_0.succ = 0 from rfl]
  unfold Φ0 Φ1
  sl_rw [body_eq t0_0]
  iintro ⟨⟨HS, HR⟩, ⟨%W, -, HW⟩, HE⟩
  iapply (wp_wand_r _ _ _)
  isplitl [HS HW]
  · iapply (body_wp c (XA m c) (WA m c) (SA m c) (BA m c))
    iapply (begin_of_start c (XA m c) (WA m c) (SA m c) (BA m c))
    isplitl [HS]; · iexact HS
    unfold Owes
    iexists W; iexact HW
  · iintro %_ H
    ihave H := (finish_of_end c (XA m c) (WA m c) (SA m c) (BA m c)) $$ H
    icases H with ⟨HS, HO⟩
    unfold Owes
    icases HO with ⟨%W', HW⟩
    isplitl [HS HR]
    · isplitl [HS]; · iexact HS
      iexact HR
    isplitl [HW]
    · iexists W'; isplitr; · ipureintro; exact fun _ _ => Or.inl trivial
      iexact HW
    iexact HE

/-! ## The run -/

def u₀ : UU nD τ := (initOf (Pipeline.cells cfgs cellOf_inj) (Pipeline.launchToks cfgs cellOf_inj), 1)

/-- What the launch hands the kernel, -/
def X0 (c : Dev nD) : sProp 𝕄 := iprop(Arrays c (XA m c) (WA m c) (SA m c) (BA m c) (V m c main_v2_0) (V m c main_v2_1) (V m c main_v2_2) ∗ Sems (F := F) c)
/-- what it takes back, -/
def Y0 (c : Dev nD) : sProp 𝕄 := Arrays c (XA m c) (WA m c) (SA m c) (BA m c) (OA m c) (C8 (XA m c)) (C12 (XA m c))
/-- and what the kernel never sees. -/
def Z0 (c : Dev nD) : sProp 𝕄 := iprop((((c : Thread nD τ).loc main_arg2) ↦{fullShare} V m c main_arg2) ∗ (((c : Thread nD τ).loc main_arg3) ↦{fullShare} V m c main_arg3))

/-- What the final memory holds. -/
def QY (c : Dev nD) (s : MemSt nD τ sig (Elt F)) : Prop :=
  (s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3)
  ∧ s.mem ((c : Thread nD τ).loc main_v2_0) = OA m c ∧ s.mem ((c : Thread nD τ).loc main_v2_1) = C8 (XA m c) ∧ s.mem ((c : Thread nD τ).loc main_v2_2) = C12 (XA m c)

set_option backward.isDefEq.respectTransparency.types false in
/-- From any memory with zero counters, every weakly fair execution of @main terminates; in every final state the
    arguments are as launched, the three results hold what the body computes and every semaphore counter is at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := X0 m) (Y := Y0 m) (Z := Z0 m)
    (hX := fun c => by
      rw [unscopedRest0_eq, ownSems0_eq]
      unfold X0 Z0 Arrays
      iintro ⟨⟨H0, H1, H2, H3, H4, H5, H6, H7, H8⟩, HS, -, -, -⟩; imodintro
      isplitr [H2 H3]
      · isplitr [HS]
        · isplitl [H0]; · iexact H0
          isplitl [H1]; · iexact H1
          isplitl [H4]; · iexact H4
          isplitl [H5]; · iexact H5
          isplitl [H6]; · iexact H6
          isplitl [H7]; · iexact H7
          iexact H8
        · iexact HS
      isplitl [H2]; · iexact H2
      iexact H3)
    (hin := fun c => by
      rw [scopedRest0_eq, show (dats m 0 c).Φ 0 = Φ0 m c from rfl]
      unfold X0 Φ0
      iintro ⟨⟨HA, HS⟩, HB⟩
      iapply (gather c (XA m c) (WA m c) (SA m c) (BA m c))
      isplitl [HA]; · iexact HA
      isplitl [HS]; · iexact HS
      unfold Scratch
      iexact HB)
    (hout := fun c => by
      rw [scopedRest0_eq, show (dats m 0 c).Φ (Fin.last cfg0.N) = Φ1 m c from rfl, ownSems0_eq]
      unfold Φ1 Y0
      iintro H
      ihave H := (scatter c (XA m c) (WA m c) (SA m c) (BA m c)) $$ H
      icases H with ⟨HA, HS, HB⟩
      isplitl [HA]; · iexact HA
      isplitl [HS]; · iexact HS
      unfold Scratch
      iexact HB)
    (QY := QY m)
    (hY := fun c s' => by
      unfold Y0 Z0 Arrays
      iintro ⟨⟨H0, H1, -, -, H4, H5, H6⟩, ⟨H2, H3⟩, HSI⟩
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨⟨Buf.eq_of_forall_mem_univ h0, Buf.eq_of_forall_mem_univ h1, Buf.eq_of_forall_mem_univ h2, Buf.eq_of_forall_mem_univ h3⟩,
          Buf.eq_of_forall_mem_univ h4, Buf.eq_of_forall_mem_univ h5, Buf.eq_of_forall_mem_univ h6⟩
      iexact HSI)
    (hQ := fun _ hh hz => ⟨fun c => (hh c).2, hz⟩)

/-- The frame at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1.1.trans (V_main_arg0 m c), (h.1 c).1.2.1.trans (V_main_arg1 m c),
    (h.1 c).1.2.2.1.trans (V_main_arg2 m c), (h.1 c).1.2.2.2.trans (V_main_arg3 m c)⟩, h.2⟩) (run_main m ρ)

end Cert.Proof.Bits
-- ==== Proof.Ideal.Base.lean ====
/-
  The kernel's scratch arrays by name, the closed forms of the offsets its body computes, and where a
  store into the output staging buffer lands.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.ValueIdx
public import Idealize.ShloMosaic.Lib.ValueLayout
public import Idealize.ShloMosaic.Lib.Tactic

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the launch library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The buffers -/

abbrev M0 : Memref sig .tc .hbm S2x128x2560 .bf16 := Memref.whole main_arg0
abbrev M1 : Memref sig .tc .hbm S16x2560x1280 .fp8e4m3 := Memref.whole main_arg1
abbrev M2 : Memref sig .tc .hbm S1x1280 .f32 := Memref.whole main_v0
abbrev M3 : Memref sig .tc .hbm S1x1280 .f32 := Memref.whole main_v1
abbrev M4 : Memref sig .tc .hbm S2x1032x1280 .bf16 := Memref.whole main_v2_0
abbrev M5 : Memref sig .tc .hbm S2x128x2560 .fp8e4m3 := Memref.whole main_v2_1
abbrev M6 : Memref sig .tc .hbm S2x128 .f32 := Memref.whole main_v2_2
abbrev M7 : Memref sig .tc .vmem S2x128x2560 .bf16 := Memref.whole cc0_scratch0
abbrev M8 : Memref sig .tc .vmem S2x128x2560 .fp8e4m3 := Memref.whole cc0_scratch1
abbrev M9 : Memref sig .tc .vmem S2x128x2560 .fp8e4m3 := Memref.whole cc0_scratch2
abbrev M10 : Memref sig .tc .vmem S2x128x128 .f32 := Memref.whole cc0_scratch3
abbrev M11 : Memref sig .tc .vmem S2x128x128 .f32 := Memref.whole cc0_scratch4
abbrev M12 : Memref sig .tc .vmem S2x128 .f32 := Memref.whole cc0_scratch5
abbrev M13 : Memref sig .tc .vmem S1x1280 .f32 := Memref.whole cc0_scratch6
abbrev M14 : Memref sig .tc .vmem S1x1280 .f32 := Memref.whole cc0_scratch7
abbrev M15 : Memref sig .tc .vmem S8x2x2560x256 .fp8e4m3 := Memref.whole cc0_scratch8
abbrev M16 : Memref sig .tc .vmem S2x2x2x1032x128 .bf16 := Memref.whole cc0_scratch9
/-- The output staging buffer counted in row pairs. -/
abbrev R16 : Memref sig .tc .vmem S2x2x2x516x2x128 .bf16 :=
  M16.reshape S2x2x2x516x2x128 reshapes_S2x2x2x1032x128_S2x2x2x516x2x128.1 reshapes_S2x2x2x1032x128_S2x2x2x516x2x128.2
    (Memref.isWhole_whole cc0_scratch9).contiguous

/-! ## Where a store into the output staging buffer lands -/

/-- The box of a word store: buffer `p`, half `h`, batch `b`, word rows `32 g + jp`, four apart. -/
abbrev wordOff (p h b g k : ℕ) : Fin 6 → ℕ := ![p, h, b, 32 * g + k, 0, 0]
/-- The box of the last word of a tap pair: word row `512 + jp`. -/
abbrev tailOff (p h b k : ℕ) : Fin 5 → ℕ := ![p, h, b, 2 * (512 + k), 0]

theorem wordRow_lt {g k r t : ℕ} (hg : g < 16) (hk : k < 4) (hr : r < 8) (ht : t < 2) : 64 * g + 8 * r + 2 * k + t < 1032 := by omega

/-- The element of the staging buffer under `(r, t, l)` of a word store. -/
def wordIx (p h b : Fin 2) (g : Fin 16) (k : Fin 4) (r : Fin 8) (t : Fin 2) (l : Fin 128) : S2x2x2x1032x128.Idx :=
  ix5 p h b (⟨64 * g.val + 8 * r.val + 2 * k.val + t.val, wordRow_lt g.isLt k.isLt r.isLt t.isLt⟩ : Fin 1032) l

/-- The element of the staging buffer under `(t, l)` of a tail store. -/
def tailIx (p h b : Fin 2) (k : Fin 4) (t : Fin 2) (l : Fin 128) : S2x2x2x1032x128.Idx :=
  ix5 p h b (⟨1024 + 2 * k.val + t.val, by omega⟩ : Fin 1032) l

theorem word_emb (p h b : Fin 2) (g : Fin 16) (k : Fin 4) (off : Fin 6 → ℕ) (hoff : off = wordOff p h b g k)
    (hin) (hpos) (r : Fin 8) (t : Fin 2) (l : Fin 128) :
    (R16.access ⟨⟨off, S1x1x1x8x2x128.size, ![1, 1, 1, 4, 1, 1], hin⟩, hpos⟩).emb (ix6 (0 : Fin 1) (0 : Fin 1) (0 : Fin 1) r t l)
      = wordIx p h b g k r t l := by
  subst hoff
  show Shape.reshapeEquiv _ _ = _
  refine Shape.reshapeEquiv_eq_of_rowMajor _ ?_
  rw [Shape.rowMajor_val_five, Shape.rowMajor_val_six]
  show ((((p.val * 2 + h.val) * 2 + b.val) * 1032 + (64 * g.val + 8 * r.val + 2 * k.val + t.val)) * 128 + l.val)
    = ((((((p.val + 1 * 0) * 2 + (h.val + 1 * 0)) * 2 + (b.val + 1 * 0)) * 516 + (32 * g.val + k.val + 4 * r.val)) * 2 + (0 + 1 * t.val)) * 128 + (0 + 1 * l.val))
  omega

theorem tail_emb (p h b : Fin 2) (k : Fin 4) (off : Fin 5 → ℕ) (hoff : off = tailOff p h b k) (hin) (t : Fin 2) (l : Fin 128) :
    (M16.access (Rect.unit (s := S2x2x2x1032x128) off S1x1x1x2x128.size hin)).emb (ix5 (0 : Fin 1) (0 : Fin 1) (0 : Fin 1) t l)
      = tailIx p h b k t l := by
  subst hoff
  funext a
  apply Fin.ext
  fin_cases a
  · show p.val + 1 * 0 = p.val; omega
  · show h.val + 1 * 0 = h.val; omega
  · show b.val + 1 * 0 = b.val; omega
  · show 2 * (512 + k.val) + 1 * t.val = 1024 + 2 * k.val + t.val; omega
  · show 0 + 1 * l.val = l.val; omega

/-! ## The offsets in closed form -/

/-- The parity of trip `i`, the buffer it fills. -/
abbrev par (i : Fin k0_t1_loop.trips) : Fin 2 := ⟨i.val % 2, Nat.mod_lt _ (by decide)⟩
abbrev pr (k : Fin k0_t2_loop.trips) : Fin 4 := ⟨k.val, lt_of_lt_of_eq k.isLt (by decide)⟩

theorem off20 : ∀ (i : Fin k0_t1_loop.trips) (k : Fin k0_t2_loop.trips) (g : Fin 16),
    k0_off20 i k (BitVec.ofNat 32 (32 * g.val)) = wordOff (par i) 0 0 g (pr k) := by decide +kernel
theorem off23 : ∀ (i : Fin k0_t1_loop.trips) (k : Fin k0_t2_loop.trips) (g : Fin 16),
    k0_off23 i k (BitVec.ofNat 32 (32 * g.val)) = wordOff (par i) 0 1 g (pr k) := by decide +kernel
theorem off26 : ∀ (i : Fin k0_t1_loop.trips) (k : Fin k0_t2_loop.trips) (g : Fin 16),
    k0_off26 i k (BitVec.ofNat 32 (32 * g.val)) = wordOff (par i) 1 0 g (pr k) := by decide +kernel
theorem off29 : ∀ (i : Fin k0_t1_loop.trips) (k : Fin k0_t2_loop.trips) (g : Fin 16),
    k0_off29 i k (BitVec.ofNat 32 (32 * g.val)) = wordOff (par i) 1 1 g (pr k) := by decide +kernel
theorem off19 : ∀ (i : Fin k0_t1_loop.trips) (k : Fin k0_t2_loop.trips), k0_off19 i k = tailOff (par i) 0 0 (pr k) := by decide +kernel
theorem off22 : ∀ (i : Fin k0_t1_loop.trips) (k : Fin k0_t2_loop.trips), k0_off22 i k = tailOff (par i) 0 1 (pr k) := by decide +kernel
theorem off25 : ∀ (i : Fin k0_t1_loop.trips) (k : Fin k0_t2_loop.trips), k0_off25 i k = tailOff (par i) 1 0 (pr k) := by decide +kernel
theorem off28 : ∀ (i : Fin k0_t1_loop.trips) (k : Fin k0_t2_loop.trips), k0_off28 i k = tailOff (par i) 1 1 (pr k) := by decide +kernel

end Cert.Proof.Ideal

end
-- ==== Proof.Ideal.Copies.lean ====
/-
  A copy started and waited for, once for every copy of the kernel.
-/
module

public import proofs.«01_k».proof.Proof.Ideal.Base

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

variable (c : Dev nD)
variable {sp sp' : Space} {s : Shape} {e : EltTy} {α : Type}

/-- A memref's elements, reading `v` through it. -/
def Landed (dst : Memref sig .tc sp' s e) (v : s.Idx → Elt F e) : sProp 𝕄 :=
  iprop(∃ f : Buf (Elt F) (dst.view.loc (c : Thread nD τ)), (dst.view.loc (c : Thread nD τ) ↦[dst.view.set]{fullShare} f)
    ∗ ⌜dst.view.read (Elt F) f = v⌝)

/-- A memref's elements, whatever they hold. -/
def Free (dst : Memref sig .tc sp' s e) : sProp 𝕄 :=
  iprop(∃ f : Buf (Elt F) (dst.view.loc (c : Thread nD τ)), dst.view.loc (c : Thread nD τ) ↦[dst.view.set]{fullShare} f)

/-- A copy in flight: at its wait it delivers the destination, reading what the source reads, and the source back. -/
def InFlight (src : Memref sig .tc sp s e) (dst : Memref sig .tc sp' s e) (sm : DmaSem sig) (q : PosShare TreeShare)
    (fs : Buf (Elt F) (src.view.loc (c : Thread nD τ))) : sProp 𝕄 :=
  Transfers.Flight (countersEmb (nD := nD) (τ := τ)) (c : Thread nD τ) (.dma sm) () (dst.view.amount (.dma sm))
    iprop(Landed c dst (src.view.read (Elt F) fs) ∗ (src.view.loc (c : Thread nD τ) ↦[src.view.set]{q} fs))

/-- What the core has waited for so far. -/
def Owes : sProp 𝕄 := iprop(∃ W : Waits sig Unit, owes (c : Thread nD τ) 0 W)

theorem Landed_free (dst : Memref sig .tc sp' s e) (v : s.Idx → Elt F e) : (Landed c dst v : sProp 𝕄) ⊢ Free c dst := by
  unfold Landed Free
  iintro ⟨%f, H, %hf⟩
  iexists f
  iexact H

theorem copyStart {src : Memref sig .tc sp s e} {dst : Memref sig .tc sp' s e} {sm : DmaSem sig}
    {hsrc : src.view.WordExact} {hdst : dst.view.WordExact} {hsem} {q : PosShare TreeShare}
    {fs : Buf (Elt F) (src.view.loc (c : Thread nD τ))} (hs : 0 < s.numel)
    {k : PUnit → Prog (TpuEff nD τ sig (Elt F) Λ₀ .tc) α} {Q : α → sProp 𝕄} :
    iprop((src.view.loc (c : Thread nD τ) ↦[src.view.set]{q} fs) ∗ Free c dst ∗ semVal ((c : Thread nD τ), .dma sm) 0)
      ⊢ iprop((InFlight c src dst sm q fs -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold Free
  iintro ⟨Hs, ⟨%fd, Hd⟩, Hv⟩ Hk
  iapply (Transfers.wp_dmaLocal (countersEmb (nD := nD) (τ := τ)) 𝒱₀ (c : Thread nD τ) none () (dst.view.amount (.dma sm)) rfl
    (View.amount_pos _ _ hs) subset_rfl) $$ [Hs Hd Hv]
  · isplitl [Hs]; · iexact Hs
    isplitl [Hd]; · iexact Hd
    iexact Hv
  iintro HF
  iapply Hk
  unfold InFlight
  iapply (Transfers.Flight_mono (countersEmb (nD := nD) (τ := τ)) (c : Thread nD τ) ?_) $$ HF
  unfold Landed
  iintro ⟨Hd, Hs⟩
  isplitl [Hd]
  · iexists _
    isplitl [Hd]; · iexact Hd
    ipureintro
    exact View.read_write_univ _ _
  iexact Hs

theorem copyWait {src : Memref sig .tc sp s e} {dst : Memref sig .tc sp' s e} {sm : DmaSem sig}
    {hsrc : src.view.WordExact} {hdst : dst.view.WordExact} {q : PosShare TreeShare}
    {fs : Buf (Elt F) (src.view.loc (c : Thread nD τ))}
    {k : PUnit → Prog (TpuEff nD τ sig (Elt F) Λ₀ .tc) α} {Q : α → sProp 𝕄} :
    iprop(InFlight c src dst sm q fs ∗ Owes c)
      ⊢ iprop((iprop(Landed c dst (src.view.read (Elt F) fs) ∗ (src.view.loc (c : Thread nD τ) ↦[src.view.set]{q} fs)
          ∗ semVal ((c : Thread nD τ), .dma sm) 0 ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold InFlight Owes
  iintro ⟨HF, ⟨%W, HO⟩⟩ Hk
  iapply (Transfers.wp_waitLocal (countersEmb (nD := nD) (τ := τ)) 𝒱₀ (c : Thread nD τ) none () rfl) $$ [HF HO]
  · isplitl [HF]; · iexact HF
    iexact HO
  iintro ⟨⟨HD, Hs⟩, Hv, HO⟩
  iapply Hk
  isplitl [HD]; · iexact HD
  isplitl [Hs]; · iexact Hs
  isplitl [Hv]; · iexact Hv
  iexists _
  iexact HO

/-- A program that branches on a condition that holds, or fails, goes on in that branch. -/
theorem iteT {p : Prop} {h : Decidable p} (hp : p) {t : p → Prog (TpuEff nD τ sig (Elt F) Λ₀ .tc) α} {e} {Q : α → sProp 𝕄} :
    (wp frame (wpE (defs₀ (F := F)) 𝒱₀ (c : Thread nD τ) none) Set.univ (t hp) Q : sProp 𝕄)
      ⊢ wp frame (wpE (defs₀ (F := F)) 𝒱₀ (c : Thread nD τ) none) Set.univ (@dite _ p h t e) Q := by rw [dif_pos hp]
theorem iteF {p : Prop} {h : Decidable p} (hp : ¬ p) {t : p → Prog (TpuEff nD τ sig (Elt F) Λ₀ .tc) α} {e} {Q : α → sProp 𝕄} :
    (wp frame (wpE (defs₀ (F := F)) 𝒱₀ (c : Thread nD τ) none) Set.univ (e hp) Q : sProp 𝕄)
      ⊢ wp frame (wpE (defs₀ (F := F)) 𝒱₀ (c : Thread nD τ) none) Set.univ (@dite _ p h t e) Q := by rw [dif_neg hp]

/-- A program that is done has its result at once. -/
theorem retI {Q : α → sProp 𝕄} {v : α} {P : sProp 𝕄} (H : P ⊢ Q v) :
    P ⊢ wp frame (wpE (defs₀ (F := F)) 𝒱₀ (c : Thread nD τ) none) Set.univ (.ret v) Q := by
  rw [wp_ret]
  exact H.trans fupd_intro

theorem retW {Q : α → sProp 𝕄} {v : α} :
    Q v ⊢ wp frame (wpE (defs₀ (F := F)) 𝒱₀ (c : Thread nD τ) none) Set.univ (.ret v) Q := retI c .rfl

/-- A program run inside another: its own run, then what follows it. -/
theorem bindI {β : Type} {p : Prog (TpuEff nD τ sig (Elt F) Λ₀ .tc) β} {f : β → Prog (TpuEff nD τ sig (Elt F) Λ₀ .tc) α} {Q : α → sProp 𝕄} :
    (wp frame (wpE (defs₀ (F := F)) 𝒱₀ (c : Thread nD τ) none) Set.univ p
        (fun v => wp frame (wpE (defs₀ (F := F)) 𝒱₀ (c : Thread nD τ) none) Set.univ (f v) Q) : sProp 𝕄)
      ⊢ wp frame (wpE (defs₀ (F := F)) 𝒱₀ (c : Thread nD τ) none) Set.univ (p >>= f) Q := by rw [wp_bind]
theorem bind2I {β γ : Type} {p : Prog (TpuEff nD τ sig (Elt F) Λ₀ .tc) β} {f : β → Prog (TpuEff nD τ sig (Elt F) Λ₀ .tc) γ}
    {g : γ → Prog (TpuEff nD τ sig (Elt F) Λ₀ .tc) α} {Q : α → sProp 𝕄} :
    (wp frame (wpE (defs₀ (F := F)) 𝒱₀ (c : Thread nD τ) none) Set.univ p
        (fun v => wp frame (wpE (defs₀ (F := F)) 𝒱₀ (c : Thread nD τ) none) Set.univ (f v >>= g) Q) : sProp 𝕄)
      ⊢ wp frame (wpE (defs₀ (F := F)) 𝒱₀ (c : Thread nD τ) none) Set.univ ((p >>= f) >>= g) Q := by
  rw [wp_bind, wp_bind]
  simp only [wp_bind]
  exact .rfl

/-- What a program leaves alone is kept aside while it runs. -/
theorem aside {R P : sProp 𝕄} {p : Prog (TpuEff nD τ sig (Elt F) Λ₀ .tc) α} {Q : α → sProp 𝕄}
    (H : P ⊢ wp frame (wpE (defs₀ (F := F)) 𝒱₀ (c : Thread nD τ) none) Set.univ p (fun v => iprop(R -∗ Q v))) :
    iprop(P ∗ R) ⊢ wp frame (wpE (defs₀ (F := F)) 𝒱₀ (c : Thread nD τ) none) Set.univ p Q := by
  refine (sep_mono_left H).trans ((wp_frame_r frame (wpE (defs₀ (F := F)) 𝒱₀ (c : Thread nD τ) none) Set.univ).trans
    (wp_mono frame (wpE (defs₀ (F := F)) 𝒱₀ (c : Thread nD τ) none) Set.univ fun v => ?_))
  iintro ⟨HQ, HR⟩
  iapply HQ
  iexact HR

end Cert.Proof.Ideal
-- ==== Proof.Ideal.Known.lean ====
/-
  What is known of a buffer that is filled in pieces.
-/
module

public import proofs.«01_k».proof.Proof.Ideal.Copies

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

variable {s : Shape} {e : EltTy} (c : Dev nD) (m : Memref sig .tc .vmem s e)

/-- A memref's elements: on `A` they are those of `C`, elsewhere whatever they may be. -/
def Known (C : s.Idx → Elt F e) (A : s.Idx → Prop) : sProp 𝕄 :=
  iprop(∃ f : Buf (Elt F) (m.view.loc (c : Thread nD τ)), (m.view.loc (c : Thread nD τ) ↦[m.view.set]{fullShare} f)
    ∗ ⌜∀ i, A i → m.view.read (Elt F) f i = C i⌝)

variable {c m} {C : s.Idx → Elt F e} {A : s.Idx → Prop}

/-- Of a memref nothing is known at first. -/
theorem Known_of_free (hA : ∀ i, ¬ A i) : Free c m ⊢ (Known c m C A : sProp 𝕄) := by
  unfold Free Known
  iintro ⟨%f, H⟩
  iexists f
  isplitl [H]; · iexact H
  ipureintro
  exact fun i h => absurd h (hA i)

/-- A memref known throughout has landed. -/
theorem Known_landed (hA : ∀ i, A i) : (Known c m C A : sProp 𝕄) ⊢ Landed c m C := by
  unfold Landed Known
  iintro ⟨%f, H, %hf⟩
  iexists f
  isplitl [H]; · iexact H
  ipureintro
  exact funext fun i => hf i (hA i)

theorem Known_of_landed : (Landed c m C : sProp 𝕄) ⊢ Known c m C (fun _ => True) := by
  unfold Landed Known
  iintro ⟨%f, H, %hf⟩
  iexists f
  isplitl [H]; · iexact H
  ipureintro
  exact fun i _ => congrFun hf i

variable {α : Type}

/-- A store of elements of `C`: they are known from then on. -/
theorem knownStore {B : s.Idx → Prop} {r : Rect s} {w : r.shape.Idx → Elt F e} {hx} {hm} {k : PUnit → Prog (TpuEff nD τ sig (Elt F) Λ₀ .tc) α} {Q : α → sProp 𝕄}
    (hw : ∀ j, w j = C (r.emb j)) (hB : ∀ i, B i → A i ∨ ∃ j, r.emb j = i) :
    (Known c m C A : sProp 𝕄)
      ⊢ iprop((Known c m C B -∗ wp frame (wpE (defs₀ (F := F)) 𝒱₀ (c : Thread nD τ) none) Set.univ (k ⟨⟩) Q) -∗ wp frame (wpE (defs₀ (F := F)) 𝒱₀ (c : Thread nD τ) none) Set.univ (.op (.store m r w Finset.univ hx hm) k) Q) := by
  unfold Known
  iintro ⟨%f, H, %hf⟩ Hk
  iapply (wp_store 𝒱₀ (c : Thread nD τ) none Set.univ (m := m) (r := r) (Mk := Finset.univ) (hx := hx) (hm := hm)
    (View.set_slice_subset m.view r)) $$ H
  iintro H
  iapply Hk
  iexists _
  isplitl [H]; · iexact H
  ipureintro
  intro i hi
  by_cases h : ∃ j, r.emb j = i
  · obtain ⟨j, rfl⟩ := h
    rw [← hw j]
    exact View.read_slice_write_emb (v := m.view) r _ w (Finset.mem_univ j)
  · rcases hB i hi with hA | h'
    · refine (View.read_slice_write_of_not_mem (v := m.view) r _ w Finset.univ ?_).trans (hf i hA)
      intro hmem
      obtain ⟨j, -, hj⟩ := Finset.mem_map.mp hmem
      exact h ⟨j, hj⟩
    · exact absurd h' h

/-- A load whose result is not used. -/
theorem knownSkip {r : LoadRect s} {hl} {k : (r.shape.Idx → Elt F e) → Prog (TpuEff nD τ sig (Elt F) Λ₀ .tc) α} {Q : α → sProp 𝕄} :
    (Known c m C A : sProp 𝕄)
      ⊢ iprop((∀ v, Known c m C A -∗ wp frame (wpE (defs₀ (F := F)) 𝒱₀ (c : Thread nD τ) none) Set.univ (k v) Q) -∗ wp frame (wpE (defs₀ (F := F)) 𝒱₀ (c : Thread nD τ) none) Set.univ (.op (.load m r hl) k) Q) := by
  unfold Known
  iintro ⟨%f, H, %hf⟩ Hk
  iapply (wp_load 𝒱₀ (c : Thread nD τ) none Set.univ (m := m) (r := r) (View.setOn_subset_set m.view r.set)) $$ H
  iintro H
  iapply Hk
  iexists _
  isplitl [H]; · iexact H
  ipureintro
  exact hf

/-- A load of known elements. -/
theorem knownLoad {r : Rect s} {hl} {k : (r.toLoadRect.shape.Idx → Elt F e) → Prog (TpuEff nD τ sig (Elt F) Λ₀ .tc) α} {Q : α → sProp 𝕄}
    (v : r.shape.Idx → Elt F e) (hv : ∀ j, A (r.emb j) ∧ C (r.emb j) = v j) :
    (Known c m C A : sProp 𝕄)
      ⊢ iprop((Known c m C A -∗ wp frame (wpE (defs₀ (F := F)) 𝒱₀ (c : Thread nD τ) none) Set.univ (k v) Q) -∗ wp frame (wpE (defs₀ (F := F)) 𝒱₀ (c : Thread nD τ) none) Set.univ (.op (.load m r.toLoadRect hl) k) Q) := by
  unfold Known
  iintro ⟨%f, H, %hf⟩ Hk
  iapply (wp_load_rect 𝒱₀ (c : Thread nD τ) none Set.univ (m := m) (r := r) (View.set_slice_subset m.view r)) $$ H
  iintro H
  rw [show (m.access r).read (Elt F) f = v from funext fun j => (hf _ (hv j).1).trans (hv j).2]
  iapply Hk
  iexists _
  isplitl [H]; · iexact H
  ipureintro
  exact hf

end Cert.Proof.Ideal
-- ==== Proof.Ideal.Quant.lean ====
/-
  The quantiser: what each block of rows is stored as, and the stores' effect on what is known.
-/
module

public import proofs.«01_k».proof.Proof.Ideal.Known

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

variable (c : Dev nD) (X : Vec F S2x128x2560 .bf16)

/-! ## What a block of rows is quantised to -/

/-- Thirty-two rows of a frame batch. -/
def xb (b : Fin 2) (g : Fin 4) : Vec F S1x32x2560 .bf16 := fun j =>
  X (ix3 b (⟨32 * g.val + (j 1).val, by have h : (j 1).val < 32 := (j 1).isLt; omega⟩ : Fin 128) (j 2))

/-- Their codes. -/
def codes32 (v : Vec F S1x32x2560 .bf16) : FVec F S1x32x2560 .fp8e4m3 := k0_pay300 (k0_pay298 v) (k0_pay299 v)
/-- Their scales, each repeated along the lanes. -/
def scale32 (v : Vec F S1x32x2560 .bf16) : FVec F S1x32x128 .f32 := k0_pay302 (k0_pay299 v) 127#32
/-- Their scales added, each at its own row's lane, to what `acc` holds; the block's first row is row `o`. -/
def diag32 (o : BitVec 32) (acc : FVec F S1x128 .f32) (v : Vec F S1x32x2560 .bf16) : FVec F S1x128 .f32 :=
  addf acc (shapeCast S1x128 (multiReduction .add [0] S128
    (select (cmpi .eq (addi (iota .tc S32x128 32 [0] iota_S32x128_d0_w32) (broadcast S32x128 o)) (iota .tc S32x128 32 [1] iota_S32x128_d1_w32))
      (k0_pay301 (F := F) (k0_pay299 v) 127#32) (broadcast S32x128 (Scalar.ofBits (F := F) .f32 0x00000000#32)))
    0x00000000#32 reduces_S32x128_S128 (.inl rfl) rfl) shapeCasts_S128_S1x128)

/-- The four blocks' scales along the lanes. -/
def sums (b : Fin 2) : FVec F S1x128 .f32 :=
  diag32 96#32 (diag32 64#32 (diag32 32#32 (diag32 0#32 (k0_pay297 (F := F)) (xb X b 0)) (xb X b 1)) (xb X b 2)) (xb X b 3)

/-! ## What the buffers hold once filled -/

/-- The block a row lies in, and the row within it. -/
def blk (r : Fin 128) : Fin 4 := ⟨r.val / 32, by omega⟩
def rin (r : Fin 128) : Fin 32 := ⟨r.val % 32, by omega⟩

def C8 : Vec F S2x128x2560 .fp8e4m3 := fun i => codes32 (xb X (i 0) (blk (i 1))) (ix3 (0 : Fin 1) (rin (i 1)) (i 2))
def C10 : Vec F S2x128x128 .f32 := fun i => scale32 (xb X (i 0) (blk (i 1))) (ix3 (0 : Fin 1) (rin (i 1)) (i 2))
/-- One batch of each. -/
def batch8 (b : Fin 2) : Vec F S1x128x2560 .fp8e4m3 := fun j => C8 X (ix3 b (j 1) (j 2))
def batch10 (b : Fin 2) : Vec F S1x128x128 .f32 := fun j => C10 X (ix3 b (j 1) (j 2))
def C9 : Vec F S2x128x2560 .fp8e4m3 := fun i => k0_pay331 (batch8 X (i 0)) (ix3 (0 : Fin 1) (i 1) (i 2))
def C11 : Vec F S2x128x128 .f32 := fun i => k0_pay332 (batch10 X (i 0)) (ix3 (0 : Fin 1) (i 1) (i 2))
def C12 : Vec F S2x128 .f32 := fun i => sums X (i 0) (ix2 (0 : Fin 1) (i 1))

/-- The first `k` blocks of rows; the first `k` batches. -/
def done8 (k : ℕ) (i : S2x128x2560.Idx) : Prop := 4 * (i 0).val + (i 1).val / 32 < k
def done10 (k : ℕ) (i : S2x128x128.Idx) : Prop := 4 * (i 0).val + (i 1).val / 32 < k
def upto9 (k : ℕ) (i : S2x128x2560.Idx) : Prop := (i 0).val < k
def upto11 (k : ℕ) (i : S2x128x128.Idx) : Prop := (i 0).val < k
def upto12 (k : ℕ) (i : S2x128.Idx) : Prop := (i 0).val < k

/-! ## Where a store of a block puts its elements -/

variable {c X} {b : Fin 2} {g : Fin 4}

theorem emb8 {off : Fin 3 → ℕ} (hoff : off = ![b.val, 32 * g.val, 0]) (hin) (j : S1x32x2560.Idx) :
    (Rect.unit (s := S2x128x2560) off S1x32x2560.size hin).emb j
      = ix3 b (⟨32 * g.val + (j 1).val, by have h : (j 1).val < 32 := (j 1).isLt; omega⟩ : Fin 128) (j 2) := by
  subst hoff
  have h0 : (j 0).val < 1 := (j 0).isLt
  funext a
  apply Fin.ext
  fin_cases a
  · show b.val + 1 * (j 0).val = b.val; omega
  · show 32 * g.val + 1 * (j 1).val = 32 * g.val + (j 1).val; omega
  · show 0 + 1 * (j 2).val = (j 2).val; omega

theorem emb10 {off : Fin 3 → ℕ} (hoff : off = ![b.val, 32 * g.val, 0]) (hin) (j : S1x32x128.Idx) :
    (Rect.unit (s := S2x128x128) off S1x32x128.size hin).emb j
      = ix3 b (⟨32 * g.val + (j 1).val, by have h : (j 1).val < 32 := (j 1).isLt; omega⟩ : Fin 128) (j 2) := by
  subst hoff
  have h0 : (j 0).val < 1 := (j 0).isLt
  funext a
  apply Fin.ext
  fin_cases a
  · show b.val + 1 * (j 0).val = b.val; omega
  · show 32 * g.val + 1 * (j 1).val = 32 * g.val + (j 1).val; omega
  · show 0 + 1 * (j 2).val = (j 2).val; omega

theorem emb9 {off : Fin 3 → ℕ} (hoff : off = ![b.val, 0, 0]) (hin) (j : S1x128x2560.Idx) :
    (Rect.unit (s := S2x128x2560) off S1x128x2560.size hin).emb j = ix3 b (j 1) (j 2) := by
  subst hoff
  have h0 : (j 0).val < 1 := (j 0).isLt
  funext a
  apply Fin.ext
  fin_cases a
  · show b.val + 1 * (j 0).val = b.val; omega
  · show 0 + 1 * (j 1).val = (j 1).val; omega
  · show 0 + 1 * (j 2).val = (j 2).val; omega

theorem emb11 {off : Fin 3 → ℕ} (hoff : off = ![b.val, 0, 0]) (hin) (j : S1x128x128.Idx) :
    (Rect.unit (s := S2x128x128) off S1x128x128.size hin).emb j = ix3 b (j 1) (j 2) := by
  subst hoff
  have h0 : (j 0).val < 1 := (j 0).isLt
  funext a
  apply Fin.ext
  fin_cases a
  · show b.val + 1 * (j 0).val = b.val; omega
  · show 0 + 1 * (j 1).val = (j 1).val; omega
  · show 0 + 1 * (j 2).val = (j 2).val; omega

theorem emb12 {off : Fin 2 → ℕ} (hoff : off = ![b.val, 0]) (hin) (j : S1x128.Idx) :
    (Rect.unit (s := S2x128) off S1x128.size hin).emb j = ix2 b (j 1) := by
  subst hoff
  have h0 : (j 0).val < 1 := (j 0).isLt
  funext a
  apply Fin.ext
  fin_cases a
  · show b.val + 1 * (j 0).val = b.val; omega
  · show 0 + 1 * (j 1).val = (j 1).val; omega

theorem blk_row (g : Fin 4) (r : Fin 32) (h) : blk ⟨32 * g.val + r.val, h⟩ = g := Fin.ext (by show (32 * g.val + r.val) / 32 = g.val; omega)
theorem rin_row (g : Fin 4) (r : Fin 32) (h) : rin ⟨32 * g.val + r.val, h⟩ = r := Fin.ext (by show (32 * g.val + r.val) % 32 = r.val; omega)

/-! ## The operations -/

variable {α : Type}

theorem load7 (b : Fin 2) (g : Fin 4) {off : Fin 3 → ℕ} (hoff : off = ![b.val, 32 * g.val, 0]) {hin} {hl}
    {k : (S1x32x2560.Idx → Elt F .bf16) → Prog (TpuEff nD τ sig (Elt F) Λ₀ .tc) α} {Q : α → sProp 𝕄} :
    (Known c M7 X (fun _ => True) : sProp 𝕄)
      ⊢ iprop((Known c M7 X (fun _ => True) -∗ wp frame (wpE (defs₀ (F := F)) 𝒱₀ (c : Thread nD τ) none) Set.univ (k (xb X b g)) Q)
        -∗ wp frame (wpE (defs₀ (F := F)) 𝒱₀ (c : Thread nD τ) none) Set.univ (.op (.load M7 (Rect.unit (s := S2x128x2560) off S1x32x2560.size hin).toLoadRect hl) k) Q) :=
  knownLoad (m := M7) (r := Rect.unit (s := S2x128x2560) off S1x32x2560.size hin) (xb X b g) fun j => ⟨trivial, by rw [emb8 hoff hin j]; rfl⟩

theorem store8 (k₀ : ℕ) (b : Fin 2) (g : Fin 4) (hk : k₀ = 4 * b.val + g.val) {off : Fin 3 → ℕ} (hoff : off = ![b.val, 32 * g.val, 0]) {hin} {hx} {hm}
    {w : FVec F S1x32x2560 .fp8e4m3} (hw : w = codes32 (xb X b g)) {k : PUnit → Prog (TpuEff nD τ sig (Elt F) Λ₀ .tc) α} {Q : α → sProp 𝕄} :
    (Known c M8 (C8 X) (done8 k₀) : sProp 𝕄)
      ⊢ iprop((Known c M8 (C8 X) (done8 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M8 (Rect.unit (s := S2x128x2560) off S1x32x2560.size hin) w Finset.univ hx hm) k) Q) :=
  knownStore (fun j => by
      have h0 : (j 0).val < 1 := (j 0).isLt
      rw [emb8 hoff hin j, hw]
      show _ = codes32 (xb X b (blk ⟨32 * g.val + (j 1).val, _⟩)) (ix3 (0 : Fin 1) (rin ⟨32 * g.val + (j 1).val, _⟩) (j 2))
      rw [blk_row g (j 1), rin_row g (j 1)]
      exact congrArg _ ((eq_ix3 j).trans (by rw [show j 0 = (0 : Fin 1) from Fin.ext (by show (j 0).val = 0; omega)]; rfl)))
    (fun i hi => by
      have h0 : (i 0).val < 2 := (i 0).isLt
      have h1 : (i 1).val < 128 := (i 1).isLt
      have hi' : 4 * (i 0).val + (i 1).val / 32 < k₀ + 1 := hi
      by_cases h : 4 * (i 0).val + (i 1).val / 32 < k₀
      · exact .inl h
      · refine .inr ⟨ix3 (0 : Fin 1) (rin (i 1)) (i 2), ?_⟩
        rw [emb8 hoff hin]
        funext a
        apply Fin.ext
        fin_cases a
        · show b.val = (i 0).val; omega
        · show 32 * g.val + (i 1).val % 32 = (i 1).val; omega
        · rfl)

theorem store10 (k₀ : ℕ) (b : Fin 2) (g : Fin 4) (hk : k₀ = 4 * b.val + g.val) {off : Fin 3 → ℕ} (hoff : off = ![b.val, 32 * g.val, 0]) {hin} {hx} {hm}
    {w : FVec F S1x32x128 .f32} (hw : w = scale32 (xb X b g)) {k : PUnit → Prog (TpuEff nD τ sig (Elt F) Λ₀ .tc) α} {Q : α → sProp 𝕄} :
    (Known c M10 (C10 X) (done10 k₀) : sProp 𝕄)
      ⊢ iprop((Known c M10 (C10 X) (done10 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M10 (Rect.unit (s := S2x128x128) off S1x32x128.size hin) w Finset.univ hx hm) k) Q) :=
  knownStore (fun j => by
      have h0 : (j 0).val < 1 := (j 0).isLt
      rw [emb10 hoff hin j, hw]
      show _ = scale32 (xb X b (blk ⟨32 * g.val + (j 1).val, _⟩)) (ix3 (0 : Fin 1) (rin ⟨32 * g.val + (j 1).val, _⟩) (j 2))
      rw [blk_row g (j 1), rin_row g (j 1)]
      exact congrArg _ ((eq_ix3 j).trans (by rw [show j 0 = (0 : Fin 1) from Fin.ext (by show (j 0).val = 0; omega)]; rfl)))
    (fun i hi => by
      have h0 : (i 0).val < 2 := (i 0).isLt
      have h1 : (i 1).val < 128 := (i 1).isLt
      have hi' : 4 * (i 0).val + (i 1).val / 32 < k₀ + 1 := hi
      by_cases h : 4 * (i 0).val + (i 1).val / 32 < k₀
      · exact .inl h
      · refine .inr ⟨ix3 (0 : Fin 1) (rin (i 1)) (i 2), ?_⟩
        rw [emb10 hoff hin]
        funext a
        apply Fin.ext
        fin_cases a
        · show b.val = (i 0).val; omega
        · show 32 * g.val + (i 1).val % 32 = (i 1).val; omega
        · rfl)

theorem load8 (k₀ : ℕ) (b : Fin 2) (hk : 4 * b.val + 3 < k₀) {off : Fin 3 → ℕ} (hoff : off = ![b.val, 0, 0]) {hin} {hl}
    {k : (S1x128x2560.Idx → Elt F .fp8e4m3) → Prog (TpuEff nD τ sig (Elt F) Λ₀ .tc) α} {Q : α → sProp 𝕄} :
    (Known c M8 (C8 X) (done8 k₀) : sProp 𝕄)
      ⊢ iprop((Known c M8 (C8 X) (done8 k₀) -∗ wp frame (wpE (defs₀ (F := F)) 𝒱₀ (c : Thread nD τ) none) Set.univ (k (batch8 X b)) Q)
        -∗ wp frame (wpE (defs₀ (F := F)) 𝒱₀ (c : Thread nD τ) none) Set.univ (.op (.load M8 (Rect.unit (s := S2x128x2560) off S1x128x2560.size hin).toLoadRect hl) k) Q) :=
  knownLoad (m := M8) (r := Rect.unit (s := S2x128x2560) off S1x128x2560.size hin) (batch8 X b) fun j => by
    have h1 : (j 1).val < 128 := (j 1).isLt
    rw [emb9 hoff hin j]
    exact ⟨show 4 * b.val + (j 1).val / 32 < k₀ by omega, rfl⟩

theorem load10 (k₀ : ℕ) (b : Fin 2) (hk : 4 * b.val + 3 < k₀) {off : Fin 3 → ℕ} (hoff : off = ![b.val, 0, 0]) {hin} {hl}
    {k : (S1x128x128.Idx → Elt F .f32) → Prog (TpuEff nD τ sig (Elt F) Λ₀ .tc) α} {Q : α → sProp 𝕄} :
    (Known c M10 (C10 X) (done10 k₀) : sProp 𝕄)
      ⊢ iprop((Known c M10 (C10 X) (done10 k₀) -∗ wp frame (wpE (defs₀ (F := F)) 𝒱₀ (c : Thread nD τ) none) Set.univ (k (batch10 X b)) Q)
        -∗ wp frame (wpE (defs₀ (F := F)) 𝒱₀ (c : Thread nD τ) none) Set.univ (.op (.load M10 (Rect.unit (s := S2x128x128) off S1x128x128.size hin).toLoadRect hl) k) Q) :=
  knownLoad (m := M10) (r := Rect.unit (s := S2x128x128) off S1x128x128.size hin) (batch10 X b) fun j => by
    have h1 : (j 1).val < 128 := (j 1).isLt
    rw [emb11 hoff hin j]
    exact ⟨show 4 * b.val + (j 1).val / 32 < k₀ by omega, rfl⟩

theorem store9 (k₀ : ℕ) (b : Fin 2) (hk : k₀ = b.val) {off : Fin 3 → ℕ} (hoff : off = ![b.val, 0, 0]) {hin} {hx} {hm}
    {w : FVec F S1x128x2560 .fp8e4m3} (hw : w = k0_pay331 (batch8 X b)) {k : PUnit → Prog (TpuEff nD τ sig (Elt F) Λ₀ .tc) α} {Q : α → sProp 𝕄} :
    (Known c M9 (C9 X) (upto9 k₀) : sProp 𝕄)
      ⊢ iprop((Known c M9 (C9 X) (upto9 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M9 (Rect.unit (s := S2x128x2560) off S1x128x2560.size hin) w Finset.univ hx hm) k) Q) :=
  knownStore (fun j => by
      have h0 : (j 0).val < 1 := (j 0).isLt
      rw [emb9 hoff hin j, hw]
      exact congrArg _ ((eq_ix3 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix3 (0 : Fin 1) (i 1) (i 2), ?_⟩
        rw [emb9 hoff hin]
        funext a
        apply Fin.ext
        fin_cases a
        · show b.val = (i 0).val; omega
        · rfl
        · rfl)

theorem store11 (k₀ : ℕ) (b : Fin 2) (hk : k₀ = b.val) {off : Fin 3 → ℕ} (hoff : off = ![b.val, 0, 0]) {hin} {hx} {hm}
    {w : FVec F S1x128x128 .f32} (hw : w = k0_pay332 (batch10 X b)) {k : PUnit → Prog (TpuEff nD τ sig (Elt F) Λ₀ .tc) α} {Q : α → sProp 𝕄} :
    (Known c M11 (C11 X) (upto11 k₀) : sProp 𝕄)
      ⊢ iprop((Known c M11 (C11 X) (upto11 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M11 (Rect.unit (s := S2x128x128) off S1x128x128.size hin) w Finset.univ hx hm) k) Q) :=
  knownStore (fun j => by
      have h0 : (j 0).val < 1 := (j 0).isLt
      rw [emb11 hoff hin j, hw]
      exact congrArg _ ((eq_ix3 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix3 (0 : Fin 1) (i 1) (i 2), ?_⟩
        rw [emb11 hoff hin]
        funext a
        apply Fin.ext
        fin_cases a
        · show b.val = (i 0).val; omega
        · rfl
        · rfl)

theorem store12 (k₀ : ℕ) (b : Fin 2) (hk : k₀ = b.val) {off : Fin 2 → ℕ} (hoff : off = ![b.val, 0]) {hin} {hx} {hm}
    {w : FVec F S1x128 .f32} (hw : w = sums X b) {k : PUnit → Prog (TpuEff nD τ sig (Elt F) Λ₀ .tc) α} {Q : α → sProp 𝕄} :
    (Known c M12 (C12 X) (upto12 k₀) : sProp 𝕄)
      ⊢ iprop((Known c M12 (C12 X) (upto12 (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.store M12 (Rect.unit (s := S2x128) off S1x128.size hin) w Finset.univ hx hm) k) Q) :=
  knownStore (fun j => by
      have h0 : (j 0).val < 1 := (j 0).isLt
      rw [emb12 hoff hin j, hw]
      exact congrArg _ ((eq_ix2 j).trans (by rw [show j 0 = (0 : Fin 1) from Fin.ext (by show (j 0).val = 0; omega)]; rfl)))
    (fun i hi => by
      have hi' : (i 0).val < k₀ + 1 := hi
      by_cases h : (i 0).val < k₀
      · exact .inl h
      · refine .inr ⟨ix2 (0 : Fin 1) (i 1), ?_⟩
        rw [emb12 hoff hin]
        funext a
        apply Fin.ext
        fin_cases a
        · show b.val = (i 0).val; omega
        · rfl)

/-- Storing a row of scales keeps its shape: what is stored is the row itself. -/
theorem row_kept (v : FVec F S1x128 .f32) : k0_pay330 v = v := by
  funext j
  unfold k0_pay330
  rw [shapeCast_self]

end Cert.Proof.Ideal
-- ==== Proof.Ideal.Weights.lean ====
/-
  The weights: eight slots, each holding two taps of one tile, filled by a copy and refilled for the next tile.
-/
module

public import proofs.«01_k».proof.Proof.Ideal.Copies

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## A slot of the weights' staging buffer, and the tile it is copied from -/

theorem inbSem : ∀ (s : Fin 8), ∀ a, (![s.val] : Fin 1 → ℕ) a + S1.size a ≤ S8.size a := by decide +kernel
theorem inbSlot : ∀ (s : Fin 8), ∀ a, (![s.val, 0, 0, 0] : Fin 4 → ℕ) a + S1x2x2560x256.size a ≤ S8x2x2560x256.size a := by decide +kernel
theorem inbTile : ∀ (s : Fin 8) (n : Fin 5), ∀ a, (![2 * (s.val / 2) + 8 * (s.val % 2), 0, 256 * n.val] : Fin 3 → ℕ) a + S2x2560x256.size a ≤ S16x2560x1280.size a := by decide +kernel
theorem inbHalf : ∀ (s : Fin 8) (t : Fin 2), ∀ a, (![s.val, t.val, 0, 0] : Fin 4 → ℕ) a + S1x1x2560x256.size a ≤ S8x2x2560x256.size a := by decide +kernel

/-- Slot `s`'s semaphore. -/
abbrev semW (s : Fin 8) : DmaSem sig :=
  ((cc0_scratch10.slice (Rect.unit (s := S8) ![s.val] S1.size (inbSem s))).squeeze S_ squeezes_S1_S_).sem
/-- Slot `s` of the weights' staging buffer: two taps of one tile. -/
abbrev dstW (s : Fin 8) : Memref sig .tc .vmem S2x2560x256 .fp8e4m3 :=
  (M15.slice (Rect.unit (s := S8x2x2560x256) ![s.val, 0, 0, 0] S1x2x2560x256.size (inbSlot s)) (fun _ => rfl)).squeeze S2x2560x256
    squeezes_S1x2x2560x256_S2x2560x256
/-- What is copied to slot `s` for tile `n`: the taps `2 (s / 2)` and its neighbour, of the first or of the second eight. -/
abbrev srcW (s : Fin 8) (n : Fin 5) : Memref sig .tc .hbm S2x2560x256 .fp8e4m3 :=
  M1.slice (Rect.unit (s := S16x2560x1280) ![2 * (s.val / 2) + 8 * (s.val % 2), 0, 256 * n.val] S2x2560x256.size (inbTile s n)) (fun _ => rfl)

/-- One tap of tile `n` of the weights, of slot `s`. -/
def wTile (w : Vec F S16x2560x1280 .fp8e4m3) (n : Fin 5) (s : Fin 8) (t : Fin 2) : Vec F S1x1x2560x256 .fp8e4m3 := fun j =>
  w (ix3 (⟨2 * (s.val / 2) + 8 * (s.val % 2) + t.val, by omega⟩ : Fin 16) (j 2)
    (⟨256 * n.val + (j 3).val, by have h1 := n.isLt; have h2 : (j 3).val < 256 := (j 3).isLt; omega⟩ : Fin 1280))

theorem dstW_emb (s : Fin 8) (t : Fin 2) (d : Fin 2560) (l : Fin 256) : (dstW s).view.emb (ix3 t d l) = ix4 s t d l := by
  show (M15.view.slice (Rect.unit (s := S8x2x2560x256) ![s.val, 0, 0, 0] S1x2x2560x256.size (inbSlot s))).emb (Shape.reshapeEquiv _ (ix3 t d l)) = _
  rw [reshapeEquiv_ix3_1abc]
  funext a
  apply Fin.ext
  fin_cases a
  · show s.val + 1 * 0 = s.val; omega
  · show 0 + 1 * t.val = t.val; omega
  · show 0 + 1 * d.val = d.val; omega
  · show 0 + 1 * l.val = l.val; omega

theorem half_emb (s : Fin 8) (t : Fin 2) (j : S1x1x2560x256.Idx) :
    (M15.access (Rect.unit (s := S8x2x2560x256) ![s.val, t.val, 0, 0] S1x1x2560x256.size (inbHalf s t))).emb j = ix4 s t (j 2) (j 3) := by
  have h0 : (j 0).val < 1 := (j 0).isLt
  have h1 : (j 1).val < 1 := (j 1).isLt
  funext a
  apply Fin.ext
  fin_cases a
  · show s.val + 1 * (j 0).val = s.val; omega
  · show t.val + 1 * (j 1).val = t.val; omega
  · show 0 + 1 * (j 2).val = (j 2).val; omega
  · show 0 + 1 * (j 3).val = (j 3).val; omega

theorem slot_mem (s : Fin 8) (t : Fin 2) (d : Fin 2560) (l : Fin 256) : ix4 s t d l ∈ (dstW s).view.set := by
  have h := (dstW s).view.emb_mem_set (ix3 t d l)
  rw [dstW_emb s t d l] at h
  exact h

theorem half_sub (s : Fin 8) (t : Fin 2) :
    (M15.access (Rect.unit (s := S8x2x2560x256) ![s.val, t.val, 0, 0] S1x1x2560x256.size (inbHalf s t))).set ⊆ (dstW s).view.set := by
  intro i hi
  obtain ⟨j, -, rfl⟩ := Finset.mem_map.mp hi
  rw [half_emb s t j]
  exact slot_mem s t (j 2) (j 3)

/-- What a load of one tap of a landed slot reads. -/
theorem half_read (s : Fin 8) (n : Fin 5) (t : Fin 2) (w : Vec F S16x2560x1280 .fp8e4m3) (f : Vec F S8x2x2560x256 .fp8e4m3)
    (hf : (dstW s).view.read (Elt F) f = (srcW s n).view.read (Elt F) w) :
    (M15.access (Rect.unit (s := S8x2x2560x256) ![s.val, t.val, 0, 0] S1x1x2560x256.size (inbHalf s t))).read (Elt F) f = wTile w n s t := by
  funext j
  have h := congrFun hf (ix3 t (j 2) (j 3))
  have h1 : (M15.access (Rect.unit (s := S8x2x2560x256) ![s.val, t.val, 0, 0] S1x1x2560x256.size (inbHalf s t))).read (Elt F) f j = f (ix4 s t (j 2) (j 3)) :=
    congrArg f (half_emb s t j)
  have h2 : (dstW s).view.read (Elt F) f (ix3 t (j 2) (j 3)) = f (ix4 s t (j 2) (j 3)) := congrArg f (dstW_emb s t (j 2) (j 3))
  rw [h1, ← h2, h]
  refine congrArg w ?_
  funext a
  apply Fin.ext
  fin_cases a
  · show 2 * (s.val / 2) + 8 * (s.val % 2) + 1 * t.val = 2 * (s.val / 2) + 8 * (s.val % 2) + t.val; omega
  · show 0 + 1 * (j 2).val = (j 2).val; omega
  · show 256 * n.val + 1 * (j 3).val = 256 * n.val + (j 3).val; omega

/-! ## A slot's state -/

variable (c : Dev nD) (w : Vec F S16x2560x1280 .fp8e4m3)

/-- Slot `s`'s share of the weights. -/
def qW (s : Fin 8) : PosShare TreeShare := Transfers.shareTok fullShare 8 s

/-- Slot `s` with tile `n` landed. -/
def SlotHeld (s : Fin 8) (n : Fin 5) : sProp 𝕄 :=
  iprop(Landed c (dstW s) ((srcW s n).view.read (Elt F) w) ∗ semVal ((c : Thread nD τ), .dma (semW s)) 0
    ∗ (M1.view.loc (c : Thread nD τ) ↦{qW s} w))

/-- Slot `s` before tile `n`'s use: the tile is on its way; after the last one the slot rests. -/
def SlotSt (s : Fin 8) (n : ℕ) : sProp 𝕄 :=
  if h : n < 5 then
    iprop(InFlight c (srcW s ⟨n, h⟩) (dstW s) (semW s) (qW s) w
      ∗ (M1.view.loc (c : Thread nD τ) ↦[Finset.univ \ (srcW s ⟨n, h⟩).view.set]{qW s} w))
  else iprop(Free c (dstW s) ∗ semVal ((c : Thread nD τ), .dma (semW s)) 0 ∗ (M1.view.loc (c : Thread nD τ) ↦{qW s} w))

variable {α : Type}

theorem slotWait {s : Fin 8} {n : Fin 5} {src : Memref sig .tc .hbm S2x2560x256 .fp8e4m3} {dst : Memref sig .tc .vmem S2x2560x256 .fp8e4m3} {sm : DmaSem sig}
    (h1 : src = srcW s n) (h2 : dst = dstW s) (h3 : sm = semW s) {hsrc : src.view.WordExact} {hdst : dst.view.WordExact}
    {k : PUnit → Prog (TpuEff nD τ sig (Elt F) Λ₀ .tc) α} {Q : α → sProp 𝕄} :
    iprop(SlotSt c w s n.val ∗ Owes c)
      ⊢ iprop((iprop(SlotHeld c w s n ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst h1 h2 h3
  unfold SlotSt
  rw [dif_pos n.isLt]
  unfold SlotHeld
  iintro ⟨⟨HF, Hr⟩, HO⟩ Hk
  iapply (copyWait c (src := srcW s n) (dst := dstW s) (fs := w) (q := qW s)) $$ [HF HO]
  · isplitl [HF]; · iexact HF
    iexact HO
  iintro ⟨HL, Hs, Hv, HO⟩
  iapply Hk
  isplitl [HL Hs Hr Hv]
  · isplitl [HL]; · iexact HL
    isplitl [Hv]; · iexact Hv
    iapply (pointsTo_split_subset (Finset.subset_univ (srcW s n).view.set)).2
    isplitl [Hs]; · iexact Hs
    iexact Hr
  iexact HO

theorem slotStart {s : Fin 8} {n : Fin 5} (m : Fin 5) {src : Memref sig .tc .hbm S2x2560x256 .fp8e4m3} {dst : Memref sig .tc .vmem S2x2560x256 .fp8e4m3} {sm : DmaSem sig}
    (h1 : src = srcW s m) (h2 : dst = dstW s) (h3 : sm = semW s) {hsrc : src.view.WordExact} {hdst : dst.view.WordExact} {hsem}
    {k : PUnit → Prog (TpuEff nD τ sig (Elt F) Λ₀ .tc) α} {Q : α → sProp 𝕄} :
    iprop(Free c (dstW s) ∗ semVal ((c : Thread nD τ), .dma (semW s)) 0 ∗ (M1.view.loc (c : Thread nD τ) ↦{qW s} w))
      ⊢ iprop((SlotSt c w s m.val -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst h1 h2 h3
  unfold SlotSt
  rw [dif_pos m.isLt]
  iintro ⟨HL, Hv, Hw⟩ Hk
  ihave Hw := (pointsTo_split_subset (Finset.subset_univ (srcW s m).view.set)).1 $$ Hw
  icases Hw with ⟨Hs, Hr⟩
  iapply (copyStart c (src := srcW s m) (dst := dstW s) (fs := w) (q := qW s) (by decide)) $$ [HL Hv Hs]
  · isplitl [Hs]; · iexact Hs
    isplitl [HL]; · iexact HL
    iexact Hv
  iintro HF
  iapply Hk
  isplitl [HF]; · iexact HF
  iexact Hr

theorem slotLoad {s : Fin 8} {n : Fin 5} {t : Fin 2} {off : Fin 4 → ℕ} (hoff : off = ![s.val, t.val, 0, 0]) {hin} {hl}
    {k : ((Rect.unit (s := S8x2x2560x256) off S1x1x2560x256.size hin).toLoadRect.shape.Idx → Elt F .fp8e4m3) → Prog (TpuEff nD τ sig (Elt F) Λ₀ .tc) α} {Q : α → sProp 𝕄} :
    (SlotHeld c w s n : sProp 𝕄)
      ⊢ iprop((SlotHeld c w s n -∗ wp frame (wpE (defs₀ (F := F)) 𝒱₀ (c : Thread nD τ) none) Set.univ (k (wTile w n s t)) Q)
        -∗ wp frame (wpE (defs₀ (F := F)) 𝒱₀ (c : Thread nD τ) none) Set.univ (.op (.load M15 (Rect.unit (s := S8x2x2560x256) off S1x1x2560x256.size hin).toLoadRect hl) k) Q) := by
  subst hoff
  unfold SlotHeld Landed
  iintro ⟨⟨%f, HL, %hf⟩, Hv, Hw⟩ Hk
  iapply (wp_load_rect 𝒱₀ (c : Thread nD τ) none Set.univ (m := M15) (r := Rect.unit (s := S8x2x2560x256) ![s.val, t.val, 0, 0] S1x1x2560x256.size hin)
    (half_sub s t)) $$ HL
  iintro HL
  rw [show (M15.access (Rect.unit (s := S8x2x2560x256) ![s.val, t.val, 0, 0] S1x1x2560x256.size hin)).read (Elt F) f = wTile w n s t from half_read s n t w f hf]
  iapply Hk
  isplitl [HL]
  · iexists f
    isplitl [HL]; · iexact HL
    ipureintro; exact hf
  isplitl [Hv]; · iexact Hv
  iexact Hw

theorem slotRest {s : Fin 8} {n : Fin 5} (hn : n.val = 4) : (SlotHeld c w s n : sProp 𝕄) ⊢ SlotSt c w s (n.val + 1) := by
  unfold SlotHeld SlotSt
  rw [dif_neg (by omega)]
  iintro ⟨HL, Hv, Hw⟩
  isplitl [HL]
  · iapply (Landed_free c) $$ HL
  isplitl [Hv]; · iexact Hv
  iexact Hw

end Cert.Proof.Ideal
-- ==== Proof.Ideal.Stores.lean ====
/-
  The stores of one inner trip, one at a time: what the staging buffer holds after each.
-/
module

public import proofs.«01_k».proof.Proof.Ideal.Base

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- The staging buffer's elements of buffer `p`. -/
def Slab (p : Fin 2) : Finset S2x2x2x1032x128.Idx := Finset.univ.filter fun i => (i 0).val = p.val
theorem mem_Slab (p : Fin 2) (i : S2x2x2x1032x128.Idx) : i ∈ Slab p ↔ (i 0).val = p.val := by simp [Slab]

/-- The place of an element's store in the order of one trip's 68 stores. -/
def numOf (i : S2x2x2x1032x128.Idx) : ℕ := 34 * (i 1).val + 17 * (i 2).val + if (i 3).val < 1024 then 1 + (i 3).val / 64 else 0
/-- Stored by the trips before `k`, or by trip `k`'s first `n` stores. -/
def doneAt (k n : ℕ) (i : S2x2x2x1032x128.Idx) : Prop := ((i 3).val % 8) / 2 < k ∨ (((i 3).val % 8) / 2 = k ∧ numOf i < n)

theorem word_cases {p h b : Fin 2} {g : Fin 16} {k : Fin 4} {off : Fin 6 → ℕ} (hoff : off = wordOff p h b g k)
    {hin} {hpos} {i : S2x2x2x1032x128.Idx}
    (hi : i ∈ (R16.access ⟨⟨off, S1x1x1x8x2x128.size, ![1, 1, 1, 4, 1, 1], hin⟩, hpos⟩).set) :
    ∃ r t l, i = wordIx p h b g k r t l := by
  obtain ⟨j, -, rfl⟩ := Finset.mem_map.mp hi
  refine ⟨j 3, j 4, j 5, Eq.trans (congrArg _ ?_) (word_emb p h b g k off hoff hin hpos (j 3) (j 4) (j 5))⟩
  funext a
  fin_cases a
  · exact Subsingleton.elim (α := Fin 1) _ _
  · exact Subsingleton.elim (α := Fin 1) _ _
  · exact Subsingleton.elim (α := Fin 1) _ _
  · rfl
  · rfl
  · rfl

theorem tail_cases {p h b : Fin 2} {k : Fin 4} {off : Fin 5 → ℕ} (hoff : off = tailOff p h b k) {hin} {i : S2x2x2x1032x128.Idx}
    (hi : i ∈ (M16.access (Rect.unit (s := S2x2x2x1032x128) off S1x1x1x2x128.size hin)).set) :
    ∃ t l, i = tailIx p h b k t l := by
  obtain ⟨j, -, rfl⟩ := Finset.mem_map.mp hi
  refine ⟨j 3, j 4, Eq.trans (congrArg _ ?_) (tail_emb p h b k off hoff hin (j 3) (j 4))⟩
  funext a
  fin_cases a
  · exact Subsingleton.elim (α := Fin 1) _ _
  · exact Subsingleton.elim (α := Fin 1) _ _
  · exact Subsingleton.elim (α := Fin 1) _ _
  · rfl
  · rfl

theorem word_slab {p h b : Fin 2} {g : Fin 16} {k : Fin 4} {off : Fin 6 → ℕ} (hoff : off = wordOff p h b g k) {hin} {hpos} :
    (R16.access ⟨⟨off, S1x1x1x8x2x128.size, ![1, 1, 1, 4, 1, 1], hin⟩, hpos⟩).set ⊆ Slab p := by
  intro i hi
  obtain ⟨r, t, l, rfl⟩ := word_cases hoff hi
  exact (mem_Slab p _).mpr rfl

theorem tail_slab {p h b : Fin 2} {k : Fin 4} {off : Fin 5 → ℕ} (hoff : off = tailOff p h b k) {hin} :
    (M16.access (Rect.unit (s := S2x2x2x1032x128) off S1x1x1x2x128.size hin)).set ⊆ Slab p := by
  intro i hi
  obtain ⟨t, l, rfl⟩ := tail_cases hoff hi
  exact (mem_Slab p _).mpr rfl

/-- One more store done: the elements it writes, or those already done. -/
theorem doneAt_word {k : Fin 4} {n : ℕ} {i : S2x2x2x1032x128.Idx} {p h b : Fin 2} {g : Fin 16}
    (hn : n = 34 * h.val + 17 * b.val + 1 + g.val) (hp : (i 0).val = p.val) (hd : doneAt k (n + 1) i) :
    doneAt k n i ∨ ∃ r t l, i = wordIx p h b g k r t l := by
  by_cases hd' : doneAt k n i
  · exact .inl hd'
  right
  unfold doneAt at hd hd'
  have h1 : (i 1).val < 2 := (i 1).isLt
  have h2 : (i 2).val < 2 := (i 2).isLt
  have h3 : (i 3).val < 1032 := (i 3).isLt
  have hb := b.isLt
  have hh := h.isLt
  have hg := g.isLt
  have hnum : numOf i = n := by omega
  have hk : ((i 3).val % 8) / 2 = k.val := by omega
  unfold numOf at hnum
  have hlt : (i 3).val < 1024 := by
    by_contra hc
    rw [if_neg hc] at hnum; omega
  rw [if_pos hlt] at hnum
  refine ⟨⟨((i 3).val / 8) % 8, by omega⟩, ⟨(i 3).val % 2, by omega⟩, i 4, ?_⟩
  rw [eq_ix5 i]
  unfold wordIx
  have e0 : i 0 = p := Fin.ext hp
  have e1 : i 1 = h := Fin.ext (by omega)
  have e2 : i 2 = b := Fin.ext (by omega)
  have e3 : i 3 = (⟨64 * g.val + 8 * (((i 3).val / 8) % 8) + 2 * k.val + (i 3).val % 2, by omega⟩ : Fin 1032) := Fin.ext (by
    show (i 3).val = 64 * g.val + 8 * (((i 3).val / 8) % 8) + 2 * k.val + (i 3).val % 2
    omega)
  rw [← e0, ← e1, ← e2]
  exact congrArg (fun x => ix5 (i 0) (i 1) (i 2) x (i 4)) e3

theorem doneAt_tail {k : Fin 4} {n : ℕ} {i : S2x2x2x1032x128.Idx} {p h b : Fin 2}
    (hn : n = 34 * h.val + 17 * b.val) (hp : (i 0).val = p.val) (hd : doneAt k (n + 1) i) :
    doneAt k n i ∨ ∃ t l, i = tailIx p h b k t l := by
  by_cases hd' : doneAt k n i
  · exact .inl hd'
  right
  unfold doneAt at hd hd'
  have h1 : (i 1).val < 2 := (i 1).isLt
  have h2 : (i 2).val < 2 := (i 2).isLt
  have h3 : (i 3).val < 1032 := (i 3).isLt
  have hb := b.isLt
  have hh := h.isLt
  have hnum : numOf i = n := by omega
  have hk : ((i 3).val % 8) / 2 = k.val := by omega
  unfold numOf at hnum
  have hlt : ¬ (i 3).val < 1024 := by
    intro hc
    rw [if_pos hc] at hnum; omega
  rw [if_neg hlt] at hnum
  refine ⟨⟨(i 3).val % 2, by omega⟩, i 4, ?_⟩
  rw [eq_ix5 i]
  unfold tailIx
  have e0 : i 0 = p := Fin.ext hp
  have e1 : i 1 = h := Fin.ext (by omega)
  have e2 : i 2 = b := Fin.ext (by omega)
  have e3 : i 3 = (⟨1024 + 2 * k.val + (i 3).val % 2, by omega⟩ : Fin 1032) := Fin.ext (by
    show (i 3).val = 1024 + 2 * k.val + (i 3).val % 2
    omega)
  rw [← e0, ← e1, ← e2]
  exact congrArg (fun x => ix5 (i 0) (i 1) (i 2) x (i 4)) e3

section
variable (c : Dev nD) (p : Fin 2) (jp : Fin 4) (W : S2x2x2x1032x128.Idx → Elt F .bf16)
variable (f10 f11 : Vec F S2x128x128 .f32) (f13 f14 : Vec F S1x1280 .f32)

/-- The staging buffer's half `p`, its first elements (`doneAt`) at `W`. -/
def Stage (k n : ℕ) : sProp 𝕄 :=
  iprop(∃ f : Buf (Elt F) (M16.view.loc (c : Thread nD τ)), (M16.view.loc (c : Thread nD τ) ↦[Slab p]{fullShare} f)
    ∗ ⌜∀ i : S2x2x2x1032x128.Idx, (i 0).val = p.val → doneAt k n i → f i = W i⌝)

/-- What the stores of one trip touch: the scales, their shift, the weights' scale, the bias, the staging buffer. -/
def Res (n : ℕ) : sProp 𝕄 :=
  iprop((M10.view.loc (c : Thread nD τ) ↦{fullShare} f10) ∗ (M11.view.loc (c : Thread nD τ) ↦{fullShare} f11)
    ∗ (M13.view.loc (c : Thread nD τ) ↦{fullShare} f13) ∗ (M14.view.loc (c : Thread nD τ) ↦{fullShare} f14)
    ∗ Stage c p W jp n)

variable {α : Type}

theorem step10 {n : ℕ} {Q : α → sProp 𝕄} {r : LoadRect S2x128x128} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M10.view.readAt (Elt F) r f10)) Q) :
    Res c p jp W f10 f11 f13 f14 n ⊢ wp frame (wpE (defs₀ (F := F)) 𝒱₀ (c : Thread nD τ) none) Set.univ (.op (.load M10 r hl) k) Q := by
  unfold Res at H ⊢
  iintro ⟨H10, H11, H13, H14, H16⟩
  iapply (wp_load 𝒱₀ (c : Thread nD τ) none Set.univ (Finset.subset_univ _)) $$ H10
  iintro H10
  iapply H
  isplitl [H10]; · iexact H10
  isplitl [H11]; · iexact H11
  isplitl [H13]; · iexact H13
  isplitl [H14]; · iexact H14
  iexact H16

theorem step11 {n : ℕ} {Q : α → sProp 𝕄} {r : LoadRect S2x128x128} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M11.view.readAt (Elt F) r f11)) Q) :
    Res c p jp W f10 f11 f13 f14 n ⊢ wp frame (wpE (defs₀ (F := F)) 𝒱₀ (c : Thread nD τ) none) Set.univ (.op (.load M11 r hl) k) Q := by
  unfold Res at H ⊢
  iintro ⟨H10, H11, H13, H14, H16⟩
  iapply (wp_load 𝒱₀ (c : Thread nD τ) none Set.univ (Finset.subset_univ _)) $$ H11
  iintro H11
  iapply H
  isplitl [H10]; · iexact H10
  isplitl [H11]; · iexact H11
  isplitl [H13]; · iexact H13
  isplitl [H14]; · iexact H14
  iexact H16

theorem step13 {n : ℕ} {Q : α → sProp 𝕄} {r : LoadRect S1x1280} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M13.view.readAt (Elt F) r f13)) Q) :
    Res c p jp W f10 f11 f13 f14 n ⊢ wp frame (wpE (defs₀ (F := F)) 𝒱₀ (c : Thread nD τ) none) Set.univ (.op (.load M13 r hl) k) Q := by
  unfold Res at H ⊢
  iintro ⟨H10, H11, H13, H14, H16⟩
  iapply (wp_load 𝒱₀ (c : Thread nD τ) none Set.univ (Finset.subset_univ _)) $$ H13
  iintro H13
  iapply H
  isplitl [H10]; · iexact H10
  isplitl [H11]; · iexact H11
  isplitl [H13]; · iexact H13
  isplitl [H14]; · iexact H14
  iexact H16

theorem step14 {n : ℕ} {Q : α → sProp 𝕄} {r : LoadRect S1x1280} {hl} {k : (r.shape.Idx → Elt F .f32) → Prog (TpuEff nD τ sig (Elt F) Λ₀ .tc) α}
    (H : Res c p jp W f10 f11 f13 f14 n ⊢ wp frame (wpE (defs₀ (F := F)) 𝒱₀ (c : Thread nD τ) none) Set.univ (k (M14.view.readAt (Elt F) r f14)) Q) :
    Res c p jp W f10 f11 f13 f14 n ⊢ wp frame (wpE (defs₀ (F := F)) 𝒱₀ (c : Thread nD τ) none) Set.univ (.op (.load M14 r hl) k) Q := by
  unfold Res at H ⊢
  iintro ⟨H10, H11, H13, H14, H16⟩
  iapply (wp_load 𝒱₀ (c : Thread nD τ) none Set.univ (Finset.subset_univ _)) $$ H14
  iintro H14
  iapply H
  isplitl [H10]; · iexact H10
  isplitl [H11]; · iexact H11
  isplitl [H13]; · iexact H13
  isplitl [H14]; · iexact H14
  iexact H16

theorem stepWordLoad {n : ℕ} {Q : α → sProp 𝕄} {off : Fin 6 → ℕ} {h b : Fin 2} {g : Fin 16} (hoff : off = wordOff p h b g jp) {hin} {hl}
    {k : ((⟨off, S1x1x1x8x2x128.size, ![1, 1, 1, 4, 1, 1], hin⟩ : LoadRect S2x2x2x516x2x128).shape.Idx → Elt F .bf16) → Prog (TpuEff nD τ sig (Elt F) Λ₀ .tc) α}
    (H : ∀ v, Res c p jp W f10 f11 f13 f14 n ⊢ wp frame (wpE (defs₀ (F := F)) 𝒱₀ (c : Thread nD τ) none) Set.univ (k v) Q) :
    Res c p jp W f10 f11 f13 f14 n ⊢ wp frame (wpE (defs₀ (F := F)) 𝒱₀ (c : Thread nD τ) none) Set.univ (.op (.load R16 (⟨off, S1x1x1x8x2x128.size, ![1, 1, 1, 4, 1, 1], hin⟩ : LoadRect S2x2x2x516x2x128) hl) k) Q := by
  unfold Res Stage at H ⊢
  iintro ⟨H10, H11, H13, H14, %f, H16, %hf⟩
  iapply (wp_load_rect 𝒱₀ (c : Thread nD τ) none Set.univ (m := R16) (r := ⟨⟨off, S1x1x1x8x2x128.size, ![1, 1, 1, 4, 1, 1], hin⟩, spos_1_1_1_4_1_1⟩)
    (word_slab hoff)) $$ H16
  iintro H16
  iapply (H _)
  isplitl [H10]; · iexact H10
  isplitl [H11]; · iexact H11
  isplitl [H13]; · iexact H13
  isplitl [H14]; · iexact H14
  iexists f
  isplitl [H16]; · iexact H16
  ipureintro; exact hf

theorem stepTailLoad {n : ℕ} {Q : α → sProp 𝕄} {off : Fin 5 → ℕ} {h b : Fin 2} (hoff : off = tailOff p h b jp) {hin} {hl}
    {k : ((Rect.unit (s := S2x2x2x1032x128) off S1x1x1x2x128.size hin).toLoadRect.shape.Idx → Elt F .bf16) → Prog (TpuEff nD τ sig (Elt F) Λ₀ .tc) α}
    (H : ∀ v, Res c p jp W f10 f11 f13 f14 n ⊢ wp frame (wpE (defs₀ (F := F)) 𝒱₀ (c : Thread nD τ) none) Set.univ (k v) Q) :
    Res c p jp W f10 f11 f13 f14 n ⊢ wp frame (wpE (defs₀ (F := F)) 𝒱₀ (c : Thread nD τ) none) Set.univ (.op (.load M16 (Rect.unit (s := S2x2x2x1032x128) off S1x1x1x2x128.size hin).toLoadRect hl) k) Q := by
  unfold Res Stage at H ⊢
  iintro ⟨H10, H11, H13, H14, %f, H16, %hf⟩
  iapply (wp_load_rect 𝒱₀ (c : Thread nD τ) none Set.univ (m := M16) (r := Rect.unit (s := S2x2x2x1032x128) off S1x1x1x2x128.size hin)
    (tail_slab hoff)) $$ H16
  iintro H16
  iapply (H _)
  isplitl [H10]; · iexact H10
  isplitl [H11]; · iexact H11
  isplitl [H13]; · iexact H13
  isplitl [H14]; · iexact H14
  iexists f
  isplitl [H16]; · iexact H16
  ipureintro; exact hf

theorem stepWordStore {n : ℕ} {Q : α → sProp 𝕄} {off : Fin 6 → ℕ} {h b : Fin 2} {g : Fin 16} (hn : n = 34 * h.val + 17 * b.val + 1 + g.val)
    (hoff : off = wordOff p h b g jp) {hin} {hpos} {hx} {hm} {w : S1x1x1x8x2x128.Idx → Elt F .bf16}
    (hw : ∀ r t l, w (ix6 (0 : Fin 1) (0 : Fin 1) (0 : Fin 1) r t l) = W (wordIx p h b g jp r t l))
    {k : PUnit → Prog (TpuEff nD τ sig (Elt F) Λ₀ .tc) α}
    (H : Res c p jp W f10 f11 f13 f14 (n + 1) ⊢ wp frame (wpE (defs₀ (F := F)) 𝒱₀ (c : Thread nD τ) none) Set.univ (k ⟨⟩) Q) :
    Res c p jp W f10 f11 f13 f14 n
      ⊢ wp frame (wpE (defs₀ (F := F)) 𝒱₀ (c : Thread nD τ) none) Set.univ (.op (.store R16 ⟨(⟨off, S1x1x1x8x2x128.size, ![1, 1, 1, 4, 1, 1], hin⟩ : LoadRect S2x2x2x516x2x128), hpos⟩ w Finset.univ hx hm) k) Q := by
  unfold Res Stage at H ⊢
  iintro ⟨H10, H11, H13, H14, %f, H16, %hf⟩
  iapply (wp_store 𝒱₀ (c : Thread nD τ) none Set.univ (m := R16) (r := ⟨⟨off, S1x1x1x8x2x128.size, ![1, 1, 1, 4, 1, 1], hin⟩, hpos⟩)
    (Mk := Finset.univ) (hx := hx) (hm := hm) (word_slab hoff)) $$ H16
  iintro H16
  iapply H
  isplitl [H10]; · iexact H10
  isplitl [H11]; · iexact H11
  isplitl [H13]; · iexact H13
  isplitl [H14]; · iexact H14
  iexists _
  isplitl [H16]; · iexact H16
  ipureintro
  intro i hp hd
  by_cases hi : i ∈ (R16.access ⟨⟨off, S1x1x1x8x2x128.size, ![1, 1, 1, 4, 1, 1], hin⟩, hpos⟩).set
  · obtain ⟨r, t, l, rfl⟩ := word_cases hoff hi
    rw [← hw r t l, ← word_emb p h b g jp off hoff hin hpos r t l]
    exact View.write_emb_of_mem _ _ (Finset.mem_univ _)
  · refine (View.write_of_not_mem _ _ _ hi).trans ?_
    rcases doneAt_word hn hp hd with hd' | ⟨r, t, l, rfl⟩
    · exact hf i hp hd'
    · exact absurd (by rw [← word_emb p h b g jp off hoff hin hpos r t l]; exact View.emb_mem_set _ _) hi

theorem stepTailStore {n : ℕ} {Q : α → sProp 𝕄} {off : Fin 5 → ℕ} {h b : Fin 2} (hn : n = 34 * h.val + 17 * b.val)
    (hoff : off = tailOff p h b jp) {hin} {hx} {hm} {w : S1x1x1x2x128.Idx → Elt F .bf16}
    (hw : ∀ t l, w (ix5 (0 : Fin 1) (0 : Fin 1) (0 : Fin 1) t l) = W (tailIx p h b jp t l))
    {k : PUnit → Prog (TpuEff nD τ sig (Elt F) Λ₀ .tc) α}
    (H : Res c p jp W f10 f11 f13 f14 (n + 1) ⊢ wp frame (wpE (defs₀ (F := F)) 𝒱₀ (c : Thread nD τ) none) Set.univ (k ⟨⟩) Q) :
    Res c p jp W f10 f11 f13 f14 n
      ⊢ wp frame (wpE (defs₀ (F := F)) 𝒱₀ (c : Thread nD τ) none) Set.univ (.op (.store M16 (Rect.unit (s := S2x2x2x1032x128) off S1x1x1x2x128.size hin) w Finset.univ hx hm) k) Q := by
  unfold Res Stage at H ⊢
  iintro ⟨H10, H11, H13, H14, %f, H16, %hf⟩
  iapply (wp_store 𝒱₀ (c : Thread nD τ) none Set.univ (m := M16) (r := Rect.unit (s := S2x2x2x1032x128) off S1x1x1x2x128.size hin)
    (Mk := Finset.univ) (hx := hx) (hm := hm) (tail_slab hoff)) $$ H16
  iintro H16
  iapply H
  isplitl [H10]; · iexact H10
  isplitl [H11]; · iexact H11
  isplitl [H13]; · iexact H13
  isplitl [H14]; · iexact H14
  iexists _
  isplitl [H16]; · iexact H16
  ipureintro
  intro i hp hd
  by_cases hi : i ∈ (M16.access (Rect.unit (s := S2x2x2x1032x128) off S1x1x1x2x128.size hin)).set
  · obtain ⟨t, l, rfl⟩ := tail_cases hoff hi
    rw [← hw t l, ← tail_emb p h b jp off hoff hin t l]
    exact View.write_emb_of_mem _ _ (Finset.mem_univ _)
  · refine (View.write_of_not_mem _ _ _ hi).trans ?_
    rcases doneAt_tail hn hp hd with hd' | ⟨t, l, rfl⟩
    · exact hf i hp hd'
    · exact absurd (by rw [← tail_emb p h b jp off hoff hin t l]; exact View.emb_mem_set _ _) hi

end

end Cert.Proof.Ideal

end
-- ==== Proof.Ideal.Payload.lean ====
/-
  What one store of the inner trip writes, stated once for every block of rows, and the trip's 68 stores in order.
-/
module

public import proofs.«01_k».proof.Proof.Ideal.Stores

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- Of the `n`th store: the half of the columns, the batch, the group of eight rows. -/
def hOf (n : ℕ) : Fin 2 := ⟨n / 34 % 2, Nat.mod_lt _ (by norm_num)⟩
def bOf (n : ℕ) : Fin 2 := ⟨n % 34 / 17 % 2, Nat.mod_lt _ (by norm_num)⟩
def gOf (n : ℕ) : Fin 16 := ⟨(n % 17 - 1) % 16, Nat.mod_lt _ (by norm_num)⟩

/-- The `n`th store is of a group of rows of both products; the others are of the last row of the shifted product. -/
def isWord (n : ℕ) : Bool := decide (n < 68) && !(decide (n % 17 = 0))
def isTail (n : ℕ) : Bool := decide (n < 68) && decide (n % 17 = 0)

theorem num_word {n : ℕ} (h : isWord n = true) : n = 34 * (hOf n).val + 17 * (bOf n).val + 1 + (gOf n).val := by
  simp only [isWord, Bool.and_eq_true, decide_eq_true_eq, Bool.not_eq_true', decide_eq_false_iff_not] at h
  simp only [hOf, bOf, gOf]
  omega

theorem num_tail {n : ℕ} (h : isTail n = true) : n = 34 * (hOf n).val + 17 * (bOf n).val := by
  simp only [isTail, Bool.and_eq_true, decide_eq_true_eq] at h
  simp only [hOf, bOf]
  omega

/-- Where the `n`th store goes, as the program computes it. -/
def offW (i : Fin k0_t1_loop.trips) (k : Fin k0_t2_loop.trips) (n : ℕ) : Fin 6 → ℕ :=
  match (hOf n).val, (bOf n).val with
  | 0, 0 => k0_off20 i k (BitVec.ofNat 32 (32 * (gOf n).val))
  | 0, _ => k0_off23 i k (BitVec.ofNat 32 (32 * (gOf n).val))
  | _, 0 => k0_off26 i k (BitVec.ofNat 32 (32 * (gOf n).val))
  | _, _ => k0_off29 i k (BitVec.ofNat 32 (32 * (gOf n).val))

def offT (i : Fin k0_t1_loop.trips) (k : Fin k0_t2_loop.trips) (n : ℕ) : Fin 5 → ℕ :=
  match (hOf n).val, (bOf n).val with
  | 0, 0 => k0_off19 i k
  | 0, _ => k0_off22 i k
  | _, 0 => k0_off25 i k
  | _, _ => k0_off28 i k

theorem offW_eq (i : Fin k0_t1_loop.trips) (k : Fin k0_t2_loop.trips) (n : ℕ) :
    offW i k n = wordOff (par i) (hOf n) (bOf n) (gOf n) (pr k) := by
  have hh : (hOf n).val < 2 := (hOf n).isLt
  have hb : (bOf n).val < 2 := (bOf n).isLt
  unfold offW
  rcases hv : (hOf n).val with _ | _ | m
  · rcases hw : (bOf n).val with _ | _ | m
    · exact off20 i k (gOf n)
    · exact off23 i k (gOf n)
    · omega
  · rcases hw : (bOf n).val with _ | _ | m
    · exact off26 i k (gOf n)
    · exact off29 i k (gOf n)
    · omega
  · omega

theorem offT_eq (i : Fin k0_t1_loop.trips) (k : Fin k0_t2_loop.trips) (n : ℕ) :
    offT i k n = tailOff (par i) (hOf n) (bOf n) (pr k) := by
  have hh : (hOf n).val < 2 := (hOf n).isLt
  have hb : (bOf n).val < 2 := (bOf n).isLt
  unfold offT
  rcases hv : (hOf n).val with _ | _ | m
  · rcases hw : (bOf n).val with _ | _ | m
    · exact off19 i k
    · exact off22 i k
    · omega
  · rcases hw : (bOf n).val with _ | _ | m
    · exact off25 i k
    · exact off28 i k
    · omega
  · omega

theorem slc : ∀ (h b : Fin 2) (g : Fin 16), S256x256.Slices ![128 * b.val + 8 * g.val, 128 * h.val] S8x128 := by decide +kernel
theorem inbX : ∀ (b : Fin 2) (g : Fin 16), ∀ a, (![b.val, 8 * g.val, 0] : Fin 3 → ℕ) a + S1x8x128.size a ≤ S2x128x128.size a := by decide +kernel

/-- Eight rows of a batch of the scales, and of the shifted scales. -/
def rows10 (f : Vec F S2x128x128 .f32) (b : Fin 2) (g : Fin 16) : Vec F S1x8x128 .f32 :=
  M10.view.readAt (Elt F) (Rect.unit (s := S2x128x128) ![b.val, 8 * g.val, 0] S1x8x128.size (inbX b g)).toLoadRect f
def rows11 (f : Vec F S2x128x128 .f32) (b : Fin 2) (g : Fin 16) : Vec F S1x8x128 .f32 :=
  M11.view.readAt (Elt F) (Rect.unit (s := S2x128x128) ![b.val, 8 * g.val, 0] S1x8x128.size (inbX b g)).toLoadRect f

/-- Half a tile's columns of the weights' scale and of the bias. -/
def cols13 (i : Fin k0_t1_loop.trips) (f : Vec F S1x1280 .f32) (h : Fin 2) : Vec F S1x128 .f32 :=
  M13.view.readAt (Elt F) (Rect.unit (s := S1x1280) (k0_off17 i (BitVec.ofNat 32 (128 * h.val))) S1x128.size (k0_off17_inb i h)).toLoadRect f
def cols14 (i : Fin k0_t1_loop.trips) (f : Vec F S1x1280 .f32) (h : Fin 2) : Vec F S1x128 .f32 :=
  M14.view.readAt (Elt F) (Rect.unit (s := S1x1280) (k0_off17 i (BitVec.ofNat 32 (128 * h.val))) S1x128.size (k0_off17_inb i h)).toLoadRect f

/-- Eight rows of a product, by the rows' scales and the columns' scales. -/
def scaled (a : FVec F S256x256 .f32) (x : Vec F S1x8x128 .f32) (w : Vec F S1x128 .f32) (h b : Fin 2) (g : Fin 16) : FVec F S8x128 .f32 :=
  mulf (mulf (extractStridedSlice S8x128 ![128 * b.val + 8 * g.val, 128 * h.val] a (slc h b g))
    (shapeCast S8x128 x shapeCasts_S1x8x128_S8x128)) (broadcastTo S8x128 w broadcasts_S1x128_S8x128)

/-- The shifted product's rows: nothing comes before the first. -/
def shifted (a : FVec F S256x256 .f32) (x : Vec F S1x8x128 .f32) (w : Vec F S1x128 .f32) (h b : Fin 2) (g : Fin 16) : FVec F S8x128 .f32 :=
  match g.val with
  | 0 => select (cmpi .eq (iota .tc S8x128 32 [0] iota_S8x128_d0_w32) (broadcast S8x128 0#32))
      (broadcast S8x128 (Scalar.ofBits .f32 0x00000000#32 : F .f32)) (scaled a x w h b g)
  | _ => scaled a x w h b g

/-- Eight rows of the sum of both products and the bias, rounded. -/
def rowsSum (a a' : FVec F S256x256 .f32) (x x' : Vec F S1x8x128 .f32) (w v : Vec F S1x128 .f32) (h b : Fin 2) (g : Fin 16) : FVec F S8x128 .bf16 :=
  truncf .bf16 (addf (addf (scaled a x w h b g) (shifted a' x' w h b g)) (broadcastTo S8x128 v broadcasts_S1x128_S8x128))

variable (i : Fin k0_t1_loop.trips) (A0 A1 A2 A3 : FVec F S256x256 .f32)
variable (f10 f11 : Vec F S2x128x128 .f32) (f13 f14 : Vec F S1x1280 .f32)

/-- What a store of a group of rows writes: both taps' rows, interleaved. -/
def payW (h b : Fin 2) (g : Fin 16) : Vec F S1x1x1x8x2x128 .bf16 :=
  interleaveRows S1x1x1x8x2x128
    (shapeCast S1x1x1x8x1x128 (rowsSum A0 A2 (rows10 f10 b g) (rows11 f11 b g) (cols13 i f13 h) (cols14 i f14 h) h b g) shapeCasts_S8x128_S1x1x1x8x1x128)
    (shapeCast S1x1x1x8x1x128 (rowsSum A1 A3 (rows10 f10 b g) (rows11 f11 b g) (cols13 i f13 h) (cols14 i f14 h) h b g) shapeCasts_S8x128_S1x1x1x8x1x128)
    bitcasts_S1x1x1x8x2x128_w16_S1x1x1x8x1x128_w32

def rowsTail (a' : FVec F S256x256 .f32) (x' : Vec F S1x8x128 .f32) (w v : Vec F S1x128 .f32) (h b : Fin 2) : FVec F S1x128 .bf16 :=
  extractStridedSlice S1x128 ![0, 0] (truncf .bf16 (addf (scaled a' x' w h b 0) (broadcastTo S8x128 v broadcasts_S1x128_S8x128)) : FVec F S8x128 .bf16) slices_S8x128_o0_0_S1x128

/-- What a store of the last row writes. -/
def payT (h b : Fin 2) : Vec F S1x1x1x2x128 .bf16 :=
  interleaveRows S1x1x1x2x128
    (shapeCast S1x1x1x1x128 (rowsTail A2 (rows11 f11 b 0) (cols13 i f13 h) (cols14 i f14 h) h b) shapeCasts_S1x128_S1x1x1x1x128)
    (shapeCast S1x1x1x1x128 (rowsTail A3 (rows11 f11 b 0) (cols13 i f13 h) (cols14 i f14 h) h b) shapeCasts_S1x128_S1x1x1x1x128)
    bitcasts_S1x1x1x2x128_w16_S1x1x1x1x128_w32

/-- The trip's blocks agree with the values `W` meant for the staging buffer. -/
structure Agrees (k : Fin k0_t2_loop.trips) (W : S2x2x2x1032x128.Idx → Elt F .bf16) : Prop where
  word : ∀ (h b : Fin 2) (g : Fin 16) (r : Fin 8) (t : Fin 2) (l : Fin 128),
    payW i A0 A1 A2 A3 f10 f11 f13 f14 h b g (ix6 (0 : Fin 1) (0 : Fin 1) (0 : Fin 1) r t l) = W (wordIx (par i) h b g (pr k) r t l)
  tail : ∀ (h b : Fin 2) (t : Fin 2) (l : Fin 128),
    payT i A2 A3 f11 f13 f14 h b (ix5 (0 : Fin 1) (0 : Fin 1) (0 : Fin 1) t l) = W (tailIx (par i) h b (pr k) t l)

section
variable (c : Dev nD) (j : Fin k0_t2_loop.trips) (W : S2x2x2x1032x128.Idx → Elt F .bf16)
variable {α : Type}

theorem loadW {n : ℕ} {Q : α → sProp 𝕄} {off : Fin 6 → ℕ} (hoff : off = offW i j n) {hin} {hl}
    {k : ((⟨off, S1x1x1x8x2x128.size, ![1, 1, 1, 4, 1, 1], hin⟩ : LoadRect S2x2x2x516x2x128).shape.Idx → Elt F .bf16) → Prog (TpuEff nD τ sig (Elt F) Λ₀ .tc) α}
    (H : ∀ v, Res c (par i) (pr j) W f10 f11 f13 f14 n ⊢ wp frame (wpE (defs₀ (F := F)) 𝒱₀ (c : Thread nD τ) none) Set.univ (k v) Q) :
    Res c (par i) (pr j) W f10 f11 f13 f14 n ⊢ wp frame (wpE (defs₀ (F := F)) 𝒱₀ (c : Thread nD τ) none) Set.univ (.op (.load R16 (⟨off, S1x1x1x8x2x128.size, ![1, 1, 1, 4, 1, 1], hin⟩ : LoadRect S2x2x2x516x2x128) hl) k) Q :=
  stepWordLoad c (par i) (pr j) W f10 f11 f13 f14 (hoff.trans (offW_eq i j n)) H

theorem loadT {n : ℕ} {Q : α → sProp 𝕄} {off : Fin 5 → ℕ} (hoff : off = offT i j n) {hin} {hl}
    {k : ((Rect.unit (s := S2x2x2x1032x128) off S1x1x1x2x128.size hin).toLoadRect.shape.Idx → Elt F .bf16) → Prog (TpuEff nD τ sig (Elt F) Λ₀ .tc) α}
    (H : ∀ v, Res c (par i) (pr j) W f10 f11 f13 f14 n ⊢ wp frame (wpE (defs₀ (F := F)) 𝒱₀ (c : Thread nD τ) none) Set.univ (k v) Q) :
    Res c (par i) (pr j) W f10 f11 f13 f14 n ⊢ wp frame (wpE (defs₀ (F := F)) 𝒱₀ (c : Thread nD τ) none) Set.univ (.op (.load M16 (Rect.unit (s := S2x2x2x1032x128) off S1x1x1x2x128.size hin).toLoadRect hl) k) Q :=
  stepTailLoad c (par i) (pr j) W f10 f11 f13 f14 (hoff.trans (offT_eq i j n)) H

variable {i A0 A1 A2 A3 f10 f11 f13 f14 j W} (hA : Agrees i A0 A1 A2 A3 f10 f11 f13 f14 j W)
include hA

theorem storeW {n : ℕ} {Q : α → sProp 𝕄} {off : Fin 6 → ℕ} (hn : isWord n = true) (hoff : off = offW i j n)
    {hin} {hpos} {hx} {hm} {w : S1x1x1x8x2x128.Idx → Elt F .bf16} (hw : w = payW i A0 A1 A2 A3 f10 f11 f13 f14 (hOf n) (bOf n) (gOf n))
    {k : PUnit → Prog (TpuEff nD τ sig (Elt F) Λ₀ .tc) α} (H : Res c (par i) (pr j) W f10 f11 f13 f14 (n + 1) ⊢ wp frame (wpE (defs₀ (F := F)) 𝒱₀ (c : Thread nD τ) none) Set.univ (k ⟨⟩) Q) :
    Res c (par i) (pr j) W f10 f11 f13 f14 n ⊢ wp frame (wpE (defs₀ (F := F)) 𝒱₀ (c : Thread nD τ) none) Set.univ (.op (.store R16 ⟨(⟨off, S1x1x1x8x2x128.size, ![1, 1, 1, 4, 1, 1], hin⟩ : LoadRect S2x2x2x516x2x128), hpos⟩ w Finset.univ hx hm) k) Q := by
  subst hw
  exact stepWordStore c (par i) (pr j) W f10 f11 f13 f14 (num_word hn) (hoff.trans (offW_eq i j n)) (fun r t l => hA.word _ _ _ r t l) H

theorem storeT {n : ℕ} {Q : α → sProp 𝕄} {off : Fin 5 → ℕ} (hn : isTail n = true) (hoff : off = offT i j n)
    {hin} {hx} {hm} {w : S1x1x1x2x128.Idx → Elt F .bf16} (hw : w = payT i A2 A3 f11 f13 f14 (hOf n) (bOf n))
    {k : PUnit → Prog (TpuEff nD τ sig (Elt F) Λ₀ .tc) α} (H : Res c (par i) (pr j) W f10 f11 f13 f14 (n + 1) ⊢ wp frame (wpE (defs₀ (F := F)) 𝒱₀ (c : Thread nD τ) none) Set.univ (k ⟨⟩) Q) :
    Res c (par i) (pr j) W f10 f11 f13 f14 n ⊢ wp frame (wpE (defs₀ (F := F)) 𝒱₀ (c : Thread nD τ) none) Set.univ (.op (.store M16 (Rect.unit (s := S2x2x2x1032x128) off S1x1x1x2x128.size hin) w Finset.univ hx hm) k) Q := by
  subst hw
  exact stepTailStore c (par i) (pr j) W f10 f11 f13 f14 (num_tail hn) (hoff.trans (offT_eq i j n)) (fun t l => hA.tail _ _ t l) H

end

end Cert.Proof.Ideal
-- ==== Proof.Ideal.Parts.lean ====
/-
  The products of one trip, and the refill of their weights.
-/
module

public import proofs.«01_k».proof.Proof.Ideal.Weights
public import proofs.«01_k».proof.Proof.Ideal.Payload

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- Tile `i`, as a number below five. -/
abbrev ct (i : Fin k0_t1_loop.trips) : Fin 5 := ⟨i.val, lt_of_lt_of_eq i.isLt (by decide)⟩
/-- The slot of trip `j`'s weights for the codes (`h = 0`) and for the shifted codes (`h = 1`). -/
abbrev sl (j : Fin k0_t2_loop.trips) (h : Fin 2) : Fin 8 := ⟨2 * j.val + h.val, by have : j.val < 4 := lt_of_lt_of_eq j.isLt (by decide); omega⟩

theorem off6 : ∀ (j : Fin k0_t2_loop.trips) (h : Fin 2), k0_off6 j (BitVec.ofNat 32 h.val) = ![(sl j h).val] := by decide +kernel
theorem off7 : ∀ (j : Fin k0_t2_loop.trips) (h : Fin 2), k0_off7 j (BitVec.ofNat 32 h.val) = ![(sl j h).val, 0, 0, 0] := by decide +kernel
theorem off8 : ∀ (i : Fin k0_t1_loop.trips) (j : Fin k0_t2_loop.trips) (h : Fin 2), k0_off8 i j (BitVec.ofNat 32 (8 * h.val))
    = ![2 * ((sl j h).val / 2) + 8 * ((sl j h).val % 2), 0, 256 * (ct i).val] := by decide +kernel
theorem off9 : ∀ (j : Fin k0_t2_loop.trips) (h : Fin 2), k0_off9 j (BitVec.ofNat 32 h.val) = ![(sl j h).val, (0 : Fin 2).val, 0, 0] := by decide +kernel
theorem off10 : ∀ (j : Fin k0_t2_loop.trips) (h : Fin 2), k0_off10 j (BitVec.ofNat 32 h.val) = ![(sl j h).val, (1 : Fin 2).val, 0, 0] := by decide +kernel
theorem off11 : ∀ (j : Fin k0_t2_loop.trips), k0_off11 j = ![(sl j 0).val] := by decide +kernel
theorem off12 : ∀ (j : Fin k0_t2_loop.trips), k0_off12 j = ![(sl j 0).val, 0, 0, 0] := by decide +kernel
theorem off13 : ∀ (i : Fin k0_t1_loop.trips) (j : Fin k0_t2_loop.trips), k0_off13 i j
    = ![2 * ((sl j 0).val / 2) + 8 * ((sl j 0).val % 2), 0, 256 * (i.val + 1)] := by decide +kernel
theorem off14 : ∀ (j : Fin k0_t2_loop.trips), k0_off14 j = ![(sl j 1).val] := by decide +kernel
theorem off15 : ∀ (j : Fin k0_t2_loop.trips), k0_off15 j = ![(sl j 1).val, 0, 0, 0] := by decide +kernel
theorem off16 : ∀ (i : Fin k0_t1_loop.trips) (j : Fin k0_t2_loop.trips), k0_off16 i j
    = ![2 * ((sl j 1).val / 2) + 8 * ((sl j 1).val % 2), 0, 256 * (i.val + 1)] := by decide +kernel
theorem cond2 : ∀ i : Fin k0_t1_loop.trips, k0_cond2 i = 1#1 ↔ i.val + 1 < 5 := by decide +kernel
theorem cond3 : ∀ i : Fin k0_t1_loop.trips, k0_cond3 i = 1#1 ↔ i.val + 1 < 5 := by decide +kernel

theorem dst_eq {s : Fin 8} {off : Fin 4 → ℕ} (h : off = ![s.val, 0, 0, 0]) {hin} :
    (M15.slice (Rect.unit (s := S8x2x2560x256) off S1x2x2560x256.size hin) (fun _ => rfl)).squeeze S2x2560x256
      squeezes_S1x2x2560x256_S2x2560x256 = dstW s := by subst h; rfl
theorem src_eq {s : Fin 8} {n : Fin 5} {off : Fin 3 → ℕ} (h : off = ![2 * (s.val / 2) + 8 * (s.val % 2), 0, 256 * n.val]) {hin} :
    M1.slice (Rect.unit (s := S16x2560x1280) off S2x2560x256.size hin) (fun _ => rfl) = srcW s n := by subst h; rfl
theorem sem_eq {s : Fin 8} {off : Fin 1 → ℕ} (h : off = ![s.val]) {hin} :
    ((cc0_scratch10.slice (Rect.unit (s := S8) off S1.size hin)).squeeze S_ squeezes_S1_S_).sem = semW s := by subst h; rfl

variable (c : Dev nD) (i : Fin k0_t1_loop.trips) (j : Fin k0_t2_loop.trips) (w : Vec F S16x2560x1280 .fp8e4m3)

theorem read8 (f : Vec F S2x128x2560 .fp8e4m3) {hin} :
    M8.view.readAt (Elt F) (Rect.unit (s := S2x128x2560) ![0, 0, 0] S2x128x2560.size hin).toLoadRect f = f := by
  funext x
  refine congrArg f ?_
  funext a
  apply Fin.ext
  fin_cases a
  · show 0 + 1 * (x 0).val = (x 0).val; omega
  · show 0 + 1 * (x 1).val = (x 1).val; omega
  · show 0 + 1 * (x 2).val = (x 2).val; omega
theorem read9 (f : Vec F S2x128x2560 .fp8e4m3) {hin} :
    M9.view.readAt (Elt F) (Rect.unit (s := S2x128x2560) ![0, 0, 0] S2x128x2560.size hin).toLoadRect f = f := read8 f

/-- The first part of a trip: the codes' weights are waited for and multiplied, and their refill for the next tile started. -/
theorem part1 (q8 : PosShare TreeShare) (f8 : Vec F S2x128x2560 .fp8e4m3) (a c0 c1 : BitVec 32)
    {Q : (Σ' (arg23 : BitVec 32) (v734 : FVec F S256x256 .f32) (v738 : FVec F S256x256 .f32) (v744 : BitVec 32), BitVec 32) → sProp 𝕄} :
    iprop(SlotSt c w (sl j 0) i.val ∗ Owes c ∗ (M8.view.loc (c : Thread nD τ) ↦{q8} f8))
      ⊢ iprop((iprop(SlotSt c w (sl j 0) (i.val + 1) ∗ Owes c ∗ (M8.view.loc (c : Thread nD τ) ↦{q8} f8))
          -∗ Q ⟨Scf.iv c0 c1 j, k0_pay2 f8 (wTile w (ct i) (sl j 0) 0), k0_pay3 f8 (wTile w (ct i) (sl j 0) 1),
              Scalar.addi (Scalar.muli 2#32 (Scf.iv c0 c1 j)) 1#32, 2#32⟩)
        -∗ wp frame (wpE (defs₀ (F := F)) 𝒱₀ (c : Thread nD τ) none) Set.univ (k0_part1_skel M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 i a c0 c1 j) Q) := by
  unfold k0_part1_skel
  iintro ⟨HS, HO, H8⟩ Hk
  iapply (slotWait c w (s := sl j 0) (n := ct i) (src_eq (off8 i j 0)) (dst_eq (off7 j 0)) (sem_eq (off6 j 0))) $$ [HS HO]
  · isplitl [HS]; · iexact HS
    iexact HO
  iintro ⟨HS, HO⟩
  iapply (wp_load 𝒱₀ (c : Thread nD τ) none Set.univ (Finset.subset_univ _)) $$ H8
  iintro H8
  rw [read8]
  iapply (slotLoad c w (off9 j 0)) $$ HS
  iintro HS
  iapply (slotLoad c w (off10 j 0)) $$ HS
  iintro HS
  by_cases hc : k0_cond2 i = 1#1
  · iapply (iteT c hc)
    unfold SlotHeld
    icases HS with ⟨HL, Hv, Hw⟩
    ihave HL := (Landed_free c (dstW (sl j 0)) _) $$ HL
    iapply (slotStart c w (s := sl j 0) (n := ct i) ⟨i.val + 1, (cond2 i).mp hc⟩ (src_eq (off13 i j)) (dst_eq (off12 j)) (sem_eq (off11 j))) $$ [HL Hv Hw]
    · isplitl [HL]; · iexact HL
      isplitl [Hv]; · iexact Hv
      iexact Hw
    iintro HS
    iapply (retW c)
    iapply Hk
    isplitl [HS]; · iexact HS
    isplitl [HO]; · iexact HO
    iexact H8
  · iapply (iteF c hc)
    ihave HS := (slotRest c w (s := sl j 0) (n := ct i) (by
      have h5 := lt_of_lt_of_eq i.isLt (show k0_t1_loop.trips = 5 by decide)
      have h6 := (cond2 i).not.mp hc
      show i.val = 4; omega)) $$ HS
    iapply (retW c)
    iapply Hk
    isplitl [HS]; · iexact HS
    isplitl [HO]; · iexact HO
    iexact H8

/-- The second part: the shifted codes' weights are waited for and multiplied, and their refill for the next tile started. -/
theorem part2 (f9 : Vec F S2x128x2560 .fp8e4m3) (f13 f14 : Vec F S1x1280 .f32) (a b d e g : BitVec 32)
    {Q : (Σ' (v761 : FVec F S256x256 .f32) (v765 : FVec F S256x256 .f32) (v772 : Vec F S1x128 .f32), Vec F S1x128 .f32) → sProp 𝕄} :
    iprop(SlotSt c w (sl j 1) i.val ∗ Owes c ∗ (M9.view.loc (c : Thread nD τ) ↦{fullShare} f9)
        ∗ (M13.view.loc (c : Thread nD τ) ↦{fullShare} f13) ∗ (M14.view.loc (c : Thread nD τ) ↦{fullShare} f14))
      ⊢ iprop((iprop(SlotSt c w (sl j 1) (i.val + 1) ∗ Owes c ∗ (M9.view.loc (c : Thread nD τ) ↦{fullShare} f9)
        ∗ (M13.view.loc (c : Thread nD τ) ↦{fullShare} f13) ∗ (M14.view.loc (c : Thread nD τ) ↦{fullShare} f14))
          -∗ Q ⟨k0_pay5 f9 (wTile w (ct i) (sl j 1) 0), k0_pay6 f9 (wTile w (ct i) (sl j 1) 1), cols13 i f13 0, cols14 i f14 0⟩)
        -∗ wp frame (wpE (defs₀ (F := F)) 𝒱₀ (c : Thread nD τ) none) Set.univ (k0_part2_skel M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 i a b j d e g) Q) := by
  unfold k0_part2_skel
  iintro ⟨HS, HO, H9, H13, H14⟩ Hk
  iapply (slotWait c w (s := sl j 1) (n := ct i) (src_eq (off8 i j 1)) (dst_eq (off7 j 1)) (sem_eq (off6 j 1))) $$ [HS HO]
  · isplitl [HS]; · iexact HS
    iexact HO
  iintro ⟨HS, HO⟩
  iapply (wp_load 𝒱₀ (c : Thread nD τ) none Set.univ (Finset.subset_univ _)) $$ H9
  iintro H9
  rw [read9]
  iapply (slotLoad c w (off9 j 1)) $$ HS
  iintro HS
  iapply (slotLoad c w (off10 j 1)) $$ HS
  iintro HS
  by_cases hc : k0_cond3 i = 1#1
  · iapply (iteT c hc)
    unfold SlotHeld
    icases HS with ⟨HL, Hv, Hw⟩
    ihave HL := (Landed_free c (dstW (sl j 1)) _) $$ HL
    iapply (slotStart c w (s := sl j 1) (n := ct i) ⟨i.val + 1, (cond3 i).mp hc⟩ (src_eq (off16 i j)) (dst_eq (off15 j)) (sem_eq (off14 j))) $$ [HL Hv Hw]
    · isplitl [HL]; · iexact HL
      isplitl [Hv]; · iexact Hv
      iexact Hw
    iintro HS
    iapply (wp_load 𝒱₀ (c : Thread nD τ) none Set.univ (m := M13) (Finset.subset_univ _)) $$ H13
    iintro H13
    rw [show M13.view.readAt (Elt F) (Rect.unit (s := S1x1280) (k0_off17 i 0#32) S1x128.size (k0_off17_inb i 0)).toLoadRect f13 = cols13 i f13 0 from rfl]
    iapply (wp_load 𝒱₀ (c : Thread nD τ) none Set.univ (m := M14) (Finset.subset_univ _)) $$ H14
    iintro H14
    rw [show M14.view.readAt (Elt F) (Rect.unit (s := S1x1280) (k0_off17 i 0#32) S1x128.size (k0_off17_inb i 0)).toLoadRect f14 = cols14 i f14 0 from rfl]
    iapply (retW c)
    iapply Hk
    isplitl [HS]; · iexact HS
    isplitl [HO]; · iexact HO
    isplitl [H9]; · iexact H9
    isplitl [H13]; · iexact H13
    iexact H14
  · iapply (iteF c hc)
    ihave HS := (slotRest c w (s := sl j 1) (n := ct i) (by
      have h5 := lt_of_lt_of_eq i.isLt (show k0_t1_loop.trips = 5 by decide)
      have h6 := (cond3 i).not.mp hc
      show i.val = 4; omega)) $$ HS
    iapply (wp_load 𝒱₀ (c : Thread nD τ) none Set.univ (m := M13) (Finset.subset_univ _)) $$ H13
    iintro H13
    rw [show M13.view.readAt (Elt F) (Rect.unit (s := S1x1280) (k0_off17 i 0#32) S1x128.size (k0_off17_inb i 0)).toLoadRect f13 = cols13 i f13 0 from rfl]
    iapply (wp_load 𝒱₀ (c : Thread nD τ) none Set.univ (m := M14) (Finset.subset_univ _)) $$ H14
    iintro H14
    rw [show M14.view.readAt (Elt F) (Rect.unit (s := S1x1280) (k0_off17 i 0#32) S1x128.size (k0_off17_inb i 0)).toLoadRect f14 = cols14 i f14 0 from rfl]
    iapply (retW c)
    iapply Hk
    isplitl [HS]; · iexact HS
    isplitl [HO]; · iexact HO
    isplitl [H9]; · iexact H9
    isplitl [H13]; · iexact H13
    iexact H14

end Cert.Proof.Ideal
-- ==== Proof.Ideal.Trip.lean ====
/-
  One inner trip: two products of four taps and the 68 stores of their rows.
-/
module

public import proofs.«01_k».proof.Proof.Ideal.Parts

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

variable (c : Dev nD) (i : Fin k0_t1_loop.trips) (j : Fin k0_t2_loop.trips) (w : Vec F S16x2560x1280 .fp8e4m3)
variable (f8 f9 : Vec F S2x128x2560 .fp8e4m3) (f10 f11 : Vec F S2x128x128 .f32) (f13 f14 : Vec F S1x1280 .f32)
variable (q8 : PosShare TreeShare) (W : S2x2x2x1032x128.Idx → Elt F .bf16)

/-- A trip's blocks are those of the values `W`. -/
abbrev TripAgrees : Prop :=
  Agrees i (k0_pay2 f8 (wTile w (ct i) (sl j 0) 0)) (k0_pay3 f8 (wTile w (ct i) (sl j 0) 1))
    (k0_pay5 f9 (wTile w (ct i) (sl j 1) 0)) (k0_pay6 f9 (wTile w (ct i) (sl j 1) 1)) f10 f11 f13 f14 j W

/-- What a trip holds besides what its stores touch. -/
def TripRest (n : ℕ) : sProp 𝕄 :=
  iprop(SlotSt c w (sl j 0) n ∗ SlotSt c w (sl j 1) n ∗ Owes c
    ∗ (M8.view.loc (c : Thread nD τ) ↦{q8} f8) ∗ (M9.view.loc (c : Thread nD τ) ↦{fullShare} f9))

set_option maxHeartbeats 4000000 in
/-- A trip of the inner loop leaves its thirty-four blocks of both halves stored. -/
theorem trip (hA : TripAgrees i j w f8 f9 f10 f11 f13 f14 W) (v : FVec F S128x128 .f32) (a b : BitVec 32) :
    iprop(Res c (par i) (pr j) W f10 f11 f13 f14 0 ∗ TripRest c j w f8 f9 q8 i.val)
      ⊢ wp frame (wpE (defs₀ (F := F)) 𝒱₀ (c : Thread nD τ) none) Set.univ (k0_t2_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i a b j ())
          (fun _ => iprop(Res c (par i) (pr j) W f10 f11 f13 f14 68 ∗ TripRest c j w f8 f9 q8 (i.val + 1))) := by
  unfold k0_t2_body
  rw [k0_part62_eq_skeleton]
  unfold k0_part62_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
  unfold TripRest Res
  iintro ⟨⟨H10, H11, H13, H14, H16⟩, HA, HB, HO, H8, H9⟩
  iapply (bind2I c)
  iapply (part1 c i j w q8 f8) $$ [HA HO H8]
  · isplitl [HA]; · iexact HA
    isplitl [HO]; · iexact HO
    iexact H8
  iintro ⟨HA, HO, H8⟩
  dsimp only
  iapply (bind2I c)
  iapply (part2 c i j w f9 f13 f14) $$ [HB HO H9 H13 H14]
  · isplitl [HB]; · iexact HB
    isplitl [HO]; · iexact HO
    isplitl [H9]; · iexact H9
    isplitl [H13]; · iexact H13
    iexact H14
  iintro ⟨HB, HO, H9, H13, H14⟩
  dsimp only
  iapply (aside c (α := Unit) (P := Res c (par i) (pr j) W f10 f11 f13 f14 0)
    (R := iprop(SlotSt c w (sl j 0) (i.val + 1) ∗ SlotSt c w (sl j 1) (i.val + 1) ∗ Owes c
      ∗ (M8.view.loc (c : Thread nD τ) ↦{q8} f8) ∗ (M9.view.loc (c : Thread nD τ) ↦{fullShare} f9))) ?_) $$ [H10 H11 H13 H14 H16 HA HB HO H8 H9]
  swap
  · unfold Res
    isplitl [H10 H11 H13 H14 H16]
    · isplitl [H10]; · iexact H10
      isplitl [H11]; · iexact H11
      isplitl [H13]; · iexact H13
      isplitl [H14]; · iexact H14
      iexact H16
    isplitl [HA]; · iexact HA
    isplitl [HB]; · iexact HB
    isplitl [HO]; · iexact HO
    isplitl [H8]; · iexact H8
    iexact H9
  · iterate 2
      refine step10 c (par i) (pr j) W f10 f11 f13 f14 ?_
      refine step11 c (par i) (pr j) W f10 f11 f13 f14 ?_
      refine loadT i f10 f11 f13 f14 c j W rfl ?_
      intro v
      refine storeT c hA rfl rfl rfl ?_
      refine loadW i f10 f11 f13 f14 c j W rfl ?_
      intro v
      refine storeW c hA rfl rfl rfl ?_
      iterate 15
        refine step10 c (par i) (pr j) W f10 f11 f13 f14 ?_
        refine step11 c (par i) (pr j) W f10 f11 f13 f14 ?_
        refine loadW i f10 f11 f13 f14 c j W rfl ?_
        intro v
        refine storeW c hA rfl rfl rfl ?_
    refine step13 c (par i) (pr j) W f10 f11 f13 f14 ?_
    refine step14 c (par i) (pr j) W f10 f11 f13 f14 ?_
    iterate 2
      refine step10 c (par i) (pr j) W f10 f11 f13 f14 ?_
      refine step11 c (par i) (pr j) W f10 f11 f13 f14 ?_
      refine loadT i f10 f11 f13 f14 c j W rfl ?_
      intro v
      refine storeT c hA rfl rfl rfl ?_
      refine loadW i f10 f11 f13 f14 c j W rfl ?_
      intro v
      refine storeW c hA rfl rfl rfl ?_
      iterate 15
        refine step10 c (par i) (pr j) W f10 f11 f13 f14 ?_
        refine step11 c (par i) (pr j) W f10 f11 f13 f14 ?_
        refine loadW i f10 f11 f13 f14 c j W rfl ?_
        intro v
        refine storeW c hA rfl rfl rfl ?_
    refine retI c ?_
    show Res c (par i) (pr j) W f10 f11 f13 f14 68 ⊢ _
    unfold Res
    iintro ⟨H10, H11, H13, H14, H16⟩ HR
    isplitl [H10 H11 H13 H14 H16]
    · isplitl [H10]; · iexact H10
      isplitl [H11]; · iexact H11
      isplitl [H13]; · iexact H13
      isplitl [H14]; · iexact H14
      iexact H16
    iexact HR

end Cert.Proof.Ideal
-- ==== Proof.Ideal.Inner.lean ====
/-
  The loop over the tap pairs: what one tile leaves in its half of the staging buffer.
-/
module

public import proofs.«01_k».proof.Proof.Ideal.Trip

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## The values meant for a staging buffer -/

variable (c : Dev nD) (i : Fin k0_t1_loop.trips) (w : Vec F S16x2560x1280 .fp8e4m3)
variable (f8 f9 : Vec F S2x128x2560 .fp8e4m3) (f10 f11 : Vec F S2x128x128 .f32) (f13 f14 : Vec F S1x1280 .f32)
variable (q8 : PosShare TreeShare)

/-- An element of a group of rows, of the tap pair `j`. -/
def wordVal (j : Fin k0_t2_loop.trips) (h b : Fin 2) (g : Fin 16) (r : Fin 8) (t : Fin 2) (l : Fin 128) : Elt F .bf16 :=
  payW i (k0_pay2 f8 (wTile w (ct i) (sl j 0) 0)) (k0_pay3 f8 (wTile w (ct i) (sl j 0) 1))
    (k0_pay5 f9 (wTile w (ct i) (sl j 1) 0)) (k0_pay6 f9 (wTile w (ct i) (sl j 1) 1)) f10 f11 f13 f14 h b g
    (ix6 (0 : Fin 1) (0 : Fin 1) (0 : Fin 1) r t l)

/-- An element of the rows after the last group, of the tap pair `j`. -/
def tailVal (j : Fin k0_t2_loop.trips) (h b : Fin 2) (t : Fin 2) (l : Fin 128) : Elt F .bf16 :=
  payT i (k0_pay5 f9 (wTile w (ct i) (sl j 1) 0)) (k0_pay6 f9 (wTile w (ct i) (sl j 1) 1)) f11 f13 f14 h b
    (ix5 (0 : Fin 1) (0 : Fin 1) (0 : Fin 1) t l)

/-- The tap pair that writes a row. -/
def pairOf (n : ℕ) : Fin k0_t2_loop.trips := ⟨n % 8 / 2, show n % 8 / 2 < 4 by omega⟩

/-- What tile `i` leaves in its half of the staging buffer. -/
def tileW (q : S2x2x2x1032x128.Idx) : Elt F .bf16 :=
  if h : (q 3).val < 1024 then
    wordVal i w f8 f9 f10 f11 f13 f14 (pairOf (q 3).val) (q 1) (q 2) ⟨(q 3).val / 64, by omega⟩ ⟨(q 3).val / 8 % 8, by omega⟩
      ⟨(q 3).val % 2, by omega⟩ (q 4)
  else tailVal i w f9 f11 f13 f14 (pairOf (q 3).val) (q 1) (q 2) ⟨(q 3).val % 2, by omega⟩ (q 4)

theorem tile_agrees (j : Fin k0_t2_loop.trips) :
    TripAgrees i j w f8 f9 f10 f11 f13 f14 (tileW i w f8 f9 f10 f11 f13 f14) := by
  have hj : j.val < 4 := j.isLt
  constructor
  · intro h b g r t l
    have hg := g.isLt; have hr := r.isLt; have ht := t.isLt
    show wordVal i w f8 f9 f10 f11 f13 f14 j h b g r t l = _
    unfold tileW
    have hv : ((wordIx (par i) h b g (pr j) r t l) 3).val = 64 * g.val + 8 * r.val + 2 * j.val + t.val := rfl
    rw [dif_pos (by omega)]
    have ej : pairOf ((wordIx (par i) h b g (pr j) r t l) 3).val = j := Fin.ext (by
      show ((wordIx (par i) h b g (pr j) r t l) 3).val % 8 / 2 = j.val
      omega)
    have eg : (⟨((wordIx (par i) h b g (pr j) r t l) 3).val / 64, by omega⟩ : Fin 16) = g := Fin.ext (by
      show ((wordIx (par i) h b g (pr j) r t l) 3).val / 64 = g.val
      omega)
    have er : (⟨((wordIx (par i) h b g (pr j) r t l) 3).val / 8 % 8, by omega⟩ : Fin 8) = r := Fin.ext (by
      show ((wordIx (par i) h b g (pr j) r t l) 3).val / 8 % 8 = r.val
      omega)
    have et : (⟨((wordIx (par i) h b g (pr j) r t l) 3).val % 2, by omega⟩ : Fin 2) = t := Fin.ext (by
      show ((wordIx (par i) h b g (pr j) r t l) 3).val % 2 = t.val
      omega)
    rw [ej, eg, er, et]
    rfl
  · intro h b t l
    have ht := t.isLt
    show tailVal i w f9 f11 f13 f14 j h b t l = _
    unfold tileW
    have hv : ((tailIx (par i) h b (pr j) t l) 3).val = 1024 + 2 * j.val + t.val := rfl
    rw [dif_neg (by omega)]
    have ej : pairOf ((tailIx (par i) h b (pr j) t l) 3).val = j := Fin.ext (by
      show ((tailIx (par i) h b (pr j) t l) 3).val % 8 / 2 = j.val
      omega)
    have et : (⟨((tailIx (par i) h b (pr j) t l) 3).val % 2, by omega⟩ : Fin 2) = t := Fin.ext (by
      show ((tailIx (par i) h b (pr j) t l) 3).val % 2 = t.val
      omega)
    rw [ej, et]
    rfl

/-! ## The loop over the tap pairs -/

/-- A tap pair's two slots. -/
def Pair (j : Fin k0_t2_loop.trips) (n : ℕ) : sProp 𝕄 := iprop(SlotSt c w (sl j 0) n ∗ SlotSt c w (sl j 1) n)

/-- All slots: those of the pairs before `k` at tile `n + 1`, the others at tile `n`. -/
def Pairs (n k : ℕ) : sProp 𝕄 := bigSep Finset.univ fun j : Fin k0_t2_loop.trips => Pair c w j (if j.val < k then n + 1 else n)

theorem Pairs_split (n k : ℕ) (j : Fin k0_t2_loop.trips) : (Pairs c w n k : sProp 𝕄)
    = iprop(Pair c w j (if j.val < k then n + 1 else n)
      ∗ bigSep (Finset.univ.erase j) (fun j : Fin k0_t2_loop.trips => Pair c w j (if j.val < k then n + 1 else n))) := by
  unfold Pairs
  exact BI.bigSep_univ_split j

/-- What the loop over the tap pairs reads without changing it. -/
def Fixed : sProp 𝕄 :=
  iprop((M10.view.loc (c : Thread nD τ) ↦{fullShare} f10) ∗ (M11.view.loc (c : Thread nD τ) ↦{fullShare} f11)
    ∗ (M13.view.loc (c : Thread nD τ) ↦{fullShare} f13) ∗ (M14.view.loc (c : Thread nD τ) ↦{fullShare} f14)
    ∗ (M8.view.loc (c : Thread nD τ) ↦{q8} f8) ∗ (M9.view.loc (c : Thread nD τ) ↦{fullShare} f9))

theorem Stage_next (p : Fin 2) (W : S2x2x2x1032x128.Idx → Elt F .bf16) (k : ℕ) : (Stage c p W k 68 : sProp 𝕄) ⊢ Stage c p W (k + 1) 0 := by
  unfold Stage
  iintro ⟨%f, H, %hf⟩
  iexists f
  isplitl [H]; · iexact H
  ipureintro
  intro q hp hd
  refine hf q hp ?_
  have h1 : (q 1).val < 2 := (q 1).isLt
  have h2 : (q 2).val < 2 := (q 2).isLt
  have h3 : (q 3).val < 1032 := (q 3).isLt
  have hn : numOf q < 68 := by unfold numOf; split <;> omega
  unfold doneAt at hd ⊢
  omega

/-- Before tap pair `k` of tile `i`. -/
def innerInv (k : ℕ) : sProp 𝕄 :=
  iprop(Fixed c f8 f9 f10 f11 f13 f14 q8 ∗ Stage c (par i) (tileW i w f8 f9 f10 f11 f13 f14) k 0 ∗ Pairs c w i.val k ∗ Owes c)

theorem Pairs_next (n : ℕ) : (Pairs c w n 4 : sProp 𝕄) ⊢ Pairs c w (n + 1) 0 := by
  unfold Pairs
  refine Entails.of_eq (bigSep_congr fun l _ => ?_)
  have h : l.val < 4 := l.isLt
  rw [if_pos h, if_neg (Nat.not_lt_zero _)]

theorem inner_step (v : FVec F S128x128 .f32) (a b : BitVec 32) (j : Fin k0_t2_loop.trips) (acc : Unit) :
    innerInv c i w f8 f9 f10 f11 f13 f14 q8 j.val
      ⊢ wp frame (wpE (defs₀ (F := F)) 𝒱₀ (c : Thread nD τ) none) Set.univ (k0_t2_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i a b j acc)
          (fun _ => innerInv c i w f8 f9 f10 f11 f13 f14 q8 (j.val + 1)) := by
  unfold innerInv Fixed
  rw [Pairs_split c w i.val j.val j, if_neg (lt_irrefl _)]
  iintro ⟨⟨H10, H11, H13, H14, H8, H9⟩, HS, ⟨HP, HPs⟩, HO⟩
  unfold Pair
  icases HP with ⟨HA, HB⟩
  iapply (wp_wand_r _ _ _)
  isplitl [H10 H11 H13 H14 H8 H9 HS HA HB HO]
  · iapply (trip c i j w f8 f9 f10 f11 f13 f14 q8 (tileW i w f8 f9 f10 f11 f13 f14) (tile_agrees i w f8 f9 f10 f11 f13 f14 j) v a b)
    unfold Res TripRest
    isplitl [H10 H11 H13 H14 HS]
    · isplitl [H10]; · iexact H10
      isplitl [H11]; · iexact H11
      isplitl [H13]; · iexact H13
      isplitl [H14]; · iexact H14
      iexact HS
    isplitl [HA]; · iexact HA
    isplitl [HB]; · iexact HB
    isplitl [HO]; · iexact HO
    isplitl [H8]; · iexact H8
    iexact H9
  iintro %u H
  unfold Res TripRest
  icases H with ⟨⟨H10, H11, H13, H14, HS⟩, HA, HB, HO, H8, H9⟩
  isplitl [H10 H11 H13 H14 H8 H9]
  · isplitl [H10]; · iexact H10
    isplitl [H11]; · iexact H11
    isplitl [H13]; · iexact H13
    isplitl [H14]; · iexact H14
    isplitl [H8]; · iexact H8
    iexact H9
  isplitl [HS]
  · iapply (Stage_next c) $$ HS
  isplitr [HO]
  · rw [Pairs_split c w i.val (j.val + 1) j, if_pos (Nat.lt_succ_self _)]
    unfold Pair
    isplitl [HA HB]
    · isplitl [HA]; · iexact HA
      iexact HB
    iapply (Entails.of_eq (bigSep_congr (fun l hl => by
      have hne : l.val ≠ j.val := fun e => (Finset.mem_erase.mp hl).1 (Fin.ext e)
      simp only [show (l.val < j.val + 1) = (l.val < j.val) from propext (by omega)]))) $$ HPs
  iexact HO

end Cert.Proof.Ideal
-- ==== Proof.Ideal.Out.lean ====
/-
  The copies of a tile's rows to the result: what is in flight, and what has landed.
-/
module

public import proofs.«01_k».proof.Proof.Ideal.Inner

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## A tile's two copies to the result -/

theorem inbOSem : ∀ (p h : Fin 2), ∀ a, (![p.val, h.val] : Fin 2 → ℕ) a + S1x1.size a ≤ S2x2.size a := by decide +kernel
theorem inbOSrc : ∀ (p h : Fin 2), ∀ a, (![p.val, h.val, 0, 0, 0] : Fin 5 → ℕ) a + S1x1x2x1032x128.size a ≤ S2x2x2x1032x128.size a := by decide +kernel
theorem inbODst : ∀ (n : Fin 5) (h : Fin 2), ∀ a, (![0, 0, 256 * n.val + 128 * h.val] : Fin 3 → ℕ) a + S2x1032x128.size a ≤ S2x1032x1280.size a := by decide +kernel

/-- The semaphore of the copy of half `h` of buffer `p`. -/
abbrev semO (p h : Fin 2) : DmaSem sig :=
  ((cc0_scratch11.slice (Rect.unit (s := S2x2) ![p.val, h.val] S1x1.size (inbOSem p h))).squeeze S_ squeezes_S1x1_S_).sem
/-- Half `h` of buffer `p` of the staging buffer. -/
abbrev srcO (p h : Fin 2) : Memref sig .tc .vmem S2x1032x128 .bf16 :=
  (M16.slice (Rect.unit (s := S2x2x2x1032x128) ![p.val, h.val, 0, 0, 0] S1x1x2x1032x128.size (inbOSrc p h)) (fun _ => rfl)).squeeze S2x1032x128
    squeezes_S1x1x2x1032x128_S2x1032x128
/-- The columns of half `h` of tile `n` of the result. -/
abbrev dstO (n : Fin 5) (h : Fin 2) : Memref sig .tc .hbm S2x1032x128 .bf16 :=
  M4.slice (Rect.unit (s := S2x1032x1280) ![0, 0, 256 * n.val + 128 * h.val] S2x1032x128.size (inbODst n h)) (fun _ => rfl)

theorem semO_eq {p h : Fin 2} {off : Fin 2 → ℕ} (e : off = ![p.val, h.val]) {hin} :
    ((cc0_scratch11.slice (Rect.unit (s := S2x2) off S1x1.size hin)).squeeze S_ squeezes_S1x1_S_).sem = semO p h := by subst e; rfl
theorem srcO_eq {p h : Fin 2} {off : Fin 5 → ℕ} (e : off = ![p.val, h.val, 0, 0, 0]) {hin} :
    (M16.slice (Rect.unit (s := S2x2x2x1032x128) off S1x1x2x1032x128.size hin) (fun _ => rfl)).squeeze S2x1032x128
      squeezes_S1x1x2x1032x128_S2x1032x128 = srcO p h := by subst e; rfl
theorem dstO_eq {n : Fin 5} {h : Fin 2} {off : Fin 3 → ℕ} (e : off = ![0, 0, 256 * n.val + 128 * h.val]) {hin} :
    M4.slice (Rect.unit (s := S2x1032x1280) off S2x1032x128.size hin) (fun _ => rfl) = dstO n h := by subst e; rfl

/-- Half `h` of buffer `p`, as elements; the columns of half `h` of tile `n`, as elements. -/
def HalfSet (p h : Fin 2) : Finset S2x2x2x1032x128.Idx := Finset.univ.filter fun q => (q 0).val = p.val ∧ (q 1).val = h.val
def ColSet (n : Fin 5) (h : Fin 2) : Finset S2x1032x1280.Idx := Finset.univ.filter fun q => (q 2).val / 128 = 2 * n.val + h.val

theorem srcO_emb (p h b : Fin 2) (r : Fin 1032) (l : Fin 128) : (srcO p h).view.emb (ix3 b r l) = ix5 p h b r l := by
  show (M16.view.slice (Rect.unit (s := S2x2x2x1032x128) ![p.val, h.val, 0, 0, 0] S1x1x2x1032x128.size (inbOSrc p h))).emb (Shape.reshapeEquiv _ (ix3 b r l)) = _
  rw [reshapeEquiv_ix3_11abc]
  funext a
  apply Fin.ext
  fin_cases a
  · show p.val + 1 * 0 = p.val; omega
  · show h.val + 1 * 0 = h.val; omega
  · show 0 + 1 * b.val = b.val; omega
  · show 0 + 1 * r.val = r.val; omega
  · show 0 + 1 * l.val = l.val; omega

/-- A column of half `h` of tile `n`. -/
def colO (n : Fin 5) (h : Fin 2) (l : Fin 128) : Fin 1280 := ⟨256 * n.val + 128 * h.val + l.val, by omega⟩

theorem dstO_emb (n : Fin 5) (h b : Fin 2) (r : Fin 1032) (l : Fin 128) : (dstO n h).view.emb (ix3 b r l) = ix3 b r (colO n h l) := by
  funext a
  apply Fin.ext
  fin_cases a
  · show 0 + 1 * b.val = b.val; omega
  · show 0 + 1 * r.val = r.val; omega
  · show 256 * n.val + 128 * h.val + 1 * l.val = 256 * n.val + 128 * h.val + l.val; omega

theorem src_mem (p h b : Fin 2) (r : Fin 1032) (l : Fin 128) : ix5 p h b r l ∈ (srcO p h).view.set := by
  have e := (srcO p h).view.emb_mem_set (ix3 b r l)
  rw [srcO_emb p h b r l] at e
  exact e

theorem dst_mem (n : Fin 5) (h b : Fin 2) (r : Fin 1032) (l : Fin 128) : ix3 b r (colO n h l) ∈ (dstO n h).view.set := by
  have e := (dstO n h).view.emb_mem_set (ix3 b r l)
  rw [dstO_emb n h b r l] at e
  exact e

theorem srcO_set (p h : Fin 2) : (srcO p h).view.set = HalfSet p h := by
  ext q
  simp only [HalfSet, Finset.mem_filter, Finset.mem_univ, true_and]
  constructor
  · intro hq
    obtain ⟨j, -, rfl⟩ := Finset.mem_map.mp hq
    rw [eq_ix3 j]
    have e := srcO_emb p h (j 0) (j 1) (j 2)
    exact ⟨congrArg (fun q : S2x2x2x1032x128.Idx => (q 0).val) e, congrArg (fun q : S2x2x2x1032x128.Idx => (q 1).val) e⟩
  · rintro ⟨h0, h1⟩
    have hq : q = ix5 p h (q 2) (q 3) (q 4) := by
      rw [← show q 0 = p from Fin.ext h0, ← show q 1 = h from Fin.ext h1]
      exact eq_ix5 q
    exact Eq.mpr (congrArg (fun z : S2x2x2x1032x128.Idx => z ∈ (srcO p h).view.set) hq) (src_mem p h (q 2) (q 3) (q 4))

theorem dstO_set (n : Fin 5) (h : Fin 2) : (dstO n h).view.set = ColSet n h := by
  ext q
  simp only [ColSet, Finset.mem_filter, Finset.mem_univ, true_and]
  constructor
  · intro hq
    obtain ⟨j, -, rfl⟩ := Finset.mem_map.mp hq
    rw [eq_ix3 j]
    have e := congrArg (fun q : S2x1032x1280.Idx => (q 2).val) (dstO_emb n h (j 0) (j 1) (j 2))
    have h2 : (j 2).val < 128 := (j 2).isLt
    refine (congrArg (· / 128) e).trans ?_
    show (256 * n.val + 128 * h.val + (j 2).val) / 128 = _
    omega
  · intro h0
    have h2 : (q 2).val < 1280 := (q 2).isLt
    have hq : q = ix3 (q 0) (q 1) (colO n h ⟨(q 2).val % 128, by omega⟩) := by
      rw [show colO n h ⟨(q 2).val % 128, by omega⟩ = q 2 from Fin.ext (by
        show 256 * n.val + 128 * h.val + (q 2).val % 128 = (q 2).val
        omega)]
      exact eq_ix3 q
    exact Eq.mpr (congrArg (fun z : S2x1032x1280.Idx => z ∈ (dstO n h).view.set) hq) (dst_mem n h (q 0) (q 1) _)

/-- Half of the buffer a tile goes through. -/
abbrev bufOf (n : Fin 5) : Fin 2 := ⟨n.val % 2, by omega⟩

variable (c : Dev nD) (V : Fin 5 → S2x2x2x1032x128.Idx → Elt F .bf16)

/-- The result, of what each tile leaves in the staging buffer. -/
def outW (q : S2x1032x1280.Idx) : Elt F .bf16 :=
  V ⟨(q 2).val / 256, by have h2 : (q 2).val < 1280 := (q 2).isLt; omega⟩
    (ix5 (bufOf ⟨(q 2).val / 256, by have h2 : (q 2).val < 1280 := (q 2).isLt; omega⟩) (⟨(q 2).val / 128 % 2, by omega⟩ : Fin 2) (q 0) (q 1)
      (⟨(q 2).val % 128, by omega⟩ : Fin 128))

theorem outW_col (n : Fin 5) (h b : Fin 2) (r : Fin 1032) (l : Fin 128) : outW V (ix3 b r (colO n h l)) = V n (ix5 (bufOf n) h b r l) := by
  have e0 : (⟨(colO n h l).val / 256, by have h2 := (colO n h l).isLt; omega⟩ : Fin 5) = n := Fin.ext (by
    show (256 * n.val + 128 * h.val + l.val) / 256 = n.val; omega)
  have e1 : (⟨(colO n h l).val / 128 % 2, by omega⟩ : Fin 2) = h := Fin.ext (by
    show (256 * n.val + 128 * h.val + l.val) / 128 % 2 = h.val; omega)
  have e2 : (⟨(colO n h l).val % 128, by omega⟩ : Fin 128) = l := Fin.ext (by
    show (256 * n.val + 128 * h.val + l.val) % 128 = l.val; omega)
  show V ⟨(colO n h l).val / 256, _⟩ (ix5 (bufOf ⟨(colO n h l).val / 256, _⟩) (⟨(colO n h l).val / 128 % 2, _⟩ : Fin 2) b r
      (⟨(colO n h l).val % 128, _⟩ : Fin 128)) = _
  rw [e0, e1, e2]

/-- Half of a tile's copy in flight; landed. -/
def OutFly (n : Fin 5) (h : Fin 2) : sProp 𝕄 := InFlight c (srcO (bufOf n) h) (dstO n h) (semO (bufOf n) h) fullShare (V n)
def OutHas (n : Fin 5) (h : Fin 2) : sProp 𝕄 := M4.view.loc (c : Thread nD τ) ↦[(dstO n h).view.set]{fullShare} (outW V)
/-- Half of a buffer at rest. -/
def HalfIdle (p h : Fin 2) : sProp 𝕄 := iprop(Free c (srcO p h) ∗ semVal ((c : Thread nD τ), .dma (semO p h)) 0)

theorem landed_out (n : Fin 5) (h : Fin 2) :
    (Landed c (dstO n h) ((srcO (bufOf n) h).view.read (Elt F) (V n)) : sProp 𝕄) ⊢ OutHas c V n h := by
  unfold Landed OutHas
  iintro ⟨%f, H, %hf⟩
  iapply (Entails.of_eq (pointsTo_congr (f := f) (g := outW V) ?_)) $$ H
  intro q hq
  obtain ⟨j, -, rfl⟩ := Finset.mem_map.mp hq
  rw [eq_ix3 j]
  refine (congrFun hf (ix3 (j 0) (j 1) (j 2))).trans ?_
  have e1 := srcO_emb (bufOf n) h (j 0) (j 1) (j 2)
  have e2 := dstO_emb n h (j 0) (j 1) (j 2)
  exact (congrArg (V n) e1).trans ((outW_col V n h (j 0) (j 1) (j 2)).symm.trans (congrArg (outW V) e2.symm))

variable {α : Type}

theorem outWait {n : Fin 5} {h : Fin 2} {src : Memref sig .tc .vmem S2x1032x128 .bf16} {dst : Memref sig .tc .hbm S2x1032x128 .bf16} {sm : DmaSem sig}
    (h1 : src = srcO (bufOf n) h) (h2 : dst = dstO n h) (h3 : sm = semO (bufOf n) h) {hsrc : src.view.WordExact} {hdst : dst.view.WordExact}
    {k : PUnit → Prog (TpuEff nD τ sig (Elt F) Λ₀ .tc) α} {Q : α → sProp 𝕄} :
    iprop(OutFly c V n h ∗ Owes c)
      ⊢ iprop((iprop(OutHas c V n h ∗ HalfIdle c (bufOf n) h ∗ Owes c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst h1 h2 h3
  unfold OutFly HalfIdle
  iintro ⟨HF, HO⟩ Hk
  iapply (copyWait c (src := srcO (bufOf n) h) (dst := dstO n h) (fs := V n) (q := fullShare)) $$ [HF HO]
  · isplitl [HF]; · iexact HF
    iexact HO
  iintro ⟨HL, Hs, Hv, HO⟩
  iapply Hk
  isplitl [HL]; · iapply (landed_out c V n h) $$ HL
  isplitl [Hs Hv]
  · isplitl [Hs]
    · unfold Free
      iexists _
      iexact Hs
    iexact Hv
  iexact HO

theorem outStart {n : Fin 5} {h : Fin 2} {src : Memref sig .tc .vmem S2x1032x128 .bf16} {dst : Memref sig .tc .hbm S2x1032x128 .bf16} {sm : DmaSem sig}
    (h1 : src = srcO (bufOf n) h) (h2 : dst = dstO n h) (h3 : sm = semO (bufOf n) h) {hsrc : src.view.WordExact} {hdst : dst.view.WordExact} {hsem}
    {k : PUnit → Prog (TpuEff nD τ sig (Elt F) Λ₀ .tc) α} {Q : α → sProp 𝕄} :
    iprop((M16.view.loc (c : Thread nD τ) ↦[HalfSet (bufOf n) h]{fullShare} (V n)) ∗ Free c (dstO n h) ∗ semVal ((c : Thread nD τ), .dma (semO (bufOf n) h)) 0)
      ⊢ iprop((OutFly c V n h -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst h1 h2 h3
  unfold OutFly
  rw [← srcO_set]
  iintro ⟨Hs, Hd, Hv⟩ Hk
  iapply (copyStart c (src := srcO (bufOf n) h) (dst := dstO n h) (fs := V n) (q := fullShare) (by decide)) $$ [Hs Hd Hv]
  · isplitl [Hs]; · iexact Hs
    isplitl [Hd]; · iexact Hd
    iexact Hv
  iexact Hk

/-! ## The staging buffer's halves -/

theorem Slab_eq (p : Fin 2) : Slab p = HalfSet p 0 ∪ HalfSet p 1 := by
  ext q
  have h1 : (q 1).val < 2 := (q 1).isLt
  simp only [mem_Slab, HalfSet, Finset.mem_union, Finset.mem_filter, Finset.mem_univ, true_and]
  show _ ↔ ((q 0).val = p.val ∧ (q 1).val = 0) ∨ ((q 0).val = p.val ∧ (q 1).val = 1)
  omega
theorem half_disjoint (p : Fin 2) : Disjoint (HalfSet p 0) (HalfSet p 1) := by
  rw [Finset.disjoint_left]
  intro q h0 h1
  simp only [HalfSet, Finset.mem_filter, Finset.mem_univ, true_and] at h0 h1
  have e0 : (q 1).val = 0 := h0.2
  have e1 : (q 1).val = 1 := h1.2
  omega

/-- A buffer at rest can be stored into. -/
theorem idle_stage (p : Fin 2) (W : S2x2x2x1032x128.Idx → Elt F .bf16) :
    iprop(Free c (srcO p 0) ∗ Free c (srcO p 1)) ⊢ (Stage c p W 0 0 : sProp 𝕄) := by
  unfold Free Stage
  rw [srcO_set, srcO_set]
  iintro ⟨⟨%f, Hf⟩, ⟨%g, Hg⟩⟩
  ihave H := (pointsTo_join (ℓ := M16.view.loc (c : Thread nD τ)) (I := HalfSet p 0) (J := HalfSet p 1) (half_disjoint p)) $$ [Hf Hg]
  · isplitl [Hf]; · iexact Hf
    iexact Hg
  rw [← Slab_eq]
  iexists _
  isplitl [H]; · iexact H
  ipureintro
  intro q _ hd
  unfold doneAt at hd
  omega

/-- A tile whose tap pairs are all stored is the values meant for it, in two halves. -/
theorem stage_done (p : Fin 2) (W : S2x2x2x1032x128.Idx → Elt F .bf16) :
    (Stage c p W 4 0 : sProp 𝕄) ⊢ iprop((M16.view.loc (c : Thread nD τ) ↦[HalfSet p 0]{fullShare} W)
      ∗ (M16.view.loc (c : Thread nD τ) ↦[HalfSet p 1]{fullShare} W)) := by
  unfold Stage
  iintro ⟨%f, H, %hf⟩
  iapply (pointsTo_union (ℓ := M16.view.loc (c : Thread nD τ)) (I := HalfSet p 0) (J := HalfSet p 1) (half_disjoint p)).1
  rw [← Slab_eq]
  iapply (Entails.of_eq (pointsTo_congr (f := f) (g := W) ?_)) $$ H
  intro q hq
  refine hf q ((mem_Slab p q).mp hq) ?_
  unfold doneAt
  omega

end Cert.Proof.Ideal
-- ==== Proof.Ideal.Outer.lean ====
/-
  The loop over the tiles: the weights' slots, the staging buffer's halves and the result's columns, trip by trip.
-/
module

public import proofs.«01_k».proof.Proof.Ideal.Out

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

theorem cond1 : ∀ i : Fin k0_t1_loop.trips, k0_cond1 i = 1#1 ↔ 2 ≤ i.val := by decide +kernel
theorem off1 : ∀ i : Fin k0_t1_loop.trips, 2 ≤ i.val → k0_off1 i = ![(i.val - 2) % 2, (0 : Fin 2).val] := by decide +kernel
theorem off2 : ∀ (i : Fin k0_t1_loop.trips) (h : Fin 2), 2 ≤ i.val → k0_off2 i (BitVec.ofNat 32 (128 * h.val)) = ![0, 0, 256 * (i.val - 2) + 128 * h.val] := by decide +kernel
theorem off3 : ∀ i : Fin k0_t1_loop.trips, 2 ≤ i.val → k0_off3 i = ![(i.val - 2) % 2, (0 : Fin 2).val, 0, 0, 0] := by decide +kernel
theorem off4 : ∀ i : Fin k0_t1_loop.trips, 2 ≤ i.val → k0_off4 i = ![(i.val - 2) % 2, (1 : Fin 2).val] := by decide +kernel
theorem off5 : ∀ i : Fin k0_t1_loop.trips, 2 ≤ i.val → k0_off5 i = ![(i.val - 2) % 2, (1 : Fin 2).val, 0, 0, 0] := by decide +kernel
theorem off30 : ∀ i : Fin k0_t1_loop.trips, k0_off30 i = ![i.val % 2, (0 : Fin 2).val] := by decide +kernel
theorem off31 : ∀ (i : Fin k0_t1_loop.trips) (h : Fin 2), k0_off31 i (BitVec.ofNat 32 (128 * h.val)) = ![0, 0, 256 * i.val + 128 * h.val] := by decide +kernel
theorem off32 : ∀ i : Fin k0_t1_loop.trips, k0_off32 i = ![i.val % 2, (0 : Fin 2).val, 0, 0, 0] := by decide +kernel
theorem off33 : ∀ i : Fin k0_t1_loop.trips, k0_off33 i = ![i.val % 2, (1 : Fin 2).val] := by decide +kernel
theorem off34 : ∀ i : Fin k0_t1_loop.trips, k0_off34 i = ![i.val % 2, (1 : Fin 2).val, 0, 0, 0] := by decide +kernel

variable (c : Dev nD) (w : Vec F S16x2560x1280 .fp8e4m3)
variable (f8 f9 : Vec F S2x128x2560 .fp8e4m3) (f10 f11 : Vec F S2x128x128 .f32) (f13 f14 : Vec F S1x1280 .f32)
variable (q8 : PosShare TreeShare)

/-- What each tile leaves in the staging buffer. -/
def tiles (n : Fin 5) : S2x2x2x1032x128.Idx → Elt F .bf16 :=
  tileW (⟨n.val, lt_of_lt_of_eq n.isLt (by decide)⟩ : Fin k0_t1_loop.trips) w f8 f9 f10 f11 f13 f14

section
variable (V : Fin 5 → S2x2x2x1032x128.Idx → Elt F .bf16)

/-- The result's columns of tile `n` before trip `k`. -/
def OutSt (n : Fin 5) (k : ℕ) : sProp 𝕄 :=
  if n.val + 2 < k then iprop(OutHas c V n 0 ∗ OutHas c V n 1)
  else if n.val < k then iprop(OutFly c V n 0 ∗ OutFly c V n 1)
  else iprop(Free c (dstO n 0) ∗ Free c (dstO n 1))

/-- Buffer `p` before trip `k`: at rest until its first tile. -/
def BufSt (p : Fin 2) (k : ℕ) : sProp 𝕄 := if k ≤ p.val then iprop(HalfIdle c p 0 ∗ HalfIdle c p 1) else iprop(emp)

theorem OutSt_erase (i : Fin k0_t1_loop.trips) (h : i.val < 2) :
    (bigSep (Finset.univ.erase (ct i)) (fun n => OutSt c V n i.val) : sProp 𝕄) ⊢ bigSep (Finset.univ.erase (ct i)) (fun n => OutSt c V n (i.val + 1)) := by
  refine Entails.of_eq (bigSep_congr fun n hn => ?_)
  have hne : n.val ≠ i.val := fun e => (Finset.mem_erase.mp hn).1 (Fin.ext e)
  exact if_congr (by omega) rfl (if_congr (by omega) rfl rfl)

theorem BufSt_erase (i : Fin k0_t1_loop.trips) :
    (bigSep (Finset.univ.erase (par i)) (fun p => BufSt c p i.val) : sProp 𝕄) ⊢ bigSep (Finset.univ.erase (par i)) (fun p => BufSt c p (i.val + 1)) := by
  refine Entails.of_eq (bigSep_congr fun p hp => ?_)
  have hne : p.val ≠ i.val % 2 := fun e => (Finset.mem_erase.mp hp).1 (Fin.ext e)
  have h2 := p.isLt
  exact if_congr (by omega) rfl rfl

theorem mem_two (i : Fin k0_t1_loop.trips) (h : 2 ≤ i.val) :
    (⟨i.val - 2, by have : i.val < 5 := i.isLt; omega⟩ : Fin 5) ∈ Finset.univ.erase (ct i) :=
  Finset.mem_erase.mpr ⟨fun e => by
    have e' : i.val - 2 = i.val := congrArg Fin.val e
    omega, Finset.mem_univ _⟩

theorem OutSt_flyAt (n : Fin 5) (k : ℕ) (h : ¬ n.val + 2 < k) (h' : n.val < k) : (OutSt c V n k : sProp 𝕄) ⊢ iprop(OutFly c V n 0 ∗ OutFly c V n 1) := by
  unfold OutSt
  rw [if_neg h, if_pos h']
theorem OutSt_hasAt (n : Fin 5) (k : ℕ) (h : n.val + 2 < k) : iprop(OutHas c V n 0 ∗ OutHas c V n 1) ⊢ (OutSt c V n k : sProp 𝕄) := by
  unfold OutSt
  rw [if_pos h]

/-- The tile two trips back, in flight, among the others. -/
theorem OutSt_two (i : Fin k0_t1_loop.trips) (h : 2 ≤ i.val) (n : Fin 5) (hn : n = ⟨i.val - 2, by have : i.val < 5 := i.isLt; omega⟩) :
    (bigSep (Finset.univ.erase (ct i)) (fun n => OutSt c V n i.val) : sProp 𝕄)
      ⊢ iprop((OutFly c V n 0 ∗ OutFly c V n 1)
        ∗ ((OutHas c V n 0 ∗ OutHas c V n 1) -∗ bigSep (Finset.univ.erase (ct i)) (fun n => OutSt c V n (i.val + 1)))) := by
  subst hn
  have e : ∀ k, (bigSep (Finset.univ.erase (ct i)) (fun n => OutSt c V n k) : sProp 𝕄)
      = iprop(OutSt c V ⟨i.val - 2, by have : i.val < 5 := i.isLt; omega⟩ k
        ∗ bigSep ((Finset.univ.erase (ct i)).erase ⟨i.val - 2, by have : i.val < 5 := i.isLt; omega⟩) (fun n => OutSt c V n k)) :=
    fun k => bigSep_erase (mem_two i h)
  rw [e, e]
  iintro ⟨H, HR⟩
  isplitl [H]
  · iapply (OutSt_flyAt c V _ i.val (by show ¬ (i.val - 2 + 2 < i.val); omega) (by show i.val - 2 < i.val; omega)) $$ H
  iintro H
  isplitl [H]
  · iapply (OutSt_hasAt c V _ (i.val + 1) (by show i.val - 2 + 2 < i.val + 1; omega)) $$ H
  iapply (Entails.of_eq (bigSep_congr (fun l hl => by
    have hl' := Finset.mem_erase.mp hl
    have h1 : l.val ≠ i.val - 2 := fun e => hl'.1 (Fin.ext e)
    have h2 : l.val ≠ i.val := fun e => (Finset.mem_erase.mp hl'.2).1 (Fin.ext e)
    exact if_congr (by omega) rfl (if_congr (by omega) rfl rfl)))) $$ HR

theorem BufSt_idle (p : Fin 2) (k : ℕ) (h : k ≤ p.val) : (BufSt (F := F) c p k : sProp 𝕄) ⊢ iprop(HalfIdle c p 0 ∗ HalfIdle c p 1) := by
  unfold BufSt
  rw [if_pos h]

theorem BufSt_emp (p : Fin 2) (k : ℕ) (h : ¬ k ≤ p.val) : (emp : sProp 𝕄) ⊢ BufSt (F := F) c p k := by
  unfold BufSt
  rw [if_neg h]

theorem OutSt_free (n : Fin 5) : (OutSt c V n n.val : sProp 𝕄) ⊢ iprop(Free c (dstO n 0) ∗ Free c (dstO n 1)) := by
  unfold OutSt
  rw [if_neg (by omega), if_neg (by omega)]

theorem OutSt_fly (n : Fin 5) : iprop(OutFly c V n 0 ∗ OutFly c V n 1) ⊢ (OutSt c V n (n.val + 1) : sProp 𝕄) := by
  unfold OutSt
  rw [if_neg (by omega), if_pos (by omega)]

def Outs (k : ℕ) : sProp 𝕄 := bigSep Finset.univ fun n => OutSt c V n k
def Bufs (k : ℕ) : sProp 𝕄 := bigSep Finset.univ fun p => BufSt c p k

theorem Outs_split (k : ℕ) (n : Fin 5) : (Outs c V k : sProp 𝕄) = iprop(OutSt c V n k ∗ bigSep (Finset.univ.erase n) (fun n => OutSt c V n k)) := by
  unfold Outs
  exact BI.bigSep_univ_split n
theorem Bufs_split (k : ℕ) (p : Fin 2) : (Bufs (F := F) c k : sProp 𝕄) = iprop(BufSt c p k ∗ bigSep (Finset.univ.erase p) (fun p => BufSt c p k)) := by
  unfold Bufs
  exact BI.bigSep_univ_split p
end

/-- Before tile `k`. -/
def outerInv (k : ℕ) : sProp 𝕄 :=
  iprop(Fixed c f8 f9 f10 f11 f13 f14 q8 ∗ Pairs c w k 0 ∗ Owes c ∗ Outs c (tiles w f8 f9 f10 f11 f13 f14) k ∗ Bufs c k)

variable {α : Type}
theorem retBind {β : Type} {a : β} {f : β → Prog (TpuEff nD τ sig (Elt F) Λ₀ .tc) α} {Q : α → sProp 𝕄} :
    (wp frame (wpE (defs₀ (F := F)) 𝒱₀ (c : Thread nD τ) none) Set.univ (f a) Q : sProp 𝕄) ⊢ wp frame (wpE (defs₀ (F := F)) 𝒱₀ (c : Thread nD τ) none) Set.univ ((Prog.ret a).bind f) Q := .rfl

theorem loopBind {inv : ℕ → sProp 𝕄} {body : Fin k0_t2_loop.trips → Unit → Prog (TpuEff nD τ sig (Elt F) Λ₀ .tc) Unit}
    (step : ∀ j a, inv j.val ⊢ wp frame (wpE (defs₀ (F := F)) 𝒱₀ (c : Thread nD τ) none) Set.univ (body j a) (fun _ => inv (j.val + 1)))
    {f : Unit → Prog (TpuEff nD τ sig (Elt F) Λ₀ .tc) α} {Q : α → sProp 𝕄} :
    inv 0 ⊢ iprop((inv k0_t2_loop.trips -∗ wp frame (wpE (defs₀ (F := F)) 𝒱₀ (c : Thread nD τ) none) Set.univ (f ()) Q) -∗ wp frame (wpE (defs₀ (F := F)) 𝒱₀ (c : Thread nD τ) none) Set.univ (k0_t2_loop.for k0_t2_ok PUnit.unit body >>= f) Q) := by
  iintro H Hk
  iapply (Scf.wp_for_bind frame (wpE (defs₀ (F := F)) 𝒱₀ (c : Thread nD τ) none) Set.univ k0_t2_loop.lb k0_t2_loop.ub k0_t2_loop.st k0_t2_ok PUnit.unit body
    (fun k _ => inv k) step) $$ H
  iintro %a H
  iapply Hk
  iexact H

theorem inner_end (i : Fin k0_t1_loop.trips) : innerInv c i w f8 f9 f10 f11 f13 f14 q8 k0_t2_loop.trips
    ⊢ iprop(Fixed c f8 f9 f10 f11 f13 f14 q8
      ∗ (M16.view.loc (c : Thread nD τ) ↦[HalfSet (par i) 0]{fullShare} (tileW i w f8 f9 f10 f11 f13 f14))
      ∗ (M16.view.loc (c : Thread nD τ) ↦[HalfSet (par i) 1]{fullShare} (tileW i w f8 f9 f10 f11 f13 f14))
      ∗ Pairs c w (i.val + 1) 0 ∗ Owes c) := by
  unfold innerInv
  rw [show k0_t2_loop.trips = 4 from by decide]
  iintro ⟨HF, HS, HP, HO⟩
  ihave HS := (stage_done c (par i) _) $$ HS
  icases HS with ⟨HS, HS'⟩
  isplitl [HF]; · iexact HF
  isplitl [HS]; · iexact HS
  isplitl [HS']; · iexact HS'
  isplitl [HP]; · iapply (Pairs_next c w i.val) $$ HP
  iexact HO

theorem outer_step (v : FVec F S128x128 .f32) (i : Fin k0_t1_loop.trips) (acc : Unit) :
    outerInv c w f8 f9 f10 f11 f13 f14 q8 i.val
      ⊢ wp frame (wpE (defs₀ (F := F)) 𝒱₀ (c : Thread nD τ) none) Set.univ (k0_t1_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 v i acc) (fun _ => outerInv c w f8 f9 f10 f11 f13 f14 q8 (i.val + 1)) := by
  unfold outerInv
  rw [Outs_split c _ i.val (ct i), Bufs_split c i.val (par i)]
  generalize hV : tiles w f8 f9 f10 f11 f13 f14 = V
  have hVi : V (ct i) = tileW i w f8 f9 f10 f11 f13 f14 := by subst hV; rfl
  unfold k0_t1_body
  iintro ⟨HF, HP, HO, ⟨HT, HTs⟩, HB, HBs⟩
  ihave HBs := (BufSt_erase c i) $$ HBs
  by_cases h2 : 2 ≤ i.val
  case' pos =>
    iapply (iteT c ((cond1 i).mpr h2))
    ihave HTs := (OutSt_two c V i h2 _ rfl) $$ HTs
    icases HTs with ⟨⟨HX, HY⟩, HTs⟩
    iapply (outWait c V (n := ⟨i.val - 2, by have : i.val < 5 := i.isLt; omega⟩) (h := 0) (srcO_eq (off3 i h2)) (dstO_eq (off2 i 0 h2)) (semO_eq (off1 i h2))) $$ [HX HO]
    · isplitl [HX]; · iexact HX
      iexact HO
    iintro ⟨HX, HI, HO⟩
    iapply (outWait c V (n := ⟨i.val - 2, by have : i.val < 5 := i.isLt; omega⟩) (h := 1) (srcO_eq (off5 i h2)) (dstO_eq (off2 i 1 h2)) (semO_eq (off4 i h2))) $$ [HY HO]
    · isplitl [HY]; · iexact HY
      iexact HO
    iintro ⟨HY, HJ, HO⟩
    ihave HTs := HTs $$ [HX HY]
    · isplitl [HX]; · iexact HX
      iexact HY
    have hp : bufOf ⟨i.val - 2, by have : i.val < 5 := i.isLt; omega⟩ = par i := Fin.ext (by show (i.val - 2) % 2 = i.val % 2; omega)
    rw [hp]
    iclear HB
  case' neg =>
    iapply (iteF c (fun hc => h2 ((cond1 i).mp hc)))
    ihave HTs := (OutSt_erase c V i (by omega)) $$ HTs
    ihave HB := (BufSt_idle c (par i) i.val (by show i.val ≤ i.val % 2; omega)) $$ HB
    icases HB with ⟨HI, HJ⟩
  all_goals
    unfold HalfIdle
    icases HI with ⟨HI, HIv⟩
    icases HJ with ⟨HJ, HJv⟩
    (try iapply (retBind c))
    iapply (loopBind c (inv := innerInv c i w f8 f9 f10 f11 f13 f14 q8) (fun j a => inner_step c i w f8 f9 f10 f11 f13 f14 q8 v _ _ j a)) $$ [HF HP HO HI HJ]
    · unfold innerInv
      isplitl [HF]; · iexact HF
      isplitl [HI HJ]
      · iapply (idle_stage c (par i))
        isplitl [HI]; · iexact HI
        iexact HJ
      isplitl [HP]; · iexact HP
      iexact HO
    iintro HN
    ihave HN := (inner_end c w f8 f9 f10 f11 f13 f14 q8 i) $$ HN
    icases HN with ⟨HF, HS, HS', HP, HO⟩
    rw [← hVi]
    ihave HT := (OutSt_free c V (ct i)) $$ HT
    icases HT with ⟨HT, HT'⟩
    iapply (outStart c V (n := ct i) (h := 0) (srcO_eq (off32 i)) (dstO_eq (off31 i 0)) (semO_eq (off30 i))) $$ [HS HT HIv]
    · isplitl [HS]; · iexact HS
      isplitl [HT]; · iexact HT
      iexact HIv
    iintro HX
    iapply (outStart c V (n := ct i) (h := 1) (srcO_eq (off34 i)) (dstO_eq (off31 i 1)) (semO_eq (off33 i))) $$ [HS' HT' HJv]
    · isplitl [HS']; · iexact HS'
      isplitl [HT']; · iexact HT'
      iexact HJv
    iintro HY
    iapply (retW c)
    isplitl [HF]; · iexact HF
    isplitl [HP]; · iexact HP
    isplitl [HO]; · iexact HO
    rw [Outs_split c V (i.val + 1) (ct i), Bufs_split c (i.val + 1) (par i)]
    isplitl [HX HY HTs]
    · isplitl [HX HY]
      · iapply (OutSt_fly c V (ct i))
        isplitl [HX]; · iexact HX
        iexact HY
      iexact HTs
    isplitr [HBs]
    · iapply (BufSt_emp c (par i) (i.val + 1) (by show ¬ (i.val + 1 ≤ i.val % 2); omega))
      iempintro
    iexact HBs

end Cert.Proof.Ideal
-- ==== Proof.Ideal.Ends.lean ====
/-
  What the body starts from and what it ends with.
-/
module

public import proofs.«01_k».proof.Proof.Ideal.Quant
public import proofs.«01_k».proof.Proof.Ideal.Outer

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- The semaphores of the small copies. -/
theorem inbSm : ∀ i : Fin 2, ∀ a, (![i.val] : Fin 1 → ℕ) a + S1.size a ≤ S2.size a := by decide +kernel
abbrev semS (i : Fin 2) : DmaSem sig := ((cc0_scratch13.slice (Rect.unit (s := S2) ![i.val] S1.size (inbSm i))).squeeze S_ squeezes_S1_S_).sem
abbrev semC (i : Fin 2) : DmaSem sig := ((cc0_scratch14.slice (Rect.unit (s := S2) ![i.val] S1.size (inbSm i))).squeeze S_ squeezes_S1_S_).sem

variable (c : Dev nD) (X : Vec F S2x128x2560 .bf16) (w : Vec F S16x2560x1280 .fp8e4m3) (ws bs : Vec F S1x1280 .f32)

/-- A whole buffer's elements are all there are. -/
theorem to_set {c : Dev nD} {sp : Space} {s : Shape} {e : EltTy} {m : Memref sig .tc sp s e} (hs : m.view.set = Finset.univ) {q : PosShare TreeShare} {f : Buf (Elt F) (m.view.loc (c : Thread nD τ))} :
    (m.view.loc (c : Thread nD τ) ↦{q} f : sProp 𝕄) ⊢ (m.view.loc (c : Thread nD τ) ↦[m.view.set]{q} f) := by rw [hs]
theorem of_set {c : Dev nD} {sp : Space} {s : Shape} {e : EltTy} {m : Memref sig .tc sp s e} (hs : m.view.set = Finset.univ) {q : PosShare TreeShare} {f : Buf (Elt F) (m.view.loc (c : Thread nD τ))} :
    (m.view.loc (c : Thread nD τ) ↦[m.view.set]{q} f : sProp 𝕄) ⊢ (m.view.loc (c : Thread nD τ) ↦{q} f) := by rw [hs]

/-! ## Buffers known throughout -/

section
variable {c} {s : Shape} {e : EltTy} {m : Memref sig .tc .vmem s e}

theorem landed_full (hs : m.view.set = Finset.univ) {C : s.Idx → Elt F e} (g : Buf (Elt F) (m.view.loc (c : Thread nD τ)))
    (hg : ∀ f : Buf (Elt F) (m.view.loc (c : Thread nD τ)), m.view.read (Elt F) f = C → f = g) :
    (Landed c m C : sProp 𝕄) ⊢ (m.view.loc (c : Thread nD τ) ↦{fullShare} g) := by
  unfold Landed
  iintro ⟨%f, H, %hf⟩
  rw [hg f hf, hs]
  iexact H

theorem full_free (hs : m.view.set = Finset.univ) (g : Buf (Elt F) (m.view.loc (c : Thread nD τ))) :
    (m.view.loc (c : Thread nD τ) ↦{fullShare} g : sProp 𝕄) ⊢ Free c m := by
  unfold Free
  rw [hs]
  iintro H
  iexists g
  iexact H
end

theorem done8_all (i : S2x128x2560.Idx) : done8 8 i := by
  have h0 : (i 0).val < 2 := (i 0).isLt
  have h1 : (i 1).val < 128 := (i 1).isLt
  show 4 * (i 0).val + (i 1).val / 32 < 8
  omega
theorem done10_all (i : S2x128x128.Idx) : done10 8 i := by
  have h0 : (i 0).val < 2 := (i 0).isLt
  have h1 : (i 1).val < 128 := (i 1).isLt
  show 4 * (i 0).val + (i 1).val / 32 < 8
  omega

variable {c X}
theorem known7 : (Landed c M7 (M0.view.read (Elt F) X) : sProp 𝕄) ⊢ Known c M7 X (fun _ => True) := Known_of_landed (C := X)
theorem full8 : (Known c M8 (C8 X) (done8 8) : sProp 𝕄) ⊢ (M8.view.loc (c : Thread nD τ) ↦{fullShare} C8 X) :=
  (Known_landed done8_all).trans (landed_full (m := M8) (View.set_whole _) _ fun _ h => h)
theorem full9 : (Known c M9 (C9 X) (upto9 2) : sProp 𝕄) ⊢ (M9.view.loc (c : Thread nD τ) ↦{fullShare} C9 X) :=
  (Known_landed fun i => (i 0).isLt).trans (landed_full (m := M9) (View.set_whole _) _ fun _ h => h)
theorem full10 : (Known c M10 (C10 X) (done10 8) : sProp 𝕄) ⊢ (M10.view.loc (c : Thread nD τ) ↦{fullShare} C10 X) :=
  (Known_landed done10_all).trans (landed_full (m := M10) (View.set_whole _) _ fun _ h => h)
theorem full11 : (Known c M11 (C11 X) (upto11 2) : sProp 𝕄) ⊢ (M11.view.loc (c : Thread nD τ) ↦{fullShare} C11 X) :=
  (Known_landed fun i => (i 0).isLt).trans (landed_full (m := M11) (View.set_whole _) _ fun _ h => h)
theorem full12 : (Known c M12 (C12 X) (upto12 2) : sProp 𝕄) ⊢ (M12.view.loc (c : Thread nD τ) ↦{fullShare} C12 X) :=
  (Known_landed fun i => (i 0).isLt).trans (landed_full (m := M12) (View.set_whole _) _ fun _ h => h)
theorem landed5 : (Landed c M5 (M8.view.read (Elt F) (C8 X)) : sProp 𝕄) ⊢ Landed c M5 (C8 X) := .rfl
theorem landed6 : (Landed c M6 (M12.view.read (Elt F) (C12 X)) : sProp 𝕄) ⊢ Landed c M6 (C12 X) := .rfl
theorem full13 : (Landed c M13 (M2.view.read (Elt F) ws) : sProp 𝕄) ⊢ (M13.view.loc (c : Thread nD τ) ↦{fullShare} ws) :=
  landed_full (m := M13) (View.set_whole _) _ fun _ h => h
theorem full14 : (Landed c M14 (M3.view.read (Elt F) bs) : sProp 𝕄) ⊢ (M14.view.loc (c : Thread nD τ) ↦{fullShare} bs) :=
  landed_full (m := M14) (View.set_whole _) _ fun _ h => h
variable (c X)

/-! ## The slots, the result's tiles and the staging buffer at either end -/

theorem slots_pairs (n : ℕ) :
    iprop(SlotSt c w 0 n ∗ SlotSt c w 1 n ∗ SlotSt c w 2 n ∗ SlotSt c w 3 n ∗ SlotSt c w 4 n ∗ SlotSt c w 5 n ∗ SlotSt c w 6 n ∗ SlotSt c w 7 n)
      ⊢ (Pairs c w n 0 : sProp 𝕄) := by
  unfold Pairs
  simp only [if_neg (Nat.not_lt_zero _)]
  rw [bigSep_univ_eq_bigSepL [(⟨0, by decide⟩ : Fin k0_t2_loop.trips), (⟨1, by decide⟩ : Fin k0_t2_loop.trips), (⟨2, by decide⟩ : Fin k0_t2_loop.trips), (⟨3, by decide⟩ : Fin k0_t2_loop.trips)] (by decide) (by decide)]
  show _ ⊢ iprop(Pair c w (⟨0, by decide⟩ : Fin k0_t2_loop.trips) n ∗ Pair c w (⟨1, by decide⟩ : Fin k0_t2_loop.trips) n ∗ Pair c w (⟨2, by decide⟩ : Fin k0_t2_loop.trips) n ∗ Pair c w (⟨3, by decide⟩ : Fin k0_t2_loop.trips) n)
  show _ ⊢ iprop((SlotSt c w 0 n ∗ SlotSt c w 1 n) ∗ (SlotSt c w 2 n ∗ SlotSt c w 3 n) ∗ (SlotSt c w 4 n ∗ SlotSt c w 5 n) ∗ (SlotSt c w 6 n ∗ SlotSt c w 7 n))
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption

theorem pairs_slots (n : ℕ) : (Pairs c w n 0 : sProp 𝕄)
      ⊢ iprop(SlotSt c w 0 n ∗ SlotSt c w 1 n ∗ SlotSt c w 2 n ∗ SlotSt c w 3 n ∗ SlotSt c w 4 n ∗ SlotSt c w 5 n ∗ SlotSt c w 6 n ∗ SlotSt c w 7 n) := by
  unfold Pairs
  simp only [if_neg (Nat.not_lt_zero _)]
  rw [bigSep_univ_eq_bigSepL [(⟨0, by decide⟩ : Fin k0_t2_loop.trips), (⟨1, by decide⟩ : Fin k0_t2_loop.trips), (⟨2, by decide⟩ : Fin k0_t2_loop.trips), (⟨3, by decide⟩ : Fin k0_t2_loop.trips)] (by decide) (by decide)]
  show iprop((SlotSt c w 0 n ∗ SlotSt c w 1 n) ∗ (SlotSt c w 2 n ∗ SlotSt c w 3 n) ∗ (SlotSt c w 4 n ∗ SlotSt c w 5 n) ∗ (SlotSt c w 6 n ∗ SlotSt c w 7 n)) ⊢ _
  iintro ⟨⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

/-- A slot at rest. -/
theorem slot_rest (s : Fin 8) : (SlotSt c w s 5 : sProp 𝕄)
    = iprop(Free c (dstW s) ∗ semVal ((c : Thread nD τ), .dma (semW s)) 0 ∗ (M1.view.loc (c : Thread nD τ) ↦{qW s} w)) := by
  unfold SlotSt
  rw [dif_neg (by decide)]

section
variable (V : Fin 5 → S2x2x2x1032x128.Idx → Elt F .bf16)

/-- All the result's tiles written. -/
def OutsDone : sProp 𝕄 := bigSep Finset.univ fun n : Fin 5 => iprop(OutHas c V n 0 ∗ OutHas c V n 1)

theorem five {Φ : Fin 5 → sProp 𝕄} : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ
theorem two {Φ : Fin 2 → sProp 𝕄} : bigSep Finset.univ Φ = iprop(Φ 0 ∗ Φ 1) :=
  bigSep_univ_eq_bigSepL [(0 : Fin 2), (1 : Fin 2)] (by decide) (by decide) Φ

theorem OutSt_last (n : Fin 5) (h : ¬ n.val + 2 < 5) : (OutSt c V n 5 : sProp 𝕄) ⊢ iprop(OutFly c V n 0 ∗ OutFly c V n 1) := by
  unfold OutSt
  rw [if_neg h, if_pos (by omega)]
theorem OutSt_past (n : Fin 5) (h : n.val + 2 < 5) : (OutSt c V n 5 : sProp 𝕄) ⊢ iprop(OutHas c V n 0 ∗ OutHas c V n 1) := by
  unfold OutSt
  rw [if_pos h]

theorem Outs_end : (Outs c V k0_t1_loop.trips : sProp 𝕄)
    ⊢ iprop(OutFly c V 3 0 ∗ OutFly c V 3 1 ∗ OutFly c V 4 0 ∗ OutFly c V 4 1
      ∗ ((OutHas c V 3 0 ∗ OutHas c V 3 1 ∗ OutHas c V 4 0 ∗ OutHas c V 4 1) -∗ OutsDone c V)) := by
  rw [show k0_t1_loop.trips = 5 from by decide]
  unfold Outs OutsDone
  rw [five, five]
  iintro ⟨H0, H1, H2, H3, H4⟩
  ihave H3 := (OutSt_last c V 3 (by decide)) $$ H3
  ihave H4 := (OutSt_last c V 4 (by decide)) $$ H4
  icases H3 with ⟨H3, H3'⟩
  icases H4 with ⟨H4, H4'⟩
  isplitl [H3]; · iexact H3
  isplitl [H3']; · iexact H3'
  isplitl [H4]; · iexact H4
  isplitl [H4']; · iexact H4'
  iintro ⟨Ha, Hb, Hc, Hd⟩
  isplitl [H0]; · iapply (OutSt_past c V 0 (by decide)); iexact H0
  isplitl [H1]; · iapply (OutSt_past c V 1 (by decide)); iexact H1
  isplitl [H2]; · iapply (OutSt_past c V 2 (by decide)); iexact H2
  isplitl [Ha Hb]; · isplitl [Ha] <;> iassumption
  isplitl [Hc] <;> iassumption
end

/-- The staging buffer at rest. -/
def BufsIdle : sProp 𝕄 := bigSep Finset.univ fun p : Fin 2 => iprop(HalfIdle (F := F) c p 0 ∗ HalfIdle (F := F) c p 1)

theorem bufs_back : iprop(HalfIdle (F := F) c (bufOf 4) 0 ∗ HalfIdle (F := F) c (bufOf 4) 1 ∗ HalfIdle (F := F) c (bufOf 3) 0 ∗ HalfIdle (F := F) c (bufOf 3) 1)
    ⊢ (BufsIdle (F := F) c : sProp 𝕄) := by
  unfold BufsIdle
  rw [two]
  show _ ⊢ iprop((HalfIdle (F := F) c (bufOf 4) 0 ∗ HalfIdle (F := F) c (bufOf 4) 1) ∗ (HalfIdle (F := F) c (bufOf 3) 0 ∗ HalfIdle (F := F) c (bufOf 3) 1))
  iintro ⟨Ha, Hb, Hc, Hd⟩
  isplitl [Ha Hb]; · isplitl [Ha] <;> iassumption
  isplitl [Hc] <;> iassumption

theorem bufs_start : (BufsIdle (F := F) c : sProp 𝕄) ⊢ Bufs (F := F) c 0 := by
  unfold BufsIdle Bufs
  refine Entails.of_eq (bigSep_congr fun p _ => ?_)
  unfold BufSt
  rw [if_pos (Nat.zero_le _)]

/-- The result's tiles, none written. -/
def OutsFree : sProp 𝕄 := bigSep Finset.univ fun n : Fin 5 => iprop(Free (F := F) c (dstO n 0) ∗ Free (F := F) c (dstO n 1))

theorem outs_start (V : Fin 5 → S2x2x2x1032x128.Idx → Elt F .bf16) : (OutsFree (F := F) c : sProp 𝕄) ⊢ Outs c V 0 := by
  unfold OutsFree Outs
  refine Entails.of_eq (bigSep_congr fun n _ => ?_)
  unfold OutSt
  rw [if_neg (by omega), if_neg (by omega)]

/-- What the body starts from. -/
def Begin : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Free (F := F) c M5 ∗ Free (F := F) c M6 ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsFree (F := F) c ∗ BufsIdle (F := F) c ∗ Owes c
  ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

/-- What the body ends with. -/
def End : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Landed c M5 (C8 X) ∗ Landed c M6 (C12 X) ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsDone c (tiles w (C8 X) (C9 X) (C10 X) (C11 X) ws bs) ∗ BufsIdle (F := F) c ∗ Owes c
  ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

end Cert.Proof.Ideal
-- ==== Proof.Ideal.Body.lean ====
/-
  The whole body: the copies and the quantiser, the loop over the tiles, and the last waits.
-/
module

public import proofs.«01_k».proof.Proof.Ideal.Ends

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

variable (c : Dev nD) (X : Vec F S2x128x2560 .bf16) (w : Vec F S16x2560x1280 .fp8e4m3) (ws bs : Vec F S1x1280 .f32)

theorem outerBind {α : Type} {inv : ℕ → sProp 𝕄} {body : Fin k0_t1_loop.trips → Unit → Prog (TpuEff nD τ sig (Elt F) Λ₀ .tc) Unit}
    (step : ∀ j a, inv j.val ⊢ wp frame (wpE (defs₀ (F := F)) 𝒱₀ (c : Thread nD τ) none) Set.univ (body j a) (fun _ => inv (j.val + 1)))
    {β : Type} {f : Unit → Prog (TpuEff nD τ sig (Elt F) Λ₀ .tc) β} {g : β → Prog (TpuEff nD τ sig (Elt F) Λ₀ .tc) α} {Q : α → sProp 𝕄} :
    inv 0 ⊢ iprop((inv k0_t1_loop.trips -∗ wp frame (wpE (defs₀ (F := F)) 𝒱₀ (c : Thread nD τ) none) Set.univ (f () >>= g) Q) -∗ wp frame (wpE (defs₀ (F := F)) 𝒱₀ (c : Thread nD τ) none) Set.univ ((k0_t1_loop.for k0_t1_ok PUnit.unit body >>= f) >>= g) Q) := by
  rw [Prog.bind_assoc]
  iintro H Hk
  iapply (Scf.wp_for_bind frame (wpE (defs₀ (F := F)) 𝒱₀ (c : Thread nD τ) none) Set.univ k0_t1_loop.lb k0_t1_loop.ub k0_t1_loop.st k0_t1_ok PUnit.unit body
    (fun k _ => inv k) step) $$ H
  iintro %a H
  iapply Hk
  iexact H

set_option maxHeartbeats 4000000 in
set_option maxRecDepth 65536 in
/-- The body quantises the frames, multiplies them tile by tile, and leaves its three results. -/
theorem body_wp : Begin c X w ws bs ⊢ wp frame (wpE (defs₀ (F := F)) 𝒱₀ (c : Thread nD τ) none) Set.univ (cc0_upsample M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14) (fun _ => End c X w ws bs) := by
  rw [cc0_upsample_eq_skeleton]
  unfold cc0_upsample_skel
  simp only [k0_part80_eq_skeleton]
  unfold Begin
  iintro ⟨H0, H2, H3, HP, H5, H6, H7, H8, H9, H10, H11, H12, H13, H14, HT, HB, HO, Hs19, Hs200, Hs201, Hs210, Hs211⟩
  ihave HT := (outs_start c (tiles w (C8 X) (C9 X) (C10 X) (C11 X) ws bs)) $$ HT
  ihave HB := (bufs_start c) $$ HB
  ihave HP := (pairs_slots c w 5) $$ HP
  icases HP with ⟨HS0, HS1, HS2, HS3, HS4, HS5, HS6, HS7⟩
  ihave HS0 := (Entails.of_eq (slot_rest c w 0)) $$ HS0
  icases HS0 with ⟨Hd0, Hq0, Hw0⟩
  ihave HS1 := (Entails.of_eq (slot_rest c w 1)) $$ HS1
  icases HS1 with ⟨Hd1, Hq1, Hw1⟩
  ihave HS2 := (Entails.of_eq (slot_rest c w 2)) $$ HS2
  icases HS2 with ⟨Hd2, Hq2, Hw2⟩
  ihave HS3 := (Entails.of_eq (slot_rest c w 3)) $$ HS3
  icases HS3 with ⟨Hd3, Hq3, Hw3⟩
  ihave HS4 := (Entails.of_eq (slot_rest c w 4)) $$ HS4
  icases HS4 with ⟨Hd4, Hq4, Hw4⟩
  ihave HS5 := (Entails.of_eq (slot_rest c w 5)) $$ HS5
  icases HS5 with ⟨Hd5, Hq5, Hw5⟩
  ihave HS6 := (Entails.of_eq (slot_rest c w 6)) $$ HS6
  icases HS6 with ⟨Hd6, Hq6, Hw6⟩
  ihave HS7 := (Entails.of_eq (slot_rest c w 7)) $$ HS7
  icases HS7 with ⟨Hd7, Hq7, Hw7⟩
  ihave H0 := (to_set (m := M0) (View.set_whole _)) $$ H0
  iapply (copyStart c (src := M0) (dst := M7) (fs := X) (q := fullShare) (by decide)) $$ [H0 H7 Hs19]
  · isplitl [H0]; · iexact H0
    isplitl [H7]; · iexact H7
    iexact Hs19
  iintro HX
  iapply (slotStart c w (s := 0) (n := 0) (0 : Fin 5) (src_eq (s := 0) (n := 0) rfl) (dst_eq (s := 0) rfl) (sem_eq (s := 0) rfl)) $$ [Hd0 Hq0 Hw0]
  · isplitl [Hd0]; · iexact Hd0
    isplitl [Hq0]; · iexact Hq0
    iexact Hw0
  iintro HS0
  iapply (slotStart c w (s := 1) (n := 0) (0 : Fin 5) (src_eq (s := 1) (n := 0) rfl) (dst_eq (s := 1) rfl) (sem_eq (s := 1) rfl)) $$ [Hd1 Hq1 Hw1]
  · isplitl [Hd1]; · iexact Hd1
    isplitl [Hq1]; · iexact Hq1
    iexact Hw1
  iintro HS1
  iapply (slotStart c w (s := 2) (n := 0) (0 : Fin 5) (src_eq (s := 2) (n := 0) rfl) (dst_eq (s := 2) rfl) (sem_eq (s := 2) rfl)) $$ [Hd2 Hq2 Hw2]
  · isplitl [Hd2]; · iexact Hd2
    isplitl [Hq2]; · iexact Hq2
    iexact Hw2
  iintro HS2
  iapply (slotStart c w (s := 3) (n := 0) (0 : Fin 5) (src_eq (s := 3) (n := 0) rfl) (dst_eq (s := 3) rfl) (sem_eq (s := 3) rfl)) $$ [Hd3 Hq3 Hw3]
  · isplitl [Hd3]; · iexact Hd3
    isplitl [Hq3]; · iexact Hq3
    iexact Hw3
  iintro HS3
  iapply (slotStart c w (s := 4) (n := 0) (0 : Fin 5) (src_eq (s := 4) (n := 0) rfl) (dst_eq (s := 4) rfl) (sem_eq (s := 4) rfl)) $$ [Hd4 Hq4 Hw4]
  · isplitl [Hd4]; · iexact Hd4
    isplitl [Hq4]; · iexact Hq4
    iexact Hw4
  iintro HS4
  iapply (slotStart c w (s := 5) (n := 0) (0 : Fin 5) (src_eq (s := 5) (n := 0) rfl) (dst_eq (s := 5) rfl) (sem_eq (s := 5) rfl)) $$ [Hd5 Hq5 Hw5]
  · isplitl [Hd5]; · iexact Hd5
    isplitl [Hq5]; · iexact Hq5
    iexact Hw5
  iintro HS5
  iapply (slotStart c w (s := 6) (n := 0) (0 : Fin 5) (src_eq (s := 6) (n := 0) rfl) (dst_eq (s := 6) rfl) (sem_eq (s := 6) rfl)) $$ [Hd6 Hq6 Hw6]
  · isplitl [Hd6]; · iexact Hd6
    isplitl [Hq6]; · iexact Hq6
    iexact Hw6
  iintro HS6
  iapply (slotStart c w (s := 7) (n := 0) (0 : Fin 5) (src_eq (s := 7) (n := 0) rfl) (dst_eq (s := 7) rfl) (sem_eq (s := 7) rfl)) $$ [Hd7 Hq7 Hw7]
  · isplitl [Hd7]; · iexact Hd7
    isplitl [Hq7]; · iexact Hq7
    iexact Hw7
  iintro HS7
  ihave H2 := (to_set (m := M2) (View.set_whole _)) $$ H2
  iapply (copyStart c (src := M2) (dst := M13) (fs := ws) (q := fullShare) (by decide)) $$ [H2 H13 Hs200]
  · isplitl [H2]; · iexact H2
    isplitl [H13]; · iexact H13
    iexact Hs200
  iintro HWS
  ihave H3 := (to_set (m := M3) (View.set_whole _)) $$ H3
  iapply (copyStart c (src := M3) (dst := M14) (fs := bs) (q := fullShare) (by decide)) $$ [H3 H14 Hs201]
  · isplitl [H3]; · iexact H3
    isplitl [H14]; · iexact H14
    iexact Hs201
  iintro HBS
  iapply (copyWait c (src := M0) (dst := M7) (fs := X) (q := fullShare)) $$ [HX HO]
  · isplitl [HX]; · iexact HX
    iexact HO
  iintro ⟨H7, H0, Hs19, HO⟩
  ihave H7 := (known7 (c := c) (X := X)) $$ H7
  ihave H8 := (Known_of_free (c := c) (m := M8) (C := C8 X) (A := done8 0) (fun i h => absurd h (Nat.not_lt_zero _))) $$ H8
  ihave H9 := (Known_of_free (c := c) (m := M9) (C := C9 X) (A := upto9 0) (fun i h => absurd h (Nat.not_lt_zero _))) $$ H9
  ihave H10 := (Known_of_free (c := c) (m := M10) (C := C10 X) (A := done10 0) (fun i h => absurd h (Nat.not_lt_zero _))) $$ H10
  ihave H11 := (Known_of_free (c := c) (m := M11) (C := C11 X) (A := upto11 0) (fun i h => absurd h (Nat.not_lt_zero _))) $$ H11
  ihave H12 := (Known_of_free (c := c) (m := M12) (C := C12 X) (A := upto12 0) (fun i h => absurd h (Nat.not_lt_zero _))) $$ H12
  iapply (load7 (c := c) (X := X) 0 0 rfl) $$ H7
  iintro H7
  iapply (knownSkip (c := c) (m := M8)) $$ H8
  iintro %v H8
  iapply (store8 (c := c) (X := X) 0 0 0 rfl rfl rfl) $$ H8
  iintro H8
  iapply (knownSkip (c := c) (m := M10)) $$ H10
  iintro %v H10
  iapply (store10 (c := c) (X := X) 0 0 0 rfl rfl rfl) $$ H10
  iintro H10
  iapply (load7 (c := c) (X := X) 0 1 rfl) $$ H7
  iintro H7
  iapply (knownSkip (c := c) (m := M8)) $$ H8
  iintro %v H8
  iapply (store8 (c := c) (X := X) 1 0 1 rfl rfl rfl) $$ H8
  iintro H8
  iapply (knownSkip (c := c) (m := M10)) $$ H10
  iintro %v H10
  iapply (store10 (c := c) (X := X) 1 0 1 rfl rfl rfl) $$ H10
  iintro H10
  iapply (load7 (c := c) (X := X) 0 2 rfl) $$ H7
  iintro H7
  iapply (knownSkip (c := c) (m := M8)) $$ H8
  iintro %v H8
  iapply (store8 (c := c) (X := X) 2 0 2 rfl rfl rfl) $$ H8
  iintro H8
  iapply (knownSkip (c := c) (m := M10)) $$ H10
  iintro %v H10
  iapply (store10 (c := c) (X := X) 2 0 2 rfl rfl rfl) $$ H10
  iintro H10
  iapply (load7 (c := c) (X := X) 0 3 rfl) $$ H7
  iintro H7
  iapply (knownSkip (c := c) (m := M8)) $$ H8
  iintro %v H8
  iapply (store8 (c := c) (X := X) 3 0 3 rfl rfl rfl) $$ H8
  iintro H8
  iapply (knownSkip (c := c) (m := M10)) $$ H10
  iintro %v H10
  iapply (store10 (c := c) (X := X) 3 0 3 rfl rfl rfl) $$ H10
  iintro H10
  iapply (knownSkip (c := c) (m := M12)) $$ H12
  iintro %v H12
  iapply (store12 (c := c) (X := X) 0 0 rfl rfl (row_kept _)) $$ H12
  iintro H12
  iapply (load8 (c := c) (X := X) 4 0 (by decide) rfl) $$ H8
  iintro H8
  iapply (knownSkip (c := c) (m := M9)) $$ H9
  iintro %v H9
  iapply (store9 (c := c) (X := X) 0 0 rfl rfl rfl) $$ H9
  iintro H9
  iapply (load10 (c := c) (X := X) 4 0 (by decide) rfl) $$ H10
  iintro H10
  iapply (knownSkip (c := c) (m := M11)) $$ H11
  iintro %v H11
  iapply (store11 (c := c) (X := X) 0 0 rfl rfl rfl) $$ H11
  iintro H11
  iapply (load7 (c := c) (X := X) 1 0 rfl) $$ H7
  iintro H7
  iapply (knownSkip (c := c) (m := M8)) $$ H8
  iintro %v H8
  iapply (store8 (c := c) (X := X) 4 1 0 rfl rfl rfl) $$ H8
  iintro H8
  iapply (knownSkip (c := c) (m := M10)) $$ H10
  iintro %v H10
  iapply (store10 (c := c) (X := X) 4 1 0 rfl rfl rfl) $$ H10
  iintro H10
  iapply (load7 (c := c) (X := X) 1 1 rfl) $$ H7
  iintro H7
  iapply (knownSkip (c := c) (m := M8)) $$ H8
  iintro %v H8
  iapply (store8 (c := c) (X := X) 5 1 1 rfl rfl rfl) $$ H8
  iintro H8
  iapply (knownSkip (c := c) (m := M10)) $$ H10
  iintro %v H10
  iapply (store10 (c := c) (X := X) 5 1 1 rfl rfl rfl) $$ H10
  iintro H10
  iapply (load7 (c := c) (X := X) 1 2 rfl) $$ H7
  iintro H7
  iapply (knownSkip (c := c) (m := M8)) $$ H8
  iintro %v H8
  iapply (store8 (c := c) (X := X) 6 1 2 rfl rfl rfl) $$ H8
  iintro H8
  iapply (knownSkip (c := c) (m := M10)) $$ H10
  iintro %v H10
  iapply (store10 (c := c) (X := X) 6 1 2 rfl rfl rfl) $$ H10
  iintro H10
  iapply (load7 (c := c) (X := X) 1 3 rfl) $$ H7
  iintro H7
  iapply (knownSkip (c := c) (m := M8)) $$ H8
  iintro %v H8
  iapply (store8 (c := c) (X := X) 7 1 3 rfl rfl rfl) $$ H8
  iintro H8
  iapply (knownSkip (c := c) (m := M10)) $$ H10
  iintro %v H10
  iapply (store10 (c := c) (X := X) 7 1 3 rfl rfl rfl) $$ H10
  iintro H10
  iapply (knownSkip (c := c) (m := M12)) $$ H12
  iintro %v H12
  iapply (store12 (c := c) (X := X) 1 1 rfl rfl (row_kept _)) $$ H12
  iintro H12
  iapply (load8 (c := c) (X := X) 8 1 (by decide) rfl) $$ H8
  iintro H8
  iapply (knownSkip (c := c) (m := M9)) $$ H9
  iintro %v H9
  iapply (store9 (c := c) (X := X) 1 1 rfl rfl rfl) $$ H9
  iintro H9
  iapply (load10 (c := c) (X := X) 8 1 (by decide) rfl) $$ H10
  iintro H10
  iapply (knownSkip (c := c) (m := M11)) $$ H11
  iintro %v H11
  iapply (store11 (c := c) (X := X) 1 1 rfl rfl rfl) $$ H11
  iintro H11
  ihave H8 := (full8 (c := c) (X := X)) $$ H8
  ihave H9 := (full9 (c := c) (X := X)) $$ H9
  ihave H10 := (full10 (c := c) (X := X)) $$ H10
  ihave H11 := (full11 (c := c) (X := X)) $$ H11
  ihave H12 := (full12 (c := c) (X := X)) $$ H12
  ihave H8 := (pointsTo_share (PosShare.mem_left_op_right fullShare)).1 $$ H8
  icases H8 with ⟨H8, H8'⟩
  ihave H8' := (to_set (m := M8) (View.set_whole _)) $$ H8'
  iapply (copyStart c (src := M8) (dst := M5) (fs := C8 X) (q := fullShare.right) (by decide)) $$ [H8' H5 Hs210]
  · isplitl [H8']; · iexact H8'
    isplitl [H5]; · iexact H5
    iexact Hs210
  iintro HC
  ihave H12 := (to_set (m := M12) (View.set_whole _)) $$ H12
  iapply (copyStart c (src := M12) (dst := M6) (fs := C12 X) (q := fullShare) (by decide)) $$ [H12 H6 Hs211]
  · isplitl [H12]; · iexact H12
    isplitl [H6]; · iexact H6
    iexact Hs211
  iintro HSC
  iapply (copyWait c (src := M2) (dst := M13) (fs := ws) (q := fullShare)) $$ [HWS HO]
  · isplitl [HWS]; · iexact HWS
    iexact HO
  iintro ⟨H13, H2, Hs200, HO⟩
  iapply (copyWait c (src := M3) (dst := M14) (fs := bs) (q := fullShare)) $$ [HBS HO]
  · isplitl [HBS]; · iexact HBS
    iexact HO
  iintro ⟨H14, H3, Hs201, HO⟩
  ihave H13 := (full13 (c := c) ws) $$ H13
  ihave H14 := (full14 (c := c) bs) $$ H14
  iapply (outerBind c (inv := outerInv c w (C8 X) (C9 X) (C10 X) (C11 X) ws bs fullShare.left) (fun i a => outer_step c w (C8 X) (C9 X) (C10 X) (C11 X) ws bs fullShare.left _ i a)) $$ [H8 H9 H10 H11 H13 H14 HS0 HS1 HS2 HS3 HS4 HS5 HS6 HS7 HO HT HB]
  · unfold outerInv Fixed
    isplitl [H8 H9 H10 H11 H13 H14]
    · isplitl [H10]; · iexact H10
      isplitl [H11]; · iexact H11
      isplitl [H13]; · iexact H13
      isplitl [H14]; · iexact H14
      isplitl [H8]; · iexact H8
      iexact H9
    isplitl [HS0 HS1 HS2 HS3 HS4 HS5 HS6 HS7]
    · iapply (slots_pairs c w 0)
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [HO]; · iexact HO
    isplitl [HT]; · iexact HT
    iexact HB
  iintro HN
  unfold outerInv Fixed
  icases HN with ⟨⟨H10, H11, H13, H14, H8, H9⟩, HP, HO, HT, HB⟩
  ihave HT := (Outs_end c (tiles w (C8 X) (C9 X) (C10 X) (C11 X) ws bs)) $$ HT
  icases HT with ⟨HTa, HTb, HTc, HTd, HT⟩
  iapply (copyWait c (src := M8) (dst := M5) (fs := C8 X) (q := fullShare.right)) $$ [HC HO]
  · isplitl [HC]; · iexact HC
    iexact HO
  iintro ⟨H5, H8', Hs210, HO⟩
  iapply (copyWait c (src := M12) (dst := M6) (fs := C12 X) (q := fullShare)) $$ [HSC HO]
  · isplitl [HSC]; · iexact HSC
    iexact HO
  iintro ⟨H6, H12, Hs211, HO⟩
  iapply (outWait c (tiles w (C8 X) (C9 X) (C10 X) (C11 X) ws bs) (n := 3) (h := 0) (srcO_eq rfl) (dstO_eq rfl) (semO_eq rfl)) $$ [HTa HO]
  · isplitl [HTa]; · iexact HTa
    iexact HO
  iintro ⟨HTa, HIa, HO⟩
  iapply (outWait c (tiles w (C8 X) (C9 X) (C10 X) (C11 X) ws bs) (n := 3) (h := 1) (srcO_eq rfl) (dstO_eq rfl) (semO_eq rfl)) $$ [HTb HO]
  · isplitl [HTb]; · iexact HTb
    iexact HO
  iintro ⟨HTb, HIb, HO⟩
  iapply (outWait c (tiles w (C8 X) (C9 X) (C10 X) (C11 X) ws bs) (n := 4) (h := 0) (srcO_eq rfl) (dstO_eq rfl) (semO_eq rfl)) $$ [HTc HO]
  · isplitl [HTc]; · iexact HTc
    iexact HO
  iintro ⟨HTc, HIc, HO⟩
  iapply (outWait c (tiles w (C8 X) (C9 X) (C10 X) (C11 X) ws bs) (n := 4) (h := 1) (srcO_eq rfl) (dstO_eq rfl) (semO_eq rfl)) $$ [HTd HO]
  · isplitl [HTd]; · iexact HTd
    iexact HO
  iintro ⟨HTd, HId, HO⟩
  ihave H0 := (of_set (m := M0) (View.set_whole _)) $$ H0
  ihave H2 := (of_set (m := M2) (View.set_whole _)) $$ H2
  ihave H3 := (of_set (m := M3) (View.set_whole _)) $$ H3
  ihave H8' := (of_set (m := M8) (View.set_whole _)) $$ H8'
  ihave H12 := (of_set (m := M12) (View.set_whole _)) $$ H12
  iapply (retW c)
  unfold End
  isplitl [H0]; · iexact H0
  isplitl [H2]; · iexact H2
  isplitl [H3]; · iexact H3
  isplitl [HP]; · iexact HP
  isplitl [H5]; · iapply (landed5 (c := c) (X := X)); iexact H5
  isplitl [H6]; · iapply (landed6 (c := c) (X := X)); iexact H6
  isplitl [H7]; · iapply (Landed_free (F := F) c M7 X); iapply (Known_landed (fun _ => trivial)); iexact H7
  isplitl [H8 H8']
  · iapply (full_free (m := M8) (View.set_whole _) (C8 X))
    iapply (pointsTo_share (PosShare.mem_left_op_right fullShare)).2
    isplitl [H8]; · iexact H8
    iexact H8'
  isplitl [H9]; · iapply (full_free (m := M9) (View.set_whole _) (C9 X)); iexact H9
  isplitl [H10]; · iapply (full_free (m := M10) (View.set_whole _) (C10 X)); iexact H10
  isplitl [H11]; · iapply (full_free (m := M11) (View.set_whole _) (C11 X)); iexact H11
  isplitl [H12]; · iapply (full_free (m := M12) (View.set_whole _) (C12 X)); iexact H12
  isplitl [H13]; · iapply (full_free (m := M13) (View.set_whole _) ws); iexact H13
  isplitl [H14]; · iapply (full_free (m := M14) (View.set_whole _) bs); iexact H14
  isplitl [HTa HTb HTc HTd HT]
  · iapply HT
    isplitl [HTa]; · iexact HTa
    isplitl [HTb]; · iexact HTb
    isplitl [HTc]; · iexact HTc
    iexact HTd
  isplitl [HIa HIb HIc HId HB]
  · iapply (bufs_back c)
    isplitl [HIc]; · iexact HIc
    isplitl [HId]; · iexact HId
    isplitl [HIa]; · iexact HIa
    iexact HIb
  isplitl [HO]; · iexact HO
  isplitl [Hs19]; · iexact Hs19
  isplitl [Hs200]; · iexact Hs200
  isplitl [Hs201]; · iexact Hs201
  isplitl [Hs210]; · iexact Hs210
  iexact Hs211

end Cert.Proof.Ideal
-- ==== Proof.Ideal.Splits.lean ====
/-
  The launch's buffers cut into the pieces the body works in, and put together again.
-/
module

public import proofs.«01_k».proof.Proof.Ideal.Body

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## The pieces the body works in -/

/-- The elements of weight slot `s`. -/
def SlotSet (s : Fin 8) : Finset S8x2x2560x256.Idx := Finset.univ.filter fun q => (q 0).val = s.val

theorem dstW_set (s : Fin 8) : (dstW s).view.set = SlotSet s := by
  ext q
  simp only [SlotSet, Finset.mem_filter, Finset.mem_univ, true_and]
  constructor
  · intro hq
    obtain ⟨j, -, rfl⟩ := Finset.mem_map.mp hq
    rw [eq_ix3 j]
    exact congrArg Fin.val (congrFun (dstW_emb s (j 0) (j 1) (j 2)) 0)
  · intro hq
    have h := slot_mem s (q 1) (q 2) (q 3)
    rw [show q = ix4 s (q 1) (q 2) (q 3) from by rw [show s = q 0 from Fin.ext hq.symm]; exact eq_ix4 q]
    exact h

theorem SlotSet_disjoint : ∀ s s' : Fin 8, s ≠ s' → Disjoint (SlotSet s) (SlotSet s') := by
  intro s s' hne; rw [Finset.disjoint_left]; intro y hy hy'
  simp only [SlotSet, Finset.mem_filter, Finset.mem_univ, true_and] at hy hy'
  exact hne (Fin.ext (hy.symm.trans hy'))
theorem SlotSet_cover : (Finset.univ : Finset (Fin 8)).biUnion SlotSet = Finset.univ := by
  ext y; simp only [SlotSet, Finset.mem_biUnion, Finset.mem_filter, Finset.mem_univ, true_and, iff_true]
  exact ⟨y 0, rfl⟩

theorem HalfSet_disjoint : ∀ a b : Fin 2 × Fin 2, a ≠ b → Disjoint (HalfSet a.1 a.2) (HalfSet b.1 b.2) := by
  intro s s' hne; rw [Finset.disjoint_left]; intro y hy hy'
  simp only [HalfSet, Finset.mem_filter, Finset.mem_univ, true_and] at hy hy'
  exact hne (Prod.ext (Fin.ext (hy.1.symm.trans hy'.1)) (Fin.ext (hy.2.symm.trans hy'.2)))
theorem HalfSet_cover : (Finset.univ : Finset (Fin 2 × Fin 2)).biUnion (fun a => HalfSet a.1 a.2) = Finset.univ := by
  ext y; simp only [HalfSet, Finset.mem_biUnion, Finset.mem_filter, Finset.mem_univ, true_and, iff_true]
  exact ⟨(y 0, y 1), rfl, rfl⟩

theorem ColSet_disjoint : ∀ a b : Fin 5 × Fin 2, a ≠ b → Disjoint (ColSet a.1 a.2) (ColSet b.1 b.2) := by
  intro s s' hne; rw [Finset.disjoint_left]; intro y hy hy'
  simp only [ColSet, Finset.mem_filter, Finset.mem_univ, true_and] at hy hy'
  have h1 := s.2.isLt
  have h2 := s'.2.isLt
  exact hne (Prod.ext (Fin.ext (by omega)) (Fin.ext (by omega)))
theorem ColSet_cover : (Finset.univ : Finset (Fin 5 × Fin 2)).biUnion (fun a => ColSet a.1 a.2) = Finset.univ := by
  ext y; simp only [ColSet, Finset.mem_biUnion, Finset.mem_filter, Finset.mem_univ, true_and, iff_true]
  have h2 : (y 2).val < 1280 := (y 2).isLt
  exact ⟨(⟨(y 2).val / 256, by omega⟩, ⟨(y 2).val / 128 % 2, by omega⟩), by show (y 2).val / 128 = 2 * ((y 2).val / 256) + (y 2).val / 128 % 2; omega⟩

section
variable (c : Dev nD)

theorem eight {Φ : Fin 8 → sProp 𝕄} : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
theorem four {Φ : Fin 2 × Fin 2 → sProp 𝕄} : bigSep Finset.univ Φ = iprop(Φ (0, 0) ∗ Φ (0, 1) ∗ Φ (1, 0) ∗ Φ (1, 1)) :=
  bigSep_univ_eq_bigSepL [((0, 0) : Fin 2 × Fin 2), (0, 1), (1, 0), (1, 1)] (by decide) (by decide) Φ
theorem ten {Φ : Fin 5 × Fin 2 → sProp 𝕄} : bigSep Finset.univ Φ
    = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1)) :=
  bigSep_univ_eq_bigSepL [((0, 0) : Fin 5 × Fin 2), (0, 1), (1, 0), (1, 1), (2, 0), (2, 1), (3, 0), (3, 1), (4, 0), (4, 1)] (by decide) (by decide) Φ

/-- The weight buffer is its eight slots, -/
theorem weights_split (f : Buf (Elt F) (M15.view.loc (c : Thread nD τ))) :
    (M15.view.loc (c : Thread nD τ) ↦{fullShare} f : sProp 𝕄) ⊢ bigSep Finset.univ fun s : Fin 8 => Free (F := F) c (dstW s) := by
  rw [Ring.pointsTo_blocks (ℓ := M15.view.loc (c : Thread nD τ)) SlotSet SlotSet_disjoint SlotSet_cover]
  have one : ∀ s : Fin 8, (M15.view.loc (c : Thread nD τ) ↦[SlotSet s]{fullShare} f : sProp 𝕄) ⊢ Free (F := F) c (dstW s) := by
    intro s
    unfold Free
    rw [dstW_set]
    iintro H; iexists f; iexact H
  exact bigSep_mono fun s _ => one s
/-- and back. -/
theorem weights_join : (bigSep Finset.univ fun s : Fin 8 => Free (F := F) c (dstW s) : sProp 𝕄) ⊢ iprop(∃ f : Buf (Elt F) (M15.view.loc (c : Thread nD τ)), M15.view.loc (c : Thread nD τ) ↦{fullShare} f) := by
  have one : ∀ s : Fin 8, (Free (F := F) c (dstW s) : sProp 𝕄) ⊢ iprop(∃ f : Buf (Elt F) (M15.view.loc (c : Thread nD τ)), M15.view.loc (c : Thread nD τ) ↦[SlotSet s]{fullShare} f) := by
    intro s
    unfold Free
    rw [dstW_set]
  exact .trans (bigSep_mono fun s _ => one s) (Ring.pointsTo_blocks_join_exists (ℓ := M15.view.loc (c : Thread nD τ)) SlotSet SlotSet_disjoint SlotSet_cover (Classical.ofNonempty))

/-- The staging buffer is its four halves, -/
theorem stage_split (f : Buf (Elt F) (M16.view.loc (c : Thread nD τ))) :
    (M16.view.loc (c : Thread nD τ) ↦{fullShare} f : sProp 𝕄) ⊢ bigSep Finset.univ fun a : Fin 2 × Fin 2 => Free (F := F) c (srcO a.1 a.2) := by
  rw [Ring.pointsTo_blocks (ℓ := M16.view.loc (c : Thread nD τ)) (fun a : Fin 2 × Fin 2 => HalfSet a.1 a.2) HalfSet_disjoint HalfSet_cover]
  have one : ∀ s : Fin 2 × Fin 2, (M16.view.loc (c : Thread nD τ) ↦[HalfSet s.1 s.2]{fullShare} f : sProp 𝕄) ⊢ Free (F := F) c (srcO s.1 s.2) := by
    intro s
    unfold Free
    rw [srcO_set]
    iintro H; iexists f; iexact H
  exact bigSep_mono fun s _ => one s
/-- and back. -/
theorem stage_join : (bigSep Finset.univ fun a : Fin 2 × Fin 2 => Free (F := F) c (srcO a.1 a.2) : sProp 𝕄) ⊢ iprop(∃ f : Buf (Elt F) (M16.view.loc (c : Thread nD τ)), M16.view.loc (c : Thread nD τ) ↦{fullShare} f) := by
  have one : ∀ s : Fin 2 × Fin 2, (Free (F := F) c (srcO s.1 s.2) : sProp 𝕄) ⊢ iprop(∃ f : Buf (Elt F) (M16.view.loc (c : Thread nD τ)), M16.view.loc (c : Thread nD τ) ↦[HalfSet s.1 s.2]{fullShare} f) := by
    intro s
    unfold Free
    rw [srcO_set]
  exact .trans (bigSep_mono fun s _ => one s) (Ring.pointsTo_blocks_join_exists (ℓ := M16.view.loc (c : Thread nD τ)) (fun a : Fin 2 × Fin 2 => HalfSet a.1 a.2) HalfSet_disjoint HalfSet_cover (Classical.ofNonempty))

/-- The result is its ten tiles, none written, -/
theorem out_split (f : Buf (Elt F) (M4.view.loc (c : Thread nD τ))) : (M4.view.loc (c : Thread nD τ) ↦{fullShare} f : sProp 𝕄) ⊢ OutsFree (F := F) c := by
  unfold OutsFree
  rw [five, Ring.pointsTo_blocks (ℓ := M4.view.loc (c : Thread nD τ)) (fun a : Fin 5 × Fin 2 => ColSet a.1 a.2) ColSet_disjoint ColSet_cover, ten]
  have one : ∀ (n : Fin 5) (h : Fin 2), (M4.view.loc (c : Thread nD τ) ↦[ColSet n h]{fullShare} f : sProp 𝕄) ⊢ Free (F := F) c (dstO n h) := by
    intro n h
    unfold Free
    rw [dstO_set]
    iintro H; iexists f; iexact H
  iintro ⟨H0, H1, H2, H3, H4, H5, H6, H7, H8, H9⟩
  isplitl [H0 H1]; · isplitl [H0]; · iapply (one 0 0); iexact H0
                     iapply (one 0 1); iexact H1
  isplitl [H2 H3]; · isplitl [H2]; · iapply (one 1 0); iexact H2
                     iapply (one 1 1); iexact H3
  isplitl [H4 H5]; · isplitl [H4]; · iapply (one 2 0); iexact H4
                     iapply (one 2 1); iexact H5
  isplitl [H6 H7]; · isplitl [H6]; · iapply (one 3 0); iexact H6
                     iapply (one 3 1); iexact H7
  isplitl [H8]; · iapply (one 4 0); iexact H8
  iapply (one 4 1); iexact H9

/-- and, all written, it holds what the tiles say. -/
theorem out_join (V : Fin 5 → S2x2x2x1032x128.Idx → Elt F .bf16) : (OutsDone c V : sProp 𝕄) ⊢ (M4.view.loc (c : Thread nD τ) ↦{fullShare} outW V) := by
  unfold OutsDone
  rw [five, Ring.pointsTo_blocks (ℓ := M4.view.loc (c : Thread nD τ)) (fun a : Fin 5 × Fin 2 => ColSet a.1 a.2) ColSet_disjoint ColSet_cover, ten]
  have one : ∀ (n : Fin 5) (h : Fin 2), (OutHas c V n h : sProp 𝕄) ⊢ (M4.view.loc (c : Thread nD τ) ↦[ColSet n h]{fullShare} outW V) := by
    intro n h
    unfold OutHas
    rw [dstO_set]
  iintro ⟨⟨H0, H1⟩, ⟨H2, H3⟩, ⟨H4, H5⟩, ⟨H6, H7⟩, H8, H9⟩
  isplitl [H0]; · iapply (one 0 0); iexact H0
  isplitl [H1]; · iapply (one 0 1); iexact H1
  isplitl [H2]; · iapply (one 1 0); iexact H2
  isplitl [H3]; · iapply (one 1 1); iexact H3
  isplitl [H4]; · iapply (one 2 0); iexact H4
  isplitl [H5]; · iapply (one 2 1); iexact H5
  isplitl [H6]; · iapply (one 3 0); iexact H6
  isplitl [H7]; · iapply (one 3 1); iexact H7
  isplitl [H8]; · iapply (one 4 0); iexact H8
  iapply (one 4 1); iexact H9

/-- A whole buffer is free to use, -/
theorem whole_free {sp : Space} {s : Shape} {e : EltTy} {m : Memref sig .tc sp s e} (hs : m.view.set = Finset.univ) (g : Buf (Elt F) (m.view.loc (c : Thread nD τ))) :
    (m.view.loc (c : Thread nD τ) ↦{fullShare} g : sProp 𝕄) ⊢ Free c m := by
  unfold Free
  rw [hs]
  iintro H
  iexists g
  iexact H
/-- and back. -/
theorem free_whole {sp : Space} {s : Shape} {e : EltTy} {m : Memref sig .tc sp s e} (hs : m.view.set = Finset.univ) :
    (Free (F := F) c m : sProp 𝕄) ⊢ iprop(∃ f : Buf (Elt F) (m.view.loc (c : Thread nD τ)), m.view.loc (c : Thread nD τ) ↦{fullShare} f) := by
  unfold Free
  rw [hs]
/-- A whole buffer landed. -/
theorem landed_whole {sp : Space} {s : Shape} {e : EltTy} {m : Memref sig .tc sp s e} (hs : m.view.set = Finset.univ) {C : s.Idx → Elt F e} (g : Buf (Elt F) (m.view.loc (c : Thread nD τ)))
    (hg : ∀ f : Buf (Elt F) (m.view.loc (c : Thread nD τ)), m.view.read (Elt F) f = C → f = g) :
    (Landed c m C : sProp 𝕄) ⊢ (m.view.loc (c : Thread nD τ) ↦{fullShare} g) := by
  unfold Landed
  iintro ⟨%f, H, %hf⟩
  rw [hg f hf, hs]
  iexact H

variable (X : Vec F S2x128x2560 .bf16) (w : Vec F S16x2560x1280 .fp8e4m3) (ws bs : Vec F S1x1280 .f32)

/-- The scratch buffers, whatever they hold. -/
def Scratch : sProp 𝕄 := iprop((∃ f : Buf (Elt F) (M7.view.loc (c : Thread nD τ)), M7.view.loc (c : Thread nD τ) ↦{fullShare} f) ∗ (∃ f : Buf (Elt F) (M8.view.loc (c : Thread nD τ)), M8.view.loc (c : Thread nD τ) ↦{fullShare} f) ∗ (∃ f : Buf (Elt F) (M9.view.loc (c : Thread nD τ)), M9.view.loc (c : Thread nD τ) ↦{fullShare} f) ∗ (∃ f : Buf (Elt F) (M10.view.loc (c : Thread nD τ)), M10.view.loc (c : Thread nD τ) ↦{fullShare} f) ∗ (∃ f : Buf (Elt F) (M11.view.loc (c : Thread nD τ)), M11.view.loc (c : Thread nD τ) ↦{fullShare} f) ∗ (∃ f : Buf (Elt F) (M12.view.loc (c : Thread nD τ)), M12.view.loc (c : Thread nD τ) ↦{fullShare} f) ∗ (∃ f : Buf (Elt F) (M13.view.loc (c : Thread nD τ)), M13.view.loc (c : Thread nD τ) ↦{fullShare} f) ∗ (∃ f : Buf (Elt F) (M14.view.loc (c : Thread nD τ)), M14.view.loc (c : Thread nD τ) ↦{fullShare} f) ∗ (∃ f : Buf (Elt F) (M15.view.loc (c : Thread nD τ)), M15.view.loc (c : Thread nD τ) ↦{fullShare} f) ∗ (∃ f : Buf (Elt F) (M16.view.loc (c : Thread nD τ)), M16.view.loc (c : Thread nD τ) ↦{fullShare} f))
/-- The kernel's semaphores, all at zero. -/
def Sems : sProp 𝕄 := iprop(semVal ((c : Thread nD τ), .dma (semW 0)) 0 ∗ semVal ((c : Thread nD τ), .dma (semW 1)) 0 ∗ semVal ((c : Thread nD τ), .dma (semW 2)) 0 ∗ semVal ((c : Thread nD τ), .dma (semW 3)) 0 ∗ semVal ((c : Thread nD τ), .dma (semW 4)) 0 ∗ semVal ((c : Thread nD τ), .dma (semW 5)) 0 ∗ semVal ((c : Thread nD τ), .dma (semW 6)) 0 ∗ semVal ((c : Thread nD τ), .dma (semW 7)) 0 ∗ semVal ((c : Thread nD τ), .dma (semO 0 0)) 0 ∗ semVal ((c : Thread nD τ), .dma (semO 0 1)) 0 ∗ semVal ((c : Thread nD τ), .dma (semO 1 0)) 0 ∗ semVal ((c : Thread nD τ), .dma (semO 1 1)) 0 ∗ semVal ((c : Thread nD τ), .dma cc0_scratch12.sem) 0 ∗ semVal ((c : Thread nD τ), .dma (semS 0)) 0 ∗ semVal ((c : Thread nD τ), .dma (semS 1)) 0 ∗ semVal ((c : Thread nD τ), .dma (semC 0)) 0 ∗ semVal ((c : Thread nD τ), .dma (semC 1)) 0)

/-- `Begin` but for what the core owes. -/
def Start : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Free (F := F) c M5 ∗ Free (F := F) c M6 ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsFree (F := F) c ∗ BufsIdle (F := F) c ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)
/-- `End` but for what the core owes. -/
def Finish : sProp 𝕄 := iprop(
  (M0.view.loc (c : Thread nD τ) ↦{fullShare} X) ∗ (M2.view.loc (c : Thread nD τ) ↦{fullShare} ws) ∗ (M3.view.loc (c : Thread nD τ) ↦{fullShare} bs)
  ∗ Pairs c w 5 0 ∗ Landed c M5 (C8 X) ∗ Landed c M6 (C12 X) ∗ Free (F := F) c M7 ∗ Free (F := F) c M8 ∗ Free (F := F) c M9 ∗ Free (F := F) c M10 ∗ Free (F := F) c M11
  ∗ Free (F := F) c M12 ∗ Free (F := F) c M13 ∗ Free (F := F) c M14 ∗ OutsDone c (tiles w (C8 X) (C9 X) (C10 X) (C11 X) ws bs) ∗ BufsIdle (F := F) c ∗ semVal ((c : Thread nD τ), .dma cc0_scratch12.sem) 0 ∗ semVal ((c : Thread nD τ), .dma (semS 0)) 0 ∗ semVal ((c : Thread nD τ), .dma (semS 1)) 0
  ∗ semVal ((c : Thread nD τ), .dma (semC 0)) 0 ∗ semVal ((c : Thread nD τ), .dma (semC 1)) 0)

theorem begin_of_start : iprop(Start c X w ws bs ∗ Owes c) ⊢ (Begin c X w ws bs : sProp 𝕄) := by
  unfold Start Begin
  iintro ⟨⟨H0, H2, H3, HP, H5, H6, H7, H8, H9, H10, H11, H12, H13, H14, HT, HB, Sx, Ss0, Ss1, Sc0, Sc1⟩, HO⟩
  isplitl [H0]; · iexact H0
  isplitl [H2]; · iexact H2
  isplitl [H3]; · iexact H3
  isplitl [HP]; · iexact HP
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HT]; · iexact HT
  isplitl [HB]; · iexact HB
  isplitl [HO]; · iexact HO
  isplitl [Sx]; · iexact Sx
  isplitl [Ss0]; · iexact Ss0
  isplitl [Ss1]; · iexact Ss1
  isplitl [Sc0]; · iexact Sc0
  iexact Sc1

theorem finish_of_end : (End c X w ws bs : sProp 𝕄) ⊢ iprop(Finish c X w ws bs ∗ Owes c) := by
  unfold End Finish
  iintro ⟨H0, H2, H3, HP, H5, H6, H7, H8, H9, H10, H11, H12, H13, H14, HT, HB, HO, Sx, Ss0, Ss1, Sc0, Sc1⟩
  isplitr [HO]
  rotate_left
  · iexact HO
  isplitl [H0]; · iexact H0
  isplitl [H2]; · iexact H2
  isplitl [H3]; · iexact H3
  isplitl [HP]; · iexact HP
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HT]; · iexact HT
  isplitl [HB]; · iexact HB
  isplitl [Sx]; · iexact Sx
  isplitl [Ss0]; · iexact Ss0
  isplitl [Ss1]; · iexact Ss1
  isplitl [Sc0]; · iexact Sc0
  iexact Sc1

/-- What the kernel's copies leave of the weights' share. -/
def Rest : sProp 𝕄 := M1.view.loc (c : Thread nD τ) ↦{Transfers.shareDrop fullShare 8} w
/-- The arrays the kernel is given, and what it fills. -/
def Arrays (g4 : Buf (Elt F) (M4.view.loc (c : Thread nD τ))) (g5 : Buf (Elt F) (M5.view.loc (c : Thread nD τ))) (g6 : Buf (Elt F) (M6.view.loc (c : Thread nD τ))) : sProp 𝕄 := iprop(
  (M0.view.loc (c : Thread nD τ) ↦{fullShare} X) ∗ (M1.view.loc (c : Thread nD τ) ↦{fullShare} w) ∗ (M2.view.loc (c : Thread nD τ) ↦{fullShare} ws) ∗ (M3.view.loc (c : Thread nD τ) ↦{fullShare} bs)
  ∗ (M4.view.loc (c : Thread nD τ) ↦{fullShare} g4) ∗ (M5.view.loc (c : Thread nD τ) ↦{fullShare} g5) ∗ (M6.view.loc (c : Thread nD τ) ↦{fullShare} g6))

/-- The slots' state at rest out of its parts, -/
theorem pairs_make : iprop((bigSep Finset.univ fun s : Fin 8 => Free (F := F) c (dstW s)) ∗ (bigSep Finset.univ fun s : Fin 8 => semVal ((c : Thread nD τ), .dma (semW s)) 0)
      ∗ (bigSep Finset.univ fun s : Fin 8 => M1.view.loc (c : Thread nD τ) ↦{qW s} w)) ⊢ (Pairs c w 5 0 : sProp 𝕄) := by
  refine .trans ?_ (slots_pairs c w 5)
  simp only [slot_rest]
  rw [eight, eight, eight]
  iintro ⟨⟨A0, A1, A2, A3, A4, A5, A6, A7⟩, ⟨B0, B1, B2, B3, B4, B5, B6, B7⟩, C0, C1, C2, C3, C4, C5, C6, C7⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2 B2 C2]
  · isplitl [A2]; · iexact A2
    isplitl [B2]; · iexact B2
    iexact C2
  isplitl [A3 B3 C3]
  · isplitl [A3]; · iexact A3
    isplitl [B3]; · iexact B3
    iexact C3
  isplitl [A4 B4 C4]
  · isplitl [A4]; · iexact A4
    isplitl [B4]; · iexact B4
    iexact C4
  isplitl [A5 B5 C5]
  · isplitl [A5]; · iexact A5
    isplitl [B5]; · iexact B5
    iexact C5
  isplitl [A6 B6 C6]
  · isplitl [A6]; · iexact A6
    isplitl [B6]; · iexact B6
    iexact C6
  isplitl [A7]; · iexact A7
  isplitl [B7]; · iexact B7
  iexact C7
/-- and back. -/
theorem pairs_break : (Pairs c w 5 0 : sProp 𝕄) ⊢ iprop((bigSep Finset.univ fun s : Fin 8 => Free (F := F) c (dstW s)) ∗ (bigSep Finset.univ fun s : Fin 8 => semVal ((c : Thread nD τ), .dma (semW s)) 0)
      ∗ (bigSep Finset.univ fun s : Fin 8 => M1.view.loc (c : Thread nD τ) ↦{qW s} w)) := by
  refine .trans (pairs_slots c w 5) ?_
  simp only [slot_rest]
  rw [eight, eight, eight]
  iintro ⟨⟨A0, B0, C0⟩, ⟨A1, B1, C1⟩, ⟨A2, B2, C2⟩, ⟨A3, B3, C3⟩, ⟨A4, B4, C4⟩, ⟨A5, B5, C5⟩, ⟨A6, B6, C6⟩, A7, B7, C7⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

/-- The staging buffer at rest out of its parts, -/
theorem idle_make : iprop((bigSep Finset.univ fun a : Fin 2 × Fin 2 => Free (F := F) c (srcO a.1 a.2)) ∗ semVal ((c : Thread nD τ), .dma (semO 0 0)) 0 ∗ semVal ((c : Thread nD τ), .dma (semO 0 1)) 0
      ∗ semVal ((c : Thread nD τ), .dma (semO 1 0)) 0 ∗ semVal ((c : Thread nD τ), .dma (semO 1 1)) 0) ⊢ (BufsIdle (F := F) c : sProp 𝕄) := by
  unfold BufsIdle
  rw [two, four]
  unfold HalfIdle
  iintro ⟨⟨A0, A1, A2, A3⟩, B0, B1, B2, B3⟩
  isplitl [A0 A1 B0 B1]
  · isplitl [A0 B0]
    · isplitl [A0]; · iexact A0
      iexact B0
    isplitl [A1]; · iexact A1
    iexact B1
  isplitl [A2 B2]
  · isplitl [A2]; · iexact A2
    iexact B2
  isplitl [A3]; · iexact A3
  iexact B3
/-- and back. -/
theorem idle_break : (BufsIdle (F := F) c : sProp 𝕄) ⊢ iprop((bigSep Finset.univ fun a : Fin 2 × Fin 2 => Free (F := F) c (srcO a.1 a.2)) ∗ semVal ((c : Thread nD τ), .dma (semO 0 0)) 0 ∗ semVal ((c : Thread nD τ), .dma (semO 0 1)) 0
      ∗ semVal ((c : Thread nD τ), .dma (semO 1 0)) 0 ∗ semVal ((c : Thread nD τ), .dma (semO 1 1)) 0) := by
  unfold BufsIdle
  rw [two, four]
  unfold HalfIdle
  iintro ⟨⟨⟨A0, B0⟩, A1, B1⟩, ⟨A2, B2⟩, A3, B3⟩
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

/-- What the body starts from, out of what the launch hands over, -/
theorem gather (g4 g5 g6) : iprop(Arrays c X w ws bs g4 g5 g6 ∗ Sems (F := F) c ∗ Scratch (F := F) c) ⊢ (iprop(Start c X w ws bs ∗ Rest c w) : sProp 𝕄) := by
  unfold Arrays Sems Scratch Start Rest
  iintro ⟨⟨H0, H1, H2, H3, H4, H5, H6⟩, ⟨W0, W1, W2, W3, W4, W5, W6, W7, O0, O1, O2, O3, Sx, Ss0, Ss1, Sc0, Sc1⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, %f16, H16⟩
  ihave H1 := (Transfers.pointsTo_toks_split fullShare 8) $$ H1
  icases H1 with ⟨HR, HQ⟩
  ihave H15 := (weights_split c f15) $$ H15
  ihave H16 := (stage_split c f16) $$ H16
  ihave H4 := (out_split c g4) $$ H4
  isplitr [HR]
  rotate_left
  · iexact HR
  isplitl [H0]; · iexact H0
  isplitl [H2]; · iexact H2
  isplitl [H3]; · iexact H3
  isplitl [H15 HQ W0 W1 W2 W3 W4 W5 W6 W7]
  · iapply (pairs_make c w)
    isplitl [H15]; · iexact H15
    isplitr [HQ]
    rotate_left
    · iexact HQ
    rw [eight]
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7

  isplitl [H5]; · iapply (whole_free c (m := M5) (View.set_whole _) _); iexact H5
  isplitl [H6]; · iapply (whole_free c (m := M6) (View.set_whole _) _); iexact H6
  isplitl [H7]; · iapply (whole_free c (m := M7) (View.set_whole _) _); iexact H7
  isplitl [H8]; · iapply (whole_free c (m := M8) (View.set_whole _) _); iexact H8
  isplitl [H9]; · iapply (whole_free c (m := M9) (View.set_whole _) _); iexact H9
  isplitl [H10]; · iapply (whole_free c (m := M10) (View.set_whole _) _); iexact H10
  isplitl [H11]; · iapply (whole_free c (m := M11) (View.set_whole _) _); iexact H11
  isplitl [H12]; · iapply (whole_free c (m := M12) (View.set_whole _) _); iexact H12
  isplitl [H13]; · iapply (whole_free c (m := M13) (View.set_whole _) _); iexact H13
  isplitl [H14]; · iapply (whole_free c (m := M14) (View.set_whole _) _); iexact H14
  isplitl [H4]; · iexact H4
  isplitl [H16 O0 O1 O2 O3]
  · iapply (idle_make c)
    isplitl [H16]; · iexact H16
    isplitl [O0]; · iexact O0
    isplitl [O1]; · iexact O1
    isplitl [O2]; · iexact O2
    iexact O3
  isplitl [Sx]; · iexact Sx
  isplitl [Ss0]; · iexact Ss0
  isplitl [Ss1]; · iexact Ss1
  isplitl [Sc0]; · iexact Sc0
  iexact Sc1

/-- and what it ends with, as the launch takes it back. -/
theorem scatter : iprop(Finish c X w ws bs ∗ Rest c w)
    ⊢ (iprop(Arrays c X w ws bs (outW (tiles w (C8 X) (C9 X) (C10 X) (C11 X) ws bs)) (C8 X) (C12 X) ∗ Sems (F := F) c ∗ Scratch (F := F) c) : sProp 𝕄) := by
  unfold Arrays Sems Scratch Finish Rest
  iintro ⟨⟨H0, H2, H3, HP, H5, H6, H7, H8, H9, H10, H11, H12, H13, H14, HT, HB, Sx, Ss0, Ss1, Sc0, Sc1⟩, HR⟩
  ihave HP := (pairs_break c w) $$ HP
  icases HP with ⟨H15, HW, HQ⟩
  ihave HW := (Entails.of_eq eight) $$ HW
  icases HW with ⟨W0, W1, W2, W3, W4, W5, W6, W7⟩
  ihave HB := (idle_break c) $$ HB
  icases HB with ⟨H16, O0, O1, O2, O3⟩
  isplitl [H0 HR HQ H2 H3 HT H5 H6]
  · isplitl [H0]; · iexact H0
    isplitl [HR HQ]
    · iapply (Transfers.pointsTo_toks_join fullShare 8)
      isplitl [HR]; · iexact HR
      iexact HQ
    isplitl [H2]; · iexact H2
    isplitl [H3]; · iexact H3
    isplitl [HT]; · iapply (out_join c _); iexact HT
    isplitl [H5]; · iapply (landed_whole c (m := M5) (View.set_whole _) (C := C8 X) (C8 X) fun _ h => h); iexact H5
    iapply (landed_whole c (m := M6) (View.set_whole _) (C := C12 X) (C12 X) fun _ h => h); iexact H6
  isplitl [W0 W1 W2 W3 W4 W5 W6 W7 O0 O1 O2 O3 Sx Ss0 Ss1 Sc0 Sc1]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [O0]; · iexact O0
    isplitl [O1]; · iexact O1
    isplitl [O2]; · iexact O2
    isplitl [O3]; · iexact O3
    isplitl [Sx]; · iexact Sx
    isplitl [Ss0]; · iexact Ss0
    isplitl [Ss1]; · iexact Ss1
    isplitl [Sc0]; · iexact Sc0
    iexact Sc1
  isplitl [H7]; · iapply (free_whole c (m := M7) (View.set_whole _)); iexact H7
  isplitl [H8]; · iapply (free_whole c (m := M8) (View.set_whole _)); iexact H8
  isplitl [H9]; · iapply (free_whole c (m := M9) (View.set_whole _)); iexact H9
  isplitl [H10]; · iapply (free_whole c (m := M10) (View.set_whole _)); iexact H10
  isplitl [H11]; · iapply (free_whole c (m := M11) (View.set_whole _)); iexact H11
  isplitl [H12]; · iapply (free_whole c (m := M12) (View.set_whole _)); iexact H12
  isplitl [H13]; · iapply (free_whole c (m := M13) (View.set_whole _)); iexact H13
  isplitl [H14]; · iapply (free_whole c (m := M14) (View.set_whole _)); iexact H14
  isplitl [H15]; · iapply (weights_join c); iexact H15
  iapply (stage_join c); iexact H16
end

end Cert.Proof.Ideal
-- ==== Proof.Ideal.Launch.lean ====
/-
  The launch: from any memory the program ends with its arguments unchanged and its results as the body leaves them.
-/
module

public import proofs.«01_k».proof.Proof.Ideal.Splits
public import proofs.«01_k».proof.Proof.Gen.KernelIdeal.Frame

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

open Idealize.ShloMosaic.Pipeline (Dat Cfg Window BodyObligation cellOf)

abbrev EP : Emb (UR sig nD τ) (MT nD τ sig Unit (Elt F) ℕ (UU nD τ) ℕ) := embL

variable (m : (ℓ : Loc nD τ sig) → Buf (Elt F) ℓ) (ρ : Dev nD → PrngReg)

/-! ## The kernel's own semaphores -/

/-- The seventeen semaphores: the weights' eight, the result's four, the input's, the scales' two, the codes' two. -/
abbrev osem : Fin 17 → SemLoc sig := ![.dma (semW 0), .dma (semW 1), .dma (semW 2), .dma (semW 3), .dma (semW 4), .dma (semW 5), .dma (semW 6), .dma (semW 7), .dma (semO 0 0), .dma (semO 0 1), .dma (semO 1 0), .dma (semO 1 1), .dma cc0_scratch12.sem, .dma (semS 0), .dma (semS 1), .dma (semC 0), .dma (semC 1)]
theorem ownSemFacts : Pipeline.OwnSemFacts (cfgs 0).spec osem := by decide +kernel

theorem ownSems0_eq (c : Dev nD) : (Pipeline.ownSems0 (Ix := Unit) (Name := ℕ) (U := UU nD τ) (Lvl := ℕ) (Val := Elt F) (τ := τ) osem c : sProp 𝕄) = Sems (F := F) c :=
  Pipeline.ownSems0_eq_of_list c osem [(0 : Fin 17), (1 : Fin 17), (2 : Fin 17), (3 : Fin 17), (4 : Fin 17), (5 : Fin 17), (6 : Fin 17), (7 : Fin 17), (8 : Fin 17), (9 : Fin 17), (10 : Fin 17), (11 : Fin 17), (12 : Fin 17), (13 : Fin 17), (14 : Fin 17), (15 : Fin 17), (16 : Fin 17)] (by decide) (by decide)

/-! ## The arrays as the kernel finds them -/

abbrev XA (c : Dev nD) : Vec F S2x128x2560 .bf16 := V m c main_arg0
abbrev WA (c : Dev nD) : Vec F S16x2560x1280 .fp8e4m3 := V m c main_arg1
abbrev SA (c : Dev nD) : Vec F S1x1280 .f32 := V m c main_v0
abbrev BA (c : Dev nD) : Vec F S1x1280 .f32 := V m c main_v1
/-- The first result. -/
abbrev OA (c : Dev nD) : Vec F S2x1032x1280 .bf16 :=
  outW (tiles (WA m c) (C8 (XA m c)) (C9 (XA m c)) (C10 (XA m c)) (C11 (XA m c)) (SA m c) (BA m c))

/-- The state before the kernel's one point. -/
def Φ0 (c : Dev nD) : sProp 𝕄 := iprop(Start c (XA m c) (WA m c) (SA m c) (BA m c) ∗ Rest c (WA m c))
/-- The state after it. -/
def Φ1 (c : Dev nD) : sProp 𝕄 := iprop(Finish c (XA m c) (WA m c) (SA m c) (BA m c) ∗ Rest c (WA m c))

def dats (_ : Fin 1) (c : Dev nD) : Dat τ (Elt F) Unit ℕ (UU nD τ) ℕ cfg0 c where
  A w := w.elim0
  after w _ := w.elim0
  Φ t := if t.val = 0 then Φ0 m c else Φ1 m c
  q _ := fullShare
  owed _ := 0

theorem body_eq (t : Fin cfg0.N) : (defs₀ (F := F)) .tc cfg0.body (cfg0.bodyArgs t (cfg0.slots t)) = cc0_upsample M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch10 cc0_scratch11 cc0_scratch12 cc0_scratch13 cc0_scratch14 := rfl

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ t0_0.castSucc = Φ0 m c from rfl, show (dats m 0 c).Φ t0_0.succ = Φ1 m c from rfl]
  unfold Dat.owesAt Pipeline.owesWithin
  rw [show (dats m 0 c).owed t0_0.castSucc = 0 from rfl, show (dats m 0 c).owed t0_0.succ = 0 from rfl]
  unfold Φ0 Φ1
  sl_rw [body_eq t0_0]
  iintro ⟨⟨HS, HR⟩, ⟨%W, -, HW⟩, HE⟩
  iapply (wp_wand_r _ _ _)
  isplitl [HS HW]
  · iapply (body_wp c (XA m c) (WA m c) (SA m c) (BA m c))
    iapply (begin_of_start c (XA m c) (WA m c) (SA m c) (BA m c))
    isplitl [HS]; · iexact HS
    unfold Owes
    iexists W; iexact HW
  · iintro %_ H
    ihave H := (finish_of_end c (XA m c) (WA m c) (SA m c) (BA m c)) $$ H
    icases H with ⟨HS, HO⟩
    unfold Owes
    icases HO with ⟨%W', HW⟩
    isplitl [HS HR]
    · isplitl [HS]; · iexact HS
      iexact HR
    isplitl [HW]
    · iexists W'; isplitr; · ipureintro; exact fun _ _ => Or.inl trivial
      iexact HW
    iexact HE

/-! ## The run -/

def u₀ : UU nD τ := (initOf (Pipeline.cells cfgs cellOf_inj) (Pipeline.launchToks cfgs cellOf_inj), 1)

/-- What the launch hands the kernel, -/
def X0 (c : Dev nD) : sProp 𝕄 := iprop(Arrays c (XA m c) (WA m c) (SA m c) (BA m c) (V m c main_v2_0) (V m c main_v2_1) (V m c main_v2_2) ∗ Sems (F := F) c)
/-- what it takes back, -/
def Y0 (c : Dev nD) : sProp 𝕄 := Arrays c (XA m c) (WA m c) (SA m c) (BA m c) (OA m c) (C8 (XA m c)) (C12 (XA m c))
/-- and what the kernel never sees. -/
def Z0 (c : Dev nD) : sProp 𝕄 := iprop((((c : Thread nD τ).loc main_arg2) ↦{fullShare} V m c main_arg2) ∗ (((c : Thread nD τ).loc main_arg3) ↦{fullShare} V m c main_arg3))

/-- What the final memory holds. -/
def QY (c : Dev nD) (s : MemSt nD τ sig (Elt F)) : Prop :=
  (s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3)
  ∧ s.mem ((c : Thread nD τ).loc main_v2_0) = OA m c ∧ s.mem ((c : Thread nD τ).loc main_v2_1) = C8 (XA m c) ∧ s.mem ((c : Thread nD τ).loc main_v2_2) = C12 (XA m c)

set_option backward.isDefEq.respectTransparency.types false in
/-- From any memory with zero counters, every weakly fair execution of @main terminates; in every final state the
    arguments are as launched, the three results hold what the body computes and every semaphore counter is at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := X0 m) (Y := Y0 m) (Z := Z0 m)
    (hX := fun c => by
      rw [unscopedRest0_eq, ownSems0_eq]
      unfold X0 Z0 Arrays
      iintro ⟨⟨H0, H1, H2, H3, H4, H5, H6, H7, H8⟩, HS, -, -, -⟩; imodintro
      isplitr [H2 H3]
      · isplitr [HS]
        · isplitl [H0]; · iexact H0
          isplitl [H1]; · iexact H1
          isplitl [H4]; · iexact H4
          isplitl [H5]; · iexact H5
          isplitl [H6]; · iexact H6
          isplitl [H7]; · iexact H7
          iexact H8
        · iexact HS
      isplitl [H2]; · iexact H2
      iexact H3)
    (hin := fun c => by
      rw [scopedRest0_eq, show (dats m 0 c).Φ 0 = Φ0 m c from rfl]
      unfold X0 Φ0
      iintro ⟨⟨HA, HS⟩, HB⟩
      iapply (gather c (XA m c) (WA m c) (SA m c) (BA m c))
      isplitl [HA]; · iexact HA
      isplitl [HS]; · iexact HS
      unfold Scratch
      iexact HB)
    (hout := fun c => by
      rw [scopedRest0_eq, show (dats m 0 c).Φ (Fin.last cfg0.N) = Φ1 m c from rfl, ownSems0_eq]
      unfold Φ1 Y0
      iintro H
      ihave H := (scatter c (XA m c) (WA m c) (SA m c) (BA m c)) $$ H
      icases H with ⟨HA, HS, HB⟩
      isplitl [HA]; · iexact HA
      isplitl [HS]; · iexact HS
      unfold Scratch
      iexact HB)
    (QY := QY m)
    (hY := fun c s' => by
      unfold Y0 Z0 Arrays
      iintro ⟨⟨H0, H1, -, -, H4, H5, H6⟩, ⟨H2, H3⟩, HSI⟩
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨⟨Buf.eq_of_forall_mem_univ h0, Buf.eq_of_forall_mem_univ h1, Buf.eq_of_forall_mem_univ h2, Buf.eq_of_forall_mem_univ h3⟩,
          Buf.eq_of_forall_mem_univ h4, Buf.eq_of_forall_mem_univ h5, Buf.eq_of_forall_mem_univ h6⟩
      iexact HSI)
    (hQ := fun _ hh hz => ⟨fun c => (hh c).2, hz⟩)

/-- The frame at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1.1.trans (V_main_arg0 m c), (h.1 c).1.2.1.trans (V_main_arg1 m c),
    (h.1 c).1.2.2.1.trans (V_main_arg2 m c), (h.1 c).1.2.2.2.trans (V_main_arg3 m c)⟩, h.2⟩) (run_main m ρ)

end Cert.Proof.Ideal
-- ==== Proof.Value.Scale.lean ====
/-
  The scale of a row, over the extended reals. The kernel counts the powers of two that a row's largest element over
  448 reaches and builds the scale and its inverse from that count; the reference takes the least power of two above it.
  Below 2 ^ 120 the two are the same number, and the kernel's inverse is the reference's.
-/
module

public import Idealize.ShloMosaic.Lib.Pointwise

@[expose] public section

set_option maxRecDepth 16384

noncomputable section

namespace Cert.Proof.Value

open Idealize.ShloMosaic

/-! ## What each side computes of `v` -/

/-- Whether the kernel counts lane `x`. -/
def lane (v : EReal) (x : Fin 256) : BitVec 32 :=
  BitVec.setWidth 32 (IntOp.andi
    (IntOp.andi (IntOp.cmpi CmpIPredicate.sge (BitVec.ofNat 32 x) 1#32) (IntOp.cmpi CmpIPredicate.sle (BitVec.ofNat 32 x) 255#32))
    (BitVec.ofBool (decide (Ideal.ofBits FTy.f32 (IntOp.shli ArithUnit.vector (BitVec.ofNat 32 x) 23#32) ≤ v))))

/-- The lanes counted. -/
def field (v : EReal) : BitVec 32 := Finset.fold IntOp.addi (0#32) (lane v) Finset.univ

/-- The exponent the kernel takes of a count. -/
def expoOf (f : BitVec 32) : BitVec 32 :=
  Scalar.select (IntOp.ori (IntOp.cmpi CmpIPredicate.eq f 0#32) (IntOp.cmpi CmpIPredicate.eq f 255#32)) (0#32) (IntOp.subi f 126#32)

/-- The kernel's scale and inverse scale. -/
def kscale (v : EReal) : EReal :=
  Ideal.ofBits FTy.f32 (IntOp.shli ArithUnit.vector (IntOp.addi (expoOf (field v)) 127#32) 23#32)
def kinv (v : EReal) : EReal :=
  Ideal.ofBits FTy.f32 (IntOp.shli ArithUnit.vector (IntOp.addi (IntOp.subi (0#32) (expoOf (field v))) 127#32) 23#32)

/-- The reference's powers of two, and its scale. -/
def rpow (x : Fin 256) : EReal :=
  Ideal.exp2 (((BitVec.ofNat 32 x.val).toInt : ℝ) - Ideal.ofBits FTy.f32 1123680256#32)
def rscale (v : EReal) : EReal :=
  if v < Ideal.ofBits FTy.f32 8388608#32 then 1
  else Finset.fold min (Ideal.ofBits FTy.f32 2139095040#32)
    (fun x => if v < rpow x then rpow x else Ideal.ofBits FTy.f32 2139095040#32) Finset.univ

/-! ## The float whose bits are an exponent field alone -/

theorem bits_field : ∀ x : Fin 256,
    (((BitVec.ofNat 32 x.val <<< 23).extractLsb' 31 1 == 1#1) = false)
      ∧ ((BitVec.ofNat 32 x.val <<< 23).extractLsb' 23 8).toNat = x.val
      ∧ ((BitVec.ofNat 32 x.val <<< 23).extractLsb' 0 23).toNat = 0 := by decide +kernel

theorem shl_eq : ∀ x : Fin 256, IntOp.shli ArithUnit.vector (BitVec.ofNat 32 x.val) 23#32 = BitVec.ofNat 32 x.val <<< 23 := by
  decide +kernel

/-- A float that is not negative, by its exponent field and its fraction. -/
theorem ofBits_norm (b : BitVec 32) (ex fr : ℕ) (hn : (b.extractLsb' 31 1 == 1#1) = false) (he : (b.extractLsb' 23 8).toNat = ex)
    (hf : (b.extractLsb' 0 23).toNat = fr) (h1 : 1 ≤ ex) (h2 : ex ≤ 254) :
    Ideal.ofBits FTy.f32 b = ((((2 ^ 23 + fr : ℕ) : ℝ) * (2 : ℝ) ^ ((ex : ℤ) - 127 - 23) : ℝ) : EReal) := by
  show Ideal.ieee 8 23 b = _
  unfold Ideal.ieee
  simp only [Nat.reduceAdd, he, hf, hn]
  rw [if_neg (show ¬ ex = 2 ^ 8 - 1 by omega), if_neg (show ¬ ex = 0 by omega)]
  norm_num

/-- The float with exponent field `x` and no fraction is `2 ^ (x - 127)`. -/
theorem pow_bits (x : Fin 256) (h1 : 1 ≤ x.val) (h2 : x.val ≤ 254) :
    Ideal.ofBits FTy.f32 (IntOp.shli ArithUnit.vector (BitVec.ofNat 32 x.val) 23#32) = (((2 : ℝ) ^ ((x.val : ℤ) - 127) : ℝ) : EReal) := by
  rw [shl_eq]
  obtain ⟨hn, he, hf⟩ := bits_field x
  rw [ofBits_norm _ _ _ hn he hf h1 h2, Nat.add_zero, show ((2 ^ 23 : ℕ) : ℝ) = (2 : ℝ) ^ (23 : ℤ) by norm_num,
    ← zpow_add₀ (by norm_num : (2 : ℝ) ≠ 0), show (23 : ℤ) + ((x.val : ℤ) - 127 - 23) = (x.val : ℤ) - 127 by ring]

theorem top_bits : Ideal.ofBits FTy.f32 (IntOp.shli ArithUnit.vector (BitVec.ofNat 32 255) 23#32) = ⊤ := by
  rw [show IntOp.shli ArithUnit.vector (BitVec.ofNat 32 255) 23#32 = BitVec.ofNat 32 255 <<< 23 from shl_eq 255]
  obtain ⟨hn, he, hf⟩ := bits_field 255
  show Ideal.ieee 8 23 (BitVec.ofNat 32 255 <<< 23) = _
  unfold Ideal.ieee
  have he' : ((BitVec.ofNat 32 255 <<< 23).extractLsb' 23 8).toNat = 255 := he
  have hf' : ((BitVec.ofNat 32 255 <<< 23).extractLsb' 0 23).toNat = 0 := hf
  have hn' : ((BitVec.ofNat 32 255 <<< 23).extractLsb' 31 1 == 1#1) = false := hn
  simp only [Nat.reduceAdd, he', hf', hn']
  norm_num

theorem inf_eq : Ideal.ofBits FTy.f32 2139095040#32 = ⊤ := top_bits
theorem tiny_eq : Ideal.ofBits FTy.f32 8388608#32 = (((2 : ℝ) ^ (-126 : ℤ) : ℝ) : EReal) := by
  have h := pow_bits 1 (by decide) (by decide)
  exact h.trans (by norm_num)

theorem bias_eq : Ideal.ofBits FTy.f32 1123680256#32 = ((125 : ℝ) : EReal) := by
  show Ideal.ieee 8 23 (1123680256#32) = _
  unfold Ideal.ieee
  have h1 : ((1123680256#32 : BitVec 32).extractLsb' 31 1 == 1#1) = false := by decide
  have h2 : ((1123680256#32 : BitVec 32).extractLsb' 23 8).toNat = 133 := by decide
  have h3 : ((1123680256#32 : BitVec 32).extractLsb' 0 23).toNat = 7995392 := by decide
  simp only [Nat.reduceAdd, h1, h2, h3]
  norm_num

theorem toInt_eq : ∀ x : Fin 256, (BitVec.ofNat 32 x.val).toInt = (x.val : ℤ) := by decide +kernel

theorem rpow_eq (x : Fin 256) : rpow x = (((2 : ℝ) ^ ((x.val : ℤ) - 125) : ℝ) : EReal) := by
  unfold rpow
  rw [toInt_eq, bias_eq, ← EReal.coe_sub, Ideal.exp2_coe]
  congr 1
  show (2 : ℝ) ^ (((x.val : ℤ) : ℝ) - 125) = _
  rw [← Real.rpow_intCast]
  congr 1
  push_cast
  ring

/-! ## Counting -/

/-- Of `n` lanes counted, those numbered `1 .. n`, the count is `n`. -/
theorem count_eq : ∀ n : Fin 247,
    Finset.fold IntOp.addi (0#32) (fun x : Fin 256 => if 1 ≤ x.val ∧ x.val ≤ n.val then 1#32 else 0#32) Finset.univ
      = BitVec.ofNat 32 n.val := by decide +kernel

theorem lane_val : ∀ x : Fin 256, ∀ b : Bool,
    BitVec.setWidth 32 (IntOp.andi
      (IntOp.andi (IntOp.cmpi CmpIPredicate.sge (BitVec.ofNat 32 x) 1#32) (IntOp.cmpi CmpIPredicate.sle (BitVec.ofNat 32 x) 255#32))
      (BitVec.ofBool b)) = if 1 ≤ x.val ∧ b = true then 1#32 else 0#32 := by decide +kernel

/-- A number below `2 ^ 120` reaches exactly the powers of two numbered up to some `n`. -/
theorem reach (v : ℝ) (hv : v < (2 : ℝ) ^ (120 : ℤ)) : ∃ n : Fin 247,
    (n.val = 0 → v < (2 : ℝ) ^ (-126 : ℤ))
      ∧ (1 ≤ n.val → (2 : ℝ) ^ ((n.val : ℤ) - 127) ≤ v)
      ∧ v < (2 : ℝ) ^ ((n.val : ℤ) - 126) := by
  have two : (1 : ℝ) < 2 := by norm_num
  by_cases hs : v < (2 : ℝ) ^ (-126 : ℤ)
  · exact ⟨0, fun _ => hs, fun h => absurd h (by decide), by simpa using hs⟩
  · have h0 : 0 < v := lt_of_lt_of_le (by positivity) (not_lt.mp hs)
    obtain ⟨k, hk1, hk2⟩ := exists_mem_Ico_zpow h0 two
    have hlo : -126 < k + 1 := (zpow_lt_zpow_iff_right₀ two).mp (lt_of_le_of_lt (not_lt.mp hs) hk2)
    have hhi : k < 120 := (zpow_lt_zpow_iff_right₀ two).mp (lt_of_le_of_lt hk1 hv)
    refine ⟨⟨(k + 127).toNat, by omega⟩, fun h => ?_, fun _ => ?_, ?_⟩
    · have h' : (k + 127).toNat = 0 := h
      omega
    · show (2 : ℝ) ^ (((k + 127).toNat : ℤ) - 127) ≤ v
      rw [show (((k + 127).toNat : ℤ) - 127) = k by omega]
      exact hk1
    · show v < (2 : ℝ) ^ (((k + 127).toNat : ℤ) - 126)
      rw [show (((k + 127).toNat : ℤ) - 126) = k + 1 by omega]
      exact hk2

/-- The kernel's count of such a number is that `n`. -/
theorem field_eq (v : ℝ) (n : Fin 247) (h0 : n.val = 0 → v < (2 : ℝ) ^ (-126 : ℤ))
    (h1 : 1 ≤ n.val → (2 : ℝ) ^ ((n.val : ℤ) - 127) ≤ v) (h2 : v < (2 : ℝ) ^ ((n.val : ℤ) - 126)) :
    field (v : EReal) = BitVec.ofNat 32 n.val := by
  have two : (1 : ℝ) < 2 := by norm_num
  rw [← count_eq n]
  unfold field
  congr 1
  funext x
  unfold lane
  rw [lane_val]
  have hn := n.isLt
  by_cases hx : 1 ≤ x.val
  · by_cases hx2 : x.val ≤ 254
    · rw [pow_bits x hx hx2]
      by_cases hxn : x.val ≤ n.val
      · rw [if_pos ⟨hx, decide_eq_true (EReal.coe_le_coe_iff.mpr
          (le_trans (zpow_le_zpow_right₀ two.le (by omega)) (h1 (by omega))))⟩, if_pos ⟨hx, hxn⟩]
      · rw [if_neg (fun h => ?_), if_neg (fun h => hxn h.2)]
        have hle := EReal.coe_le_coe_iff.mp (of_decide_eq_true h.2)
        exact absurd (lt_of_le_of_lt hle h2) (not_lt.mpr (zpow_le_zpow_right₀ two.le (by omega)))
    · have e : x = 255 := Fin.ext (by have := x.isLt; show x.val = 255; omega)
      subst e
      rw [if_neg (show ¬ (1 ≤ (255 : Fin 256).val ∧ decide _ = true) from fun h => ?_), if_neg (show ¬ (1 ≤ (255 : Fin 256).val ∧ (255 : Fin 256).val ≤ n.val) from fun h => ?_)]
      · have h' : 255 ≤ n.val := h.2
        omega
      · have hle := of_decide_eq_true h.2
        have e' : Ideal.ofBits FTy.f32 (IntOp.shli ArithUnit.vector (BitVec.ofNat 32 (255 : Fin 256).val) 23#32) = ⊤ := top_bits
        rw [e'] at hle
        exact absurd (top_le_iff.mp hle) (EReal.coe_ne_top v)
  · rw [if_neg (fun h => hx h.1), if_neg (fun h => hx h.1)]

theorem scale_bits : ∀ n : Fin 247,
    IntOp.addi (expoOf (BitVec.ofNat 32 n.val)) 127#32 = BitVec.ofNat 32 (if n.val = 0 then 127 else n.val + 1)
      ∧ IntOp.addi (IntOp.subi (0#32) (expoOf (BitVec.ofNat 32 n.val))) 127#32 = BitVec.ofNat 32 (if n.val = 0 then 127 else 253 - n.val) := by
  decide +kernel

/-- Both scales, and the kernel's inverse. -/
theorem scales (v : ℝ) (hv : v < (2 : ℝ) ^ (120 : ℤ)) :
    ∃ e : ℤ, kscale (v : EReal) = (((2 : ℝ) ^ e : ℝ) : EReal) ∧ rscale (v : EReal) = (((2 : ℝ) ^ e : ℝ) : EReal)
      ∧ kinv (v : EReal) = (((2 : ℝ) ^ (-e) : ℝ) : EReal) := by
  have two : (1 : ℝ) < 2 := by norm_num
  obtain ⟨n, h0, h1, h2⟩ := reach v hv
  have hn := n.isLt
  obtain ⟨hs, hi⟩ := scale_bits n
  unfold kscale kinv
  rw [field_eq v n h0 h1 h2, hs, hi]
  by_cases hz : n.val = 0
  · refine ⟨0, ?_, ?_, ?_⟩
    · rw [if_pos hz]
      have h := pow_bits 127 (by decide) (by decide)
      simpa using h
    · unfold rscale
      rw [tiny_eq, if_pos (EReal.coe_lt_coe_iff.mpr (h0 hz))]
      simp
    · rw [if_pos hz]
      have h := pow_bits 127 (by decide) (by decide)
      simpa using h
  · have hp : 1 ≤ n.val := by omega
    refine ⟨(n.val : ℤ) - 126, ?_, ?_, ?_⟩
    · rw [if_neg hz]
      have h := pow_bits ⟨n.val + 1, by omega⟩ (show 1 ≤ n.val + 1 by omega) (show n.val + 1 ≤ 254 by omega)
      refine h.trans ?_
      congr 2
      push_cast
      ring
    · unfold rscale
      rw [tiny_eq, inf_eq, if_neg (not_lt.mpr (EReal.coe_le_coe_iff.mpr (le_trans (zpow_le_zpow_right₀ two.le (by omega)) (h1 hp))))]
      apply le_antisymm
      · refine Finset.fold_min_le _ |>.mpr (Or.inr ⟨⟨n.val - 1, by omega⟩, Finset.mem_univ _, ?_⟩)
        have e : rpow ⟨n.val - 1, by omega⟩ = (((2 : ℝ) ^ ((n.val : ℤ) - 126) : ℝ) : EReal) := by
          rw [rpow_eq]
          congr 2
          show ((n.val - 1 : ℕ) : ℤ) - 125 = _
          omega
        rw [e, if_pos (EReal.coe_lt_coe_iff.mpr h2)]
      · refine Finset.le_fold_min _ |>.mpr ⟨le_top, fun x _ => ?_⟩
        by_cases hx : (v : EReal) < rpow x
        · rw [if_pos hx]
          rw [rpow_eq] at hx ⊢
          have hx' := EReal.coe_lt_coe_iff.mp hx
          have hlt := (zpow_lt_zpow_iff_right₀ two).mp (lt_of_le_of_lt (h1 hp) hx')
          exact EReal.coe_le_coe_iff.mpr (zpow_le_zpow_right₀ two.le (by omega))
        · rw [if_neg hx]
          exact le_top
    · rw [if_neg hz]
      have h := pow_bits ⟨253 - n.val, by omega⟩ (show 1 ≤ 253 - n.val by omega) (show 253 - n.val ≤ 254 by omega)
      refine h.trans ?_
      congr 2
      show ((253 - n.val : ℕ) : ℤ) - 127 = _
      omega

/-- The two scales are one number. -/
theorem scale_eq (v : ℝ) (hv : v < (2 : ℝ) ^ (120 : ℤ)) : kscale (v : EReal) = rscale (v : EReal) := by
  obtain ⟨e, h1, h2, -⟩ := scales v hv
  rw [h1, h2]

/-- The kernel's inverse is the reference's quotient. -/
theorem inv_eq (v : ℝ) (hv : v < (2 : ℝ) ^ (120 : ℤ)) : kinv (v : EReal) = Ideal.div 1 (rscale (v : EReal)) := by
  obtain ⟨e, -, h2, h3⟩ := scales v hv
  rw [h2, h3, Ideal.div_coe (zpow_ne_zero e (by norm_num)), one_mul, zpow_neg, one_div]

end Cert.Proof.Value

end
-- ==== Proof.Value.Rows.lean ====
/-
  What the kernel's quantiser leaves, over the extended reals: every element's code, every row's scale, and both moved
  down by one row.
-/
module

public import proofs.«01_k».proof.Proof.Value.Scale
public import proofs.«01_k».proof.Proof.Ideal.Quant

@[expose] public section

set_option maxRecDepth 16384

noncomputable section

namespace Cert.Proof.Value

open Cert.KernelIdeal Cert.KernelIdeal.Gen
open Idealize.ShloMosaic
open Cert.Proof.Ideal (C8 C9 C10 C11 C12 xb codes32 scale32 diag32 sums blk rin batch8 batch10)

/-- A row's largest element in absolute value, over 448. -/
def vrow (f : Fin 2560 → EReal) : EReal :=
  Finset.fold max (Ideal.ofBits FTy.f32 4286578688#32) (fun x => max (f x) (-(f x))) Finset.univ * Ideal.ofBits FTy.f32 991054117#32

/-- An element by an inverse scale, kept within the codes' range. -/
def code (x inv : EReal) : EReal :=
  min (Ideal.ofBits FTy.f32 1138753536#32) (max (Ideal.ofBits FTy.f32 3286237184#32) (x * inv))

/-! ## A block of rows -/

theorem pay299_eq (v : Vec Ideal S1x32x2560 .bf16) (r : Fin 32) :
    k0_pay299 v (ix2 r 0) = expoOf (field (vrow fun d => v (ix3 0 r d))) := by
  pointwise [k0_pay299, k0_pay298]
  rfl

theorem scale32_eq (v : Vec Ideal S1x32x2560 .bf16) (r : Fin 32) (l : Fin 128) :
    scale32 v (ix3 0 r l) = kscale (vrow fun d => v (ix3 0 r d)) := by
  pointwise [scale32, k0_pay302, k0_pay301]
  rw [pay299_eq]
  rfl

theorem codes32_eq (v : Vec Ideal S1x32x2560 .bf16) (r : Fin 32) (l : Fin 2560) :
    codes32 v (ix3 0 r l) = code (v (ix3 0 r l)) (kinv (vrow fun d => v (ix3 0 r d))) := by
  pointwise [codes32, k0_pay300, k0_pay298]
  rw [pay299_eq]
  rfl

variable (X : Vec Ideal S2x128x2560 .bf16)

theorem xb_row (b : Fin 2) (r : Fin 128) (d : Fin 2560) :
    xb X b (blk r) (ix3 (0 : Fin 1) (rin r) d) = X (ix3 b r d) := by
  show X (ix3 b (⟨32 * (r.val / 32) + r.val % 32, _⟩ : Fin 128) d) = _
  have e : (⟨32 * (r.val / 32) + r.val % 32, by omega⟩ : Fin 128) = r := Fin.ext (by show 32 * (r.val / 32) + r.val % 32 = r.val; omega)
  rw [e]

/-! ## The buffers -/

/-- A row's inverse scale and scale. -/
def invOf (b : Fin 2) (r : Fin 128) : EReal := kinv (vrow fun d => X (ix3 b r d))
def scaleOf (b : Fin 2) (r : Fin 128) : EReal := kscale (vrow fun d => X (ix3 b r d))

theorem C8_eq (b : Fin 2) (r : Fin 128) (d : Fin 2560) : C8 X (ix3 b r d) = code (X (ix3 b r d)) (invOf X b r) := by
  show codes32 (xb X b (blk r)) (ix3 (0 : Fin 1) (rin r) d) = _
  rw [codes32_eq]
  simp only [xb_row]
  rfl

theorem C10_eq (b : Fin 2) (r : Fin 128) (l : Fin 128) : C10 X (ix3 b r l) = scaleOf X b r := by
  show scale32 (xb X b (blk r)) (ix3 (0 : Fin 1) (rin r) l) = _
  rw [scale32_eq]
  simp only [xb_row]
  rfl

/-- The row before, the last before the first. -/
def before (r : Fin 128) : Fin 128 := ⟨(r.val + 128 - 1) % 128, Nat.mod_lt _ (by norm_num)⟩

theorem pay331_eq (x : Vec Ideal S1x128x2560 .fp8e4m3) (r : Fin 128) (d : Fin 2560) : k0_pay331 x (ix3 0 r d) = x (ix3 0 (before r) d) := by
  pointwise [k0_pay331]
  rfl

theorem pay332_eq (x : Vec Ideal S1x128x128 .f32) (r : Fin 128) (l : Fin 128) : k0_pay332 x (ix3 0 r l) = x (ix3 0 (before r) l) := by
  pointwise [k0_pay332]
  rfl

theorem C9_eq (b : Fin 2) (r : Fin 128) (d : Fin 2560) :
    C9 X (ix3 b r d) = code (X (ix3 b (before r) d)) (invOf X b (before r)) := by
  show k0_pay331 (batch8 X b) (ix3 (0 : Fin 1) r d) = _
  rw [pay331_eq]
  exact C8_eq X b (before r) d

theorem C11_eq (b : Fin 2) (r : Fin 128) (l : Fin 128) : C11 X (ix3 b r l) = scaleOf X b (before r) := by
  show k0_pay332 (batch10 X b) (ix3 (0 : Fin 1) r l) = _
  rw [pay332_eq]
  exact C10_eq X b (before r) l

/-! ## The scales' result -/

theorem lane_is : ∀ (g : Fin 4) (x : Fin 32) (l : Fin 128),
    IntOp.cmpi CmpIPredicate.eq (IntOp.addi (BitVec.ofNat 32 x.val) (BitVec.ofNat 32 (32 * g.val))) (BitVec.ofNat 32 l.val)
      = if 32 * g.val + x.val = l.val then 1#1 else 0#1 := by decide +kernel

theorem diag32_eq (g : Fin 4) (v : Vec Ideal S1x32x2560 .bf16) (acc : FVec Ideal S1x128 .f32) (l : Fin 128) :
    diag32 (BitVec.ofNat 32 (32 * g.val)) acc v (ix2 0 l)
      = acc (ix2 0 l) + if blk l = g then kscale (vrow fun d => v (ix3 0 (rin l) d)) else 0 := by
  pointwise [diag32, k0_pay301]
  congr 1
  have step : ∀ x : Fin 32, Scalar.select (IntOp.cmpi CmpIPredicate.eq (IntOp.addi (BitVec.ofNat 32 x.val) (BitVec.ofNat 32 (32 * g.val))) (BitVec.ofNat 32 l.val))
      (Ideal.ofBits FTy.f32 (IntOp.shli ArithUnit.vector (IntOp.addi (k0_pay299 v (ix2 x 0)) 127#32) 23#32)) (0 : EReal)
      = if x = rin l then (if blk l = g then kscale (vrow fun d => v (ix3 0 (rin l) d)) else 0) else 0 := by
    intro x
    rw [lane_is, pay299_eq]
    by_cases hx : 32 * g.val + x.val = l.val
    · have e1 : x = rin l := Fin.ext (by show x.val = l.val % 32; omega)
      have e2 : blk l = g := Fin.ext (by show l.val / 32 = g.val; omega)
      rw [if_pos hx, if_pos e1, if_pos e2, e1]
      rfl
    · rw [if_neg hx]
      by_cases e1 : x = rin l
      · have h1 : x.val = l.val % 32 := congrArg Fin.val e1
        have e2 : ¬ blk l = g := fun h => hx (by
          have h2 : l.val / 32 = g.val := congrArg Fin.val h
          omega)
        rw [if_pos e1, if_neg e2]
        rfl
      · rw [if_neg e1]
        rfl
  simp only [step]
  rw [Finset.sum_ite_eq' Finset.univ (rin l) (fun _ => if blk l = g then kscale (vrow fun d => v (ix3 0 (rin l) d)) else 0),
    if_pos (Finset.mem_univ _)]

theorem zero297 (l : Fin 128) : k0_pay297 (F := Ideal) (ix2 0 l) = 0 := by
  pointwise [k0_pay297]

theorem C12_eq (b : Fin 2) (r : Fin 128) : C12 X (ix2 b r) = scaleOf X b r := by
  show diag32 (BitVec.ofNat 32 (32 * (3 : Fin 4).val)) (diag32 (BitVec.ofNat 32 (32 * (2 : Fin 4).val))
    (diag32 (BitVec.ofNat 32 (32 * (1 : Fin 4).val)) (diag32 (BitVec.ofNat 32 (32 * (0 : Fin 4).val)) (k0_pay297 (F := Ideal))
      (xb X b 0)) (xb X b 1)) (xb X b 2)) (xb X b 3) (ix2 (0 : Fin 1) r) = _
  rw [diag32_eq, diag32_eq, diag32_eq, diag32_eq, zero297]
  have row : ∀ g : Fin 4, (if blk r = g then kscale (vrow fun d => xb X b g (ix3 (0 : Fin 1) (rin r) d)) else 0)
      = if blk r = g then scaleOf X b r else 0 := by
    intro g
    by_cases h : blk r = g
    · rw [if_pos h, if_pos h, ← h]
      simp only [xb_row]
      rfl
    · rw [if_neg h, if_neg h]
  simp only [row]
  generalize blk r = k
  fin_cases k <;> simp

end Cert.Proof.Value

end
-- ==== Proof.Value.Product.lean ====
/-
  What the kernel's products leave of one element of its first result, over the extended reals.
-/
module

public import proofs.«01_k».proof.Proof.Value.Rows
public import proofs.«01_k».proof.Proof.Ideal.Launch

@[expose] public section

set_option maxRecDepth 16384

noncomputable section

namespace Cert.Proof.Value

open Cert.KernelIdeal Cert.KernelIdeal.Gen
open Idealize.ShloMosaic
open Cert.Proof.Ideal

/-! ## The products -/

theorem pay2_eq (f : Vec Ideal S2x128x2560 .fp8e4m3) (w : Vec Ideal S1x1x2560x256 .fp8e4m3) (R q : Fin 256) :
    k0_pay2 f w (ix2 R q) = ∑ d : Fin 2560, f (ix3 (⟨R.val / 128, by omega⟩ : Fin 2) (⟨R.val % 128, by omega⟩ : Fin 128) d) * w (ix4 0 0 d q) := by
  pointwise [k0_pay2, k0_pay1]

theorem pay3_is : k0_pay3 (F := Ideal) = k0_pay2 := rfl
theorem pay5_is : k0_pay5 (F := Ideal) = k0_pay2 := rfl
theorem pay6_is : k0_pay6 (F := Ideal) = k0_pay2 := rfl

/-- A batch's row of the codes by a column of a tap's weights. -/
def dotAt (f : Vec Ideal S2x128x2560 .fp8e4m3) (w : Vec Ideal S16x2560x1280 .fp8e4m3) (b : Fin 2) (s : Fin 128) (j : Fin 16) (c : Fin 1280) : EReal :=
  ∑ d : Fin 2560, f (ix3 b s d) * w (ix3 j d c)

/-- An element of the product of a batch's eight rows by a tile's columns. -/
theorem pay2_tile (f : Vec Ideal S2x128x2560 .fp8e4m3) (w : Vec Ideal S16x2560x1280 .fp8e4m3) (n : Fin 5) (k : Fin 8) (t : Fin 2)
    (R q : Fin 256) (b : Fin 2) (s : Fin 128) (j : Fin 16) (c : Fin 1280) (hR : R.val = 128 * b.val + s.val)
    (hj : j.val = 2 * (k.val / 2) + 8 * (k.val % 2) + t.val) (hc : c.val = 256 * n.val + q.val) :
    k0_pay2 f (wTile w n k t) (ix2 R q) = dotAt f w b s j c := by
  rw [pay2_eq]
  unfold dotAt
  refine Finset.sum_congr rfl fun d _ => ?_
  have e0 : (⟨R.val / 128, by omega⟩ : Fin 2) = b := Fin.ext (by show R.val / 128 = b.val; omega)
  have e1 : (⟨R.val % 128, by omega⟩ : Fin 128) = s := Fin.ext (by show R.val % 128 = s.val; omega)
  rw [e0, e1]
  congr 1
  show w (ix3 (⟨2 * (k.val / 2) + 8 * (k.val % 2) + t.val, _⟩ : Fin 16) d (⟨256 * n.val + q.val, _⟩ : Fin 1280)) = _
  congr 2
  · exact Fin.ext hj.symm
  · exact Fin.ext hc.symm

/-! ## The blocks read back -/

theorem scaled_eq (a : FVec Ideal S256x256 .f32) (x : Vec Ideal S1x8x128 .f32) (w : Vec Ideal S1x128 .f32) (h b : Fin 2) (g : Fin 16)
    (r : Fin 8) (l : Fin 128) :
    scaled a x w h b g (ix2 r l) = a (ix2 (⟨128 * b.val + 8 * g.val + r.val, by omega⟩ : Fin 256) (⟨128 * h.val + l.val, by omega⟩ : Fin 256))
      * x (ix3 0 r l) * w (ix2 0 l) := by
  pointwise [scaled]

/-- Of the shifted product: nothing before the first row. -/
theorem shifted_eq (a : FVec Ideal S256x256 .f32) (x : Vec Ideal S1x8x128 .f32) (w : Vec Ideal S1x128 .f32) (h b : Fin 2) (g : Fin 16)
    (r : Fin 8) (l : Fin 128) :
    shifted a x w h b g (ix2 r l) = if 8 * g.val + r.val = 0 then 0 else scaled a x w h b g (ix2 r l) := by
  have first : ∀ r : Fin 8, IntOp.cmpi CmpIPredicate.eq (BitVec.ofNat 32 r.val) 0#32 = if r.val = 0 then 1#1 else 0#1 := by decide
  unfold shifted
  rcases hv : g.val with _ | m
  · show select _ _ _ (ix2 r l) = _
    pointwise
    by_cases hr : r.val = 0
    · rw [if_pos (by omega), first, if_pos hr]
      rfl
    · rw [if_neg (by omega), first, if_neg hr]
      rfl
  · rw [if_neg (by omega)]
    rfl

theorem rows10_eq (f : Vec Ideal S2x128x128 .f32) (b : Fin 2) (g : Fin 16) (r : Fin 8) (l : Fin 128) :
    rows10 f b g (ix3 0 r l) = f (ix3 b (⟨8 * g.val + r.val, by omega⟩ : Fin 128) l) := by
  show f _ = f _
  congr 1
  funext a
  apply Fin.ext
  fin_cases a
  · show b.val + 1 * 0 = b.val; omega
  · show 8 * g.val + 1 * r.val = 8 * g.val + r.val; omega
  · show 0 + 1 * l.val = l.val; omega

theorem rows11_eq (f : Vec Ideal S2x128x128 .f32) (b : Fin 2) (g : Fin 16) (r : Fin 8) (l : Fin 128) :
    rows11 f b g (ix3 0 r l) = f (ix3 b (⟨8 * g.val + r.val, by omega⟩ : Fin 128) l) := rows10_eq f b g r l

theorem off17_eq : ∀ (i : Fin k0_t1_loop.trips) (h : Fin 2) (a : Fin 2),
    k0_off17 i (BitVec.ofNat 32 (128 * h.val)) a = (![0, 256 * i.val + 128 * h.val] : Fin 2 → ℕ) a := by decide +kernel

theorem cols13_eq (i : Fin k0_t1_loop.trips) (f : Vec Ideal S1x1280 .f32) (h : Fin 2) (l : Fin 128) (c : Fin 1280)
    (hc : c.val = 256 * i.val + 128 * h.val + l.val) : cols13 i f h (ix2 0 l) = f (ix2 0 c) := by
  show f _ = f _
  congr 1
  funext a
  apply Fin.ext
  fin_cases a
  · show k0_off17 i (BitVec.ofNat 32 (128 * h.val)) 0 + 1 * 0 = 0
    rw [off17_eq]; rfl
  · show k0_off17 i (BitVec.ofNat 32 (128 * h.val)) 1 + 1 * l.val = c.val
    rw [off17_eq, hc]
    show 256 * i.val + 128 * h.val + 1 * l.val = _
    omega

theorem cols14_eq (i : Fin k0_t1_loop.trips) (f : Vec Ideal S1x1280 .f32) (h : Fin 2) (l : Fin 128) (c : Fin 1280)
    (hc : c.val = 256 * i.val + 128 * h.val + l.val) : cols14 i f h (ix2 0 l) = f (ix2 0 c) := cols13_eq i f h l c hc

/-! ## An element of the result -/

section
variable (i : Fin k0_t1_loop.trips) (A0 A1 A2 A3 : FVec Ideal S256x256 .f32)
variable (f10 f11 : Vec Ideal S2x128x128 .f32) (f13 f14 : Vec Ideal S1x1280 .f32)

theorem payW_eq (h b : Fin 2) (g : Fin 16) (r : Fin 8) (t : Fin 2) (l : Fin 128) :
    payW i A0 A1 A2 A3 f10 f11 f13 f14 h b g (ix6 0 0 0 r t l)
      = scaled (if t.val % 2 = 0 then A0 else A1) (rows10 f10 b g) (cols13 i f13 h) h b g (ix2 r l)
        + shifted (if t.val % 2 = 0 then A2 else A3) (rows11 f11 b g) (cols13 i f13 h) h b g (ix2 r l) + cols14 i f14 h (ix2 0 l) := by
  pointwise [payW, rowsSum]
  split_ifs <;> rfl

theorem payT_eq (h b : Fin 2) (t : Fin 2) (l : Fin 128) :
    payT i A2 A3 f11 f13 f14 h b (ix5 0 0 0 t l)
      = scaled (if t.val % 2 = 0 then A2 else A3) (rows11 f11 b 0) (cols13 i f13 h) h b 0 (ix2 0 l) + cols14 i f14 h (ix2 0 l) := by
  pointwise [payT, rowsTail]
  split_ifs <;> rfl

variable (w : Vec Ideal S16x2560x1280 .fp8e4m3) (f8 f9 : Vec Ideal S2x128x2560 .fp8e4m3)

theorem wordVal_eq (k : Fin k0_t2_loop.trips) (h b : Fin 2) (g : Fin 16) (r : Fin 8) (t : Fin 2) (l : Fin 128)
    (s : Fin 128) (j j' : Fin 16) (c : Fin 1280) (hs : s.val = 8 * g.val + r.val) (hj : j.val = 2 * k.val + t.val)
    (hj' : j'.val = 8 + 2 * k.val + t.val) (hc : c.val = 256 * i.val + 128 * h.val + l.val) :
    wordVal i w f8 f9 f10 f11 f13 f14 k h b g r t l
      = dotAt f8 w b s j c * f10 (ix3 b s l) * f13 (ix2 0 c)
        + (if s.val = 0 then 0 else dotAt f9 w b s j' c * f11 (ix3 b s l) * f13 (ix2 0 c)) + f14 (ix2 0 c) := by
  have hb := b.isLt; have hh := h.isLt; have ht := t.isLt
  have hk : k.val < 4 := lt_of_lt_of_eq k.isLt (by decide)
  have es : (⟨8 * g.val + r.val, by omega⟩ : Fin 128) = s := Fin.ext hs.symm
  show payW i _ _ _ _ f10 f11 f13 f14 h b g (ix6 0 0 0 r t l) = _
  rw [payW_eq, shifted_eq, scaled_eq, scaled_eq, rows10_eq, rows11_eq, cols13_eq i f13 h l c hc, cols14_eq i f14 h l c hc, es,
    pay3_is, pay5_is, pay6_is, hs]
  have p : ∀ (f : Vec Ideal S2x128x2560 .fp8e4m3) (m : Fin 2) (q : Fin 16) (hq : q.val = 8 * m.val + 2 * k.val + t.val),
      (if t.val % 2 = 0 then k0_pay2 f (wTile w (ct i) (sl k m) 0) else k0_pay2 f (wTile w (ct i) (sl k m) 1))
        (ix2 (⟨128 * b.val + 8 * g.val + r.val, by omega⟩ : Fin 256) (⟨128 * h.val + l.val, by omega⟩ : Fin 256)) = dotAt f w b s q c := by
    intro f m q hq
    have hm := m.isLt
    split_ifs with h0
    · exact pay2_tile f w (ct i) (sl k m) 0 _ _ b s q c (by show 128 * b.val + 8 * g.val + r.val = _; omega)
        (by show q.val = 2 * ((2 * k.val + m.val) / 2) + 8 * ((2 * k.val + m.val) % 2) + 0; omega)
        (by show c.val = 256 * i.val + (128 * h.val + l.val); omega)
    · exact pay2_tile f w (ct i) (sl k m) 1 _ _ b s q c (by show 128 * b.val + 8 * g.val + r.val = _; omega)
        (by show q.val = 2 * ((2 * k.val + m.val) / 2) + 8 * ((2 * k.val + m.val) % 2) + 1; omega)
        (by show c.val = 256 * i.val + (128 * h.val + l.val); omega)
  rw [p f8 0 j (by show j.val = 8 * 0 + 2 * k.val + t.val; omega), p f9 1 j' (by show j'.val = 8 * 1 + 2 * k.val + t.val; omega)]

theorem tailVal_eq (k : Fin k0_t2_loop.trips) (h b : Fin 2) (t : Fin 2) (l : Fin 128)
    (j' : Fin 16) (c : Fin 1280)
    (hj' : j'.val = 8 + 2 * k.val + t.val) (hc : c.val = 256 * i.val + 128 * h.val + l.val) :
    tailVal i w f9 f11 f13 f14 k h b t l
      = dotAt f9 w b 0 j' c * f11 (ix3 b 0 l) * f13 (ix2 0 c) + f14 (ix2 0 c) := by
  have hb := b.isLt; have hh := h.isLt; have ht := t.isLt
  have hk : k.val < 4 := lt_of_lt_of_eq k.isLt (by decide)
  show payT i _ _ f11 f13 f14 h b (ix5 0 0 0 t l) = _
  rw [payT_eq, scaled_eq, rows11_eq, cols13_eq i f13 h l c hc, cols14_eq i f14 h l c hc, pay5_is, pay6_is]
  have p : (if t.val % 2 = 0 then k0_pay2 f9 (wTile w (ct i) (sl k 1) 0) else k0_pay2 f9 (wTile w (ct i) (sl k 1) 1))
        (ix2 (⟨128 * b.val + 8 * (0 : Fin 16).val + (0 : Fin 8).val, by show 128 * b.val + 8 * 0 + 0 < 256; omega⟩ : Fin 256) (⟨128 * h.val + l.val, by omega⟩ : Fin 256)) = dotAt f9 w b 0 j' c := by
    split_ifs with h0
    · exact pay2_tile f9 w (ct i) (sl k 1) 0 _ _ b 0 j' c (by show 128 * b.val + 8 * 0 + 0 = 128 * b.val + 0; omega)
        (by show j'.val = 2 * ((2 * k.val + 1) / 2) + 8 * ((2 * k.val + 1) % 2) + 0; omega)
        (by show c.val = 256 * i.val + (128 * h.val + l.val); omega)
    · exact pay2_tile f9 w (ct i) (sl k 1) 1 _ _ b 0 j' c (by show 128 * b.val + 8 * 0 + 0 = 128 * b.val + 0; omega)
        (by show j'.val = 2 * ((2 * k.val + 1) / 2) + 8 * ((2 * k.val + 1) % 2) + 1; omega)
        (by show c.val = 256 * i.val + (128 * h.val + l.val); omega)
  rw [p]
  rfl

end

/-! ## The result -/

variable (X : Vec Ideal S2x128x2560 .bf16) (w : Vec Ideal S16x2560x1280 .fp8e4m3) (f13 f14 : Vec Ideal S1x1280 .f32)

/-- A tap's product of a row's codes, by the row's scale and the column's. -/
def term (b : Fin 2) (s : Fin 128) (j : Fin 16) (c : Fin 1280) : EReal :=
  dotAt (C8 X) w b s j c * scaleOf X b s * f13 (ix2 0 c)

theorem dotAt_before (b : Fin 2) (s : Fin 128) (j : Fin 16) (c : Fin 1280) : dotAt (C9 X) w b s j c = dotAt (C8 X) w b (before s) j c := by
  unfold dotAt
  refine Finset.sum_congr rfl fun d _ => ?_
  rw [C9_eq, C8_eq]

/-- An element of the result: of the row `8 s + j`, the product with tap `j` of row `s` and with tap `8 + j` of the
    row before it, where there are such rows, and the bias. -/
theorem out_eq (b : Fin 2) (r : Fin 1032) (c : Fin 1280) :
    outW (tiles w (C8 X) (C9 X) (C10 X) (C11 X) f13 f14) (ix3 b r c)
      = if h : r.val < 1024 then
          term X w f13 b ⟨r.val / 8, by omega⟩ ⟨r.val % 8, by omega⟩ c
            + (if r.val / 8 = 0 then 0 else term X w f13 b (before ⟨r.val / 8, by omega⟩) ⟨8 + r.val % 8, by omega⟩ c) + f14 (ix2 0 c)
        else term X w f13 b 127 ⟨8 + r.val % 8, by omega⟩ c + f14 (ix2 0 c) := by
  have hr := r.isLt; have hc := c.isLt
  have hp : (pairOf r.val).val = r.val % 8 / 2 := rfl
  show tileW (⟨c.val / 256, _⟩ : Fin k0_t1_loop.trips) w (C8 X) (C9 X) (C10 X) (C11 X) f13 f14
    (ix5 (bufOf ⟨c.val / 256, by omega⟩) (⟨c.val / 128 % 2, by omega⟩ : Fin 2) b r (⟨c.val % 128, by omega⟩ : Fin 128)) = _
  by_cases h : r.val < 1024
  · rw [dif_pos h]
    refine (dif_pos h).trans ?_
    show wordVal _ w _ _ _ _ f13 f14 (pairOf r.val) (⟨c.val / 128 % 2, by omega⟩ : Fin 2) b ⟨r.val / 64, by omega⟩ ⟨r.val / 8 % 8, by omega⟩
      ⟨r.val % 2, by omega⟩ (⟨c.val % 128, by omega⟩ : Fin 128) = _
    rw [wordVal_eq _ _ _ _ _ _ _ _ _ _ _ _ _ _ _ (⟨r.val / 8, by omega⟩ : Fin 128) (⟨r.val % 8, by omega⟩ : Fin 16) (⟨8 + r.val % 8, by omega⟩ : Fin 16) c
      (by show r.val / 8 = 8 * (r.val / 64) + r.val / 8 % 8; omega) (by show r.val % 8 = 2 * (pairOf r.val).val + r.val % 2; omega)
      (by show 8 + r.val % 8 = 8 + 2 * (pairOf r.val).val + r.val % 2; omega)
      (by show c.val = 256 * (c.val / 256) + 128 * (c.val / 128 % 2) + c.val % 128; omega)]
    rw [C10_eq, C11_eq, dotAt_before]
    rfl
  · rw [dif_neg h]
    refine (dif_neg h).trans ?_
    show tailVal _ w _ _ f13 f14 (pairOf r.val) (⟨c.val / 128 % 2, by omega⟩ : Fin 2) b
      ⟨r.val % 2, by omega⟩ (⟨c.val % 128, by omega⟩ : Fin 128) = _
    rw [tailVal_eq _ _ _ _ _ _ _ _ _ _ _ (⟨8 + r.val % 8, by omega⟩ : Fin 16) c
      (by show 8 + r.val % 8 = 8 + 2 * (pairOf r.val).val + r.val % 2; omega)
      (by show c.val = 256 * (c.val / 256) + 128 * (c.val / 128 % 2) + c.val % 128; omega)]
    rw [C11_eq, dotAt_before]
    rfl

end Cert.Proof.Value

end
-- ==== Proof.Value.Reference.lean ====
/-
  What the reference computes, over the extended reals, element by element.
-/
module

public import proofs.«01_k».proof.Proof.Value.Rows
public import proofs.«01_k».proof.Proof.Gen.ReferenceIdeal
public import proofs.«01_k».proof.Proof.Gen.ReferenceIdeal.Frame
public import Idealize.ShloMosaic.Lib.Pipeline.ValueKit
public import Idealize.ShloMosaic.Lib.StableHlo.Run
public import Idealize.ShloMosaic.Lib.StableHlo.ReadAt
public import Idealize.ShloMosaic.Lib.Pointwise

@[expose] public section

set_option maxRecDepth 16384

noncomputable section

namespace Cert.Proof.Value.Ref

open Cert.ReferenceIdeal Cert.ReferenceIdeal.Gen
open Idealize.ShloMosaic Idealize.ShloMosaic.TcCoe

variable (m : (ℓ : Loc nD τ sig) → Buf (Elt Ideal) ℓ)

/-! ## The call's payloads -/

theorem pay3_eq (v : Vec Ideal S256x2560 .bf16) (R : Fin 256) : k0_pay3 v (ix2 R 0) = rscale (vrow fun d => v (ix2 R d)) := by
  pointwise [k0_pay3, k0_pay2]
  rfl

theorem pay4_eq (v : Vec Ideal S256x2560 .bf16) (R : Fin 256) (d : Fin 2560) :
    k0_pay4 v (ix2 R d) = code (v (ix2 R d)) (Ideal.div 1 (rscale (vrow fun d => v (ix2 R d)))) := by
  pointwise [k0_pay4, k0_pay2]
  rw [pay3_eq]
  rfl

theorem pay1_eq (v : FVec Ideal S256x2560 .fp8e4m3) (w : Vec Ideal S2560x20480 .fp8e4m3) (R : Fin 256) (q : Fin 20480) :
    k0_pay1 v (k0_pay5 w) (constant S256x20480 .f32 0x00000000#32) (ix2 R q) = ∑ d : Fin 2560, v (ix2 R d) * w (ix2 d q) := by
  pointwise [k0_pay1, k0_pay5]

/-! ## What the call leaves -/

theorem idx0 : ∀ a : Fin 2, win0_0.index t0_0 a = 0 := by decide +kernel
theorem idx1 : ∀ a : Fin 2, win0_1.index t0_0 a = 0 := by decide +kernel

theorem blk0 (c : Dev nD) : iblk m c 0 t0_0 = V m c main_v0 := by
  funext j
  unfold iblk
  blk_simp
  refine congrArg (V m c main_v0) (funext fun a => Fin.ext ?_)
  blk_simp [idx0]

theorem blk1 (c : Dev nD) : iblk m c 1 t0_0 = V m c main_v2 := by
  funext j
  unfold iblk
  blk_simp
  refine congrArg (V m c main_v2) (funext fun a => Fin.ext ?_)
  blk_simp [idx1]

theorem codes_left (c : Dev nD) : (dats m 0 c).arrAt 2 (cfgs 0).N = k0_pay4 (V m c main_v0) := by
  refine (dats m 0 c).arrAt_eq_of_after_last 2 t0_0 (by decide +kernel) _ fun j => ?_
  blk_simp
  rw [after0_2, blk0]
  frame_out

theorem scales_left (c : Dev nD) : (dats m 0 c).arrAt 3 (cfgs 0).N = k0_pay3 (V m c main_v0) := by
  refine (dats m 0 c).arrAt_eq_of_after_last 3 t0_0 (by decide +kernel) _ fun j => ?_
  blk_simp
  rw [after0_3, blk0]
  frame_out

theorem products_left (c : Dev nD) : (dats m 0 c).arrAt 4 (cfgs 0).N
    = k0_pay1 (k0_pay4 (V m c main_v0)) (k0_pay5 (V m c main_v2)) (constant S256x20480 .f32 0x00000000#32) := by
  refine (dats m 0 c).arrAt_eq_of_after_last 4 t0_0 (by decide +kernel) _ fun j => ?_
  blk_simp
  rw [after0_4, blk0, blk1]
  frame_out

/-! ## The arguments as the call finds them -/

theorem v0_at (c : Dev nD) (b : Fin 2) (r : Fin 128) (d : Fin 2560) (R : Fin 256) (hR : R.val = b.val * 128 + r.val) :
    (V m c main_v0 (ix2 R d) : EReal) = m ((c : Thread nD τ).loc main_arg0) (ix3 b r d) := by
  unfold V V0
  simp only [hostOps0, List.flatten_cons, List.flatten_nil, List.append_nil]
  after_reads_at
  have e0 : (⟨R.val / 128, by omega⟩ : Fin 2) = b := Fin.ext (by show R.val / 128 = b.val; omega)
  have e1 : (⟨R.val % 128, by omega⟩ : Fin 128) = r := Fin.ext (by show R.val % 128 = r.val; omega)
  rw [e0, e1]

theorem v2_at (c : Dev nD) (j : Fin 16) (d : Fin 2560) (e : Fin 1280) (q : Fin 20480) (hq : q.val = j.val * 1280 + e.val) :
    (V m c main_v2 (ix2 d q) : EReal) = m ((c : Thread nD τ).loc main_arg1) (ix3 j d e) := by
  unfold V V0
  simp only [hostOps0, List.flatten_cons, List.flatten_nil, List.append_nil]
  after_reads_at
  have e0 : (⟨q.val / 1280, by omega⟩ : Fin 16) = j := Fin.ext (by show q.val / 1280 = j.val; omega)
  have e1 : (⟨q.val % 1280, by omega⟩ : Fin 1280) = e := Fin.ext (by show q.val % 1280 = e.val; omega)
  rw [e0, e1]

end Cert.Proof.Value.Ref

end
-- ==== Proof.Value.Results.lean ====
/-
  What the reference's results hold, over the extended reals, element by element.
-/
module

public import proofs.«01_k».proof.Proof.Value.Reference
public import proofs.«01_k».proof.Proof.Gen.ReferenceIdeal
public import proofs.«01_k».proof.Proof.Gen.ReferenceIdeal.Frame
public import Idealize.ShloMosaic.Lib.Pipeline.ValueKit
public import Idealize.ShloMosaic.Lib.StableHlo.Run
public import Idealize.ShloMosaic.Lib.StableHlo.ReadAt
public import Idealize.ShloMosaic.Lib.Pointwise

@[expose] public section

set_option maxRecDepth 16384

noncomputable section

namespace Cert.Proof.Value.Ref

open Cert.ReferenceIdeal Cert.ReferenceIdeal.Gen
open Idealize.ShloMosaic Idealize.ShloMosaic.TcCoe

variable (m : (ℓ : Loc nD τ sig) → Buf (Elt Ideal) ℓ)

/-! ## The reference's results -/

/-- The arguments. -/
abbrev X (c : Dev nD) : FVec Ideal S2x128x2560 .bf16 := m ((c : Thread nD τ).loc main_arg0)
abbrev W (c : Dev nD) : FVec Ideal S16x2560x1280 .fp8e4m3 := m ((c : Thread nD τ).loc main_arg1)
abbrev S (c : Dev nD) : FVec Ideal S1280 .f32 := m ((c : Thread nD τ).loc main_arg2)
abbrev B (c : Dev nD) : FVec Ideal S1280 .f32 := m ((c : Thread nD τ).loc main_arg3)

/-- A row's scale, an element's code, and a tap's product of a row's codes by the row's scale and the column's. -/
def scale (x : FVec Ideal S2x128x2560 .bf16) (b : Fin 2) (r : Fin 128) : EReal := rscale (vrow fun d => x (ix3 b r d))
def codeOf (x : FVec Ideal S2x128x2560 .bf16) (b : Fin 2) (r : Fin 128) (d : Fin 2560) : EReal :=
  code (x (ix3 b r d)) (Ideal.div 1 (scale x b r))
def term (x : FVec Ideal S2x128x2560 .bf16) (w : FVec Ideal S16x2560x1280 .fp8e4m3) (s : FVec Ideal S1280 .f32) (b : Fin 2) (r : Fin 128)
    (j : Fin 16) (e : Fin 1280) : EReal :=
  (∑ d : Fin 2560, codeOf x b r d * w (ix3 j d e)) * scale x b r * s (ix1 e)

/-- The activations as the call finds them: the rows of both batches one after the other; and the weights: the taps'
    columns one after the other. -/
def Flat (v : Vec Ideal S256x2560 .bf16) (x : FVec Ideal S2x128x2560 .bf16) : Prop :=
  ∀ (b : Fin 2) (r : Fin 128) (d : Fin 2560) (R : Fin 256), R.val = b.val * 128 + r.val → (v (ix2 R d) : EReal) = x (ix3 b r d)
def FlatW (u : Vec Ideal S2560x20480 .fp8e4m3) (w : FVec Ideal S16x2560x1280 .fp8e4m3) : Prop :=
  ∀ (j : Fin 16) (d : Fin 2560) (e : Fin 1280) (q : Fin 20480), q.val = j.val * 1280 + e.val → (u (ix2 d q) : EReal) = w (ix3 j d e)

section
variable {v : Vec Ideal S256x2560 .bf16} {x : FVec Ideal S2x128x2560 .bf16} (hv : Flat v x)
variable {u : Vec Ideal S2560x20480 .fp8e4m3} {w : FVec Ideal S16x2560x1280 .fp8e4m3} (hu : FlatW u w)
variable (b : Fin 2) (r : Fin 128) (R : Fin 256) (hR : R.val = b.val * 128 + r.val)
include hv hR

theorem row_at : vrow (fun d => v (ix2 R d)) = vrow fun d => x (ix3 b r d) :=
  congrArg vrow (funext fun d => hv b r d R hR)

theorem scale_at : k0_pay3 v (ix2 R 0) = scale x b r := by
  rw [pay3_eq, row_at hv b r R hR]
  rfl

theorem code_at (d : Fin 2560) : k0_pay4 v (ix2 R d) = codeOf x b r d := by
  rw [pay4_eq, row_at hv b r R hR, hv b r d R hR]
  rfl

include hu in
theorem product_at (j : Fin 16) (e : Fin 1280) (q : Fin 20480) (hq : q.val = j.val * 1280 + e.val) :
    k0_pay1 (k0_pay4 v) (k0_pay5 u) (constant S256x20480 .f32 0x00000000#32) (ix2 R q)
      = ∑ d : Fin 2560, codeOf x b r d * w (ix3 j d e) := by
  rw [pay1_eq]
  refine Finset.sum_congr rfl fun d _ => ?_
  rw [code_at hv b r R hR, hu j d e q hq]

end

/-- The arrays' contents after the call, as the host's lines after it find them. -/
abbrev found (c : Dev nD) (b : Ref sig .tc) : Buf (Elt Ideal) ((c : Thread nD τ).loc b) :=
  Pipeline.withArrays (cfgs 0).spec c (V0 m c) (fun w => (dats m 0 c).arrAt w (cfgs 0).N) (Proc.tc.devRef b)

theorem found_eq (c : Dev nD) : ∃ (v : Vec Ideal S256x2560 .bf16) (u : Vec Ideal S2560x20480 .fp8e4m3), Flat v (X m c) ∧ FlatW u (W m c)
    ∧ found m c main_v3_0 = k0_pay4 v ∧ found m c main_v3_1 = k0_pay3 v
    ∧ found m c main_v3_2 = k0_pay1 (k0_pay4 v) (k0_pay5 u) (constant S256x20480 .f32 0x00000000#32)
    ∧ found m c main_arg2 = S m c ∧ found m c main_arg3 = B m c :=
  ⟨V m c main_v0, V m c main_v2, v0_at m c, v2_at m c,
    (Pipeline.withArrays_arr (cfgs 0).spec launch0.win.arr_inj c (V0 m c) _ 2).trans (codes_left m c),
    (Pipeline.withArrays_arr (cfgs 0).spec launch0.win.arr_inj c (V0 m c) _ 3).trans (scales_left m c),
    (Pipeline.withArrays_arr (cfgs 0).spec launch0.win.arr_inj c (V0 m c) _ 4).trans (products_left m c),
    (Pipeline.withArrays_of_ne (cfgs 0).spec c (V0 m c) _ main_arg2 (by exact (by decide : ∀ w, Pipeline.arrRef spec0 w ≠ main_arg2))).trans (V_main_arg2 m c),
    (Pipeline.withArrays_of_ne (cfgs 0).spec c (V0 m c) _ main_arg3 (by exact (by decide : ∀ w, Pipeline.arrRef spec0 w ≠ main_arg3))).trans (V_main_arg3 m c)⟩

/-! ## The host's lines after the call -/

section
variable (Z : Valuation τ sig (Elt Ideal)) (q : FVec Ideal S256x2560 .fp8e4m3) (y : FVec Ideal S256x1 .f32) (p : FVec Ideal S256x20480 .f32)
variable (s t : FVec Ideal S1280 .f32)

theorem host_v4 (hq : Z (Proc.tc.devRef main_v3_0) = q) (b : Fin 2) (r : Fin 128) (d : Fin 2560) :
    (StableHlo.after (List.flatten [hostOps1, hostOps1_1, hostOps1_2, hostOps1_3, hostOps1_4]) Z (Proc.tc.devRef main_v4) (ix3 b r d) : EReal)
      = q (ix2 (⟨b.val * 128 + r.val, by omega⟩ : Fin 256) d) := by
  simp only [hostOps1, hostOps1_1, hostOps1_2, hostOps1_3, hostOps1_4, List.flatten_cons, List.flatten_nil, List.append_nil, List.cons_append, List.nil_append]
  after_reads_at
  exact congrFun hq _

theorem host_v5 (hy : Z (Proc.tc.devRef main_v3_1) = y) (b : Fin 2) (r : Fin 128) :
    (StableHlo.after (List.flatten [hostOps1, hostOps1_1, hostOps1_2, hostOps1_3, hostOps1_4]) Z (Proc.tc.devRef main_v5) (ix2 b r) : EReal)
      = y (ix2 (⟨b.val * 128 + r.val, by omega⟩ : Fin 256) 0) := by
  simp only [hostOps1, hostOps1_1, hostOps1_2, hostOps1_3, hostOps1_4, List.flatten_cons, List.flatten_nil, List.append_nil, List.cons_append, List.nil_append]
  after_reads_at
  exact congrFun hy _

theorem pad_zero : (FloatOps.sitofp FTy.f32 (0#32) : Ideal .f32) = (0 : EReal) := by
  show (((BitVec.toInt 0#32 : ℤ) : ℝ) : EReal) = 0
  simp

/-- Both padded halves of the products and the bias, as the host's lines have them. -/
theorem halves (p : Fin 256 → Fin 20480 → EReal) (y : Fin 256 → EReal) (s t z : EReal) (hz : z = 0) (b : Fin 2) (r : Fin 1032) (e : Fin 1280) :
    (((if h : r.val / 8 < 128 ∧ r.val % 8 < 8 then
          p ⟨b.val * 128 + r.val / 8, by have hr := r.isLt; omega⟩ ⟨r.val % 8 * 1280 + e.val, by omega⟩ * y ⟨b.val * 128 + r.val / 8, by omega⟩ * s else z)
        + if h : (1 ≤ r.val / 8 ∧ r.val / 8 - 1 < 128) ∧ r.val % 8 < 8 then
          p ⟨b.val * 128 + (r.val / 8 - 1), by omega⟩ ⟨(8 + r.val % 8) * 1280 + e.val, by omega⟩ * y ⟨b.val * 128 + (r.val / 8 - 1), by omega⟩ * s else z)
      + t)
      = (if h : r.val / 8 < 128 then
          p ⟨b.val * 128 + r.val / 8, by omega⟩ ⟨r.val % 8 * 1280 + e.val, by omega⟩ * y ⟨b.val * 128 + r.val / 8, by omega⟩ * s else 0)
        + (if h : 1 ≤ r.val / 8 then
          p ⟨b.val * 128 + (r.val / 8 - 1), by omega⟩ ⟨(8 + r.val % 8) * 1280 + e.val, by omega⟩ * y ⟨b.val * 128 + (r.val / 8 - 1), by omega⟩ * s else 0) + t := by
  have hr := r.isLt
  subst hz
  by_cases h : r.val / 8 < 128
  · have k : r.val / 8 < 128 ∧ r.val % 8 < 8 := ⟨h, by omega⟩
    rw [dif_pos h, dif_pos k]
    by_cases h' : 1 ≤ r.val / 8
    · have k' : (1 ≤ r.val / 8 ∧ r.val / 8 - 1 < 128) ∧ r.val % 8 < 8 := ⟨⟨h', by omega⟩, by omega⟩
      rw [dif_pos h', dif_pos k']
    · have k' : ¬ ((1 ≤ r.val / 8 ∧ r.val / 8 - 1 < 128) ∧ r.val % 8 < 8) := fun k => h' k.1.1
      rw [dif_neg h', dif_neg k']
  · have k : ¬ (r.val / 8 < 128 ∧ r.val % 8 < 8) := fun k => h k.1
    have h' : 1 ≤ r.val / 8 := by omega
    have k' : (1 ≤ r.val / 8 ∧ r.val / 8 - 1 < 128) ∧ r.val % 8 < 8 := ⟨⟨h', by omega⟩, by omega⟩
    rw [dif_neg h, dif_neg k, dif_pos h', dif_pos k']

theorem host_v22 (hy : Z (Proc.tc.devRef main_v3_1) = y) (hp : Z (Proc.tc.devRef main_v3_2) = p) (hs : Z (Proc.tc.devRef main_arg2) = s)
    (ht : Z (Proc.tc.devRef main_arg3) = t) (b : Fin 2) (r : Fin 1032) (e : Fin 1280) :
    (StableHlo.after (List.flatten [hostOps1, hostOps1_1, hostOps1_2, hostOps1_3, hostOps1_4]) Z (Proc.tc.devRef main_v22) (ix3 b r e) : EReal)
      = (if h : r.val / 8 < 128 then p (ix2 (⟨b.val * 128 + r.val / 8, by omega⟩ : Fin 256) (⟨r.val % 8 * 1280 + e.val, by omega⟩ : Fin 20480))
            * y (ix2 (⟨b.val * 128 + r.val / 8, by omega⟩ : Fin 256) 0) * s (ix1 e) else 0)
        + (if h : 1 ≤ r.val / 8 then p (ix2 (⟨b.val * 128 + (r.val / 8 - 1), by omega⟩ : Fin 256) (⟨(8 + r.val % 8) * 1280 + e.val, by omega⟩ : Fin 20480))
            * y (ix2 (⟨b.val * 128 + (r.val / 8 - 1), by omega⟩ : Fin 256) 0) * s (ix1 e) else 0) + t (ix1 e) := by
  have hr := r.isLt
  simp only [hostOps1, hostOps1_1, hostOps1_2, hostOps1_3, hostOps1_4, List.flatten_cons, List.flatten_nil, List.append_nil, List.cons_append, List.nil_append]
  after_reads_at
  subst hy hp hs ht
  exact halves (fun i j => Z (Proc.tc.devRef main_v3_2) (ix2 i j)) (fun i => Z (Proc.tc.devRef main_v3_1) (ix2 i 0)) _ _ _ pad_zero b r e

end

/-! ## The results -/

/-- What the reference leaves in a buffer. -/
abbrev left (c : Dev nD) (b : Ref sig .tc) : Buf (Elt Ideal) ((c : Thread nD τ).loc b) :=
  Pipeline.afterTail₀ cfgs (dats m) 0 (V0 m) [hostOps1, hostOps1_1, hostOps1_2, hostOps1_3, hostOps1_4] c b

theorem codes_eq (c : Dev nD) (b : Fin 2) (r : Fin 128) (d : Fin 2560) : (left m c main_v4 (ix3 b r d) : EReal) = codeOf (X m c) b r d := by
  obtain ⟨v, u, hv, hu, e0, e1, e2, e3, e4⟩ := found_eq m c
  exact (host_v4 _ _ e0 b r d).trans (code_at hv b r _ rfl d)

theorem scales_eq (c : Dev nD) (b : Fin 2) (r : Fin 128) : (left m c main_v5 (ix2 b r) : EReal) = scale (X m c) b r := by
  obtain ⟨v, u, hv, hu, e0, e1, e2, e3, e4⟩ := found_eq m c
  exact (host_v5 _ _ e1 b r).trans (scale_at hv b r _ rfl)

/-- An element of the first result: of the row `8 s + j`, the product with tap `j` of row `s` and with tap `8 + j` of the
    row before it, where there are such rows, and the bias. -/
theorem out_eq (c : Dev nD) (b : Fin 2) (r : Fin 1032) (e : Fin 1280) :
    (left m c main_v22 (ix3 b r e) : EReal)
      = (if h : r.val / 8 < 128 then term (X m c) (W m c) (S m c) b ⟨r.val / 8, h⟩ ⟨r.val % 8, by omega⟩ e else 0)
        + (if h : 1 ≤ r.val / 8 then term (X m c) (W m c) (S m c) b ⟨r.val / 8 - 1, by omega⟩ ⟨8 + r.val % 8, by omega⟩ e else 0) + B m c (ix1 e) := by
  have hr := r.isLt
  obtain ⟨v, u, hv, hu, e0, e1, e2, e3, e4⟩ := found_eq m c
  refine (host_v22 _ _ _ _ _ e1 e2 e3 e4 b r e).trans ?_
  congr 1
  congr 1
  · by_cases h : r.val / 8 < 128
    · rw [dif_pos h, dif_pos h, product_at hv hu b ⟨r.val / 8, h⟩ _ rfl ⟨r.val % 8, by omega⟩ e _ rfl, scale_at hv b ⟨r.val / 8, h⟩ _ rfl]
      rfl
    · rw [dif_neg h, dif_neg h]
  · by_cases h : 1 ≤ r.val / 8
    · rw [dif_pos h, dif_pos h, product_at hv hu b ⟨r.val / 8 - 1, by omega⟩ _ rfl ⟨8 + r.val % 8, by omega⟩ e _ rfl,
        scale_at hv b ⟨r.val / 8 - 1, by omega⟩ _ rfl]
      rfl
    · rw [dif_neg h, dif_neg h]

end Cert.Proof.Value.Ref

end
-- ==== Proof.Value.Equation.lean ====
/-
  The kernel's results and the reference's, over the extended reals, are the same, where every activation is finite.
-/
module

public import proofs.«01_k».proof.Proof.Value.Product
public import proofs.«01_k».proof.Proof.Value.Results
public import proofs.«01_k».proof.Defs
public import Idealize.ShloMosaic.Lib.ReduceAll

@[expose] public section

set_option maxRecDepth 16384

noncomputable section

namespace Cert.Proof.Value

open Idealize.ShloMosaic Idealize.ShloMosaic.TcCoe

/-! ## A row's number is an ordinary one -/

theorem top_of_range : Ideal.ofBits FTy.f32 0x7F7F0000#32 = (((2 ^ 23 + 8323072 : ℕ) : ℝ) * (2 : ℝ) ^ ((254 : ℤ) - 127 - 23) : ℝ) :=
  ofBits_norm _ 254 8323072 (by decide) (by decide) (by decide) (by decide) (by decide)

theorem recip_448 : Ideal.ofBits FTy.f32 991054117#32 = (((2 ^ 23 + 1198373 : ℕ) : ℝ) * (2 : ℝ) ^ ((118 : ℤ) - 127 - 23) : ℝ) :=
  ofBits_norm _ 118 1198373 (by decide) (by decide) (by decide) (by decide) (by decide)

theorem neg_inf : Ideal.ofBits FTy.f32 4286578688#32 = ⊥ := by
  show Ideal.ieee 8 23 4286578688#32 = _
  unfold Ideal.ieee
  simp

theorem abs_nonneg (x : EReal) : 0 ≤ max x (-x) := by
  rcases le_total 0 x with h | h
  · exact le_max_of_le_left h
  · exact le_max_of_le_right (by simpa using EReal.neg_le_neg_iff.mpr h)

/-- Where no element of a row is above the largest finite number, the row's number is a real below 2 ^ 120. -/
theorem vrow_real (f : Fin 2560 → EReal) (hf : ∀ d, max (f d) (-(f d)) ≤ Ideal.ofBits FTy.f32 0x7F7F0000#32) :
    ∃ v : ℝ, v < (2 : ℝ) ^ (120 : ℤ) ∧ vrow f = (v : EReal) := by
  have h1 : Finset.fold max (Ideal.ofBits FTy.f32 4286578688#32) (fun x => max (f x) (-(f x))) Finset.univ ≤ Ideal.ofBits FTy.f32 0x7F7F0000#32 := by
    rw [Finset.fold_max_le]
    exact ⟨by rw [neg_inf]; exact bot_le, fun d _ => hf d⟩
  have h0 : 0 ≤ Finset.fold max (Ideal.ofBits FTy.f32 4286578688#32) (fun x => max (f x) (-(f x))) Finset.univ := by
    rw [Finset.le_fold_max]
    exact Or.inr ⟨0, Finset.mem_univ _, abs_nonneg _⟩
  unfold vrow
  generalize Finset.fold max (Ideal.ofBits FTy.f32 4286578688#32) (fun x => max (f x) (-(f x))) Finset.univ = a at h0 h1
  rw [top_of_range] at h1
  have ht : a ≠ ⊤ := fun e => by rw [e] at h1; exact absurd h1 (not_le.mpr (EReal.coe_lt_top _))
  have hb : a ≠ ⊥ := fun e => by rw [e] at h0; exact absurd h0 (not_le.mpr (EReal.bot_lt_coe 0))
  obtain ⟨y, rfl⟩ : ∃ y : ℝ, a = (y : EReal) := ⟨a.toReal, (EReal.coe_toReal ht hb).symm⟩
  have hy : y ≤ ((2 ^ 23 + 8323072 : ℕ) : ℝ) * (2 : ℝ) ^ ((254 : ℤ) - 127 - 23) := EReal.coe_le_coe_iff.mp h1
  refine ⟨y * (((2 ^ 23 + 1198373 : ℕ) : ℝ) * (2 : ℝ) ^ ((118 : ℤ) - 127 - 23)), ?_, ?_⟩
  · have hc : (0 : ℝ) < ((2 ^ 23 + 1198373 : ℕ) : ℝ) * (2 : ℝ) ^ ((118 : ℤ) - 127 - 23) := by positivity
    refine lt_of_le_of_lt (mul_le_mul_of_nonneg_right hy hc.le) ?_
    norm_num
  · rw [recip_448]
    exact (EReal.coe_mul _ _).symm

/-! ## The results -/

section
variable (X : FVec Ideal Cert.KernelIdeal.S2x128x2560 .bf16)

/-- No element above the largest finite number. -/
def Finite : Prop := ∀ (b : Fin 2) (r : Fin 128) (d : Fin 2560), max (X (ix3 b r d) : EReal) (-(X (ix3 b r d) : EReal)) ≤ Ideal.ofBits FTy.f32 0x7F7F0000#32

variable {X} (hX : Finite X)
include hX

theorem scaleOf_eq (b : Fin 2) (r : Fin 128) : scaleOf X b r = Ref.scale X b r := by
  obtain ⟨v, hv, e⟩ := vrow_real (fun d => X (ix3 b r d)) (hX b r)
  show kscale (vrow fun d => X (ix3 b r d)) = rscale (vrow fun d => X (ix3 b r d))
  rw [e]
  exact scale_eq v hv

theorem codeOf_eq (b : Fin 2) (r : Fin 128) (d : Fin 2560) : code (X (ix3 b r d)) (invOf X b r) = Ref.codeOf X b r d := by
  obtain ⟨v, hv, e⟩ := vrow_real (fun d => X (ix3 b r d)) (hX b r)
  show code _ (kinv (vrow fun d => X (ix3 b r d))) = code _ (Ideal.div 1 (rscale (vrow fun d => X (ix3 b r d))))
  rw [e, inv_eq v hv]

variable (w : FVec Ideal Cert.KernelIdeal.S16x2560x1280 .fp8e4m3) (f13 f14 : FVec Ideal Cert.KernelIdeal.S1x1280 .f32) (s t : FVec Ideal Cert.KernelIdeal.S1280 .f32)
variable (h13 : ∀ e : Fin 1280, (f13 (ix2 0 e) : EReal) = s (ix1 e)) (h14 : ∀ e : Fin 1280, (f14 (ix2 0 e) : EReal) = t (ix1 e))

include h13 in
theorem term_eq (b : Fin 2) (r : Fin 128) (j : Fin 16) (e : Fin 1280) : term X w f13 b r j e = Ref.term X w s b r j e := by
  unfold term Ref.term dotAt
  rw [scaleOf_eq hX, h13]
  congr 2
  refine Finset.sum_congr rfl fun d _ => ?_
  rw [C8_eq, codeOf_eq hX]

include h13 h14 in
/-- An element of the first result, as the reference's host lines have it. -/
theorem out_same (b : Fin 2) (r : Fin 1032) (e : Fin 1280) :
    (Cert.Proof.Ideal.outW (F := Idealize.ShloMosaic.Ideal) (Cert.Proof.Ideal.tiles w (Cert.Proof.Ideal.C8 X) (Cert.Proof.Ideal.C9 X) (Cert.Proof.Ideal.C10 X) (Cert.Proof.Ideal.C11 X) f13 f14)
      (ix3 b r e) : EReal)
      = (if h : r.val / 8 < 128 then Ref.term X w s b ⟨r.val / 8, h⟩ ⟨r.val % 8, by omega⟩ e else 0)
        + (if h : 1 ≤ r.val / 8 then Ref.term X w s b ⟨r.val / 8 - 1, by have := r.isLt; omega⟩ ⟨8 + r.val % 8, by omega⟩ e else 0) + t (ix1 e) := by
  have hr := r.isLt
  refine (out_eq X w f13 f14 b r e).trans ?_
  rw [h14]
  by_cases h : r.val < 1024
  · have k : r.val / 8 < 128 := by omega
    rw [dif_pos h, dif_pos k, term_eq hX w f13 s h13]
    by_cases h0 : r.val / 8 = 0
    · have k' : ¬ 1 ≤ r.val / 8 := by omega
      rw [if_pos h0, dif_neg k']
    · have k' : 1 ≤ r.val / 8 := by omega
      rw [if_neg h0, dif_pos k', term_eq hX w f13 s h13]
      have e0 : before ⟨r.val / 8, k⟩ = ⟨r.val / 8 - 1, by omega⟩ := Fin.ext (by
        show (r.val / 8 + 128 - 1) % 128 = r.val / 8 - 1
        omega)
      rw [e0]
  · have k : ¬ r.val / 8 < 128 := by omega
    have k' : 1 ≤ r.val / 8 := by omega
    have e0 : (127 : Fin 128) = ⟨r.val / 8 - 1, by omega⟩ := Fin.ext (by
      show 127 = r.val / 8 - 1
      omega)
    rw [dif_neg h, dif_neg k, dif_pos k', term_eq hX w f13 s h13, zero_add, e0]

end

/-! ## The precondition -/

theorem finite_of_pre [hP : Cert.Pre_finite_input.Facts] (x : FVec Ideal Cert.KernelIdeal.S2x128x2560 .bf16) (w : FVec Ideal Cert.KernelIdeal.S16x2560x1280 .fp8e4m3)
    (s t : FVec Ideal Cert.KernelIdeal.S1280 .f32) (h : Cert.Pre_finite_input.fn (F := Ideal) x w s t = fun _ => 1#1) : Finite x := by
  intro b r d
  have e := congrFun h (fun a => a.elim0)
  dsimp only [Cert.Pre_finite_input.fn] at e
  haveI : Subsingleton Cert.Pre_finite_input.S_.Idx := ⟨fun a b => funext fun i => i.elim0⟩
  have k := Host.reduce_andi_all _ _ _ _ _ e (ix3 b r d)
  change (BitVec.ofBool (decide (max (x (ix3 b r d) : EReal) (-(x (ix3 b r d) : EReal)) ≤ Ideal.ofBits FTy.f32 0x7F7F0000#32))) = 1#1 at k
  by_contra hn
  rw [decide_eq_false hn] at k
  exact absurd k (by decide)

end Cert.Proof.Value

end
-- ==== Proof.Value.Same.lean ====
/-
  From memories that agree on the arguments, the kernel's three results are the reference's, over the extended reals.
-/
module

public import proofs.«01_k».proof.Proof.Value.Equation
public import proofs.«01_k».proof.Proof.Ideal.Launch
public import proofs.«01_k».proof.Proof.Gen.KernelIdeal.Frame

@[expose] public section

set_option maxRecDepth 16384

noncomputable section

namespace Cert.Proof.Value

open Idealize.ShloMosaic Idealize.ShloMosaic.TcCoe

/-! ## The scales and the biases of the columns, as the call finds them -/

section
variable (Z : Valuation Cert.KernelIdeal.τ Cert.KernelIdeal.sig (Elt Idealize.ShloMosaic.Ideal)) (s : FVec Idealize.ShloMosaic.Ideal Cert.KernelIdeal.S1280 .f32)

theorem host_v0 (hs : Z (Proc.tc.devRef Cert.KernelIdeal.main_arg2) = s) (e : Fin 1280) :
    (StableHlo.after Cert.KernelIdeal.Gen.hostOps0 Z (Proc.tc.devRef Cert.KernelIdeal.main_v0) (ix2 0 e) : EReal) = s (ix1 e) := by
  subst hs
  simp only [Cert.KernelIdeal.Gen.hostOps0]
  after_reads_at

theorem host_v1 (hs : Z (Proc.tc.devRef Cert.KernelIdeal.main_arg3) = s) (e : Fin 1280) :
    (StableHlo.after Cert.KernelIdeal.Gen.hostOps0 Z (Proc.tc.devRef Cert.KernelIdeal.main_v1) (ix2 0 e) : EReal) = s (ix1 e) := by
  subst hs
  simp only [Cert.KernelIdeal.Gen.hostOps0]
  after_reads_at

end

/-! ## The results, for any contents of the arguments -/

section
variable {X : FVec Idealize.ShloMosaic.Ideal Cert.KernelIdeal.S2x128x2560 .bf16} (hX : Finite X)
variable (m' : (ℓ : Loc Cert.ReferenceIdeal.nD Cert.ReferenceIdeal.τ Cert.ReferenceIdeal.sig) → Buf (Elt Idealize.ShloMosaic.Ideal) ℓ)
variable (c : Dev Cert.ReferenceIdeal.nD)
include hX

theorem codes_same (h0 : Ref.X m' c = X) : Ref.left m' c Cert.ReferenceIdeal.main_v4 = Cert.Proof.Ideal.C8 (F := Idealize.ShloMosaic.Ideal) X := by
  funext i
  obtain ⟨b, r, d, rfl⟩ : ∃ b r d, i = ix3 b r d := ⟨i 0, i 1, i 2, eq_ix3 i⟩
  refine (Ref.codes_eq m' c b r d).trans ?_
  rw [h0]
  exact ((C8_eq X b r d).trans (codeOf_eq hX b r d)).symm

theorem scales_same (h0 : Ref.X m' c = X) : Ref.left m' c Cert.ReferenceIdeal.main_v5 = Cert.Proof.Ideal.C12 (F := Idealize.ShloMosaic.Ideal) X := by
  funext i
  obtain ⟨b, r, rfl⟩ : ∃ b r, i = ix2 b r := ⟨i 0, i 1, eq_ix2 i⟩
  refine (Ref.scales_eq m' c b r).trans ?_
  rw [h0]
  exact ((C12_eq X b r).trans (scaleOf_eq hX b r)).symm

theorem outs_same (w : FVec Idealize.ShloMosaic.Ideal Cert.KernelIdeal.S16x2560x1280 .fp8e4m3) (f13 f14 : FVec Idealize.ShloMosaic.Ideal Cert.KernelIdeal.S1x1280 .f32)
    (s t : FVec Idealize.ShloMosaic.Ideal Cert.KernelIdeal.S1280 .f32) (h13 : ∀ e : Fin 1280, (f13 (ix2 0 e) : EReal) = s (ix1 e))
    (h14 : ∀ e : Fin 1280, (f14 (ix2 0 e) : EReal) = t (ix1 e)) (h0 : Ref.X m' c = X) (h1 : Ref.W m' c = w) (h2 : Ref.S m' c = s) (h3 : Ref.B m' c = t) :
    Ref.left m' c Cert.ReferenceIdeal.main_v22
      = Cert.Proof.Ideal.outW (F := Idealize.ShloMosaic.Ideal) (Cert.Proof.Ideal.tiles w (Cert.Proof.Ideal.C8 X) (Cert.Proof.Ideal.C9 X) (Cert.Proof.Ideal.C10 X)
          (Cert.Proof.Ideal.C11 X) f13 f14) := by
  funext i
  obtain ⟨b, r, e, rfl⟩ : ∃ b r e, i = ix3 b r e := ⟨i 0, i 1, i 2, eq_ix3 i⟩
  refine (Ref.out_eq m' c b r e).trans ?_
  rw [h0, h1, h2, h3]
  exact (out_same hX w f13 f14 s t h13 h14 b r e).symm

end

end Cert.Proof.Value

end
-- ==== Proof.lean ====
module

public import Idealize.ShloMosaic.Lib.Bf16Pair
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_input
public import proofs.«01_k».proof.Proof.Gen.ReferenceIdeal.Frame
public import proofs.«01_k».proof.Proof.Bits.Launch
public import proofs.«01_k».proof.Proof.Ideal.Launch
public import proofs.«01_k».proof.Proof.Value.Same
public import Idealize.ShloMosaic.Adequacy
public import Idealize.ShloMosaic.Init

@[expose] public section

noncomputable section

open Idealize.ShloMosaic

theorem Cert.Proof.preserved : Cert.preserves_Kernel_KernelIdeal :=
  ⟨IdealRules.bf16_pair.packStatement _, IdealRules.bf16_pair.statement _ _, IdealRules.bf16_pair.statement _ _⟩

/-- The kernel and the reference end with the same three results, element by element, where every activation is finite. -/
theorem Cert.Proof.same : Cert.algebraic_KernelIdeal_ReferenceIdeal_pre_finite_input := by
  intro m g m' g' hpre hargs
  have hX : ∀ c, Cert.Proof.Value.Finite (Cert.Proof.Ideal.XA m c) := fun c => by
    rw [show Cert.Proof.Ideal.XA m c = m ((c.tc : Thread Cert.KernelIdeal.nD Cert.KernelIdeal.τ).loc Cert.KernelIdeal.main_arg0)
      from Cert.KernelIdeal.Gen.V_main_arg0 m c]
    exact Cert.Proof.Value.finite_of_pre _ _ _ _ (hpre c)
  have h0 : ∀ c, Cert.Proof.Value.Ref.X m' c = Cert.Proof.Ideal.XA m c := fun c =>
    (hargs c).1.trans (Cert.KernelIdeal.Gen.V_main_arg0 m c).symm
  have h1 : ∀ c, Cert.Proof.Value.Ref.W m' c = Cert.Proof.Ideal.WA m c := fun c =>
    (hargs c).2.1.trans (Cert.KernelIdeal.Gen.V_main_arg1 m c).symm
  refine ⟨Cert.Proof.Ideal.OA m, fun c => Cert.Proof.Ideal.C8 (Cert.Proof.Ideal.XA m c), fun c => Cert.Proof.Ideal.C12 (Cert.Proof.Ideal.XA m c), ?_, ?_⟩
  · refine (θ_run _ _ _).mono (fun _ h c => ?_) (Cert.Proof.Ideal.run_main m g)
    obtain ⟨⟨a0, a1, a2, a3⟩, r0, r1, r2⟩ := h.1 c
    exact ⟨r0, r1, r2, a0.trans (Cert.KernelIdeal.Gen.V_main_arg0 m c), a1.trans (Cert.KernelIdeal.Gen.V_main_arg1 m c),
      a2.trans (Cert.KernelIdeal.Gen.V_main_arg2 m c), a3.trans (Cert.KernelIdeal.Gen.V_main_arg3 m c)⟩
  · refine (θ_run _ _ _).mono (fun _ h c => ?_) (Cert.ReferenceIdeal.Gen.run_main m' g')
    exact ⟨((h c).2 Cert.ReferenceIdeal.main_v22 (Pipeline.mem_restRefs_of Cert.ReferenceIdeal.main_v22 (by decide) (by decide))).trans
        (Cert.Proof.Value.outs_same (hX c) m' c _ _ _ _ _ (Cert.Proof.Value.host_v0 _ _ rfl) (Cert.Proof.Value.host_v1 _ _ rfl) (h0 c) (h1 c)
          (hargs c).2.2.1 (hargs c).2.2.2),
      ((h c).2 Cert.ReferenceIdeal.main_v4 (Pipeline.mem_restRefs_of Cert.ReferenceIdeal.main_v4 (by decide) (by decide))).trans
        (Cert.Proof.Value.codes_same (hX c) m' c (h0 c)),
      ((h c).2 Cert.ReferenceIdeal.main_v5 (Pipeline.mem_restRefs_of Cert.ReferenceIdeal.main_v5 (by decide) (by decide))).trans
        (Cert.Proof.Value.scales_same (hX c) m' c (h0 c)),
      ((h c).2 Cert.ReferenceIdeal.main_arg0 (Pipeline.mem_restRefs_of Cert.ReferenceIdeal.main_arg0 (by decide) (by decide))).trans
        (Cert.ReferenceIdeal.Gen.W_main_arg0 m' (Cert.ReferenceIdeal.Gen.dats m') c),
      ((h c).2 Cert.ReferenceIdeal.main_arg1 (Pipeline.mem_restRefs_of Cert.ReferenceIdeal.main_arg1 (by decide) (by decide))).trans
        (Cert.ReferenceIdeal.Gen.W_main_arg1 m' (Cert.ReferenceIdeal.Gen.dats m') c),
      ((h c).2 Cert.ReferenceIdeal.main_arg2 (Pipeline.mem_restRefs_of Cert.ReferenceIdeal.main_arg2 (by decide) (by decide))).trans
        (Cert.ReferenceIdeal.Gen.W_main_arg2 m' (Cert.ReferenceIdeal.Gen.dats m') c),
      ((h c).2 Cert.ReferenceIdeal.main_arg3 (Pipeline.mem_restRefs_of Cert.ReferenceIdeal.main_arg3 (by decide) (by decide))).trans
        (Cert.ReferenceIdeal.Gen.W_main_arg3 m' (Cert.ReferenceIdeal.Gen.dats m') c)⟩

theorem Cert.Proof.claim : Cert.Claim :=
  ⟨Cert.Kernel.Gen.facts, Cert.KernelIdeal.Gen.facts, Cert.ReferenceIdeal.Gen.facts, Cert.Pre_finite_input.Gen.facts,
    fun m ρ _ => Cert.Proof.Bits.frame m ρ, fun m ρ _ => Cert.Proof.Ideal.frame m ρ, fun m ρ _ => Cert.Proof.Ideal.frame m ρ,
    fun m ρ _ => Cert.ReferenceIdeal.Gen.frame m ρ, fun m ρ _ => Cert.ReferenceIdeal.Gen.frame m ρ, Cert.Proof.preserved, Cert.Proof.same⟩

end
